-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_values [hPre_finite_values : Cert.Pre_finite_values.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_values.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_values [hPre_finite_values : Cert.Pre_finite_values.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_values.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Kernel22Ideal_pre_finite_values [hKernel22Ideal : Cert.Kernel22Ideal.Facts] [hPre_finite_values : Cert.Pre_finite_values.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_values m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Reference22Ideal_pre_finite_values [hReference22Ideal : Cert.Reference22Ideal.Facts] [hPre_finite_values : Cert.Pre_finite_values.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_values m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)) (v2 : (c : Dev Cert.KernelIdeal.nD) → Buf (Elt Ideal) ((c.tc : Thread Cert.KernelIdeal.nD Cert.KernelIdeal.τ).loc Cert.KernelIdeal.main_v75_2)) (v3 : (c : Dev Cert.KernelIdeal.nD) → Buf (Elt Ideal) ((c.tc : Thread Cert.KernelIdeal.nD Cert.KernelIdeal.τ).loc Cert.KernelIdeal.main_v75_3)) (v4 : (c : Dev Cert.KernelIdeal.nD) → Buf (Elt Ideal) ((c.tc : Thread Cert.KernelIdeal.nD Cert.KernelIdeal.τ).loc Cert.KernelIdeal.main_v75_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_v75_2) = v2 c
          ∧ r.2.mem ((c.tc : Thread Cert.KernelIdeal.nD Cert.KernelIdeal.τ).loc Cert.KernelIdeal.main_v75_3) = v3 c
          ∧ r.2.mem ((c.tc : Thread Cert.KernelIdeal.nD Cert.KernelIdeal.τ).loc Cert.KernelIdeal.main_v75_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v17) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v31) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v33) = v2 c
          ∧ r.2.mem ((c.tc : Thread Cert.Reference21Ideal.nD Cert.Reference21Ideal.τ).loc Cert.Reference21Ideal.main_v34) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal_pre_finite_values [hKernel22Ideal : Cert.Kernel22Ideal.Facts] [hReference22Ideal : Cert.Reference22Ideal.Facts] [hPre_finite_values : Cert.Pre_finite_values.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_values m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v28) = v0 c
          ∧ r.2.mem ((c.tc : Thread Cert.Reference23Ideal.nD Cert.Reference23Ideal.τ).loc Cert.Reference23Ideal.main_v29) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite : Cert.Pre_finite.Facts) (hPre_finite_values : Cert.Pre_finite_values.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_values (hKernel22Ideal := hKernel22Ideal) (hPre_finite_values := hPre_finite_values)
    ∧ quiescent_Reference22Ideal (hReference22Ideal := hReference22Ideal)
    ∧ quiescent_Reference22Ideal_pre_finite_values (hReference22Ideal := hReference22Ideal) (hPre_finite_values := hPre_finite_values)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_values (hKernel22Ideal := hKernel22Ideal) (hReference22Ideal := hReference22Ideal) (hPre_finite_values := hPre_finite_values)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite.lean ====
abbrev S16384x1536 : Shape := ⟨2, ![16384, 1536]⟩
abbrev S16384x8 : Shape := ⟨2, ![16384, 8]⟩
abbrev S16384x512 : Shape := ⟨2, ![16384, 512]⟩
abbrev S_ : Shape := ⟨0, ![]⟩

class Facts : Prop where
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x1536 .bf16) (main_arg1 : FVec F S16384x8 .f32) (main_arg2 : FVec F S16384x512 .bf16) : IVec S_ 1 :=
  let main_v0 : FVec F S16384x1536 .f32 := (extf .f32 · bitsLt_bf16_f32) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_c : IVec S_ 1 := constantI S_ 1 1#1
  let main_v4 : IVec S_ 1 := (fun x v => Host.reduce IntOp.andi x v reducesTo_S16384x1536_S_d0_1 h_S_) main_v3 main_c
  let main_v5 : FVec F S16384x8 .f32 := Host.absf main_arg1
  let main_cst_0 : FVec F S_ .f32 := constant S_ .f32 0x7F800000#32
  let main_v6 : FVec F S16384x8 .f32 := broadcastInDim S16384x8 ![] bcast_S_S16384x8 main_cst_0
  let main_v7 : IVec S16384x8 1 := cmpf .olt main_v5 main_v6
  let main_c_1 : IVec S_ 1 := constantI S_ 1 1#1
  let main_v8 : IVec S_ 1 := (fun x v => Host.reduce IntOp.andi x v reducesTo_S16384x8_S_d0_1 h_S_) main_v7 main_c_1
  let main_v9 : IVec S_ 1 := andi main_v4 main_v8
  let main_v10 : FVec F S16384x512 .f32 := (extf .f32 · bitsLt_bf16_f32) main_arg2
  let main_v11 : FVec F S16384x512 .f32 := Host.absf main_v10
  let main_cst_2 : FVec F S_ .f32 := constant S_ .f32 0x7F800000#32
  let main_v12 : FVec F S16384x512 .f32 := broadcastInDim S16384x512 ![] bcast_S_S16384x512 main_cst_2
  let main_v13 : IVec S16384x512 1 := cmpf .olt main_v11 main_v12
  let main_c_3 : IVec S_ 1 := constantI S_ 1 1#1
  let main_v14 : IVec S_ 1 := (fun x v => Host.reduce IntOp.andi x v reducesTo_S16384x512_S_d0_1 h_S_) main_v13 main_c_3
  let main_v15 : IVec S_ 1 := andi main_v9 main_v14
  main_v15
-- ==== Pre_finite_values.lean ====
abbrev S16384x5632 : Shape := ⟨2, ![16384, 5632]⟩
abbrev S16384x2816 : Shape := ⟨2, ![16384, 2816]⟩
abbrev S_ : Shape := ⟨0, ![]⟩

class Facts : Prop where
  slices_S16384x5632_S16384x2816_0_0 : S16384x5632.Slices ![0, 0] S16384x2816
  bcast_S_S16384x2816 : S_.BroadcastsInDim S16384x2816 (![] : Fin 0 → Fin S16384x2816.rank)
  reducesTo_S16384x2816_S_d0_1 : S16384x2816.ReducesTo [0, 1] S_
  h_S_ : 0 < S_.numel

variable [Facts]

def fn {F : FTy → Type} [FloatOps F] (main_arg0 : FVec F S16384x5632 .f32) (main_arg1 : FVec F S16384x2816 .f32) : IVec S_ 1 :=
  let main_v0 : FVec F S16384x2816 .f32 := (extractStridedSlice S16384x2816 ![0, 0] · slices_S16384x5632_S16384x2816_0_0) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S16384x2816 .f32 := Host.absf main_arg1
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  let main_c_1 : IVec S_ 1 := constantI S_ 1 1#1
  let main_v8 : IVec S_ 1 := (fun x v => Host.reduce IntOp.andi x v reducesTo_S16384x2816_S_d0_1 h_S_) main_v7 main_c_1
  let main_v9 : IVec S_ 1 := andi main_v4 main_v8
  main_v9
-- ==== Kernel.lean ====
abbrev S16384x1536 : Shape := ⟨2, ![16384, 1536]⟩
abbrev S16384x8 : Shape := ⟨2, ![16384, 8]⟩
abbrev S16384x512 : Shape := ⟨2, ![16384, 512]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S16384x128 : Shape := ⟨2, ![16384, 128]⟩
abbrev S8x32x1x512 : Shape := ⟨4, ![8, 32, 1, 512]⟩
abbrev S4x16384x128 : Shape := ⟨3, ![4, 16384, 128]⟩
abbrev S1024x128 : Shape := ⟨2, ![1024, 128]⟩
abbrev S2x32x1x512 : Shape := ⟨4, ![2, 32, 1, 512]⟩
abbrev S1x1024x128 : Shape := ⟨3, ![1, 1024, 128]⟩
abbrev S2x1024x128 : Shape := ⟨3, ![2, 1024, 128]⟩
abbrev S1024 : Shape := ⟨1, ![1024]⟩
abbrev S1024x1 : Shape := ⟨2, ![1024, 1]⟩
abbrev S512x128 : Shape := ⟨2, ![512, 128]⟩
abbrev S1024x512 : Shape := ⟨2, ![1024, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 104
  | .vmem => 24
  | .smem => 0
  | _ => 0

abbrev bufTy : (tb : Table) → Fin (tcTables nBuf tb) → BufTy
  | .hbm, ⟨0, _⟩ => ⟨S16384x1536, .bf16⟩
  | .hbm, ⟨1, _⟩ => ⟨S16384x8, .f32⟩
  | .hbm, ⟨2, _⟩ => ⟨S16384x512, .bf16⟩
  | .hbm, ⟨3, _⟩ => ⟨S16384x1536, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8x64, .f32⟩
  | .hbm, ⟨8, _⟩ => ⟨S16384x8x64, .f32⟩
  | .hbm, ⟨9, _⟩ => ⟨S16384x8x64, .f32⟩
  | .hbm, ⟨10, _⟩ => ⟨S_, .f32⟩
  | .hbm, ⟨11, _⟩ => ⟨S_, .f32⟩
  | .hbm, ⟨12, _⟩ => ⟨S16384x8, .f32⟩
  | .hbm, ⟨13, _⟩ => ⟨S8x16384x16384, .f32⟩
  | .hbm, ⟨14, _⟩ => ⟨S_, .f32⟩
  | .hbm, ⟨15, _⟩ => ⟨S8x16384x16384, .f32⟩
  | .hbm, ⟨16, _⟩ => ⟨S8x16384x16384, .f32⟩
  | .hbm, ⟨17, _⟩ => ⟨S8x16384, .f32⟩
  | .hbm, ⟨18, _⟩ => ⟨S8x16384x1, .f32⟩
  | .hbm, ⟨19, _⟩ => ⟨S8x16384x16384, .f32⟩
  | .hbm, ⟨20, _⟩ => ⟨S8x16384x16384, .f32⟩
  | .hbm, ⟨21, _⟩ => ⟨S8x16384, .f32⟩
  | .hbm, ⟨22, _⟩ => ⟨S8x1x16384, .f32⟩
  | .hbm, ⟨23, _⟩ => ⟨S8x16384x16384, .f32⟩
  | .hbm, ⟨24, _⟩ => ⟨S8x16384x16384, .f32⟩
  | .hbm, ⟨25, _⟩ => ⟨S16384, .i32⟩
  | .hbm, ⟨26, _⟩ => ⟨S1x16384, .i32⟩
  | .hbm, ⟨27, _⟩ => ⟨S16384x1, .i32⟩
  | .hbm, ⟨28, _⟩ => ⟨S16384x16384, .i32⟩
  | .hbm, ⟨29, _⟩ => ⟨S16384x16384, .i32⟩
  | .hbm, ⟨30, _⟩ => ⟨S16384x16384, .i1⟩
  | .hbm, ⟨31, _⟩ => ⟨S_, .f32⟩
  | .hbm, ⟨32, _⟩ => ⟨S_, .f32⟩
  | .hbm, ⟨33, _⟩ => ⟨S8x16384x16384, .i1⟩
  | .hbm, ⟨34, _⟩ => ⟨S8x16384x16384, .f32⟩
  | .hbm, ⟨35, _⟩ => ⟨S8x16384x16384, .f32⟩
  | .hbm, ⟨36, _⟩ => ⟨S_, .f32⟩
  | .hbm, ⟨37, _⟩ => ⟨S8x16384, .f32⟩
  | .hbm, ⟨38, _⟩ => ⟨S_, .f32⟩
  | .hbm, ⟨39, _⟩ => ⟨S8x16384, .f32⟩
  | .hbm, ⟨40, _⟩ => ⟨S8x16384, .f32⟩
  | .hbm, ⟨41, _⟩ => ⟨S8x16384x1, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S_, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x64x16384, .f32⟩
  | .hbm, ⟨51, _⟩ => ⟨S16384x8x64, .f32⟩
  | .hbm, ⟨52, _⟩ => ⟨S16384x512, .f32⟩
  | .hbm, ⟨53, _⟩ => ⟨S_, .f32⟩
  | .hbm, ⟨54, _⟩ => ⟨S16384x8, .f32⟩
  | .hbm, ⟨55, _⟩ => ⟨S8x16384x16384, .f32⟩
  | .hbm, ⟨56, _⟩ => ⟨S_, .f32⟩
  | .hbm, ⟨57, _⟩ => ⟨S8x16384x16384, .f32⟩
  | .hbm, ⟨58, _⟩ => ⟨S8x16384x16384, .f32⟩
  | .hbm, ⟨59, _⟩ => ⟨S8x16384, .f32⟩
  | .hbm, ⟨60, _⟩ => ⟨S8x16384x1, .f32⟩
  | .hbm, ⟨61, _⟩ => ⟨S8x16384x16384, .f32⟩
  | .hbm, ⟨62, _⟩ => ⟨S8x16384x16384, .f32⟩
  | .hbm, ⟨63, _⟩ => ⟨S8x16384, .f32⟩
  | .hbm, ⟨64, _⟩ => ⟨S8x1x16384, .f32⟩
  | .hbm, ⟨65, _⟩ => ⟨S8x16384x16384, .f32⟩
  | .hbm, ⟨66, _⟩ => ⟨S8x16384x16384, .f32⟩
  | .hbm, ⟨67, _⟩ => ⟨S16384, .i32⟩
  | .hbm, ⟨68, _⟩ => ⟨S1x16384, .i32⟩
  | .hbm, ⟨69, _⟩ => ⟨S16384x1, .i32⟩
  | .hbm, ⟨70, _⟩ => ⟨S16384x16384, .i32⟩
  | .hbm, ⟨71, _⟩ => ⟨S16384x16384, .i32⟩
  | .hbm, ⟨72, _⟩ => ⟨S16384x16384, .i1⟩
  | .hbm, ⟨73, _⟩ => ⟨S_, .f32⟩
  | .hbm, ⟨74, _⟩ => ⟨S_, .f32⟩
  | .hbm, ⟨75, _⟩ => ⟨S8x16384x16384, .i1⟩
  | .hbm, ⟨76, _⟩ => ⟨S8x16384x16384, .f32⟩
  | .hbm, ⟨77, _⟩ => ⟨S8x16384x16384, .f32⟩
  | .hbm, ⟨78, _⟩ => ⟨S_, .f32⟩
  | .hbm, ⟨79, _⟩ => ⟨S8x16384, .f32⟩
  | .hbm, ⟨80, _⟩ => ⟨S8x16384x1, .f32⟩
  | .hbm, ⟨81, _⟩ => ⟨S8x16384x16384, .f32⟩
  | .hbm, ⟨82, _⟩ => ⟨S8x16384x16384, .f32⟩
  | .hbm, ⟨83, _⟩ => ⟨S8x16384x16384, .f32⟩
  | .hbm, ⟨84, _⟩ => ⟨S_, .f32⟩
  | .hbm, ⟨85, _⟩ => ⟨S8x16384, .f32⟩
  | .hbm, ⟨86, _⟩ => ⟨S8x16384, .f32⟩
  | .hbm, ⟨87, _⟩ => ⟨S8x16384, .f32⟩
  | .hbm, ⟨88, _⟩ => ⟨S16384x512, .f32⟩
  | .hbm, ⟨89, _⟩ => ⟨S16384x512, .f32⟩
  | .hbm, ⟨90, _⟩ => ⟨S16384x8x64, .f32⟩
  | .hbm, ⟨91, _⟩ => ⟨S_, .f32⟩
  | .hbm, ⟨92, _⟩ => ⟨S16384x8, .f32⟩
  | .hbm, ⟨93, _⟩ => ⟨S8x16384, .f32⟩
  | .hbm, ⟨94, _⟩ => ⟨S_, .i32⟩
  | .hbm, ⟨95, _⟩ => ⟨S_, .f32⟩
  | .hbm, ⟨96, _⟩ => ⟨S16384x128, .f32⟩
  | .hbm, ⟨97, _⟩ => ⟨S8x32x1x512, .f32⟩
  | .hbm, ⟨98, _⟩ => ⟨S8x32x1x512, .f32⟩
  | .hbm, ⟨99, _⟩ => ⟨S16384x512, .f32⟩
  | .hbm, ⟨100, _⟩ => ⟨S16384x512, .bf16⟩
  | .hbm, ⟨101, _⟩ => ⟨S16384x512, .bf16⟩
  | .hbm, ⟨102, _⟩ => ⟨S4x16384x128, .f32⟩
  | .hbm, ⟨103, _⟩ => ⟨S8x32x1x512, .f32⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S1024x128, .bf16⟩
  | .local _ .vmem, ⟨5, _⟩ => ⟨S1024x128, .bf16⟩
  | .local _ .vmem, ⟨6, _⟩ => ⟨S2x32x1x512, .f32⟩
  | .local _ .vmem, ⟨7, _⟩ => ⟨S2x32x1x512, .f32⟩
  | .local _ .vmem, ⟨8, _⟩ => ⟨S2x32x1x512, .f32⟩
  | .local _ .vmem, ⟨9, _⟩ => ⟨S2x32x1x512, .f32⟩
  | .local _ .vmem, ⟨10, _⟩ => ⟨S1024x128, .f32⟩
  | .local _ .vmem, ⟨11, _⟩ => ⟨S1024x128, .f32⟩
  | .local _ .vmem, ⟨12, _⟩ => ⟨S16384x128, .f32⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1x1024x128, .f32⟩
  | .local _ .vmem, ⟨18, _⟩ => ⟨S1x1024x128, .f32⟩
  | .local _ .vmem, ⟨19, _⟩ => ⟨S2x32x1x512, .f32⟩
  | .local _ .vmem, ⟨20, _⟩ => ⟨S2x32x1x512, .f32⟩
  | .local _ .vmem, ⟨21, _⟩ => ⟨S2x1024x128, .f32⟩
  | .local _ .vmem, ⟨22, _⟩ => ⟨S2x1024x128, .f32⟩
  | .local _ .vmem, ⟨23, _⟩ => ⟨S2x1024x128, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v58 : Ref sig .tc := ⟨.hbm, 77, rfl⟩
abbrev main_cst_7 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_v70 : Ref sig .tc := ⟨.hbm, 92, rfl⟩
abbrev main_v71 : Ref sig .tc := ⟨.hbm, 93, rfl⟩
abbrev main_c : Ref sig .tc := ⟨.hbm, 94, rfl⟩
abbrev main_call3_v0 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75_0 : Ref sig .tc := ⟨.hbm, 99, rfl⟩
abbrev main_v75_1 : Ref sig .tc := ⟨.hbm, 100, rfl⟩
abbrev main_v75_2 : Ref sig .tc := ⟨.hbm, 101, rfl⟩
abbrev main_v75_3 : Ref sig .tc := ⟨.hbm, 102, rfl⟩
abbrev main_v75_4 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c0_i32_32 : BitVec 32 := 0#32
  let v63 : BitVec 32 := Scalar.addi v62 c0_i32_32
  let c512_i32 : BitVec 32 := 512#32
  let v64 : BitVec 32 := Scalar.muli v63 c512_i32
  v64
def k0_off1 (i : grid0.Coords) (c0_i32_32 : BitVec 32) : Fin 2 → Nat :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let v63 : BitVec 32 := Scalar.addi v62 c0_i32_32
  let c512_i32 : BitVec 32 := 512#32
  let v64 : BitVec 32 := Scalar.muli v63 c512_i32
  let v65 : BitVec 32 := v64
  let v66 : Index := Scalar.indexCast v65
  let c0_33 : Index := 0#32
  ![v66.toNat, 0]
def k0_off2 (i : grid0.Coords) (c0_i32_32 : BitVec 32) : Fin 4 → Nat :=
  let c0_37 : Index := 0#32
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let v63 : BitVec 32 := Scalar.addi v62 c0_i32_32
  let v75 : Index := Scalar.indexCast v63
  let c0_38 : Index := 0#32
  let c0_39 : Index := 0#32
  ![0, v75.toNat, 0, 0]
def k0_off3 (i : grid0.Coords) (c0_i32_32 : BitVec 32) : Fin 4 → Nat :=
  let c1 : Index := 1#32
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let v63 : BitVec 32 := Scalar.addi v62 c0_i32_32
  let v137 : Index := Scalar.indexCast v63
  let c0_77 : Index := 0#32
  let c0_78 : Index := 0#32
  ![1, v137.toNat, 0, 0]
def k0_mult2 (i : grid0.Coords) : BitVec 32 :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c1_i32_117 : BitVec 32 := 1#32
  let v203 : BitVec 32 := Scalar.addi v62 c1_i32_117
  let c512_i32_118 : BitVec 32 := 512#32
  let v204 : BitVec 32 := Scalar.muli v203 c512_i32_118
  v204
@[reducible] def k0_t1_loop (i : grid0.Coords) : Scf.Loop 32 :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c32_i32 : BitVec 32 := 32#32
  let v344 : BitVec 32 := Scalar.subi c32_i32 v343
  let c1_i32_206 : BitVec 32 := 1#32
  let v346 : BitVec 32 := Scalar.divsi v344 c1_i32_206
  let v347 : BitVec 32 := Scalar.muli v346 c1_i32_206
  let v348 : BitVec 32 := Scalar.addi v343 v347
  let c1_i32_207 : BitVec 32 := 1#32
  ⟨v343, v348, c1_i32_207⟩
def k0_mult3 (i : grid0.Coords) (k0_t1 : Fin (k0_t1_loop i).trips) : BitVec 32 :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c1_i32_207 : BitVec 32 := 1#32
  let arg17 : BitVec 32 := Scf.iv v343 c1_i32_207 k0_t1
  let c512_i32_239 : BitVec 32 := 512#32
  let v388 : BitVec 32 := Scalar.muli arg17 c512_i32_239
  v388
def k0_off4 (i : grid0.Coords) (k0_t1 : Fin (k0_t1_loop i).trips) : Fin 2 → Nat :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c1_i32_207 : BitVec 32 := 1#32
  let arg17 : BitVec 32 := Scf.iv v343 c1_i32_207 k0_t1
  let c512_i32_239 : BitVec 32 := 512#32
  let v388 : BitVec 32 := Scalar.muli arg17 c512_i32_239
  let v389 : BitVec 32 := v388
  let v390 : Index := Scalar.indexCast v389
  let c0_240 : Index := 0#32
  ![v390.toNat, 0]
def k0_off5 (i : grid0.Coords) (k0_t1 : Fin (k0_t1_loop i).trips) : Fin 4 → Nat :=
  let c0_244 : Index := 0#32
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c1_i32_207 : BitVec 32 := 1#32
  let arg17 : BitVec 32 := Scf.iv v343 c1_i32_207 k0_t1
  let v399 : Index := Scalar.indexCast arg17
  let c0_245 : Index := 0#32
  let c0_246 : Index := 0#32
  ![0, v399.toNat, 0, 0]
def k0_off6 (i : grid0.Coords) (k0_t1 : Fin (k0_t1_loop i).trips) : Fin 4 → Nat :=
  let c1_281 : Index := 1#32
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c1_i32_207 : BitVec 32 := 1#32
  let arg17 : BitVec 32 := Scf.iv v343 c1_i32_207 k0_t1
  let v451 : Index := Scalar.indexCast arg17
  let c0_282 : Index := 0#32
  let c0_283 : Index := 0#32
  ![1, v451.toNat, 0, 0]
@[reducible] def k0_t2_loop (i : grid0.Coords) : Scf.Loop 32 :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c32_i32 : BitVec 32 := 32#32
  let v344 : BitVec 32 := Scalar.subi c32_i32 v343
  let c1_i32_206 : BitVec 32 := 1#32
  let v346 : BitVec 32 := Scalar.divsi v344 c1_i32_206
  let v347 : BitVec 32 := Scalar.muli v346 c1_i32_206
  let v348 : BitVec 32 := Scalar.addi v343 v347
  let v345 : BitVec 32 := Scalar.addi v343 v344
  let c1_i32_208 : BitVec 32 := 1#32
  ⟨v348, v345, c1_i32_208⟩
def k0_mult4 (i : grid0.Coords) (k0_t2 : Fin (k0_t2_loop i).trips) : BitVec 32 :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c32_i32 : BitVec 32 := 32#32
  let v344 : BitVec 32 := Scalar.subi c32_i32 v343
  let c1_i32_206 : BitVec 32 := 1#32
  let v346 : BitVec 32 := Scalar.divsi v344 c1_i32_206
  let v347 : BitVec 32 := Scalar.muli v346 c1_i32_206
  let v348 : BitVec 32 := Scalar.addi v343 v347
  let c1_i32_208 : BitVec 32 := 1#32
  let arg17 : BitVec 32 := Scf.iv v348 c1_i32_208 k0_t2
  let c512_i32_239 : BitVec 32 := 512#32
  let v388 : BitVec 32 := Scalar.muli arg17 c512_i32_239
  v388
def k0_off7 (i : grid0.Coords) (k0_t2 : Fin (k0_t2_loop i).trips) : Fin 2 → Nat :=
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c32_i32 : BitVec 32 := 32#32
  let v344 : BitVec 32 := Scalar.subi c32_i32 v343
  let c1_i32_206 : BitVec 32 := 1#32
  let v346 : BitVec 32 := Scalar.divsi v344 c1_i32_206
  let v347 : BitVec 32 := Scalar.muli v346 c1_i32_206
  let v348 : BitVec 32 := Scalar.addi v343 v347
  let c1_i32_208 : BitVec 32 := 1#32
  let arg17 : BitVec 32 := Scf.iv v348 c1_i32_208 k0_t2
  let c512_i32_239 : BitVec 32 := 512#32
  let v388 : BitVec 32 := Scalar.muli arg17 c512_i32_239
  let v389 : BitVec 32 := v388
  let v390 : Index := Scalar.indexCast v389
  let c0_240 : Index := 0#32
  ![v390.toNat, 0]
def k0_off8 (i : grid0.Coords) (k0_t2 : Fin (k0_t2_loop i).trips) : Fin 4 → Nat :=
  let c0_244 : Index := 0#32
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c32_i32 : BitVec 32 := 32#32
  let v344 : BitVec 32 := Scalar.subi c32_i32 v343
  let c1_i32_206 : BitVec 32 := 1#32
  let v346 : BitVec 32 := Scalar.divsi v344 c1_i32_206
  let v347 : BitVec 32 := Scalar.muli v346 c1_i32_206
  let v348 : BitVec 32 := Scalar.addi v343 v347
  let c1_i32_208 : BitVec 32 := 1#32
  let arg17 : BitVec 32 := Scf.iv v348 c1_i32_208 k0_t2
  let v399 : Index := Scalar.indexCast arg17
  let c0_245 : Index := 0#32
  let c0_246 : Index := 0#32
  ![0, v399.toNat, 0, 0]
def k0_off9 (i : grid0.Coords) (k0_t2 : Fin (k0_t2_loop i).trips) : Fin 4 → Nat :=
  let c1_281 : Index := 1#32
  let arg1 : BitVec 32 := BitVec.ofNat 32 (i 1).val
  let c1024_i32 : BitVec 32 := 1024#32
  let v61 : BitVec 32 := Scalar.muli arg1 c1024_i32
  let c9_i32 : BitVec 32 := 9#32
  let v62 : BitVec 32 := Scalar.shrui v61 c9_i32
  let c2_i32_204 : BitVec 32 := 2#32
  let v343 : BitVec 32 := Scalar.addi v62 c2_i32_204
  let c32_i32 : BitVec 32 := 32#32
  let v344 : BitVec 32 := Scalar.subi c32_i32 v343
  let c1_i32_206 : BitVec 32 := 1#32
  let v346 : BitVec 32 := Scalar.divsi v344 c1_i32_206
  let v347 : BitVec 32 := Scalar.muli v346 c1_i32_206
  let v348 : BitVec 32 := Scalar.addi v343 v347
  let c1_i32_208 : BitVec 32 := 1#32
  let arg17 : BitVec 32 := Scf.iv v348 c1_i32_208 k0_t2
  let v451 : Index := Scalar.indexCast arg17
  let c0_282 : Index := 0#32
  let c0_283 : Index := 0#32
  ![1, v451.toNat, 0, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x32x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x32x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S16384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x32x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16384x1536 : Shape := ⟨2, ![16384, 1536]⟩
abbrev S16384x8 : Shape := ⟨2, ![16384, 8]⟩
abbrev S16384x512 : Shape := ⟨2, ![16384, 512]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x16384x64 : Shape := ⟨3, ![8, 16384, 64]⟩
abbrev S4x2x16384 : Shape := ⟨3, ![4, 2, 16384]⟩
abbrev S4x16384x2 : Shape := ⟨3, ![4, 16384, 2]⟩
abbrev S4x16384x128 : Shape := ⟨3, ![4, 16384, 128]⟩
abbrev S8x32x1x512 : Shape := ⟨4, ![8, 32, 1, 512]⟩

abbrev nBuf : Space → Nat
  | .hbm => 134
  | .vmem => 0
  | .smem => 0
  | _ => 0

abbrev hbmTy0_0 (i : Nat) : BufTy := match i % 128 with
  | 0 => ⟨S16384x1536, .bf16⟩
  | 1 => ⟨S16384x8, .f32⟩
  | 2 => ⟨S16384x512, .bf16⟩
  | 3 => ⟨S16384x1536, .f32⟩
  | 4 => ⟨S16384x512, .f32⟩
  | 5 => ⟨S16384x512, .f32⟩
  | 6 => ⟨S16384x512, .f32⟩
  | 7 => ⟨S16384x8x64, .f32⟩
  | 8 => ⟨S16384x8x64, .f32⟩
  | 9 => ⟨S16384x8x64, .f32⟩
  | 10 => ⟨S_, .f32⟩
  | 11 => ⟨S_, .f32⟩
  | 12 => ⟨S16384x8, .f32⟩
  | 13 => ⟨S8x16384x16384, .f32⟩
  | 14 => ⟨S_, .f32⟩
  | 15 => ⟨S8x16384x16384, .f32⟩
  | 16 => ⟨S8x16384x16384, .f32⟩
  | 17 => ⟨S8x16384, .f32⟩
  | 18 => ⟨S8x16384x1, .f32⟩
  | 19 => ⟨S8x16384x16384, .f32⟩
  | 20 => ⟨S8x16384x16384, .f32⟩
  | 21 => ⟨S8x16384, .f32⟩
  | 22 => ⟨S8x1x16384, .f32⟩
  | 23 => ⟨S8x16384x16384, .f32⟩
  | 24 => ⟨S8x16384x16384, .f32⟩
  | 25 => ⟨S16384, .i32⟩
  | 26 => ⟨S1x16384, .i32⟩
  | 27 => ⟨S16384x1, .i32⟩
  | 28 => ⟨S16384x16384, .i32⟩
  | 29 => ⟨S16384x16384, .i32⟩
  | 30 => ⟨S16384x16384, .i1⟩
  | 31 => ⟨S_, .f32⟩
  | 32 => ⟨S_, .f32⟩
  | 33 => ⟨S8x16384x16384, .i1⟩
  | 34 => ⟨S8x16384x16384, .f32⟩
  | 35 => ⟨S8x16384x16384, .f32⟩
  | 36 => ⟨S_, .f32⟩
  | 37 => ⟨S8x16384x16384, .f32⟩
  | 38 => ⟨S_, .f32⟩
  | 39 => ⟨S8x16384, .f32⟩
  | 40 => ⟨S8x16384x1, .f32⟩
  | 41 => ⟨S8x16384x16384, .f32⟩
  | 42 => ⟨S8x16384x16384, .i1⟩
  | 43 => ⟨S8x16384x16384, .f32⟩
  | 44 => ⟨S_, .f32⟩
  | 45 => ⟨S8x16384, .f32⟩
  | 46 => ⟨S_, .f32⟩
  | 47 => ⟨S8x16384, .f32⟩
  | 48 => ⟨S8x16384, .f32⟩
  | 49 => ⟨S_, .f32⟩
  | 50 => ⟨S8x16384, .f32⟩
  | 51 => ⟨S8x16384, .i1⟩
  | 52 => ⟨S_, .f32⟩
  | 53 => ⟨S8x16384, .f32⟩
  | 54 => ⟨S8x16384, .i1⟩
  | 55 => ⟨S_, .f32⟩
  | 56 => ⟨S8x16384, .f32⟩
  | 57 => ⟨S_, .f32⟩
  | 58 => ⟨S8x16384, .f32⟩
  | 59 => ⟨S_, .f32⟩
  | 60 => ⟨S8x16384, .f32⟩
  | 61 => ⟨S8x16384, .f32⟩
  | 62 => ⟨S8x16384, .f32⟩
  | 63 => ⟨S8x16384x1, .f32⟩
  | 64 => ⟨S8x16384x16384, .f32⟩
  | 65 => ⟨S8x16384x16384, .f32⟩
  | 66 => ⟨S8x16384x16384, .f32⟩
  | 67 => ⟨S_, .f32⟩
  | 68 => ⟨S8x16384, .f32⟩
  | 69 => ⟨S8x16384x1, .f32⟩
  | 70 => ⟨S8x16384x16384, .f32⟩
  | 71 => ⟨S8x16384x16384, .f32⟩
  | 72 => ⟨S8x16384x1, .f32⟩
  | 73 => ⟨S_, .f32⟩
  | 74 => ⟨S8x16384x1, .f32⟩
  | 75 => ⟨S8x16384x1, .f32⟩
  | 76 => ⟨S8x64x16384, .f32⟩
  | 77 => ⟨S16384x8x64, .f32⟩
  | 78 => ⟨S16384x512, .f32⟩
  | 79 => ⟨S16384x8x64, .f32⟩
  | 80 => ⟨S8x64x16384, .f32⟩
  | 81 => ⟨S8x16384x16384, .f32⟩
  | 82 => ⟨S8x64x16384, .f32⟩
  | 83 => ⟨S16384x8x64, .f32⟩
  | 84 => ⟨S8x16384x16384, .f32⟩
  | 85 => ⟨S8x16384x16384, .f32⟩
  | 86 => ⟨S8x16384x16384, .f32⟩
  | 87 => ⟨S_, .f32⟩
  | 88 => ⟨S8x16384, .f32⟩
  | 89 => ⟨S8x16384x1, .f32⟩
  | 90 => ⟨S8x16384x1, .f32⟩
  | 91 => ⟨S8x16384x16384, .f32⟩
  | 92 => ⟨S8x16384x16384, .f32⟩
  | 93 => ⟨S_, .f32⟩
  | 94 => ⟨S8x16384, .f32⟩
  | 95 => ⟨S8x16384x16384, .f32⟩
  | 96 => ⟨S8x16384x16384, .f32⟩
  | 97 => ⟨S8x16384x16384, .f32⟩
  | 98 => ⟨S_, .f32⟩
  | 99 => ⟨S8x16384x16384, .f32⟩
  | 100 => ⟨S8x16384x16384, .f32⟩
  | 101 => ⟨S8x16384x16384, .f32⟩
  | 102 => ⟨S_, .f32⟩
  | 103 => ⟨S8x16384, .f32⟩
  | 104 => ⟨S8x1x16384, .f32⟩
  | 105 => ⟨S_, .f32⟩
  | 106 => ⟨S8x16384, .f32⟩
  | 107 => ⟨S16384x8, .f32⟩
  | 108 => ⟨S_, .f32⟩
  | 109 => ⟨S8x16384, .f32⟩
  | 110 => ⟨S8x16384x1, .f32⟩
  | 111 => ⟨S_, .f32⟩
  | 112 => ⟨S8x16384, .f32⟩
  | 113 => ⟨S16384x8, .f32⟩
  | 114 => ⟨S_, .f32⟩
  | 115 => ⟨S8x16384x16384, .f32⟩
  | 116 => ⟨S8x16384x16384, .f32⟩
  | 117 => ⟨S8x16384x64, .f32⟩
  | 118 => ⟨S16384x8x64, .f32⟩
  | 119 => ⟨S8x16384x64, .f32⟩
  | 120 => ⟨S16384x8x64, .f32⟩
  | 121 => ⟨S8x16384, .f32⟩
  | 122 => ⟨S4x2x16384, .f32⟩
  | 123 => ⟨S4x16384x2, .f32⟩
  | 124 => ⟨S_, .i32⟩
  | 125 => ⟨S_, .f32⟩
  | 126 => ⟨S4x16384x128, .f32⟩
  | 127 => ⟨S16384x512, .f32⟩
  | _ => ⟨S16384x1536, .bf16⟩

abbrev hbmTy0_1 (i : Nat) : BufTy := match i % 128 with
  | 0 => ⟨S16384x512, .f32⟩
  | 1 => ⟨S16384x512, .bf16⟩
  | 2 => ⟨S16384x512, .f32⟩
  | 3 => ⟨S16384x512, .bf16⟩
  | 4 => ⟨S8x16384, .f32⟩
  | 5 => ⟨S8x32x1x512, .f32⟩
  | _ => ⟨S16384x1536, .bf16⟩

abbrev hbmTy (i : Nat) : BufTy := match i / 128 with
  | 0 => hbmTy0_0 i
  | 1 => hbmTy0_1 i
  | _ => ⟨S16384x1536, .bf16⟩

abbrev bufTy : (tb : Table) → Fin (tcTables nBuf tb) → BufTy
  | .hbm, ⟨i, _⟩ => hbmTy i
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_call0_cst : Ref sig .tc := ⟨.hbm, 10, rfl⟩
abbrev main_call0_call0_v0 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call1_v0 : Ref sig .tc := ⟨.hbm, 32, rfl⟩
abbrev main_v25_1 : Ref sig .tc := ⟨.hbm, 33, rfl⟩
abbrev main_call1_v2 : Ref sig .tc := ⟨.hbm, 34, rfl⟩
abbrev main_v25_0 : Ref sig .tc := ⟨.hbm, 35, rfl⟩
abbrev main_call1_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call2_cst : Ref sig .tc := ⟨.hbm, 98, rfl⟩
abbrev main_call2_v0 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c : Ref sig .tc := ⟨.hbm, 124, rfl⟩
abbrev main_call3_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Kernel2.lean ====
abbrev S16384x1024 : Shape := ⟨2, ![16384, 1024]⟩
abbrev S16384x5632 : Shape := ⟨2, ![16384, 5632]⟩
abbrev S1024x5632 : Shape := ⟨2, ![1024, 5632]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S1024x5632 : Shape := ⟨2, ![1024, 5632]⟩
abbrev S16384x5632 : Shape := ⟨2, ![16384, 5632]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x5632, .bf16⟩
  | .hbm, ⟨1, _⟩ => ⟨S16384x5632, .bf16⟩
  | .hbm, ⟨2, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1024x5632 : Shape := ⟨2, ![1024, 5632]⟩
abbrev S16384x5632 : Shape := ⟨2, ![16384, 5632]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S16384x5632, .bf16⟩
  | .hbm, ⟨2, _⟩ => ⟨S_, .f32⟩
  | .hbm, ⟨3, _⟩ => ⟨S16384x1024, .f32⟩
  | .hbm, ⟨4, _⟩ => ⟨S1024x5632, .f32⟩
  | .hbm, ⟨5, _⟩ => ⟨S16384x5632, .f32⟩
  | .hbm, ⟨6, _⟩ => ⟨S16384x5632, .f32⟩
  | .hbm, ⟨7, _⟩ => ⟨S16384x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2816x1024 : Shape := ⟨2, ![2816, 1024]⟩
abbrev S16384x1024 : Shape := ⟨2, ![16384, 1024]⟩
abbrev S16384x2816 : Shape := ⟨2, ![16384, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S16384x1024, .bf16⟩
  | .hbm, ⟨2, _⟩ => ⟨S16384x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2816x1024 : Shape := ⟨2, ![2816, 1024]⟩
abbrev S16384x1024 : Shape := ⟨2, ![16384, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S16384x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S16384x2816, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S16384x5760 : Shape := ⟨2, ![16384, 5760]⟩
abbrev S1024x5760 : Shape := ⟨2, ![1024, 5760]⟩
abbrev S4096x1024 : Shape := ⟨2, ![4096, 1024]⟩
abbrev S4096x640 : Shape := ⟨2, ![4096, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5760, .bf16⟩
  | .hbm, ⟨2, _⟩ => ⟨S1024x5760, .f32⟩
  | .local _ .vmem, ⟨0, _⟩ => ⟨S4096x1024, .bf16⟩
  | .local _ .vmem, ⟨1, _⟩ => ⟨S4096x1024, .bf16⟩
  | .local _ .vmem, ⟨2, _⟩ => ⟨S4096x640, .bf16⟩
  | .local _ .vmem, ⟨3, _⟩ => ⟨S4096x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S16384x5760 : Shape := ⟨2, ![16384, 5760]⟩
abbrev S_ : Shape := ⟨0, ![]⟩
abbrev S1024x5760 : Shape := ⟨2, ![1024, 5760]⟩
abbrev S5760x1024 : Shape := ⟨2, ![5760, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5760, .bf16⟩
  | .hbm, ⟨2, _⟩ => ⟨S_, .f32⟩
  | .hbm, ⟨3, _⟩ => ⟨S1024x5760, .f32⟩
  | .hbm, ⟨4, _⟩ => ⟨S16384x1024, .f32⟩
  | .hbm, ⟨5, _⟩ => ⟨S16384x5760, .f32⟩
  | .hbm, ⟨6, _⟩ => ⟨S16384x5760, .f32⟩
  | .hbm, ⟨7, _⟩ => ⟨S5760x1024, .f32⟩
  | .hbm, ⟨8, _⟩ => ⟨S1024x5760, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S1024x5760 : Shape := ⟨2, ![1024, 5760]⟩
abbrev S16384x5760 : Shape := ⟨2, ![16384, 5760]⟩
abbrev S16384x1024 : Shape := ⟨2, ![16384, 1024]⟩
abbrev S1024x1920 : Shape := ⟨2, ![1024, 1920]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x5760, .bf16⟩
  | .hbm, ⟨1, _⟩ => ⟨S16384x5760, .bf16⟩
  | .hbm, ⟨2, _⟩ => ⟨S16384x1024, .f32⟩
  | .local _ .vmem, ⟨0, _⟩ => ⟨S1024x1920, .bf16⟩
  | .local _ .vmem, ⟨1, _⟩ => ⟨S1024x1920, .bf16⟩
  | .local _ .vmem, ⟨2, _⟩ => ⟨S1024x1920, .bf16⟩
  | .local _ .vmem, ⟨3, _⟩ => ⟨S1024x1920, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x5760 : Shape := ⟨2, ![1024, 5760]⟩
abbrev S16384x5760 : Shape := ⟨2, ![16384, 5760]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x5760, .bf16⟩
  | .hbm, ⟨1, _⟩ => ⟨S16384x5760, .bf16⟩
  | .hbm, ⟨2, _⟩ => ⟨S_, .f32⟩
  | .hbm, ⟨3, _⟩ => ⟨S16384x1024, .f32⟩
  | .hbm, ⟨4, _⟩ => ⟨S1024x5760, .f32⟩
  | .hbm, ⟨5, _⟩ => ⟨S16384x5760, .f32⟩
  | .hbm, ⟨6, _⟩ => ⟨S16384x5760, .f32⟩
  | .hbm, ⟨7, _⟩ => ⟨S16384x1024, .f32⟩
  | _, _ => ⟨S1024x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S16384x1024 : Shape := ⟨2, ![16384, 1024]⟩
abbrev S1024x5632 : Shape := ⟨2, ![1024, 5632]⟩
abbrev S16384x5632 : Shape := ⟨2, ![16384, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x2816, .f32⟩
  | .hbm, ⟨3, _⟩ => ⟨S2816x1024, .f32⟩
  | .hbm, ⟨4, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S16384x1024 : Shape := ⟨2, ![16384, 1024]⟩
abbrev S1024x5760 : Shape := ⟨2, ![1024, 5760]⟩
abbrev S16384x1536 : Shape := ⟨2, ![16384, 1536]⟩
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5760, .bf16⟩
  | .hbm, ⟨2, _⟩ => ⟨S16384x1536, .bf16⟩
  | .local _ .vmem, ⟨0, _⟩ => ⟨S2048x1024, .bf16⟩
  | .local _ .vmem, ⟨1, _⟩ => ⟨S2048x1024, .bf16⟩
  | .local _ .vmem, ⟨2, _⟩ => ⟨S1024x768, .bf16⟩
  | .local _ .vmem, ⟨3, _⟩ => ⟨S1024x768, .bf16⟩
  | .local _ .vmem, ⟨4, _⟩ => ⟨S2048x768, .bf16⟩
  | .local _ .vmem, ⟨5, _⟩ => ⟨S2048x768, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x5760 : Shape := ⟨2, ![1024, 5760]⟩
abbrev S16384x5760 : Shape := ⟨2, ![16384, 5760]⟩
abbrev S16384x1536 : Shape := ⟨2, ![16384, 1536]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5760, .bf16⟩
  | .hbm, ⟨2, _⟩ => ⟨S16384x1024, .f32⟩
  | .hbm, ⟨3, _⟩ => ⟨S1024x5760, .f32⟩
  | .hbm, ⟨4, _⟩ => ⟨S16384x5760, .f32⟩
  | .hbm, ⟨5, _⟩ => ⟨S16384x1536, .f32⟩
  | .hbm, ⟨6, _⟩ => ⟨S16384x1536, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S1024x5760 : Shape := ⟨2, ![1024, 5760]⟩
abbrev S16384x4224 : Shape := ⟨2, ![16384, 4224]⟩
abbrev S2048x1024 : Shape := ⟨2, ![2048, 1024]⟩
abbrev S1024x384 : Shape := ⟨2, ![1024, 384]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5760, .bf16⟩
  | .hbm, ⟨2, _⟩ => ⟨S16384x4224, .f32⟩
  | .local _ .vmem, ⟨0, _⟩ => ⟨S2048x1024, .bf16⟩
  | .local _ .vmem, ⟨1, _⟩ => ⟨S2048x1024, .bf16⟩
  | .local _ .vmem, ⟨2, _⟩ => ⟨S1024x384, .bf16⟩
  | .local _ .vmem, ⟨3, _⟩ => ⟨S1024x384, .bf16⟩
  | .local _ .vmem, ⟨4, _⟩ => ⟨S2048x384, .f32⟩
  | .local _ .vmem, ⟨5, _⟩ => ⟨S2048x384, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x5760 : Shape := ⟨2, ![1024, 5760]⟩
abbrev S16384x5760 : Shape := ⟨2, ![16384, 5760]⟩
abbrev S16384x4224 : Shape := ⟨2, ![16384, 4224]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5760, .bf16⟩
  | .hbm, ⟨2, _⟩ => ⟨S16384x1024, .f32⟩
  | .hbm, ⟨3, _⟩ => ⟨S1024x5760, .f32⟩
  | .hbm, ⟨4, _⟩ => ⟨S16384x5760, .f32⟩
  | .hbm, ⟨5, _⟩ => ⟨S16384x4224, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S1024x1024 : Shape := ⟨2, ![1024, 1024]⟩
abbrev S16384x1024 : Shape := ⟨2, ![16384, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S1024x1024 : Shape := ⟨2, ![1024, 1024]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S16384x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S16384x1024 : Shape := ⟨2, ![16384, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S16384x512 : Shape := ⟨2, ![16384, 512]⟩
abbrev S512x1024 : Shape := ⟨2, ![512, 1024]⟩
abbrev S16384x1024 : Shape := ⟨2, ![16384, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .f32⟩
  | .local _ .vmem, ⟨4, _⟩ => ⟨S2048x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .bf16⟩
  | .hbm, ⟨2, _⟩ => ⟨S16384x512, .f32⟩
  | .hbm, ⟨3, _⟩ => ⟨S512x1024, .f32⟩
  | .hbm, ⟨4, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S512x1024 : Shape := ⟨2, ![512, 1024]⟩
abbrev S16384x1024 : Shape := ⟨2, ![16384, 1024]⟩
abbrev S16384x512 : Shape := ⟨2, ![16384, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S16384x1024, .bf16⟩
  | .hbm, ⟨2, _⟩ => ⟨S16384x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S512x1024 : Shape := ⟨2, ![512, 1024]⟩
abbrev S16384x1024 : Shape := ⟨2, ![16384, 1024]⟩
abbrev S_ : Shape := ⟨0, ![]⟩
abbrev S16384x512 : Shape := ⟨2, ![16384, 512]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S16384x1024, .bf16⟩
  | .hbm, ⟨2, _⟩ => ⟨S_, .f32⟩
  | .hbm, ⟨3, _⟩ => ⟨S16384x512, .f32⟩
  | .hbm, ⟨4, _⟩ => ⟨S512x1024, .f32⟩
  | .hbm, ⟨5, _⟩ => ⟨S16384x1024, .f32⟩
  | .hbm, ⟨6, _⟩ => ⟨S16384x1024, .f32⟩
  | .hbm, ⟨7, _⟩ => ⟨S16384x512, .f32⟩
  | .hbm, ⟨8, _⟩ => ⟨S16384x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S512x1024 : Shape := ⟨2, ![512, 1024]⟩
abbrev S16384x1024 : Shape := ⟨2, ![16384, 1024]⟩
abbrev S16384x512 : Shape := ⟨2, ![16384, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S16384x1024, .bf16⟩
  | .hbm, ⟨2, _⟩ => ⟨S16384x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S512x1024 : Shape := ⟨2, ![512, 1024]⟩
abbrev S16384x1024 : Shape := ⟨2, ![16384, 1024]⟩
abbrev S_ : Shape := ⟨0, ![]⟩
abbrev S16384x512 : Shape := ⟨2, ![16384, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S16384x1024, .bf16⟩
  | .hbm, ⟨2, _⟩ => ⟨S_, .f32⟩
  | .hbm, ⟨3, _⟩ => ⟨S16384x512, .f32⟩
  | .hbm, ⟨4, _⟩ => ⟨S512x1024, .f32⟩
  | .hbm, ⟨5, _⟩ => ⟨S16384x1024, .f32⟩
  | .hbm, ⟨6, _⟩ => ⟨S16384x1024, .f32⟩
  | .hbm, ⟨7, _⟩ => ⟨S16384x512, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S16384x512 : Shape := ⟨2, ![16384, 512]⟩
abbrev S16384x1024 : Shape := ⟨2, ![16384, 1024]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S16384x5632 : Shape := ⟨2, ![16384, 5632]⟩
abbrev S16384x2816 : Shape := ⟨2, ![16384, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S16384x5632, .f32⟩
  | .hbm, ⟨1, _⟩ => ⟨S16384x2816, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .bf16⟩
  | .local _ .vmem, ⟨5, _⟩ => ⟨S256x2816, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S_, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== Kernel20.lean ====
abbrev S16384x4224 : Shape := ⟨2, ![16384, 4224]⟩
abbrev S16384x1024 : Shape := ⟨2, ![16384, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S16384x4224, .f32⟩
  | .hbm, ⟨1, _⟩ => ⟨S16384x1024, .f32⟩
  | .hbm, ⟨2, _⟩ => ⟨S16384x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S16384x4224 : Shape := ⟨2, ![16384, 4224]⟩
abbrev S16384x1024 : Shape := ⟨2, ![16384, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x4224, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | _, _ => ⟨S16384x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel21.lean ====
abbrev S16384x4224 : Shape := ⟨2, ![16384, 4224]⟩
abbrev S16384x1024 : Shape := ⟨2, ![16384, 1024]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S16384x4224, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S16384x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S16384x4224 : Shape := ⟨2, ![16384, 4224]⟩
abbrev S16384x1024 : Shape := ⟨2, ![16384, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S16384x4224, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | .hbm, ⟨42, _⟩ => ⟨S16384x1024, .bf16⟩
  | .hbm, ⟨43, _⟩ => ⟨S16384x1024, .bf16⟩
  | .hbm, ⟨44, _⟩ => ⟨S16384x1024, .bf16⟩
  | _, _ => ⟨S16384x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel22.lean ====
abbrev S16384x5632 : Shape := ⟨2, ![16384, 5632]⟩
abbrev S16384x2816 : Shape := ⟨2, ![16384, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x5632, .bf16⟩
  | .local _ .vmem, ⟨0, _⟩ => ⟨S256x2816, .f32⟩
  | .local _ .vmem, ⟨1, _⟩ => ⟨S256x2816, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x5632, .bf16⟩
  | .local _ .vmem, ⟨7, _⟩ => ⟨S256x5632, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S16384x5632 : Shape := ⟨2, ![16384, 5632]⟩
abbrev S16384x2816 : Shape := ⟨2, ![16384, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2816, .f32⟩
  | .hbm, ⟨2, _⟩ => ⟨S16384x2816, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x5632, .f32⟩
  | .hbm, ⟨25, _⟩ => ⟨S16384x5632, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== Kernel23.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference23Ideal.lean ====
abbrev S16384x1024 : Shape := ⟨2, ![16384, 1024]⟩
abbrev S1x1024 : Shape := ⟨2, ![1, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel24.lean ====
abbrev S16384x512 : Shape := ⟨2, ![16384, 512]⟩
abbrev S16384x4224 : Shape := ⟨2, ![16384, 4224]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S16384x4224, .f32⟩
  | .hbm, ⟨2, _⟩ => ⟨S1x128, .f32⟩
  | .hbm, ⟨3, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S16384x512 : Shape := ⟨2, ![16384, 512]⟩
abbrev S16384x4224 : Shape := ⟨2, ![16384, 4224]⟩
abbrev S1x128 : Shape := ⟨2, ![1, 128]⟩
abbrev S128 : Shape := ⟨1, ![128]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x4224, .f32⟩
  | .hbm, ⟨2, _⟩ => ⟨S1x128, .f32⟩
  | .hbm, ⟨3, _⟩ => ⟨S16384x512, .f32⟩
  | .hbm, ⟨4, _⟩ => ⟨S128, .f32⟩
  | .hbm, ⟨5, _⟩ => ⟨S16384x4x128, .f32⟩
  | .hbm, ⟨6, _⟩ => ⟨S16384x4x128, .f32⟩
  | .hbm, ⟨7, _⟩ => ⟨S_, .f32⟩
  | .hbm, ⟨8, _⟩ => ⟨S16384x4, .f32⟩
  | .hbm, ⟨9, _⟩ => ⟨S16384x4x1, .f32⟩
  | .hbm, ⟨10, _⟩ => ⟨S_, .f32⟩
  | .hbm, ⟨11, _⟩ => ⟨S16384x4x1, .f32⟩
  | .hbm, ⟨12, _⟩ => ⟨S16384x4x1, .f32⟩
  | .hbm, ⟨13, _⟩ => ⟨S_, .f32⟩
  | .hbm, ⟨14, _⟩ => ⟨S16384x4x1, .f32⟩
  | .hbm, ⟨15, _⟩ => ⟨S16384x4x1, .f32⟩
  | .hbm, ⟨16, _⟩ => ⟨S16384x4x1, .f32⟩
  | .hbm, ⟨17, _⟩ => ⟨S16384x4x128, .f32⟩
  | .hbm, ⟨18, _⟩ => ⟨S16384x4x128, .f32⟩
  | .hbm, ⟨19, _⟩ => ⟨S1x1x128, .f32⟩
  | .hbm, ⟨20, _⟩ => ⟨S16384x4x128, .f32⟩
  | .hbm, ⟨21, _⟩ => ⟨S16384x4x128, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Step.lean ====
/- The arithmetic of the kernel's body, over any kind of float: what one grid point (a pair of heads and a block of
   1024 keys) does with one block of 512 query rows, and what it leaves after all the blocks it meets.
   Nothing here speaks of memory: arrays are functions of an index, `VecWindow.window` cuts a block out of one and
   `VecWindow.put` lays a block over one. -/
module

public import proofs.«01_k».proof.Proof.Gen.KernelIdeal.Skeleton
public import Idealize.ShloMosaic.Lib.VecWindow

@[expose] public section

set_option maxRecDepth 16384

noncomputable section

namespace Cert.Proof.Fox

open Cert.KernelIdeal Cert.KernelIdeal.Gen
open Idealize.ShloMosaic Idealize.ShloMosaic.TcCoe

variable {F : FTy → Type} [FloatOps F]

/-! ## Blocks of the arrays -/

theorem rows_inb (n : Fin 32) : ∀ a, (![512 * n.val, 0] : Fin 2 → ℕ) a + S512x128.size a ≤ S16384x128.size a := by
  intro a; fin_cases a
  · show 512 * n.val + 512 ≤ 16384; omega
  · exact Nat.le_refl _

theorem head_inb (h : Fin 2) : ∀ a, (![h.val, 0, 0] : Fin 3 → ℕ) a + S1x1024x128.size a ≤ S2x1024x128.size a := by
  intro a; fin_cases a
  · show h.val + 1 ≤ 2; omega
  · exact Nat.le_refl _
  · exact Nat.le_refl _

theorem row_inb (h : Fin 2) (n : Fin 32) : ∀ a, (![h.val, n.val, 0, 0] : Fin 4 → ℕ) a + S1x1x1x512.size a ≤ S2x32x1x512.size a := by
  intro a; fin_cases a
  · show h.val + 1 ≤ 2; omega
  · show n.val + 1 ≤ 32; omega
  · exact Nat.le_refl _
  · exact Nat.le_refl _

/-- Rows `512 n … 512 n + 511` of an array of 16384 rows. -/
def rows {e : EltTy} (x : Vec F S16384x128 e) (n : Fin 32) : Vec F S512x128 e :=
  VecWindow.window x ![512 * n.val, 0] S512x128.size (rows_inb n)

/-- The part of an accumulator that belongs to head `h` of the pair. -/
def head {e : EltTy} (x : Vec F S2x1024x128 e) (h : Fin 2) : Vec F S1x1024x128 e :=
  VecWindow.window x ![h.val, 0, 0] S1x1024x128.size (head_inb h)

/-- Row `n` of head `h` of an array that keeps one number per query row, 512 to a row. -/
def row {e : EltTy} (x : Vec F S2x32x1x512 e) (h : Fin 2) (n : Fin 32) : Vec F S1x1x1x512 e :=
  VecWindow.window x ![h.val, n.val, 0, 0] S1x1x1x512.size (row_inb h n)

section Loads

variable {sig' : RefSig} {κ : Kind} {sp : Space} {e : EltTy}

/-- A load of 512 rows of a buffer at `x`. -/
theorem readAt_rows (v : View sig' κ sp S16384x128 e) (x : Vec F S16384x128 e) {off : Fin 2 → ℕ}
    (inb : ∀ a, off a + S512x128.size a ≤ S16384x128.size a) (n : Fin 32) (h : off = ![512 * n.val, 0]) :
    v.readAt (Elt F) (Rect.unit (s := S16384x128) off S512x128.size inb).toLoadRect (v.rep x) = rows x n :=
  View.readAt_rep_unit v x inb h (rows_inb n)

/-- A load of one head's half of a buffer at `x`. -/
theorem readAt_head (v : View sig' κ sp S2x1024x128 e) (x : Vec F S2x1024x128 e) {off : Fin 3 → ℕ}
    (inb : ∀ a, off a + S1x1024x128.size a ≤ S2x1024x128.size a) (h : Fin 2) (ho : off = ![h.val, 0, 0]) :
    v.readAt (Elt F) (Rect.unit (s := S2x1024x128) off S1x1024x128.size inb).toLoadRect (v.rep x) = head x h :=
  View.readAt_rep_unit v x inb ho (head_inb h)

/-- A load of one row of one head of a buffer at `x`. -/
theorem readAt_row (v : View sig' κ sp S2x32x1x512 e) (x : Vec F S2x32x1x512 e) {off : Fin 4 → ℕ}
    (inb : ∀ a, off a + S1x1x1x512.size a ≤ S2x32x1x512.size a) (h : Fin 2) (n : Fin 32) (ho : off = ![h.val, n.val, 0, 0]) :
    v.readAt (Elt F) (Rect.unit (s := S2x32x1x512) off S1x1x1x512.size inb).toLoadRect (v.rep x) = row x h n :=
  View.readAt_rep_unit v x inb ho (row_inb h n)

end Loads

/-! ## One head, one block of query rows -/

/-- The query rows times `1/8`. -/
def scaled (q : Vec F S512x128 .bf16) : FVec F S512x128 .bf16 := mulf q (broadcast S512x128 (Scalar.ofBits .bf16 0x3E00#16))

/-- The probabilities before the causal mask: the exponential of the scores less the forget gates less the row's log-sum. -/
def probs (k : FVec F S1024x128 .bf16) (f : FVec F S1024x1 .f32) (q : FVec F S512x128 .bf16) (lse : Vec F S1x1x1x512 .f32) :
    FVec F S1024x512 .f32 :=
  exp (subf (subf (matmul dot_S1024x128_S512x128_S1024x512_1_1_0_0_n_n none k q (constant S1024x512 .f32 0x00000000#32))
      (broadcastTo S1024x512 f broadcasts_S1024x1_S1024x512))
    (broadcastTo S1024x512 (shapeCast S1x512 lse shapeCasts_S1x1x1x512_S1x512) broadcasts_S1x512_S1024x512))

/-- The gradient of the scores from the (masked) probabilities: `p (v · do − delta)`. -/
def dscores (v : FVec F S1024x128 .bf16) (d : Vec F S512x128 .bf16) (p : FVec F S1024x512 .f32) (dl : Vec F S1x1x1x512 .f32) :
    FVec F S1024x512 .f32 :=
  mulf p (subf (matmul dot_S1024x128_S512x128_S1024x512_1_1_0_0_n_n none v d (constant S1024x512 .f32 0x00000000#32))
    (broadcastTo S1024x512 (shapeCast S1x512 dl shapeCasts_S1x1x1x512_S1x512) broadcasts_S1x512_S1024x512))

/-- A key accumulator plus a block of weights (narrowed) times rows: the step of `dk` and of `dv`. -/
def addDot (w : FVec F S1024x512 .f32) (x : FVec F S512x128 .bf16) (acc : Vec F S1x1024x128 .f32) : FVec F S1x1024x128 .f32 :=
  shapeCast S1x1024x128 (addf (shapeCast S1024x128 acc shapeCasts_S1x1024x128_S1024x128)
    (matmul dot_S1024x512_S512x128_S1024x128_1_0_0_1_n_n none (truncf .bf16 w bitsLt_bf16_f32) x (constant S1024x128 .f32 0x00000000#32)))
    shapeCasts_S1024x128_S1x1024x128

/-- A key accumulator plus, on every lane, the sums of the block's rows: the step of the key side of the forget gates. -/
def addRowSums (w : FVec F S1024x512 .f32) (acc : Vec F S1x1024x128 .f32) : FVec F S1x1024x128 .f32 :=
  shapeCast S1x1024x128 (addf (shapeCast S1024x128 acc shapeCasts_S1x1024x128_S1024x128)
    (broadcastTo S1024x128 (shapeCast S1024x1 (multiReduction .add [1] S1024 w 0x00000000#32 reduces_S1024x512_S1024 (.inl rfl) rfl)
      shapeCasts_S1024_S1024x1) broadcasts_S1024x1_S1024x128)) shapeCasts_S1024x128_S1x1024x128

/-- A row of numbers plus the sums of the block's columns: the step of the query side of the forget gates. -/
def addColSums (w : FVec F S1024x512 .f32) (r : Vec F S1x1x1x512 .f32) : FVec F S1x1x1x512 .f32 :=
  shapeCast S1x1x1x512 (addf (shapeCast S1x512 r shapeCasts_S1x1x1x512_S1x512)
    (shapeCast S1x512 (multiReduction .add [0] S512 w 0x00000000#32 reduces_S1024x512_S512 (.inl rfl) rfl) shapeCasts_S512_S1x512))
    shapeCasts_S1x512_S1x1x1x512

/-- The block's weights (narrowed), transposed, times the scaled keys: one head's part of `dq`. -/
def dqPart (w : FVec F S1024x512 .f32) (k : FVec F S1024x128 .bf16) : FVec F S512x128 .f32 :=
  matmul dot_S1024x512_S1024x128_S512x128_0_0_1_1_n_n none (truncf .bf16 w bitsLt_bf16_f32) k (constant S512x128 .f32 0x00000000#32)

/-! ## The state and one step -/

/-- What a grid point reads and leaves alone: each head's keys, scaled keys and values (zero on the other head's lanes) and
    forget gates, and the whole arrays of queries, output gradients, log-sums and deltas. -/
structure Ops (F : FTy → Type) [FloatOps F] where
  k0 : FVec F S1024x128 .bf16
  k1 : FVec F S1024x128 .bf16
  s0 : FVec F S1024x128 .bf16
  s1 : FVec F S1024x128 .bf16
  v0 : FVec F S1024x128 .bf16
  v1 : FVec F S1024x128 .bf16
  f0 : FVec F S1024x1 .f32
  f1 : FVec F S1024x1 .f32
  q : Vec F S16384x128 .bf16
  d : Vec F S16384x128 .bf16
  lse : Vec F S2x32x1x512 .f32
  dl : Vec F S2x32x1x512 .f32

/-- What a grid point accumulates: `dq` and the query side of the gates for all query rows, and for its block of keys `dk`,
    `dv` and the key side of the gates, a head at a time. -/
structure St (F : FTy → Type) [FloatOps F] where
  dq : Vec F S16384x128 .f32
  dfq : Vec F S2x32x1x512 .f32
  dk : Vec F S2x1024x128 .f32
  dv : Vec F S2x1024x128 .f32
  df : Vec F S2x1024x128 .f32

/-- The masked probabilities of the two heads on block `n`. -/
def p0 (o : Ops F) (msk : FVec F S1024x512 .f32 → FVec F S1024x512 .f32) (n : Fin 32) : FVec F S1024x512 .f32 :=
  msk (probs o.k0 o.f0 (scaled (rows o.q n)) (row o.lse 0 n))
def p1 (o : Ops F) (msk : FVec F S1024x512 .f32 → FVec F S1024x512 .f32) (n : Fin 32) : FVec F S1024x512 .f32 :=
  msk (probs o.k1 o.f1 (scaled (rows o.q n)) (row o.lse 1 n))

/-- The gradients of the two heads' scores on block `n`. -/
def ds0 (o : Ops F) (msk : FVec F S1024x512 .f32 → FVec F S1024x512 .f32) (n : Fin 32) : FVec F S1024x512 .f32 :=
  dscores o.v0 (rows o.d n) (p0 o msk n) (row o.dl 0 n)
def ds1 (o : Ops F) (msk : FVec F S1024x512 .f32 → FVec F S1024x512 .f32) (n : Fin 32) : FVec F S1024x512 .f32 :=
  dscores o.v1 (rows o.d n) (p1 o msk n) (row o.dl 1 n)

/-- Both halves of an accumulator replaced. -/
def put2 (x : Vec F S2x1024x128 .f32) (a b : FVec F S1x1024x128 .f32) : Vec F S2x1024x128 .f32 :=
  VecWindow.put (VecWindow.put x ![0, 0, 0] S1x1024x128.size a) ![1, 0, 0] S1x1024x128.size b

/-- The two halves cover the accumulator: what it held before is of no account. -/
theorem put2_congr (x x' : Vec F S2x1024x128 .f32) (a b : FVec F S1x1024x128 .f32) : put2 x a b = put2 x' a b := by
  funext y
  have h0 : (y 0).val < 2 := (y 0).isLt
  have h1 : (y 1).val < 1024 := (y 1).isLt
  have h2 : (y 2).val < 128 := (y 2).isLt
  unfold put2 VecWindow.put
  by_cases hb : ∀ r, (![1, 0, 0] : Fin 3 → ℕ) r ≤ (y r).val ∧ (y r).val < (![1, 0, 0] : Fin 3 → ℕ) r + S1x1024x128.size r
  · rw [dif_pos hb, dif_pos hb]
  · rw [dif_neg hb, dif_neg hb]
    have ha : ∀ r, (![0, 0, 0] : Fin 3 → ℕ) r ≤ (y r).val ∧ (y r).val < (![0, 0, 0] : Fin 3 → ℕ) r + S1x1024x128.size r := by
      have hy : (y 0).val = 0 := by
        by_contra hne
        refine hb fun r => ?_
        fin_cases r
        · show 1 ≤ (y 0).val ∧ (y 0).val < 1 + 1; omega
        · show 0 ≤ (y 1).val ∧ (y 1).val < 0 + 1024; omega
        · show 0 ≤ (y 2).val ∧ (y 2).val < 0 + 128; omega
      intro r
      fin_cases r
      · show 0 ≤ (y 0).val ∧ (y 0).val < 0 + 1; omega
      · show 0 ≤ (y 1).val ∧ (y 1).val < 0 + 1024; omega
      · show 0 ≤ (y 2).val ∧ (y 2).val < 0 + 128; omega
    rw [dif_pos ha, dif_pos ha]

/-- One block of query rows. -/
def step (o : Ops F) (msk : FVec F S1024x512 .f32 → FVec F S1024x512 .f32) (n : Fin 32) (s : St F) : St F where
  dq := VecWindow.put s.dq ![512 * n.val, 0] S512x128.size
    (addf (shapeCast S512x128 (rows s.dq n) shapeCasts_S512x128_S512x128) (addf (dqPart (ds0 o msk n) o.s0) (dqPart (ds1 o msk n) o.s1)))
  dfq := VecWindow.put (VecWindow.put s.dfq ![0, n.val, 0, 0] S1x1x1x512.size (addColSums (ds0 o msk n) (row s.dfq 0 n)))
    ![1, n.val, 0, 0] S1x1x1x512.size (addColSums (ds1 o msk n) (row s.dfq 1 n))
  dk := put2 s.dk (addDot (ds0 o msk n) (scaled (rows o.q n)) (head s.dk 0)) (addDot (ds1 o msk n) (scaled (rows o.q n)) (head s.dk 1))
  dv := put2 s.dv (addDot (p0 o msk n) (rows o.d n) (head s.dv 0)) (addDot (p1 o msk n) (rows o.d n) (head s.dv 1))
  df := put2 s.df (addRowSums (ds0 o msk n) (head s.df 0)) (addRowSums (ds1 o msk n) (head s.df 1))

end Cert.Proof.Fox

end
-- ==== Proof.Offsets.lean ====
/- Where the body's loads and stores lie: each printed offset, as a numeral in the grid point and the trip. -/
module

public import proofs.«01_k».proof.Proof.Gen.KernelIdeal.Skeleton
public import Idealize.ShloMosaic.Lib.Exec

@[expose] public section

set_option maxRecDepth 16384

noncomputable section

namespace Cert.Proof.Fox

open Cert.KernelIdeal Cert.KernelIdeal.Gen
open Idealize.ShloMosaic

theorem off1_eq : ∀ (i : grid0.Coords) (d : Fin 2), k0_off1 i (BitVec.ofNat 32 d.val) = ![512 * (2 * (i 1).val + d.val), 0] := by decide +kernel
theorem off2_eq : ∀ (i : grid0.Coords) (d : Fin 2), k0_off2 i (BitVec.ofNat 32 d.val) = ![0, 2 * (i 1).val + d.val, 0, 0] := by decide +kernel
theorem off3_eq : ∀ (i : grid0.Coords) (d : Fin 2), k0_off3 i (BitVec.ofNat 32 d.val) = ![1, 2 * (i 1).val + d.val, 0, 0] := by decide +kernel

/-- The loop over the blocks above the diagonal makes `30 − 2 j` trips. -/
theorem trips_t1 : ∀ i : grid0.Coords, (k0_t1_loop i).trips = 30 - 2 * (i 1).val := by decide +kernel
/-- The remainder loop makes none. -/
theorem trips_t2 : ∀ i : grid0.Coords, (k0_t2_loop i).trips = 0 := by decide +kernel

theorem off4_eq : ∀ (i : grid0.Coords) (k : Fin (k0_t1_loop i).trips), k0_off4 i k = ![512 * (2 * (i 1).val + 2 + k.val), 0] := by decide +kernel
theorem off5_eq : ∀ (i : grid0.Coords) (k : Fin (k0_t1_loop i).trips), k0_off5 i k = ![0, 2 * (i 1).val + 2 + k.val, 0, 0] := by decide +kernel
theorem off6_eq : ∀ (i : grid0.Coords) (k : Fin (k0_t1_loop i).trips), k0_off6 i k = ![1, 2 * (i 1).val + 2 + k.val, 0, 0] := by decide +kernel

instance (i : grid0.Coords) : ClosedOff (k0_off1 i 0#32) := ⟨![512 * (2 * (i 1).val), 0], off1_eq i 0⟩
instance (i : grid0.Coords) : ClosedOff (k0_off2 i 0#32) := ⟨![0, 2 * (i 1).val, 0, 0], off2_eq i 0⟩
instance (i : grid0.Coords) : ClosedOff (k0_off3 i 0#32) := ⟨![1, 2 * (i 1).val, 0, 0], off3_eq i 0⟩
instance (i : grid0.Coords) : ClosedOff (k0_off1 i 1#32) := ⟨![512 * (2 * (i 1).val + 1), 0], off1_eq i 1⟩
instance (i : grid0.Coords) : ClosedOff (k0_off2 i 1#32) := ⟨![0, 2 * (i 1).val + 1, 0, 0], off2_eq i 1⟩
instance (i : grid0.Coords) : ClosedOff (k0_off3 i 1#32) := ⟨![1, 2 * (i 1).val + 1, 0, 0], off3_eq i 1⟩
instance (i : grid0.Coords) (k : Fin (k0_t1_loop i).trips) : ClosedOff (k0_off4 i k) := ⟨_, off4_eq i k⟩
instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩

end Cert.Proof.Fox

end
-- ==== Proof.Trip.lean ====
/- One trip of the loop over the blocks of query rows above the diagonal: from the buffers at the state `s` to the
   buffers at `step … s`. -/
module

public import proofs.«01_k».proof.Proof.Step
public import proofs.«01_k».proof.Proof.Offsets
public import proofs.«01_k».proof.Proof.Gen.KernelIdeal.Loops
public import Idealize.ShloMosaic.Lib.Tactic
public import Idealize.ShloMosaic.Lib.Tactic.Stretches
public import Idealize.ShloMosaic.Lib.Pipeline.Kit
public import Idealize.ShloMosaic.Lib.Pipeline.TableIdle

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: no counters beside the buffers. -/
local notation "𝕄" => MT nD τ sig Unit (Elt F) ℕ (UR sig nD τ) ℕ

/-- A buffer of the core `c` held whole at the array `x`. -/
abbrev pt (c : Dev nD) {sp : Space} {S : Shape} {e : EltTy} (M : Memref sig .tc sp S e) (x : Vec F S e) : sProp 𝕄 :=
  M.view.loc (c : Thread nD τ) ↦[M.view.set]{fullShare} M.view.rep x

/-- A buffer at contents that read `x` is held at `x`. -/
theorem pt_of_read (c : Dev nD) {sp : Space} {S : Shape} {e : EltTy} (M : Memref sig .tc sp S e) (g : Buf (Elt F) (M.view.loc (c : Thread nD τ)))
    (x : Vec F S e) (h : M.view.read (Elt F) g = x) :
    (M.view.loc (c : Thread nD τ) ↦[M.view.set]{fullShare} g : sProp 𝕄) ⊢ pt c M x :=
  pointsTo_rep_of_read (c : Thread nD τ) M g fullShare x h

theorem trip_run (c : Dev nD) (i : grid0.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S2x32x1x512 .f32) (harg6 : arg6.IsWhole) (arg7 : Memref sig .tc .vmem S2x32x1x512 .f32) (harg7 : arg7.IsWhole) (arg8 : Memref sig .tc .vmem S1024x128 .f32) (harg8 : arg8.IsWhole) (arg9 : Memref sig .tc .vmem S16384x128 .f32) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S1x1024x128 .f32) (harg12 : arg12.IsWhole) (arg13 : Memref sig .tc .vmem S2x32x1x512 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x1024x128 .f32) (harg16 : arg16.IsWhole) (o : Ops F) (v62 v203 v205 : BitVec 32) (v273 : FVec F S512x128 .f32) (v299 : FVec F S1024x512 .f32) (v300 : FVec F S1024x512 .bf16) (v317 : FVec F S1024x128 .f32) (v343 : BitVec 32)
    (k : Fin (k0_t1_loop i).trips) (n : Fin 32) (hn : n.val = 2 * (i 1).val + 2 + k.val) (s : St F) :
    iprop(pt c arg3 o.q ∗ pt c arg4 o.d ∗ pt c arg6 o.lse ∗ pt c arg7 o.dl ∗ pt c arg9 s.dq ∗ pt c arg13 s.dfq
        ∗ pt c arg14 s.dk ∗ pt c arg15 s.dv ∗ pt c arg16 s.df)
      ⊢ wp frame (wpE (defs₀ (F := F)) Variants.none (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 o.k0 o.k1 o.s0 o.s1 o.v0 o.v1 o.f0 o.f1 v62 v203 v205 v273 v299 v300 v317 v343 k ())
        (fun _ => iprop(pt c arg3 o.q ∗ pt c arg4 o.d ∗ pt c arg6 o.lse ∗ pt c arg7 o.dl ∗ pt c arg9 (step o id n s).dq ∗ pt c arg13 (step o id n s).dfq
          ∗ pt c arg14 (step o id n s).dk ∗ pt c arg15 (step o id n s).dv ∗ pt c arg16 (step o id n s).df)) := by
  unfold k0_t1_body
  iintro ⟨H3, H4, H6, H7, H9, H13, H14, H15, H16⟩
  sl_exec!
  sl_step
  isplitl [H3]; · iexact H3
  isplitl [H4]; · iexact H4
  isplitl [H6]; · iexact H6
  isplitl [H7]; · iexact H7
  have h4 : k0_off4 i k = ![512 * n.val, 0] := by rw [off4_eq, hn]
  have h5 : k0_off5 i k = ![(0 : Fin 2).val, n.val, 0, 0] := by rw [off5_eq, hn]; rfl
  have h6 : k0_off6 i k = ![(1 : Fin 2).val, n.val, 0, 0] := by rw [off6_eq, hn]; rfl
  isplitl [H9]
  · refine pt_of_read c arg9 _ _ ?_
    sl_open_run
    rw [View.read_writes_cons_put _ _ _ _ _ h4, View.writes_nil, View.read_rep]
    simp only [readAt_rows _ _ _ n h4, readAt_row _ _ _ 0 n h5, readAt_row _ _ _ 1 n h6]
    rfl
  isplitl [H13]
  · refine pt_of_read c arg13 _ _ ?_
    sl_open_run
    rw [View.read_writes_cons_put _ _ _ _ _ h6, View.read_writes_cons_put _ _ _ _ _ h5, View.writes_nil, View.read_rep]
    simp only [readAt_rows _ _ _ n h4, readAt_row _ _ _ 0 n h5, readAt_row _ _ _ 1 n h6]
    rfl
  isplitl [H14]
  · refine pt_of_read c arg14 _ _ ?_
    sl_open_run
    rw [View.read_writes_cons_put _ _ _ _ _ rfl, View.read_writes_cons_put _ _ _ _ _ rfl]
    simp only [readAt_rows _ _ _ n h4, readAt_row _ _ _ 0 n h5, readAt_row _ _ _ 1 n h6, readAt_head (off := ![0, 0, 0]) _ _ _ 0 rfl, readAt_head (off := ![1, 0, 0]) _ _ _ 1 rfl]
    exact (put2_congr (F := F) _ s.dk _ _).trans rfl
  isplitl [H15]
  · refine pt_of_read c arg15 _ _ ?_
    sl_open_run
    rw [View.read_writes_cons_put _ _ _ _ _ rfl, View.read_writes_cons_put _ _ _ _ _ rfl]
    simp only [readAt_rows _ _ _ n h4, readAt_row _ _ _ 0 n h5, readAt_row _ _ _ 1 n h6, readAt_head (off := ![0, 0, 0]) _ _ _ 0 rfl, readAt_head (off := ![1, 0, 0]) _ _ _ 1 rfl]
    exact (put2_congr (F := F) _ s.dv _ _).trans rfl
  · refine pt_of_read c arg16 _ _ ?_
    sl_open_run
    rw [View.read_writes_cons_put _ _ _ _ _ rfl, View.read_writes_cons_put _ _ _ _ _ rfl]
    simp only [readAt_rows _ _ _ n h4, readAt_row _ _ _ 0 n h5, readAt_row _ _ _ 1 n h6, readAt_head (off := ![0, 0, 0]) _ _ _ 0 rfl, readAt_head (off := ![1, 0, 0]) _ _ _ 1 rfl]
    exact (put2_congr (F := F) _ s.df _ _).trans rfl

end Cert.Proof.Fox

end
-- ==== Proof.Start.lean ====
/- What one grid point works with and starts from, the part of its body that clears the accumulators, and two steps in a row. -/
module

public import proofs.«01_k».proof.Proof.Trip

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: no counters beside the buffers. -/
local notation "𝕄" => MT nD τ sig Unit (Elt F) ℕ (UR sig nD τ) ℕ

/-- The test that masks block `d` of the two on the diagonal: the query's place less the key's, against the blocks' distance. -/
def visible (i : grid0.Coords) (d : BitVec 32) (p : FVec F S1024x512 .f32) : FVec F S1024x512 .f32 :=
  select (cmpi .sge (subi (iota .tc S1024x512 32 [1] iota_S1024x512_d1_w32) (iota .tc S1024x512 32 [0] iota_S1024x512_d0_w32))
      (broadcast S1024x512 (Scalar.subi (Scalar.muli (BitVec.ofNat 32 (i 1).val) 1024#32)
        (Scalar.muli (Scalar.addi (Scalar.shrui (Scalar.muli (BitVec.ofNat 32 (i 1).val) 1024#32) 9#32) d) 512#32))))
    p (broadcast S1024x512 (Scalar.ofBits .f32 0x00000000#32))

/-- What a grid point works with: the blocks of keys `k`, values `v` and gates `f`, taken apart by head. -/
def ops (i : grid0.Coords) (k v : Vec F S1024x128 .bf16) (f : Vec F S1024x128 .f32) (q d : Vec F S16384x128 .bf16) (lse dl : Vec F S2x32x1x512 .f32) :
    Ops F where
  k0 := k0_pay35 k
  k1 := k0_pay36 k
  s0 := k0_pay38 k
  s1 := k0_pay39 k
  v0 := k0_pay40 v
  v1 := k0_pay41 v
  f0 := k0_pay42 i f
  f1 := k0_pay43 (iota .tc S1024x128 32 [1] iota_S1024x128_d1_w32) (Scalar.addi (Scalar.muli 2#32 (BitVec.ofNat 32 (i 0).val)) 1#32) f
  q := q
  d := d
  lse := lse
  dl := dl

/-- Where a grid point starts: the key side at zero, the query side at what the point before it left, or at zero at the first block of keys. -/
def start (i : grid0.Coords) (dq : Vec F S16384x128 .f32) (dfq : Vec F S2x32x1x512 .f32) : St F where
  dq := if (i 1).val = 0 then k0_pay47 else dq
  dfq := if (i 1).val = 0 then k0_pay48 else dfq
  dk := k0_pay44
  dv := k0_pay45
  df := k0_pay46

/-- A load of a whole block of 1024 rows. -/
theorem readAt_block {e : EltTy} {sp : Space} (v : View sig .tc sp S1024x128 e) (x : Vec F S1024x128 e)
    (inb : ∀ a, (![0, 0] : Fin 2 → ℕ) a + S1024x128.size a ≤ S1024x128.size a) :
    v.readAt (Elt F) (Rect.unit (s := S1024x128) ![0, 0] S1024x128.size inb).toLoadRect (v.rep x) = x :=
  View.readAt_rep_full (s := S1024x128) v x inb

/-- The second part of the body: the accumulators are cleared, and at the first block of keys the query side too. -/
theorem part8_run (c : Dev nD) (i : grid0.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S2x32x1x512 .f32) (harg6 : arg6.IsWhole) (arg7 : Memref sig .tc .vmem S2x32x1x512 .f32) (harg7 : arg7.IsWhole) (arg8 : Memref sig .tc .vmem S1024x128 .f32) (harg8 : arg8.IsWhole) (arg9 : Memref sig .tc .vmem S16384x128 .f32) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S1x1024x128 .f32) (harg12 : arg12.IsWhole) (arg13 : Memref sig .tc .vmem S2x32x1x512 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x1024x128 .f32) (harg16 : arg16.IsWhole)
    (v25 : IVec S1024x128 32) (v37 : BitVec 32) (x8 : Vec F S1024x128 .f32) (q : Vec F S16384x128 .bf16) (dq : Vec F S16384x128 .f32) (dfq : Vec F S2x32x1x512 .f32)
    (y14 y15 y16 : Vec F S2x1024x128 .f32) (n : Fin 32) (hn : n.val = 2 * (i 1).val) :
    iprop(pt c arg3 q ∗ pt c arg8 x8 ∗ pt c arg9 dq ∗ pt c arg13 dfq ∗ pt c arg14 y14 ∗ pt c arg15 y15 ∗ pt c arg16 y16)
      ⊢ wp frame (wpE (defs₀ (F := F)) Variants.none (c : Thread nD τ) none) Set.univ
        (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v25 v37)
        (fun r => iprop(⌜r = ⟨k0_pay43 v25 v37 x8, Scalar.shrui (Scalar.muli (BitVec.ofNat 32 (i 1).val) 1024#32) 9#32,
            Scalar.addi (Scalar.shrui (Scalar.muli (BitVec.ofNat 32 (i 1).val) 1024#32) 9#32) 0#32,
            Scalar.muli (Scalar.addi (Scalar.shrui (Scalar.muli (BitVec.ofNat 32 (i 1).val) 1024#32) 9#32) 0#32) 512#32, scaled (rows q n)⟩⌝
          ∗ pt c arg3 q ∗ pt c arg8 x8 ∗ pt c arg9 (start i dq dfq).dq ∗ pt c arg13 (start i dq dfq).dfq
          ∗ pt c arg14 (start i dq dfq).dk ∗ pt c arg15 (start i dq dfq).dv ∗ pt c arg16 (start i dq dfq).df)) := by
  have h1 : k0_off1 i 0#32 = ![512 * n.val, 0] := (off1_eq i 0).trans (by rw [hn]; rfl)
  have hcond : ∀ i : grid0.Coords, Scalar.cmpi .ne (Scalar.extui (Scalar.cmpi .eq (BitVec.ofNat 32 (i 1).val) 0#32)) 0#32 = (1#1 : BitVec 1) ↔ (i 1).val = 0 := by
    decide +kernel
  rcases Nat.eq_zero_or_pos (i 1).val with hz | hz
  · have hb := (hcond i).mpr hz
    have e9 : (start i dq dfq).dq = k0_pay47 := if_pos hz
    have e13 : (start i dq dfq).dfq = k0_pay48 := if_pos hz
    iintro ⟨H3, H8, H9, H13, H14, H15, H16⟩
    sl_exec!
    sl_step
    isplitr
    · ipureintro
      sl_open_run
      rw [readAt_block]
      try simp only [readAt_rows _ _ _ n h1]
      rfl
    isplitl [H3]; · iexact H3
    isplitl [H8]; · iexact H8
    isplitl [H9]
    · refine pt_of_read c arg9 _ _ ?_
      sl_open_run
      rw [e9]
      exact View.read_writes_full _ _ _ _ _
    isplitl [H13]
    · refine pt_of_read c arg13 _ _ ?_
      sl_open_run
      rw [e13]
      exact View.read_writes_full _ _ _ _ _
    isplitl [H14]
    · refine pt_of_read c arg14 _ _ ?_
      sl_open_run
      exact View.read_writes_full _ _ _ _ _
    isplitl [H15]
    · refine pt_of_read c arg15 _ _ ?_
      sl_open_run
      exact View.read_writes_full _ _ _ _ _
    · refine pt_of_read c arg16 _ _ ?_
      sl_open_run
      exact View.read_writes_full _ _ _ _ _
  · have hb := (hcond i).not.mpr (by omega)
    have e9 : (start i dq dfq).dq = dq := if_neg (by omega)
    have e13 : (start i dq dfq).dfq = dfq := if_neg (by omega)
    iintro ⟨H3, H8, H9, H13, H14, H15, H16⟩
    sl_exec!
    sl_step
    isplitr
    · ipureintro
      sl_open_run
      rw [readAt_block]
      try simp only [readAt_rows _ _ _ n h1]
      rfl
    isplitl [H3]; · iexact H3
    isplitl [H8]; · iexact H8
    rw [e9, e13]
    isplitl [H9]; · iexact H9
    isplitl [H13]; · iexact H13
    isplitl [H14]
    · refine pt_of_read c arg14 _ _ ?_
      sl_open_run
      exact View.read_writes_full _ _ _ _ _
    isplitl [H15]
    · refine pt_of_read c arg15 _ _ ?_
      sl_open_run
      exact View.read_writes_full _ _ _ _ _
    · refine pt_of_read c arg16 _ _ ?_
      sl_open_run
      exact View.read_writes_full _ _ _ _ _

/-! ## Two steps in a row -/

theorem head_put2_zero (x : Vec F S2x1024x128 .f32) (a b : FVec F S1x1024x128 .f32) : head (put2 x a b) 0 = a := by
  unfold head put2
  rw [VecWindow.window_put_of_disjoint _ _ _ _ _ _ _ 0 (.inl (Nat.le_refl 1))]
  exact VecWindow.window_put_same _ _ _ (head_inb 0) _

theorem head_put2_one (x : Vec F S2x1024x128 .f32) (a b : FVec F S1x1024x128 .f32) : head (put2 x a b) 1 = b :=
  VecWindow.window_put_same _ _ _ (head_inb 1) _

theorem rows_put (x : Vec F S16384x128 .f32) (n n' : Fin 32) (h : n ≠ n') (w : FVec F S512x128 .f32) :
    rows (VecWindow.put x ![512 * n.val, 0] S512x128.size w) n' = rows x n' :=
  VecWindow.window_put_of_disjoint _ _ _ _ _ _ _ 0 (by
    have : n.val ≠ n'.val := fun e => h (Fin.ext e)
    show 512 * n'.val + 512 ≤ 512 * n.val ∨ 512 * n.val + 512 ≤ 512 * n'.val
    omega)

theorem row_put (x : Vec F S2x32x1x512 .f32) (g : Fin 2) (n n' : Fin 32) (h : n ≠ n') (w : FVec F S1x1x1x512 .f32) (g' : Fin 2) :
    row (VecWindow.put x ![g.val, n.val, 0, 0] S1x1x1x512.size w) g' n' = row x g' n' :=
  VecWindow.window_put_of_disjoint _ _ _ _ _ _ _ 1 (by
    have : n.val ≠ n'.val := fun e => h (Fin.ext e)
    show n'.val + 1 ≤ n.val ∨ n.val + 1 ≤ n'.val
    omega)

theorem row_put' (x : Vec F S2x32x1x512 .f32) (n : Fin 32) (w : FVec F S1x1x1x512 .f32) :
    row (VecWindow.put x ![0, n.val, 0, 0] S1x1x1x512.size w) 1 n = row x 1 n :=
  VecWindow.window_put_of_disjoint _ _ _ _ _ _ _ 0 (.inr (Nat.le_refl 1))

/-- After the first head's half and then the second's are stored, the first half is what was stored there. -/
theorem cov_zero {sp : Space} (v : View sig .tc sp S2x1024x128 .f32) (inb0 : ∀ a, (![0, 0, 0] : Fin 3 → ℕ) a + S1x1024x128.size a ≤ S2x1024x128.size a)
    (inb1 : ∀ a, (![1, 0, 0] : Fin 3 → ℕ) a + S1x1024x128.size a ≤ S2x1024x128.size a) (a b : FVec F S1x1024x128 .f32) (L : List (View.Piece (Elt F) S2x1024x128 .f32)) :
    v.readCov (⟨Rect.unit (s := S2x1024x128) ![1, 0, 0] S1x1024x128.size inb1, b⟩ :: ⟨Rect.unit (s := S2x1024x128) ![0, 0, 0] S1x1024x128.size inb0, a⟩ :: L)
      (Rect.unit (s := S2x1024x128) ![0, 0, 0] S1x1024x128.size inb0).toLoadRect = a := by
  unfold View.readCov
  rw [View.readAt_unit (s := S2x1024x128) v _ inb0 rfl inb0, View.read_writes_cons_put _ _ _ _ _ rfl, View.read_writes_cons_put _ _ _ _ _ rfl]
  exact head_put2_zero _ a b

/-- After the second head's half and then the first's are stored, the second half is what was stored there. -/
theorem cov_one {sp : Space} (v : View sig .tc sp S2x1024x128 .f32) (inb0 : ∀ a, (![0, 0, 0] : Fin 3 → ℕ) a + S1x1024x128.size a ≤ S2x1024x128.size a)
    (inb1 : ∀ a, (![1, 0, 0] : Fin 3 → ℕ) a + S1x1024x128.size a ≤ S2x1024x128.size a) (a b : FVec F S1x1024x128 .f32) (L : List (View.Piece (Elt F) S2x1024x128 .f32)) :
    v.readCov (⟨Rect.unit (s := S2x1024x128) ![0, 0, 0] S1x1024x128.size inb0, a⟩ :: ⟨Rect.unit (s := S2x1024x128) ![1, 0, 0] S1x1024x128.size inb1, b⟩ :: L)
      (Rect.unit (s := S2x1024x128) ![1, 0, 0] S1x1024x128.size inb1).toLoadRect = b := by
  unfold View.readCov
  rw [View.readAt_unit (s := S2x1024x128) v _ inb1 rfl inb1, View.read_writes_cons_put _ _ _ _ _ rfl, View.read_writes_cons_put _ _ _ _ _ rfl,
    VecWindow.window_put_of_disjoint _ _ _ _ _ _ _ 0 (.inr (Nat.le_refl 1))]
  exact VecWindow.window_put_same _ _ _ inb1 _

section TwoSteps

variable (o : Ops F) (m m' : FVec F S1024x512 .f32 → FVec F S1024x512 .f32) (n n' : Fin 32) (s : St F)

theorem step_step_dq (h : n ≠ n') : (step o m' n' (step o m n s)).dq
    = VecWindow.put (VecWindow.put s.dq ![512 * n.val, 0] S512x128.size
        (addf (shapeCast S512x128 (rows s.dq n) shapeCasts_S512x128_S512x128) (addf (dqPart (ds0 o m n) o.s0) (dqPart (ds1 o m n) o.s1))))
      ![512 * n'.val, 0] S512x128.size
        (addf (shapeCast S512x128 (rows s.dq n') shapeCasts_S512x128_S512x128) (addf (dqPart (ds0 o m' n') o.s0) (dqPart (ds1 o m' n') o.s1))) := by
  have e : rows (step o m n s).dq n' = rows s.dq n' := rows_put _ _ _ h _
  show VecWindow.put (step o m n s).dq ![512 * n'.val, 0] S512x128.size (addf (shapeCast S512x128 (rows (step o m n s).dq n') shapeCasts_S512x128_S512x128 : FVec F S512x128 .f32) _) = _
  rw [e]
  rfl

theorem step_step_dfq (h : n ≠ n') : (step o m' n' (step o m n s)).dfq
    = VecWindow.put (VecWindow.put (VecWindow.put (VecWindow.put s.dfq ![0, n.val, 0, 0] S1x1x1x512.size (addColSums (ds0 o m n) (row s.dfq 0 n)))
        ![1, n.val, 0, 0] S1x1x1x512.size (addColSums (ds1 o m n) (row s.dfq 1 n)))
        ![0, n'.val, 0, 0] S1x1x1x512.size (addColSums (ds0 o m' n') (row s.dfq 0 n')))
        ![1, n'.val, 0, 0] S1x1x1x512.size (addColSums (ds1 o m' n') (row s.dfq 1 n')) := by
  have e0 : row (step o m n s).dfq 0 n' = row s.dfq 0 n' := (row_put _ 1 _ _ h _ 0).trans (row_put _ 0 _ _ h _ 0)
  have e1 : row (step o m n s).dfq 1 n' = row s.dfq 1 n' := (row_put _ 1 _ _ h _ 1).trans (row_put _ 0 _ _ h _ 1)
  show VecWindow.put (VecWindow.put (step o m n s).dfq _ _ (addColSums _ (row (step o m n s).dfq 0 n'))) _ _ (addColSums _ (row (step o m n s).dfq 1 n')) = _
  rw [e0, e1]
  rfl

theorem step_step_dk : (step o m' n' (step o m n s)).dk
    = put2 (step o m n s).dk (addDot (ds0 o m' n') (scaled (rows o.q n')) (addDot (ds0 o m n) (scaled (rows o.q n)) (head s.dk 0)))
      (addDot (ds1 o m' n') (scaled (rows o.q n')) (addDot (ds1 o m n) (scaled (rows o.q n)) (head s.dk 1))) := by
  show put2 _ (addDot _ _ (head (put2 _ _ _) 0)) (addDot _ _ (head (put2 _ _ _) 1)) = _
  rw [head_put2_zero, head_put2_one]

theorem step_step_dv : (step o m' n' (step o m n s)).dv
    = put2 (step o m n s).dv (addDot (p0 o m' n') (rows o.d n') (addDot (p0 o m n) (rows o.d n) (head s.dv 0)))
      (addDot (p1 o m' n') (rows o.d n') (addDot (p1 o m n) (rows o.d n) (head s.dv 1))) := by
  show put2 _ (addDot _ _ (head (put2 _ _ _) 0)) (addDot _ _ (head (put2 _ _ _) 1)) = _
  rw [head_put2_zero, head_put2_one]

theorem step_step_df : (step o m' n' (step o m n s)).df
    = put2 (step o m n s).df (addRowSums (ds0 o m' n') (addRowSums (ds0 o m n) (head s.df 0)))
      (addRowSums (ds1 o m' n') (addRowSums (ds1 o m n) (head s.df 1))) := by
  show put2 _ (addRowSums _ (head (put2 _ _ _) 0)) (addRowSums _ (head (put2 _ _ _) 1)) = _
  rw [head_put2_zero, head_put2_one]

end TwoSteps

/-- The two blocks on the diagonal, each under its mask. -/
def diagonal (i : grid0.Coords) (o : Ops F) (s : St F) : St F :=
  step o (visible i 1#32) ⟨2 * (i 1).val + 1, by have : (i 1).val < 16 := (i 1).isLt; omega⟩
    (step o (visible i 0#32) ⟨2 * (i 1).val, by have : (i 1).val < 16 := (i 1).isLt; omega⟩ s)

/-- `t` blocks above the diagonal, from block `a` on, unmasked. -/
def above (o : Ops F) (a : ℕ) : ℕ → St F → St F
  | 0, s => s
  | t + 1, s => if h : a + t < 32 then step o id ⟨a + t, h⟩ (above o a t s) else above o a t s

theorem above_succ (o : Ops F) (a t : ℕ) (s : St F) (h : a + t < 32) : above o a (t + 1) s = step o id ⟨a + t, h⟩ (above o a t s) :=
  dif_pos h

/-- What a grid point has accumulated when it ends. -/
def point (i : grid0.Coords) (k v : Vec F S1024x128 .bf16) (f : Vec F S1024x128 .f32) (q d : Vec F S16384x128 .bf16) (lse dl : Vec F S2x32x1x512 .f32)
    (dq : Vec F S16384x128 .f32) (dfq : Vec F S2x32x1x512 .f32) : St F :=
  above (ops i k v f q d lse dl) (2 * (i 1).val + 2) (30 - 2 * (i 1).val) (diagonal i (ops i k v f q d lse dl) (start i dq dfq))

/-- What it stores of the key side: each head's lanes from that head's accumulator; for the gates, the sums negated on the first two lanes. -/
def outDk (s : St F) : Vec F S1024x128 .bf16 := k0_pay94 k0_pay34 (k0_pay93 (head s.dk 0)) (head s.dk 1)
def outDv (s : St F) : Vec F S1024x128 .bf16 := k0_pay95 k0_pay34 (head s.dv 0) (head s.dv 1)
def outDf (s : St F) : Vec F S1x1024x128 .f32 := k0_pay1 (k0_pay96 (head s.df 0) (head s.df 1))

end Cert.Proof.Fox

end
-- ==== Proof.Body.lean ====
/- The body of one grid point, run once: from the blocks the pipeline has staged to what it stores. -/
module

public import proofs.«01_k».proof.Proof.Start

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: no counters beside the buffers. -/
local notation "𝕄" => MT nD τ sig Unit (Elt F) ℕ (UR sig nD τ) ℕ

set_option maxHeartbeats 4000000 in
/-- One grid point, from the buffers as the pipeline has filled them. -/
theorem body_run (c : Dev nD) (i : grid0.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S2x32x1x512 .f32) (harg6 : arg6.IsWhole) (arg7 : Memref sig .tc .vmem S2x32x1x512 .f32) (harg7 : arg7.IsWhole) (arg8 : Memref sig .tc .vmem S1024x128 .f32) (harg8 : arg8.IsWhole) (arg9 : Memref sig .tc .vmem S16384x128 .f32) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S1x1024x128 .f32) (harg12 : arg12.IsWhole) (arg13 : Memref sig .tc .vmem S2x32x1x512 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x1024x128 .f32) (harg16 : arg16.IsWhole)
    (k v : Vec F S1024x128 .bf16) (f : Vec F S1024x128 .f32) (q d : Vec F S16384x128 .bf16) (lse dl : Vec F S2x32x1x512 .f32) (dq : Vec F S16384x128 .f32) (dfq : Vec F S2x32x1x512 .f32)
    (x10 x11 : Vec F S1024x128 .bf16) (x12 : Vec F S1x1024x128 .f32) (y14 y15 y16 : Vec F S2x1024x128 .f32) :
    iprop(pt c arg2 k ∗ pt c arg3 q ∗ pt c arg4 d ∗ pt c arg5 v ∗ pt c arg6 lse ∗ pt c arg7 dl ∗ pt c arg8 f ∗ pt c arg9 dq ∗ pt c arg10 x10 ∗ pt c arg11 x11
        ∗ pt c arg12 x12 ∗ pt c arg13 dfq ∗ pt c arg14 y14 ∗ pt c arg15 y15 ∗ pt c arg16 y16)
      ⊢ wp frame (wpE (defs₀ (F := F)) Variants.none (c : Thread nD τ) none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(pt c arg2 k ∗ pt c arg3 q ∗ pt c arg4 d ∗ pt c arg5 v ∗ pt c arg6 lse ∗ pt c arg7 dl ∗ pt c arg8 f
          ∗ pt c arg9 (point i k v f q d lse dl dq dfq).dq ∗ pt c arg10 (outDk (point i k v f q d lse dl dq dfq)) ∗ pt c arg11 (outDv (point i k v f q d lse dl dq dfq))
          ∗ pt c arg12 (outDf (point i k v f q d lse dl dq dfq)) ∗ pt c arg13 (point i k v f q d lse dl dq dfq).dfq
          ∗ pt c arg14 (point i k v f q d lse dl dq dfq).dk ∗ pt c arg15 (point i k v f q d lse dl dq dfq).dv ∗ pt c arg16 (point i k v f q d lse dl dq dfq).df)) := by
  have hlt : 2 * (i 1).val < 32 := by have : (i 1).val < 16 := (i 1).isLt; omega
  have hlt' : 2 * (i 1).val + 1 < 32 := by have : (i 1).val < 16 := (i 1).isLt; omega
  have hcut := fun v25 v37 => part8_run c i arg2 harg2 arg3 harg3 arg4 harg4 arg5 harg5 arg6 harg6 arg7 harg7 arg8 harg8 arg9 harg9 arg10 harg10 arg11 harg11 arg12 harg12 arg13 harg13 arg14 harg14 arg15 harg15 arg16 harg16 v25 v37 f q dq dfq y14 y15 y16 ⟨2 * (i 1).val, hlt⟩ rfl
  iintro ⟨H2, H3, H4, H5, H6, H7, H8, H9, H10, H11, H12, H13, H14, H15, H16⟩
  unfold cc0_fox_bwd
  sl_exec!
  have e0 : body_run.sl.r arg2 k = (k0_pay35 k : Vec F S1024x128 .bf16) := by sl_open_run; rw [readAt_block]
  have e1 : body_run.sl.r_1 arg2 k = (k0_pay36 k : Vec F S1024x128 .bf16) := by sl_open_run; rw [readAt_block]
  have e2 : body_run.sl.r_2 arg2 k = (k0_pay38 k : Vec F S1024x128 .bf16) := by sl_open_run; rw [readAt_block]
  have e3 : body_run.sl.r_3 arg2 k = (k0_pay39 k : Vec F S1024x128 .bf16) := by sl_open_run; rw [readAt_block]
  have e4 : body_run.sl.r_4 arg5 v = (k0_pay40 v : Vec F S1024x128 .bf16) := by sl_open_run; rw [readAt_block]
  have e5 : body_run.sl.r_5 arg5 v = (k0_pay41 v : Vec F S1024x128 .bf16) := by sl_open_run; rw [readAt_block]
  have e6 : body_run.sl.r_6 i arg8 f = (k0_pay42 i f : FVec F S1024x1 .f32) := by sl_open_run; rw [readAt_block]
  rw [e0, e1, e2, e3, e4, e5, e6]
  cases hk0_part8_0
  have hne : (⟨2 * (i 1).val, hlt⟩ : Fin 32) ≠ ⟨2 * (i 1).val + 1, hlt'⟩ := fun e => absurd (congrArg Fin.val e) (by show ¬ (2 * (i 1).val = 2 * (i 1).val + 1); omega)
  have h10 : k0_off1 i 0#32 = ![512 * (⟨2 * (i 1).val, hlt⟩ : Fin 32).val, 0] := off1_eq i 0
  have h20 : k0_off2 i 0#32 = ![(0 : Fin 2).val, (⟨2 * (i 1).val, hlt⟩ : Fin 32).val, 0, 0] := off2_eq i 0
  have h30 : k0_off3 i 0#32 = ![(1 : Fin 2).val, (⟨2 * (i 1).val, hlt⟩ : Fin 32).val, 0, 0] := off3_eq i 0
  have h11 : k0_off1 i 1#32 = ![512 * (⟨2 * (i 1).val + 1, hlt'⟩ : Fin 32).val, 0] := off1_eq i 1
  have h21 : k0_off2 i 1#32 = ![(0 : Fin 2).val, (⟨2 * (i 1).val + 1, hlt'⟩ : Fin 32).val, 0, 0] := off2_eq i 1
  have h31 : k0_off3 i 1#32 = ![(1 : Fin 2).val, (⟨2 * (i 1).val + 1, hlt'⟩ : Fin 32).val, 0, 0] := off3_eq i 1
  sl_for (fun t _ => iprop(pt c arg3 q ∗ pt c arg4 d ∗ pt c arg6 lse ∗ pt c arg7 dl
      ∗ pt c arg9 (above (ops i k v f q d lse dl) (2 * (i 1).val + 2) t (diagonal i (ops i k v f q d lse dl) (start i dq dfq))).dq
      ∗ pt c arg13 (above (ops i k v f q d lse dl) (2 * (i 1).val + 2) t (diagonal i (ops i k v f q d lse dl) (start i dq dfq))).dfq
      ∗ pt c arg14 (above (ops i k v f q d lse dl) (2 * (i 1).val + 2) t (diagonal i (ops i k v f q d lse dl) (start i dq dfq))).dk
      ∗ pt c arg15 (above (ops i k v f q d lse dl) (2 * (i 1).val + 2) t (diagonal i (ops i k v f q d lse dl) (start i dq dfq))).dv
      ∗ pt c arg16 (above (ops i k v f q d lse dl) (2 * (i 1).val + 2) t (diagonal i (ops i k v f q d lse dl) (start i dq dfq))).df))
    $$ [Hk0_part8_1 H4 H6 H7 Hk0_part8_3 Hk0_part8_4 Hk0_part8_5 Hk0_part8_6 Hk0_part8_7]
  case region =>
    intro t acc
    have ht : 2 * (i 1).val + 2 + t.val < 32 := by have h0 := t.isLt; have h1 : (k0_t1_loop i).trips = _ := trips_t1 i; change t.val < (k0_t1_loop i).trips at h0; omega
    rw [above_succ _ _ _ _ ht]
    exact trip_run c i arg2 harg2 arg3 harg3 arg4 harg4 arg5 harg5 arg6 harg6 arg7 harg7 arg8 harg8 arg9 harg9 arg10 harg10 arg11 harg11 arg12 harg12 arg13 harg13 arg14 harg14 arg15 harg15 arg16 harg16 (ops i k v f q d lse dl) _ _ _ _ _ _ _ _ t ⟨2 * (i 1).val + 2 + t.val, ht⟩ rfl _
  · isplitl [Hk0_part8_1]; · iexact Hk0_part8_1
    isplitl [H4]; · iexact H4
    isplitl [H6]; · iexact H6
    isplitl [H7]; · iexact H7
    isplitl [Hk0_part8_3]
    · refine pt_of_read c arg9 _ _ ?_
      sl_open_run
      rw [View.read_writes_cons_put _ _ _ _ _ h11, View.read_writes_cons_put _ _ _ _ _ h10, View.writes_nil, View.read_rep]
      try rw [cov_zero]
      try rw [cov_one]
      try rw [readAt_block arg2.view]
      try rw [readAt_block arg5.view]
      try rw [readAt_block arg8.view]
      simp only [readAt_rows _ _ _ _ h10, readAt_row _ _ _ 0 _ h20, readAt_row _ _ _ 1 _ h30, readAt_rows _ _ _ _ h11, readAt_row _ _ _ 0 _ h21, readAt_row _ _ _ 1 _ h31,
        readAt_head (off := ![0, 0, 0]) _ _ _ 0 rfl, readAt_head (off := ![1, 0, 0]) _ _ _ 1 rfl]
      refine Eq.trans ?_ (step_step_dq (ops i k v f q d lse dl) (visible i 0#32) (visible i 1#32) ⟨2 * (i 1).val, hlt⟩ ⟨2 * (i 1).val + 1, hlt'⟩ (start i dq dfq) hne).symm
      rfl
    isplitl [Hk0_part8_4]
    · refine pt_of_read c arg13 _ _ ?_
      sl_open_run
      rw [View.read_writes_cons_put _ _ _ _ _ h31, View.read_writes_cons_put _ _ _ _ _ h21, View.read_writes_cons_put _ _ _ _ _ h30, View.read_writes_cons_put _ _ _ _ _ h20,
        View.writes_nil, View.read_rep]
      try rw [cov_zero]
      try rw [cov_one]
      try rw [readAt_block arg2.view]
      try rw [readAt_block arg5.view]
      try rw [readAt_block arg8.view]
      simp only [readAt_rows _ _ _ _ h10, readAt_row _ _ _ 0 _ h20, readAt_row _ _ _ 1 _ h30, readAt_rows _ _ _ _ h11, readAt_row _ _ _ 0 _ h21, readAt_row _ _ _ 1 _ h31,
        readAt_head (off := ![0, 0, 0]) _ _ _ 0 rfl, readAt_head (off := ![1, 0, 0]) _ _ _ 1 rfl]
      refine Eq.trans ?_ (step_step_dfq (ops i k v f q d lse dl) (visible i 0#32) (visible i 1#32) ⟨2 * (i 1).val, hlt⟩ ⟨2 * (i 1).val + 1, hlt'⟩ (start i dq dfq) hne).symm
      rfl
    isplitl [Hk0_part8_5]
    · refine pt_of_read c arg14 _ _ ?_
      sl_open_run
      rw [View.read_writes_cons_put _ _ _ _ _ rfl, View.read_writes_cons_put _ _ _ _ _ rfl]
      try rw [cov_zero]
      try rw [cov_one]
      try rw [readAt_block arg2.view]
      try rw [readAt_block arg5.view]
      try rw [readAt_block arg8.view]
      simp only [readAt_rows _ _ _ _ h10, readAt_row _ _ _ 0 _ h20, readAt_row _ _ _ 1 _ h30, readAt_rows _ _ _ _ h11, readAt_row _ _ _ 0 _ h21, readAt_row _ _ _ 1 _ h31,
        readAt_head (off := ![0, 0, 0]) _ _ _ 0 rfl, readAt_head (off := ![1, 0, 0]) _ _ _ 1 rfl]
      refine Eq.trans ?_ (step_step_dk (ops i k v f q d lse dl) (visible i 0#32) (visible i 1#32) ⟨2 * (i 1).val, hlt⟩ ⟨2 * (i 1).val + 1, hlt'⟩ (start i dq dfq)).symm
      refine Eq.trans (put2_congr (F := F) _ (step (ops i k v f q d lse dl) (visible i 0#32) ⟨2 * (i 1).val, hlt⟩ (start i dq dfq)).dk _ _) ?_
      refine congrArg₂ (put2 _) ?_ ?_
      · rfl
      · rfl
    isplitl [Hk0_part8_6]
    · refine pt_of_read c arg15 _ _ ?_
      sl_open_run
      rw [View.read_writes_cons_put _ _ _ _ _ rfl, View.read_writes_cons_put _ _ _ _ _ rfl]
      try rw [cov_zero]
      try rw [cov_one]
      try rw [readAt_block arg2.view]
      try rw [readAt_block arg5.view]
      try rw [readAt_block arg8.view]
      simp only [readAt_rows _ _ _ _ h10, readAt_row _ _ _ 0 _ h20, readAt_row _ _ _ 1 _ h30, readAt_rows _ _ _ _ h11, readAt_row _ _ _ 0 _ h21, readAt_row _ _ _ 1 _ h31,
        readAt_head (off := ![0, 0, 0]) _ _ _ 0 rfl, readAt_head (off := ![1, 0, 0]) _ _ _ 1 rfl]
      refine Eq.trans ?_ (step_step_dv (ops i k v f q d lse dl) (visible i 0#32) (visible i 1#32) ⟨2 * (i 1).val, hlt⟩ ⟨2 * (i 1).val + 1, hlt'⟩ (start i dq dfq)).symm
      refine Eq.trans (put2_congr (F := F) _ (step (ops i k v f q d lse dl) (visible i 0#32) ⟨2 * (i 1).val, hlt⟩ (start i dq dfq)).dv _ _) ?_
      refine congrArg₂ (put2 _) ?_ ?_
      · rfl
      · rfl
    · refine pt_of_read c arg16 _ _ ?_
      sl_open_run
      rw [View.read_writes_cons_put _ _ _ _ _ rfl, View.read_writes_cons_put _ _ _ _ _ rfl]
      try rw [cov_zero]
      try rw [cov_one]
      try rw [readAt_block arg2.view]
      try rw [readAt_block arg5.view]
      try rw [readAt_block arg8.view]
      simp only [readAt_rows _ _ _ _ h10, readAt_row _ _ _ 0 _ h20, readAt_row _ _ _ 1 _ h30, readAt_rows _ _ _ _ h11, readAt_row _ _ _ 0 _ h21, readAt_row _ _ _ 1 _ h31,
        readAt_head (off := ![0, 0, 0]) _ _ _ 0 rfl, readAt_head (off := ![1, 0, 0]) _ _ _ 1 rfl]
      refine Eq.trans ?_ (step_step_df (ops i k v f q d lse dl) (visible i 0#32) (visible i 1#32) ⟨2 * (i 1).val, hlt⟩ ⟨2 * (i 1).val + 1, hlt'⟩ (start i dq dfq)).symm
      refine Eq.trans (put2_congr (F := F) _ (step (ops i k v f q d lse dl) (visible i 0#32) ⟨2 * (i 1).val, hlt⟩ (start i dq dfq)).df _ _) ?_
      refine congrArg₂ (put2 _) ?_ ?_
      · rfl
      · rfl
  iintro %a ⟨H3, H4, H6, H7, H9, H13, H14, H15, H16⟩
  have htr : Scf.trips (k0_t1_loop i).lb (k0_t1_loop i).ub (k0_t1_loop i).st = 30 - 2 * (i 1).val := trips_t1 i
  rw [htr]
  unfold body_run.sl.prog.cont_1
  sl_for0 (trips_t2 i)
  sl_exec!
  sl_step
  isplitl [H2]; · iexact H2
  isplitl [H3]; · iexact H3
  isplitl [H4]; · iexact H4
  isplitl [H5]; · iexact H5
  isplitl [H6]; · iexact H6
  isplitl [H7]; · iexact H7
  isplitl [Hk0_part8_2]; · iexact Hk0_part8_2
  isplitl [H9]; · iexact H9
  isplitl [H10]
  · refine pt_of_read c arg10 _ _ ?_
    sl_open_run
    refine (View.read_writes_full (s := S1024x128) _ _ _ _ _).trans ?_
    rw [readAt_head (off := ![0, 0, 0]) _ _ _ 0 rfl, readAt_head (off := ![1, 0, 0]) _ _ _ 1 rfl]
    rfl
  isplitl [H11]
  · refine pt_of_read c arg11 _ _ ?_
    sl_open_run
    refine (View.read_writes_full (s := S1024x128) _ _ _ _ _).trans ?_
    rw [readAt_head (off := ![0, 0, 0]) _ _ _ 0 rfl, readAt_head (off := ![1, 0, 0]) _ _ _ 1 rfl]
    rfl
  isplitl [H12]
  · refine pt_of_read c arg12 _ _ ?_
    sl_open_run
    refine (View.read_writes_full (s := S1x1024x128) _ _ _ _ _).trans ?_
    rw [readAt_head (off := ![0, 0, 0]) _ _ _ 0 rfl, readAt_head (off := ![1, 0, 0]) _ _ _ 1 rfl]
    rfl
  isplitl [H13]; · iexact H13
  isplitl [H14]; · iexact H14
  isplitl [H15]; · iexact H15
  iexact H16

end Cert.Proof.Fox

end
-- ==== Proof.Run.lean ====
/- The pipeline's run: what every window's buffer holds at every grid point, and what the memory holds at the end. -/
module

public import proofs.«01_k».proof.Proof.Body
public import proofs.«01_k».proof.Proof.Gen.KernelIdeal.Points
public import proofs.«01_k».proof.Proof.Gen.KernelIdeal.Frame
public import Idealize.ShloMosaic.Lib.Claim
public import Idealize.ShloMosaic.Lib.Pipeline.TableIdle

@[expose] public section

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resource algebra: no counters beside the buffers. -/
local notation "𝕄" => MT nD τ sig Unit (Elt F) ℕ (UR sig nD τ) ℕ

variable (m : (ℓ : Loc nD τ sig) → Buf (Elt F) ℓ) (ρ : Dev nD → PrngReg)

/-! ## The state after each grid point -/

/-- The state the body at point `t` leaves, from what the two running sums (the gradients of the queries and of the
    queries' gates) held before it. -/
def pointOn (c : Dev nD) (t : Fin cfg0.N) (dq : Vec F S16384x128 .f32) (dfq : Vec F S2x32x1x512 .f32) : St F :=
  point (grid0.coords t) (iblk m c 0 t) (iblk m c 3 t) (iblk m c 6 t) (iblk m c 1 t) (iblk m c 2 t) (iblk m c 4 t) (iblk m c 5 t) dq dfq

/-- The state after the body at point `n`: each point continues the running sums of the one before it. -/
def stateAt (c : Dev nD) : (n : ℕ) → n < cfg0.N → St F
  | 0, h => pointOn m c ⟨0, h⟩ k0_pay47 k0_pay48
  | n + 1, h => pointOn m c ⟨n + 1, h⟩ (stateAt c n (Nat.lt_of_succ_lt h)).dq (stateAt c n (Nat.lt_of_succ_lt h)).dfq

/-- The second grid coordinate of point `t` is `t` modulo sixteen. -/
theorem coord_one : ∀ t : Fin cfg0.N, (grid0.coords t 1).val = t.val % 16 :=
  (by decide +kernel : ∀ t : Fin grid0.N, (grid0.coords t 1).val = t.val % 16)

/-- At the first key block of a pair of heads the running sums begin from zero, whatever the buffers held. -/
theorem pointOn_first (c : Dev nD) (t : Fin cfg0.N) (h : t.val % 16 = 0) (dq dq' : Vec F S16384x128 .f32) (dfq dfq' : Vec F S2x32x1x512 .f32) :
    pointOn m c t dq dfq = pointOn m c t dq' dfq' := by
  have h1 : (grid0.coords t 1).val = 0 := (coord_one t).trans h
  unfold pointOn point start
  simp only [if_pos h1]

/-! ## The proof data -/

/-- On core `c`: the arrays as the region finds them; after the body an input's buffer still holds its block, and an
    output's what the state says; the scratch buffers and the generator's register hold anything; inputs that are staged from
    one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stateAt m c t.val t.isLt).dq
    | ⟨8, _⟩ => outDk (stateAt m c t.val t.isLt)
    | ⟨9, _⟩ => outDv (stateAt m c t.val t.isLt)
    | ⟨10, _⟩ => outDf (stateAt m c t.val t.isLt)
    | ⟨11, _⟩ => (stateAt m c t.val t.isLt).dfq
  Φ _ := Pipeline.ΦA spec0 c
  q w := Pipeline.shareOf spec0 w
  owed _ := 0

/-- The proof data's arrays are the ones the region finds. -/
theorem A_eq (c : Dev nD) (w : Fin cfg0.W) : (dats m 0 c).A w = V m c (Pipeline.arrRef spec0 w) := by
  dsimp only [dats]

/-- What window 0 holds after the body. -/
theorem after_0 (c : Dev nD) (t : Fin cfg0.N) : (dats m 0 c).after 0 t = iblk m c 0 t := by dsimp only [dats]
/-- What window 1 holds after the body. -/
theorem after_1 (c : Dev nD) (t : Fin cfg0.N) : (dats m 0 c).after 1 t = iblk m c 1 t := by dsimp only [dats]
/-- What window 2 holds after the body. -/
theorem after_2 (c : Dev nD) (t : Fin cfg0.N) : (dats m 0 c).after 2 t = iblk m c 2 t := by dsimp only [dats]
/-- What window 3 holds after the body. -/
theorem after_3 (c : Dev nD) (t : Fin cfg0.N) : (dats m 0 c).after 3 t = iblk m c 3 t := by dsimp only [dats]
/-- What window 4 holds after the body. -/
theorem after_4 (c : Dev nD) (t : Fin cfg0.N) : (dats m 0 c).after 4 t = iblk m c 4 t := by dsimp only [dats]
/-- What window 5 holds after the body. -/
theorem after_5 (c : Dev nD) (t : Fin cfg0.N) : (dats m 0 c).after 5 t = iblk m c 5 t := by dsimp only [dats]
/-- What window 6 holds after the body. -/
theorem after_6 (c : Dev nD) (t : Fin cfg0.N) : (dats m 0 c).after 6 t = iblk m c 6 t := by dsimp only [dats]
/-- What window 7 holds after the body. -/
theorem after_7 (c : Dev nD) (t : Fin cfg0.N) : (dats m 0 c).after 7 t = (stateAt m c t.val t.isLt).dq := by dsimp only [dats]
/-- What window 8 holds after the body. -/
theorem after_8 (c : Dev nD) (t : Fin cfg0.N) : (dats m 0 c).after 8 t = outDk (stateAt m c t.val t.isLt) := by dsimp only [dats]
/-- What window 9 holds after the body. -/
theorem after_9 (c : Dev nD) (t : Fin cfg0.N) : (dats m 0 c).after 9 t = outDv (stateAt m c t.val t.isLt) := by dsimp only [dats]
/-- What window 10 holds after the body. -/
theorem after_10 (c : Dev nD) (t : Fin cfg0.N) : (dats m 0 c).after 10 t = outDf (stateAt m c t.val t.isLt) := by dsimp only [dats]
/-- What window 11 holds after the body. -/
theorem after_11 (c : Dev nD) (t : Fin cfg0.N) : (dats m 0 c).after 11 t = (stateAt m c t.val t.isLt).dfq := by dsimp only [dats]

/-- Window 0 holds its block before the body. -/
theorem before_0 (c : Dev nD) (t : Fin cfg0.N) (d) : (dats m 0 c).before 0 t d = iblk m c 0 t :=
  before0_0_of m (dats m 0 c) (A_eq m c 0) (after_0 m c) t d
/-- Window 1 holds its block before the body. -/
theorem before_1 (c : Dev nD) (t : Fin cfg0.N) (d) : (dats m 0 c).before 1 t d = iblk m c 1 t :=
  before0_1_of m (dats m 0 c) (A_eq m c 1) (after_1 m c) t d
/-- Window 2 holds its block before the body. -/
theorem before_2 (c : Dev nD) (t : Fin cfg0.N) (d) : (dats m 0 c).before 2 t d = iblk m c 2 t :=
  before0_2_of m (dats m 0 c) (A_eq m c 2) (after_2 m c) t d
/-- Window 3 holds its block before the body. -/
theorem before_3 (c : Dev nD) (t : Fin cfg0.N) (d) : (dats m 0 c).before 3 t d = iblk m c 3 t :=
  before0_3_of m (dats m 0 c) (A_eq m c 3) (after_3 m c) t d
/-- Window 4 holds its block before the body. -/
theorem before_4 (c : Dev nD) (t : Fin cfg0.N) (d) : (dats m 0 c).before 4 t d = iblk m c 4 t :=
  before0_4_of m (dats m 0 c) (A_eq m c 4) (after_4 m c) t d
/-- Window 5 holds its block before the body. -/
theorem before_5 (c : Dev nD) (t : Fin cfg0.N) (d) : (dats m 0 c).before 5 t d = iblk m c 5 t :=
  before0_5_of m (dats m 0 c) (A_eq m c 5) (after_5 m c) t d
/-- Window 6 holds its block before the body. -/
theorem before_6 (c : Dev nD) (t : Fin cfg0.N) (d) : (dats m 0 c).before 6 t d = iblk m c 6 t :=
  before0_6_of m (dats m 0 c) (A_eq m c 6) (after_6 m c) t d

/-- Window 7 goes on, past the first key block, from what the point before left in it. -/
theorem before_7 (c : Dev nD) (n : ℕ) (h : n + 1 < cfg0.N) (h0 : (n + 1) % 16 ≠ 0) (d) :
    (dats m 0 c).before 7 ⟨n + 1, h⟩ d = (stateAt m c n (Nat.lt_of_succ_lt h)).dq := by
  refine ((dats m 0 c).before_out_kept 7 rfl ⟨n + 1, h⟩ (Nat.succ_ne_zero n) ?_ (fun _ => rfl) (fun _ _ => rfl) d).trans (after_7 m c _)
  refine Bool.eq_false_iff.mpr fun e => ?_
  have h1 : n % 16 = 15 := (flush0_7 ⟨n, Nat.lt_of_succ_lt h⟩).mp e
  omega

/-- Window 11 goes on, past the first key block, from what the point before left in it. -/
theorem before_11 (c : Dev nD) (n : ℕ) (h : n + 1 < cfg0.N) (h0 : (n + 1) % 16 ≠ 0) (d) :
    (dats m 0 c).before 11 ⟨n + 1, h⟩ d = (stateAt m c n (Nat.lt_of_succ_lt h)).dfq := by
  refine ((dats m 0 c).before_out_kept 11 rfl ⟨n + 1, h⟩ (Nat.succ_ne_zero n) ?_ (fun _ => rfl) (fun _ _ => rfl) d).trans (after_11 m c _)
  refine Bool.eq_false_iff.mpr fun e => ?_
  have h1 : n % 16 = 15 := (flush0_11 ⟨n, Nat.lt_of_succ_lt h⟩).mp e
  omega

/-- What the body finds in the two running sums' buffers leads to the state of its point. -/
theorem pointOn_before (c : Dev nD) (t : Fin cfg0.N) (d7 d11) :
    pointOn m c t ((dats m 0 c).before 7 t d7) ((dats m 0 c).before 11 t d11) = stateAt m c t.val t.isLt := by
  obtain ⟨n, h⟩ := t
  by_cases h0 : n % 16 = 0
  · cases n with
    | zero => exact pointOn_first m c _ h0 _ _ _ _
    | succ n => exact pointOn_first m c _ h0 _ _ _ _
  · cases n with
    | zero => exact absurd rfl h0
    | succ n => rw [before_7 m c n h h0, before_11 m c n h h0]; rfl

/-! ## The body at every point -/

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

/-- What it gives back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

set_option maxHeartbeats 1000000 in
/-- One grid point's run (`body_run`), in terms of what each buffer reads. -/
theorem body_owns (c : Dev nD) (i : grid0.Coords) (arg2 : Memref sig .tc .vmem S1024x128 .bf16) (harg2 : arg2.IsWhole) (arg3 : Memref sig .tc .vmem S16384x128 .bf16) (harg3 : arg3.IsWhole) (arg4 : Memref sig .tc .vmem S16384x128 .bf16) (harg4 : arg4.IsWhole) (arg5 : Memref sig .tc .vmem S1024x128 .bf16) (harg5 : arg5.IsWhole) (arg6 : Memref sig .tc .vmem S2x32x1x512 .f32) (harg6 : arg6.IsWhole) (arg7 : Memref sig .tc .vmem S2x32x1x512 .f32) (harg7 : arg7.IsWhole) (arg8 : Memref sig .tc .vmem S1024x128 .f32) (harg8 : arg8.IsWhole) (arg9 : Memref sig .tc .vmem S16384x128 .f32) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S1x1024x128 .f32) (harg12 : arg12.IsWhole) (arg13 : Memref sig .tc .vmem S2x32x1x512 .f32) (harg13 : arg13.IsWhole) (arg14 : Memref sig .tc .vmem S2x1024x128 .f32) (harg14 : arg14.IsWhole) (arg15 : Memref sig .tc .vmem S2x1024x128 .f32) (harg15 : arg15.IsWhole) (arg16 : Memref sig .tc .vmem S2x1024x128 .f32) (harg16 : arg16.IsWhole)
    (k v : Vec F S1024x128 .bf16) (f : Vec F S1024x128 .f32) (q d : Vec F S16384x128 .bf16) (lse dl : Vec F S2x32x1x512 .f32) (dq : Vec F S16384x128 .f32) (dfq : Vec F S2x32x1x512 .f32)
    (x10 x11 : Vec F S1024x128 .bf16) (x12 : Vec F S1x1024x128 .f32) (y14 y15 y16 : Vec F S2x1024x128 .f32) :
    (iprop(owns (c : Thread nD τ) arg2 fullShare k ∗ owns (c : Thread nD τ) arg3 fullShare q ∗ owns (c : Thread nD τ) arg4 fullShare d ∗ owns (c : Thread nD τ) arg5 fullShare v ∗ owns (c : Thread nD τ) arg6 fullShare lse ∗ owns (c : Thread nD τ) arg7 fullShare dl ∗ owns (c : Thread nD τ) arg8 fullShare f ∗ owns (c : Thread nD τ) arg9 fullShare dq ∗ owns (c : Thread nD τ) arg10 fullShare x10 ∗ owns (c : Thread nD τ) arg11 fullShare x11 ∗ owns (c : Thread nD τ) arg12 fullShare x12 ∗ owns (c : Thread nD τ) arg13 fullShare dfq ∗ owns (c : Thread nD τ) arg14 fullShare y14 ∗ owns (c : Thread nD τ) arg15 fullShare y15 ∗ owns (c : Thread nD τ) arg16 fullShare y16) : sProp 𝕄)
      ⊢ wp frame (wpE (defs₀ (F := F)) Variants.none (c : Thread nD τ) none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg2 fullShare k ∗ owns (c : Thread nD τ) arg3 fullShare q ∗ owns (c : Thread nD τ) arg4 fullShare d ∗ owns (c : Thread nD τ) arg5 fullShare v ∗ owns (c : Thread nD τ) arg6 fullShare lse ∗ owns (c : Thread nD τ) arg7 fullShare dl ∗ owns (c : Thread nD τ) arg8 fullShare f ∗ owns (c : Thread nD τ) arg9 fullShare (point i k v f q d lse dl dq dfq).dq ∗ owns (c : Thread nD τ) arg10 fullShare (outDk (point i k v f q d lse dl dq dfq)) ∗ owns (c : Thread nD τ) arg11 fullShare (outDv (point i k v f q d lse dl dq dfq)) ∗ owns (c : Thread nD τ) arg12 fullShare (outDf (point i k v f q d lse dl dq dfq)) ∗ owns (c : Thread nD τ) arg13 fullShare (point i k v f q d lse dl dq dfq).dfq ∗ owns (c : Thread nD τ) arg14 fullShare (point i k v f q d lse dl dq dfq).dk ∗ owns (c : Thread nD τ) arg15 fullShare (point i k v f q d lse dl dq dfq).dv ∗ owns (c : Thread nD τ) arg16 fullShare (point i k v f q d lse dl dq dfq).df)) := by
  have key := body_run c i arg2 harg2 arg3 harg3 arg4 harg4 arg5 harg5 arg6 harg6 arg7 harg7 arg8 harg8 arg9 harg9 arg10 harg10 arg11 harg11 arg12 harg12 arg13 harg13 arg14 harg14 arg15 harg15 arg16 harg16 k v f q d lse dl dq dfq x10 x11 x12 y14 y15 y16
  unfold pt at key
  simp only [← owns_eq_rep] at key
  exact key

/-- The region's invariant, its scratch buffers spelt out: each holds anything. -/
theorem rest_owns (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
        ∗ (∃ f, owns (c : Thread nD τ) (Memref.whole cc0_scratch2) fullShare f)) ∗ ∃ r, prngReg c r) := by
  unfold Pipeline.ΦA
  rw [scopedRest0_eq]
  simp only [owns_whole]

set_option maxHeartbeats 1000000 in
/-- The body at any point: from the blocks and the running sums so far to the point's state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9, after_10, after_11]
  simp only [before_0, before_1, before_2, before_3, before_4, before_5, before_6]
  rw [show (dats m 0 c).Φ t.castSucc = Pipeline.ΦA spec0 c from rfl]
  rw [rest_owns]
  iintro ⟨⟨⟨⟨%f14, H14⟩, ⟨%f15, H15⟩, ⟨%f16, H16⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [← pointOn_before m c t d7 d11]
  have key := body_owns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _)
    (iblk m c 0 t) (iblk m c 3 t) (iblk m c 6 t) (iblk m c 1 t) (iblk m c 2 t) (iblk m c 4 t) (iblk m c 5 t) ((dats m 0 c).before 7 t d7) ((dats m 0 c).before 11 t d11)
    ((dats m 0 c).before 8 t d8) ((dats m 0 c).before 9 t d9) ((dats m 0 c).before 10 t d10) f14 f15 f16
  iapply (wp_wand_r Idealize.ShloMosaic.frame (wpE (defs₀ (F := F)) Variants.none (c : Thread nD τ) none) Set.univ)
  isplitl [H0 H1 H2 H3 H4 H5 H6 H7 H8 H9 H10 H11 H14 H15 H16]
  · iapply key
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H14]; · iexact H14
    isplitl [H15]; · iexact H15
    iexact H16
  iintro %u ⟨H0, H1, H2, H3, H4, H5, H6, H7, H8, H9, H10, H11, H14, H15, H16⟩
  isplitl [H14 H15 H16 Hg]
  · isplitl [H14 H15 H16]
    · isplitl [H14]; · iexists _; iexact H14
      isplitl [H15]; · iexists _; iexact H15
      iexists _; iexact H16
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's entry in the table of bodies is the body at the point. -/
theorem defs₀_row (t : Fin cfg0.N) : defs₀ (F := F) .tc cfg0.body (cfg0.bodyArgs t (cfg0.slots t)) = bodyAt0 t := by
  unfold defs₀; rw [Defs.onTc_tc]

/-- The pipeline's obligation of its body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1000000 in
/-- Every fair execution ends, with the windows' arrays as the proof data make them, every other array as the region found it,
    and every counter at zero. -/
theorem run_all : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they began, and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Proof.Fox

end
-- ==== Proof.Frames.lean ====
/- The frames of the three programs, and the facts the precondition's function states. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof.Fox

open Idealize.ShloMosaic Idealize.ShloMosaic.TcCoe Idealize.ShloMosaic.Tactic
open Idealize.SL.Sem

/-- The shape facts of the precondition's function. -/
instance facts_finite : Cert.Pre_finite.Facts where
  bitsLt_bf16_f32 := by decide
  bcast_S_S16384x1536 := by decide
  reducesTo_S16384x1536_S_d0_1 := by decide
  h_S_ := by decide
  bcast_S_S16384x8 := by decide
  reducesTo_S16384x8_S_d0_1 := by decide
  bcast_S_S16384x512 := by decide
  reducesTo_S16384x512_S_d0_1 := by decide

/-- The statement of the kernel's frame over bits is the statement about its idealization's text over bits: the two texts are one. -/
theorem same_text : Cert.quiescent_Kernel = ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by
  sl_kernel_rfl

/-- The kernel read over bits runs to its end with its arguments and counters as they were: its text is the one run over any
    floats. -/
theorem frame_kernel : Cert.quiescent_Kernel := same_text ▸ fun m ρ _ =>
  (θ_run Cert.KernelIdeal.defs _ _).mono (fun _ h => h) (run_main (F := Bits) m ρ)

/-- The kernel read over the extended reals runs to its end with its arguments and counters as they were. -/
theorem frame_ideal : Cert.quiescent_KernelIdeal := fun m ρ _ => run_main (F := Ideal) m ρ

/-- The reference runs to its end with its arguments as they were; it has no counters. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

end Cert.Proof.Fox

end
-- ==== Proof.Finite.lean ====
/- What the precondition says: every element of every argument is a real number. -/
module

public import proofs.«01_k».proof.Proof.Frames
public import Idealize.ShloMosaic.Lib.ReduceAll

@[expose] public section

noncomputable section

namespace Cert.Proof.Fox

open Idealize.ShloMosaic

/-- A number whose absolute value is below plus infinity is a real number. -/
theorem real_of_below (y : EReal) (h : Ideal.cmp .olt (max y (-y)) (Ideal.ofBits .f32 0x7F800000#32) = 1#1) : ∃ r : ℝ, y = (r : EReal) := by
  have htop : Ideal.ofBits .f32 0x7F800000#32 = ⊤ := by simp [Ideal.ofBits, Ideal.ieee]
  rw [htop] at h
  have hlt : max y (-y) < ⊤ := by
    by_contra hn
    have : Ideal.cmp .olt (max y (-y)) ⊤ = 0#1 := by
      show BitVec.ofBool (decide (max y (-y) < ⊤)) = 0#1
      rw [decide_eq_false hn]
      rfl
    rw [this] at h
    exact absurd h (by decide)
  have h1 : y ≠ ⊤ := fun e => by rw [e] at hlt; simp at hlt
  have h2 : y ≠ ⊥ := fun e => by rw [e] at hlt; simp at hlt
  exact ⟨y.toReal, (EReal.coe_toReal h1 h2).symm⟩

instance : Subsingleton Cert.Pre_finite.S_.Idx := ⟨fun a b => funext fun i => i.elim0⟩

/-- The precondition on three arguments says that each is an array of real numbers. -/
theorem reals_of_finite (x : FVec Ideal Cert.Pre_finite.S16384x1536 .bf16) (g : FVec Ideal Cert.Pre_finite.S16384x8 .f32) (d : FVec Ideal Cert.Pre_finite.S16384x512 .bf16)
    (h : Cert.Pre_finite.fn (F := Ideal) x g d = fun _ => 1#1) :
    (∀ i, ∃ r : ℝ, (show EReal from x i) = (r : EReal)) ∧ (∀ i, ∃ r : ℝ, (show EReal from g i) = (r : EReal)) ∧ (∀ i, ∃ r : ℝ, (show EReal from d i) = (r : EReal)) := by
  have e := congrFun h (fun i => i.elim0)
  obtain ⟨h01, h2⟩ := IntOp.andi_eq_one.1 e
  obtain ⟨h0, h1⟩ := IntOp.andi_eq_one.1 h01
  exact ⟨fun i => real_of_below _ (Host.reduce_andi_all _ _ _ _ _ h0 i), fun i => real_of_below _ (Host.reduce_andi_all _ _ _ _ _ h1 i),
    fun i => real_of_below _ (Host.reduce_andi_all _ _ _ _ _ h2 i)⟩

end Cert.Proof.Fox

end
-- ==== Proof.Read.lean ====
/- The body's operations read at an index, over the extended reals: every matrix product and every row or column sum as a
   sum of products, every mask as an `if`. -/
module

public import proofs.«01_k».proof.Proof.Start
public import Idealize.ShloMosaic.Lib.Pointwise
public import Idealize.ShloMosaic.Lib.WordCmp

@[expose] public section

set_option maxRecDepth 16384

noncomputable section

namespace Cert.Proof.Fox

open Cert.KernelIdeal Cert.KernelIdeal.Gen
open Idealize.ShloMosaic Idealize.ShloMosaic.TcCoe

/-- `1/8` as the program writes it. -/
abbrev eighth : EReal := Ideal.ofBits .bf16 0x3E00#16

/-! ## Blocks of the arrays at an index -/

theorem rows_at {e : EltTy} (x : Vec Ideal S16384x128 e) (n : Fin 32) (r : Fin 512) (l : Fin 128) :
    rows x n (ix2 r l) = x (ix2 ⟨512 * n.val + r.val, by omega⟩ l) := by
  unfold rows VecWindow.window
  refine congrArg x ?_
  funext a
  refine Fin.ext ?_
  fin_cases a
  · show 512 * n.val + 1 * r.val = 512 * n.val + r.val; omega
  · show 0 + 1 * l.val = l.val; omega

theorem row_at (x : Vec Ideal S2x32x1x512 .f32) (h : Fin 2) (n : Fin 32) (r : Fin 512) :
    row x h n (ix4 0 0 0 r) = x (ix4 h n 0 r) := by
  unfold row VecWindow.window
  refine congrArg x ?_
  funext a
  refine Fin.ext ?_
  fin_cases a
  · show h.val + 1 * 0 = h.val; omega
  · show n.val + 1 * 0 = n.val; omega
  · show 0 + 1 * 0 = 0; omega
  · show 0 + 1 * r.val = r.val; omega

theorem head_at (x : Vec Ideal S2x1024x128 .f32) (h : Fin 2) (r : Fin 1024) (l : Fin 128) :
    head x h (ix3 0 r l) = x (ix3 h r l) := by
  unfold head VecWindow.window
  refine congrArg x ?_
  funext a
  refine Fin.ext ?_
  fin_cases a
  · show h.val + 1 * 0 = h.val; omega
  · show 0 + 1 * r.val = r.val; omega
  · show 0 + 1 * l.val = l.val; omega

/-- The two halves of an accumulator that were put there. -/
theorem put2_at_zero (x : Vec Ideal S2x1024x128 .f32) (a b : FVec Ideal S1x1024x128 .f32) (r : Fin 1024) (l : Fin 128) :
    put2 x a b (ix3 0 r l) = a (ix3 0 r l) := by
  exact (head_at _ 0 r l).symm.trans (congrFun (head_put2_zero x a b) _)
theorem put2_at_one (x : Vec Ideal S2x1024x128 .f32) (a b : FVec Ideal S1x1024x128 .f32) (r : Fin 1024) (l : Fin 128) :
    put2 x a b (ix3 1 r l) = b (ix3 0 r l) := by
  exact (head_at _ 1 r l).symm.trans (congrFun (head_put2_one x a b) _)

/-- Rows put over an array: inside the 512 rows the new ones, outside the old. -/
theorem put_rows_at (x : Vec Ideal S16384x128 .f32) (n : Fin 32) (w : FVec Ideal S512x128 .f32) (t : Fin 16384) (l : Fin 128) :
    VecWindow.put x ![512 * n.val, 0] S512x128.size w (ix2 t l)
      = if h : t.val / 512 = n.val then w (ix2 ⟨t.val % 512, Nat.mod_lt _ (by norm_num)⟩ l) else x (ix2 t l) := by
  unfold VecWindow.put
  by_cases h : t.val / 512 = n.val
  · have hb : ∀ a, (![512 * n.val, 0] : Fin 2 → ℕ) a ≤ ((ix2 t l : S16384x128.Idx) a).val
        ∧ ((ix2 t l : S16384x128.Idx) a).val < (![512 * n.val, 0] : Fin 2 → ℕ) a + S512x128.size a := by
      intro a
      fin_cases a
      · show 512 * n.val ≤ t.val ∧ t.val < 512 * n.val + 512; omega
      · show 0 ≤ l.val ∧ l.val < 0 + 128; omega
    rw [dif_pos hb, dif_pos h]
    refine congrArg w ?_
    funext a
    refine Fin.ext ?_
    fin_cases a
    · show t.val - 512 * n.val = t.val % 512; omega
    · show l.val - 0 = l.val; omega
  · rw [dif_neg h, dif_neg]
    intro hb
    have : 512 * n.val ≤ t.val ∧ t.val < 512 * n.val + 512 := hb 0
    omega

/-- A row put over an array of rows: in its place the new one, elsewhere the old. -/
theorem put_row_at (x : Vec Ideal S2x32x1x512 .f32) (g : Fin 2) (n : Fin 32) (w : FVec Ideal S1x1x1x512 .f32) (g' : Fin 2) (n' : Fin 32) (r : Fin 512) :
    VecWindow.put x ![g.val, n.val, 0, 0] S1x1x1x512.size w (ix4 g' n' 0 r)
      = if g' = g ∧ n' = n then w (ix4 0 0 0 r) else x (ix4 g' n' 0 r) := by
  unfold VecWindow.put
  by_cases h : g' = g ∧ n' = n
  · obtain ⟨rfl, rfl⟩ := h
    have hb : ∀ a, (![g'.val, n'.val, 0, 0] : Fin 4 → ℕ) a ≤ ((ix4 g' n' 0 r : S2x32x1x512.Idx) a).val
        ∧ ((ix4 g' n' 0 r : S2x32x1x512.Idx) a).val < (![g'.val, n'.val, 0, 0] : Fin 4 → ℕ) a + S1x1x1x512.size a := by
      intro a
      fin_cases a
      · show g'.val ≤ g'.val ∧ g'.val < g'.val + 1; omega
      · show n'.val ≤ n'.val ∧ n'.val < n'.val + 1; omega
      · show 0 ≤ 0 ∧ 0 < 0 + 1; omega
      · show 0 ≤ r.val ∧ r.val < 0 + 512; omega
    rw [dif_pos hb, if_pos ⟨rfl, rfl⟩]
    refine congrArg w ?_
    funext a
    refine Fin.ext ?_
    fin_cases a
    · show g'.val - g'.val = 0; omega
    · show n'.val - n'.val = 0; omega
    · show 0 - 0 = 0; omega
    · show r.val - 0 = r.val; omega
  · rw [if_neg h, dif_neg]
    intro hb
    have h0 : g.val ≤ g'.val ∧ g'.val < g.val + 1 := hb 0
    have h1 : n.val ≤ n'.val ∧ n'.val < n.val + 1 := hb 1
    exact h ⟨Fin.ext (by omega), Fin.ext (by omega)⟩

/-! ## The operations of one step at an index -/

theorem scaled_at (q : Vec Ideal S512x128 .bf16) (r : Fin 512) (l : Fin 128) : scaled q (ix2 r l) = (show EReal from q (ix2 r l)) * eighth := by
  pointwise [scaled]

theorem probs_at (k : FVec Ideal S1024x128 .bf16) (f : FVec Ideal S1024x1 .f32) (q : Vec Ideal S512x128 .bf16) (lse : Vec Ideal S1x1x1x512 .f32)
    (r : Fin 1024) (x : Fin 512) :
    probs k f q lse (ix2 r x) = Ideal.exp ((∑ l : Fin 128, k (ix2 r l) * (show EReal from q (ix2 x l))) - f (ix2 r 0) - (show EReal from lse (ix4 0 0 0 x))) := by
  pointwise [probs]

theorem dscores_at (v : FVec Ideal S1024x128 .bf16) (d : Vec Ideal S512x128 .bf16) (p : FVec Ideal S1024x512 .f32) (dl : Vec Ideal S1x1x1x512 .f32)
    (r : Fin 1024) (x : Fin 512) :
    dscores v d p dl (ix2 r x) = p (ix2 r x) * ((∑ l : Fin 128, v (ix2 r l) * (show EReal from d (ix2 x l))) - (show EReal from dl (ix4 0 0 0 x))) := by
  pointwise [dscores]

theorem addDot_at (w : FVec Ideal S1024x512 .f32) (x : FVec Ideal S512x128 .bf16) (acc : FVec Ideal S1x1024x128 .f32) (r : Fin 1024) (l : Fin 128) :
    addDot w x acc (ix3 0 r l) = acc (ix3 0 r l) + ∑ t : Fin 512, w (ix2 r t) * x (ix2 t l) := by
  pointwise [addDot]

theorem addRowSums_at (w : FVec Ideal S1024x512 .f32) (acc : FVec Ideal S1x1024x128 .f32) (r : Fin 1024) (l : Fin 128) :
    addRowSums w acc (ix3 0 r l) = acc (ix3 0 r l) + ∑ t : Fin 512, w (ix2 r t) := by
  pointwise [addRowSums]

theorem addColSums_at (w : FVec Ideal S1024x512 .f32) (acc : FVec Ideal S1x1x1x512 .f32) (x : Fin 512) :
    addColSums w acc (ix4 0 0 0 x) = acc (ix4 0 0 0 x) + ∑ r : Fin 1024, w (ix2 r x) := by
  pointwise [addColSums]

theorem dqPart_at (w : FVec Ideal S1024x512 .f32) (k : FVec Ideal S1024x128 .bf16) (x : Fin 512) (l : Fin 128) :
    dqPart w k (ix2 x l) = ∑ r : Fin 1024, w (ix2 r x) * k (ix2 r l) := by
  pointwise [dqPart]

/-! ## What a grid point works with, at an index -/

theorem bit_one (p : Prop) [Decidable p] : BitVec.ofBool (decide p) = 1 ↔ p := WordCmp.ofBool_decide_eq_one_iff p

theorem lane_lt (l : ℕ) (h : l < 128) : IntOp.cmpi CmpIPredicate.slt (BitVec.ofNat 32 l) 64#32 = 1#1 ↔ l < 64 := by
  rw [WordCmp.cmpi_slt_ofNat (by norm_num; omega) (by norm_num), WordCmp.ofBool_decide_eq_one_iff]

theorem lane_lt' (l : ℕ) (h : l < 128) : IntOp.cmpi CmpIPredicate.slt (BitVec.ofNat 32 l) 64#32 = 1 ↔ l < 64 := lane_lt l h

theorem word_zero : (((0#32 : BitVec 32).toInt : ℝ) : EReal) = 0 := by
  rw [show (0#32 : BitVec 32).toInt = 0 from rfl, Int.cast_zero, EReal.coe_zero]

section Lanes
variable (k : FVec Ideal S1024x128 .bf16) (r : Fin 1024) (l : Fin 128)

theorem k0_at : k0_pay35 (F := Ideal) k (ix2 r l) = (if l.val < 64 then k (ix2 r l) else 0 : EReal) := by
  pointwise [k0_pay35, k0_pay34]
  simp only [Scalar.select, word_zero, lane_lt' l.val l.isLt]
theorem k1_at : k0_pay36 (F := Ideal) k (ix2 r l) = (if l.val < 64 then 0 else k (ix2 r l) : EReal) := by
  pointwise [k0_pay36, k0_pay34]
  simp only [Scalar.select, word_zero, lane_lt' l.val l.isLt]
theorem s0_at : k0_pay38 (F := Ideal) k (ix2 r l) = (if l.val < 64 then k (ix2 r l) * eighth else 0 : EReal) := by
  pointwise [k0_pay38, k0_pay37, k0_pay34]
  simp only [Scalar.select, word_zero, lane_lt' l.val l.isLt]
theorem s1_at : k0_pay39 (F := Ideal) k (ix2 r l) = (if l.val < 64 then 0 else k (ix2 r l) * eighth : EReal) := by
  pointwise [k0_pay39, k0_pay37, k0_pay34]
  simp only [Scalar.select, word_zero, lane_lt' l.val l.isLt]
theorem v0_at : k0_pay40 (F := Ideal) k (ix2 r l) = (if l.val < 64 then k (ix2 r l) else 0 : EReal) := by
  pointwise [k0_pay40, k0_pay34]
  simp only [Scalar.select, word_zero, lane_lt' l.val l.isLt]
theorem v1_at : k0_pay41 (F := Ideal) k (ix2 r l) = (if l.val < 64 then 0 else k (ix2 r l) : EReal) := by
  pointwise [k0_pay41, k0_pay34]
  simp only [Scalar.select, word_zero, lane_lt' l.val l.isLt]
end Lanes

/-- The sum of a row of which all lanes but one are cleared. -/
theorem sum_lane (f : Fin 128 → EReal) (w : BitVec 32) (b : Fin 128) (hw : w = BitVec.ofNat 32 b.val) :
    ∑ x : Fin 128, Scalar.select (IntOp.cmpi CmpIPredicate.eq (BitVec.ofNat 32 x.val) w) (f x) 0 = f b := by
  subst hw
  rw [Finset.sum_eq_single b]
  · simp [Scalar.select, IntOp.cmpi]
  · intro x _ hx
    have : ¬ BitVec.ofNat 32 x.val = BitVec.ofNat 32 b.val := by
      rw [WordCmp.ofNat_eq_ofNat_iff (by omega) (by omega)]
      exact fun h => hx (Fin.ext h)
    rw [WordCmp.cmpi_eq_eq, Scalar.select, if_neg (by rw [bit_one]; exact this)]
  · intro h; exact absurd (Finset.mem_univ _) h

theorem word0 : ∀ i : grid0.Coords, Scalar.addi (Scalar.muli (2#32) (BitVec.ofNat 32 (i 0).val)) 0#32 = BitVec.ofNat 32 (2 * (i 0).val) := by
  decide +kernel
theorem word1 : ∀ i : grid0.Coords, Scalar.addi (Scalar.muli (2#32) (BitVec.ofNat 32 (i 0).val)) 1#32 = BitVec.ofNat 32 (2 * (i 0).val + 1) := by
  decide +kernel

theorem f0_at (i : grid0.Coords) (f : FVec Ideal S1024x128 .f32) (r : Fin 1024) :
    k0_pay42 i f (ix2 r 0) = f (ix2 r ⟨2 * (i 0).val, by have : (i 0).val < 4 := (i 0).isLt; omega⟩) := by
  pointwise [k0_pay42]
  exact sum_lane (fun x => f (ix2 r x)) _ ⟨2 * (i 0).val, by have : (i 0).val < 4 := (i 0).isLt; omega⟩ (word0 i)
theorem f1_at (i : grid0.Coords) (f : FVec Ideal S1024x128 .f32) (r : Fin 1024) :
    k0_pay43 (iota .tc S1024x128 32 [1] iota_S1024x128_d1_w32) (Scalar.addi (Scalar.muli 2#32 (BitVec.ofNat 32 (i 0).val)) 1#32) f (ix2 r 0)
      = f (ix2 r ⟨2 * (i 0).val + 1, by have : (i 0).val < 4 := (i 0).isLt; omega⟩) := by
  pointwise [k0_pay43]
  exact sum_lane (fun x => f (ix2 r x)) _ ⟨2 * (i 0).val + 1, by have : (i 0).val < 4 := (i 0).isLt; omega⟩ (word1 i)

/-! ## The causal mask -/

theorem place0 : ∀ i : grid0.Coords, (Scalar.subi (Scalar.muli (BitVec.ofNat 32 (i 1).val) 1024#32)
    (Scalar.muli (Scalar.addi (Scalar.shrui (Scalar.muli (BitVec.ofNat 32 (i 1).val) 1024#32) 9#32) 0#32) 512#32)) = 0#32 := by
  decide +kernel
theorem place1 : ∀ i : grid0.Coords, (Scalar.subi (Scalar.muli (BitVec.ofNat 32 (i 1).val) 1024#32)
    (Scalar.muli (Scalar.addi (Scalar.shrui (Scalar.muli (BitVec.ofNat 32 (i 1).val) 1024#32) 9#32) 1#32) 512#32)) = BitVec.ofInt 32 (-512) := by
  decide +kernel

theorem toInt_diff (x r : ℕ) (hx : x < 512) (hr : r < 1024) : (IntOp.subi (BitVec.ofNat 32 x) (BitVec.ofNat 32 r)).toInt = (x : Int) - r := by
  have h1 : (BitVec.ofNat 32 x).toInt = x := WordCmp.toInt_ofNat_of_lt (by norm_num; omega)
  have h2 : (BitVec.ofNat 32 r).toInt = r := WordCmp.toInt_ofNat_of_lt (by norm_num; omega)
  show (BitVec.ofNat 32 x - BitVec.ofNat 32 r).toInt = _
  rw [BitVec.toInt_sub, h1, h2, Int.bmod_eq_of_le] <;> norm_num <;> omega

theorem visible0_at (i : grid0.Coords) (p : FVec Ideal S1024x512 .f32) (r : Fin 1024) (x : Fin 512) :
    visible i 0#32 p (ix2 r x) = (if r.val ≤ x.val then p (ix2 r x) else 0 : EReal) := by
  pointwise [visible]
  rw [place0, WordCmp.cmpi_sge_eq, toInt_diff _ _ x.isLt r.isLt, Scalar.select]
  simp only [bit_one]
  have e : ((0#32 : BitVec 32).toInt ≤ (x.val : Int) - r.val) ↔ r.val ≤ x.val := by
    rw [show (0#32 : BitVec 32).toInt = 0 from rfl]; omega
  simp only [e]

theorem visible1_at (i : grid0.Coords) (p : FVec Ideal S1024x512 .f32) (r : Fin 1024) (x : Fin 512) :
    visible i 1#32 p (ix2 r x) = (if r.val ≤ 512 + x.val then p (ix2 r x) else 0 : EReal) := by
  pointwise [visible]
  rw [place1, WordCmp.cmpi_sge_eq, toInt_diff _ _ x.isLt r.isLt, Scalar.select]
  simp only [bit_one]
  have e : ((BitVec.ofInt 32 (-512)).toInt ≤ (x.val : Int) - r.val) ↔ r.val ≤ 512 + x.val := by
    rw [show (BitVec.ofInt 32 (-512)).toInt = -512 from rfl]; omega
  simp only [e]

/-! ## What a grid point starts from and what it stores, at an index -/

theorem zero44_at (j : S2x1024x128.Idx) : k0_pay44 (F := Ideal) j = (0 : EReal) := by pointwise [k0_pay44]
theorem zero45_at (j : S2x1024x128.Idx) : k0_pay45 (F := Ideal) j = (0 : EReal) := by pointwise [k0_pay45]
theorem zero46_at (j : S2x1024x128.Idx) : k0_pay46 (F := Ideal) j = (0 : EReal) := by pointwise [k0_pay46]
theorem zero47_at (j : S16384x128.Idx) : k0_pay47 (F := Ideal) j = (0 : EReal) := by pointwise [k0_pay47]
theorem zero48_at (j : S2x32x1x512.Idx) : k0_pay48 (F := Ideal) j = (0 : EReal) := by pointwise [k0_pay48]

theorem outDk_at (s : St Ideal) (r : Fin 1024) (l : Fin 128) :
    outDk s (ix2 r l) = (if l.val < 64 then s.dk (ix3 0 r l) else s.dk (ix3 1 r l) : EReal) := by
  pointwise [outDk, k0_pay94, k0_pay93, k0_pay34]
  simp only [Scalar.select, lane_lt' l.val l.isLt, head_at]

theorem outDv_at (s : St Ideal) (r : Fin 1024) (l : Fin 128) :
    outDv s (ix2 r l) = (if l.val < 64 then s.dv (ix3 0 r l) else s.dv (ix3 1 r l) : EReal) := by
  pointwise [outDv, k0_pay95, k0_pay34]
  simp only [Scalar.select, lane_lt' l.val l.isLt, head_at]

theorem outDf_at (s : St Ideal) (r : Fin 1024) (l : Fin 128) :
    outDf s (ix3 0 r l) = (if l.val = 0 then 0 - (show EReal from s.df (ix3 0 r 0)) else if l.val = 1 then 0 - (show EReal from s.df (ix3 1 r 0)) else 0 : EReal) := by
  have e (n : ℕ) (hn : n < 2) : IntOp.cmpi CmpIPredicate.eq (BitVec.ofNat 32 l.val) (BitVec.ofNat 32 n) = 1 ↔ l.val = n := by
    rw [WordCmp.cmpi_eq_eq, bit_one, WordCmp.ofNat_eq_ofNat_iff (by omega) (by omega)]
  have e0 := e 0 (by norm_num)
  have e1 := e 1 (by norm_num)
  pointwise [outDf, k0_pay1, k0_pay96]
  simp only [Scalar.select, head_at]
  exact if_congr e0 rfl (if_congr e1 rfl rfl)

end Cert.Proof.Fox

end
-- ==== Proof.Host.lean ====
/- What the host computes before the launch: the queries, keys and values of each head, the cumulative gates, the attention's
   logits and probabilities, and from them the log-sums and the deltas that the kernel reads. -/
module

public import proofs.«01_k».proof.Proof.Run
public import proofs.«01_k».proof.Proof.Read
public import Idealize.ShloMosaic.Lib.Pointwise
public import Idealize.ShloMosaic.Lib.StableHlo.RunRead

@[expose] public section

set_option maxRecDepth 16384

noncomputable section

namespace Cert.Proof.Fox

open Cert.KernelIdeal Cert.KernelIdeal.Gen
open Idealize.ShloMosaic Idealize.ShloMosaic.TcCoe Idealize.ShloMosaic.Tactic Idealize.SL.Sem

/-! ## The stages -/

def hostQ (x : FVec Ideal S16384x1536 .bf16) : FVec Ideal S16384x8x64 .f32 :=
  shapeCast S16384x8x64 (extractStridedSlice S16384x512 ![0, 0] (extf .f32 x bitsLt_bf16_f32) slices_S16384x1536_S16384x512_0_0) shapeCasts_S16384x512_S16384x8x64
def hostK (x : FVec Ideal S16384x1536 .bf16) : FVec Ideal S16384x8x64 .f32 :=
  shapeCast S16384x8x64 (extractStridedSlice S16384x512 ![0, 512] (extf .f32 x bitsLt_bf16_f32) slices_S16384x1536_S16384x512_0_512) shapeCasts_S16384x512_S16384x8x64
def hostV (x : FVec Ideal S16384x1536 .bf16) : FVec Ideal S16384x8x64 .f32 :=
  shapeCast S16384x8x64 (extractStridedSlice S16384x512 ![0, 1024] (extf .f32 x bitsLt_bf16_f32) slices_S16384x1536_S16384x512_0_1024) shapeCasts_S16384x512_S16384x8x64

/-- The cumulative log forget gates. -/
def hostF (g : FVec Ideal S16384x8 .f32) : FVec Ideal S16384x8 .f32 :=
  Host.reduceWindowAdd ![16384, 1] ![1, 1] ![16383, 0] ![0, 0] g (broadcastInDim S_ ![] bcast_S_S_ (constant (F := Ideal) S_ .f32 0x00000000#32))
    reduceWindows_S16384x8_S16384x8_w16384s1p16383_0_w1s1p0_0 h_S_

/-- Which keys a query sees. -/
def hostOrder : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))
def hostCausal : IVec S8x16384x16384 1 := broadcastInDim S8x16384x16384 ![1, 2] bcast_S16384x16384_S8x16384x16384_1_2 hostOrder

/-- The attention's scores, from the gates at the queries and at the keys. -/
def hostScores (q k : FVec Ideal S16384x8x64 .f32) (fq fk : FVec Ideal S16384x8 .f32) : FVec Ideal S8x16384x16384 .f32 :=
  subf
    (addf
      (mulf (Host.dotGeneral dot_S16384x8x64_S16384x8x64_S8x16384x16384_2_2_0_0_1_1 none q k)
        (broadcastInDim S8x16384x16384 ![] bcast_S_S8x16384x16384 (constant (F := Ideal) S_ .f32 0x3E000000#32)))
      (broadcastInDim S8x16384x16384 ![0, 1, 2] bcast_S8x16384x1_S8x16384x16384_0_1_2
        (broadcastInDim S8x16384x1 ![0, 1] bcast_S8x16384_S8x16384x1_0_1 (transpose S8x16384 [1, 0] fq transposes_S16384x8_S8x16384_1_0))))
    (broadcastInDim S8x16384x16384 ![0, 1, 2] bcast_S8x1x16384_S8x16384x16384_0_1_2
      (broadcastInDim S8x1x16384 ![0, 2] bcast_S8x16384_S8x1x16384_0_2 (transpose S8x16384 [1, 0] fk transposes_S16384x8_S8x16384_1_0)))

/-- The scores of the keys a query sees. -/
def hostMasked (s : FVec Ideal S8x16384x16384 .f32) : FVec Ideal S8x16384x16384 .f32 :=
  select hostCausal s (broadcastInDim S8x16384x16384 ![] bcast_S_S8x16384x16384 (constant (F := Ideal) S_ .f32 0xFF800000#32))

/-- The attention's logits. -/
def hostLogits (q k : FVec Ideal S16384x8x64 .f32) (fq fk : FVec Ideal S16384x8 .f32) : FVec Ideal S8x16384x16384 .f32 :=
  hostMasked (hostScores q k fq fk)

/-- Each query's largest logit. -/
def hostMax (l : FVec Ideal S8x16384x16384 .f32) : FVec Ideal S8x16384 .f32 :=
  Host.reduce FloatOps.maximumf l (constant (F := Ideal) S_ .f32 0xFF800000#32) reducesTo_S8x16384x16384_S8x16384_d2 h_S_

/-- The exponentials of the logits less a row's number. -/
def hostExp (l : FVec Ideal S8x16384x16384 .f32) (x : FVec Ideal S8x16384 .f32) : FVec Ideal S8x16384x16384 .f32 :=
  Host.exp (subf l (broadcastInDim S8x16384x16384 ![0, 1, 2] bcast_S8x16384x1_S8x16384x16384_0_1_2 (broadcastInDim S8x16384x1 ![0, 1] bcast_S8x16384_S8x16384x1_0_1 x)))

/-- The sum over the keys. -/
def hostSum (e : FVec Ideal S8x16384x16384 .f32) : FVec Ideal S8x16384 .f32 :=
  Host.reduceAdd e (constant (F := Ideal) S_ .f32 0x00000000#32) reducesTo_S8x16384x16384_S8x16384_d2 h_S_

/-- The largest logit again, as the softmax takes it. -/
def hostTop (l : FVec Ideal S8x16384x16384 .f32) : FVec Ideal S8x16384 .f32 :=
  maximumf (broadcastInDim S8x16384 ![] bcast_S_S8x16384 (constant (F := Ideal) S_ .f32 0xFF800000#32)) (hostMax l)

/-- The exponentials over their sum. -/
def hostProbs (e : FVec Ideal S8x16384x16384 .f32) : FVec Ideal S8x16384x16384 .f32 :=
  Host.divf e (broadcastInDim S8x16384x16384 ![0, 1, 2] bcast_S8x16384x1_S8x16384x16384_0_1_2 (broadcastInDim S8x16384x1 ![0, 1] bcast_S8x16384_S8x16384x1_0_1 (hostSum e)))

/-- The attention's output. -/
def hostOut (v : FVec Ideal S16384x8x64 .f32) (p : FVec Ideal S8x16384x16384 .f32) : FVec Ideal S16384x512 .f32 :=
  shapeCast S16384x512 (transpose S16384x8x64 [2, 0, 1] (Host.dotGeneral dot_S16384x8x64_S8x16384x16384_S8x64x16384_0_2_2_1_1_0 none v p) transposes_S8x64x16384_S16384x8x64_2_0_1) shapeCasts_S16384x8x64_S16384x512

/-- The log of the sum of a row's exponentials. -/
def hostLse (l : FVec Ideal S8x16384x16384 .f32) : FVec Ideal S8x16384 .f32 :=
  addf (hostMax l) (Host.log (hostSum (Host.exp (subf l (broadcastInDim S8x16384x16384 ![0, 1, 2] bcast_S8x16384x1_S8x16384x16384_0_1_2 (broadcastInDim S8x16384x1 ![0, 1] bcast_S8x16384_S8x16384x1_0_1 (hostMax l)))))))

/-- Each query row's sum of the output times its gradient. -/
def hostDelta (d : FVec Ideal S16384x512 .bf16) (o : FVec Ideal S16384x512 .f32) : FVec Ideal S8x16384 .f32 :=
  transpose S8x16384 [1, 0] (Host.reduceAdd (shapeCast S16384x8x64 (mulf (extf .f32 d bitsLt_bf16_f32) o) shapeCasts_S16384x512_S16384x8x64) (constant (F := Ideal) S_ .f32 0x00000000#32) reducesTo_S16384x8x64_S16384x8_d2 h_S_)
    transposes_S16384x8_S8x16384_1_0

/-- A row per query block. -/
def hostRows (a : FVec Ideal S8x16384 .f32) : FVec Ideal S8x32x1x512 .f32 := shapeCast S8x32x1x512 a shapeCasts_S8x16384_S8x32x1x512

/-- The gates padded to the lanes. -/
def hostPad (f : FVec Ideal S16384x8 .f32) : FVec Ideal S16384x128 .f32 :=
  pad S16384x128 ![0, 0] ![0, 120] ![0, 0] f (sitofp (F := Ideal) .f32 (constantI S_ 32 0#32)) pads_S16384x8_S16384x128_000_01200 h_S_

/-- No gate at the queries. -/
def hostZero : FVec Ideal S16384x8 .f32 := broadcastInDim S16384x8 ![] bcast_S_S16384x8 (constant (F := Ideal) S_ .f32 0x00000000#32)

/-! ## The host's lines, one by one -/

section Lines

open Idealize.ShloMosaic.StableHlo

theorem after_append (l l' : List (HloOp τ sig (Elt Ideal))) (W : Valuation τ sig (Elt Ideal)) : after (l ++ l') W = after l' (after l W) := by
  induction l generalizing W with
  | nil => rfl
  | cons op l ih => exact ih _

variable (W : Valuation τ sig (Elt Ideal))

theorem line0_v4 : after hostOps0 W (no_index (Proc.devRef .tc main_v4)) = hostQ (W (Proc.devRef .tc main_arg0)) := by after_reads_simp <;> rfl
theorem line0_v5 : after hostOps0 W (no_index (Proc.devRef .tc main_v5)) = hostK (W (Proc.devRef .tc main_arg0)) := by after_reads_simp <;> rfl
theorem line0_v6 : after hostOps0 W (no_index (Proc.devRef .tc main_v6)) = hostV (W (Proc.devRef .tc main_arg0)) := by after_reads_simp <;> rfl
theorem line0_arg1 : after hostOps0 W (no_index (Proc.devRef .tc main_arg1)) = W (Proc.devRef .tc main_arg1) := by after_reads_simp <;> rfl
theorem line0_arg2 : after hostOps0 W (no_index (Proc.devRef .tc main_arg2)) = W (Proc.devRef .tc main_arg2) := by after_reads_simp <;> rfl
theorem line1_v7 : after hostOps0_1 W (no_index (Proc.devRef .tc main_v7)) = hostF (W (Proc.devRef .tc main_arg1)) := by after_reads_simp <;> rfl
theorem line1_v4 : after hostOps0_1 W (no_index (Proc.devRef .tc main_v4)) = W (Proc.devRef .tc main_v4) := by after_reads_simp <;> rfl
theorem line1_v5 : after hostOps0_1 W (no_index (Proc.devRef .tc main_v5)) = W (Proc.devRef .tc main_v5) := by after_reads_simp <;> rfl
theorem line1_v6 : after hostOps0_1 W (no_index (Proc.devRef .tc main_v6)) = W (Proc.devRef .tc main_v6) := by after_reads_simp <;> rfl
theorem line1_arg2 : after hostOps0_1 W (no_index (Proc.devRef .tc main_arg2)) = W (Proc.devRef .tc main_arg2) := by after_reads_simp <;> rfl
theorem line2_v18 : after hostOps0_2 W (no_index (Proc.devRef .tc main_v18)) = hostScores (W (Proc.devRef .tc main_v4)) (W (Proc.devRef .tc main_v5)) (W (Proc.devRef .tc main_v7)) (W (Proc.devRef .tc main_v7)) := by after_reads_simp <;> rfl
theorem line2_v24 : after hostOps0_2 W (no_index (Proc.devRef .tc main_v24)) = hostOrder := by after_reads_simp <;> rfl
theorem line2_cst_0 : after hostOps0_2 W (no_index (Proc.devRef .tc main_cst_0)) = constant (F := Ideal) S_ .f32 0xFF800000#32 := by after_reads_simp <;> rfl
theorem line2_v4 : after hostOps0_2 W (no_index (Proc.devRef .tc main_v4)) = W (Proc.devRef .tc main_v4) := by after_reads_simp <;> rfl
theorem line2_v5 : after hostOps0_2 W (no_index (Proc.devRef .tc main_v5)) = W (Proc.devRef .tc main_v5) := by after_reads_simp <;> rfl
theorem line2_v6 : after hostOps0_2 W (no_index (Proc.devRef .tc main_v6)) = W (Proc.devRef .tc main_v6) := by after_reads_simp <;> rfl
theorem line2_v7 : after hostOps0_2 W (no_index (Proc.devRef .tc main_v7)) = W (Proc.devRef .tc main_v7) := by after_reads_simp <;> rfl
theorem line2_arg2 : after hostOps0_2 W (no_index (Proc.devRef .tc main_arg2)) = W (Proc.devRef .tc main_arg2) := by after_reads_simp <;> rfl
theorem line3_v25 : after hostOps0_3 W (no_index (Proc.devRef .tc main_v25)) = select (broadcastInDim S8x16384x16384 ![1, 2] bcast_S16384x16384_S8x16384x16384_1_2 (W (Proc.devRef .tc main_v24))) (W (Proc.devRef .tc main_v18)) (broadcastInDim S8x16384x16384 ![] bcast_S_S8x16384x16384 (W (Proc.devRef .tc main_cst_0))) := by after_reads_simp <;> rfl
theorem line3_v4 : after hostOps0_3 W (no_index (Proc.devRef .tc main_v4)) = W (Proc.devRef .tc main_v4) := by after_reads_simp <;> rfl
theorem line3_v5 : after hostOps0_3 W (no_index (Proc.devRef .tc main_v5)) = W (Proc.devRef .tc main_v5) := by after_reads_simp <;> rfl
theorem line3_v6 : after hostOps0_3 W (no_index (Proc.devRef .tc main_v6)) = W (Proc.devRef .tc main_v6) := by after_reads_simp <;> rfl
theorem line3_v7 : after hostOps0_3 W (no_index (Proc.devRef .tc main_v7)) = W (Proc.devRef .tc main_v7) := by after_reads_simp <;> rfl
theorem line3_arg2 : after hostOps0_3 W (no_index (Proc.devRef .tc main_arg2)) = W (Proc.devRef .tc main_arg2) := by after_reads_simp <;> rfl
theorem line4_v39 : after hostOps0_4 W (no_index (Proc.devRef .tc main_v39)) = hostOut (W (Proc.devRef .tc main_v6)) (hostProbs (hostExp (W (Proc.devRef .tc main_v25)) (hostTop (W (Proc.devRef .tc main_v25))))) := by after_reads_simp <;> rfl
theorem line4_v51 : after hostOps0_4 W (no_index (Proc.devRef .tc main_v51)) = hostScores (W (Proc.devRef .tc main_v4)) (W (Proc.devRef .tc main_v5)) hostZero (W (Proc.devRef .tc main_v7)) := by after_reads_simp <;> rfl
theorem line4_v57 : after hostOps0_4 W (no_index (Proc.devRef .tc main_v57)) = hostOrder := by after_reads_simp <;> rfl
theorem line4_cst_6 : after hostOps0_4 W (no_index (Proc.devRef .tc main_cst_6)) = constant (F := Ideal) S_ .f32 0xFF800000#32 := by after_reads_simp <;> rfl
theorem line4_v7 : after hostOps0_4 W (no_index (Proc.devRef .tc main_v7)) = W (Proc.devRef .tc main_v7) := by after_reads_simp <;> rfl
theorem line4_arg2 : after hostOps0_4 W (no_index (Proc.devRef .tc main_arg2)) = W (Proc.devRef .tc main_arg2) := by after_reads_simp <;> rfl
theorem line5_v58 : after hostOps0_5 W (no_index (Proc.devRef .tc main_v58)) = select (broadcastInDim S8x16384x16384 ![1, 2] bcast_S16384x16384_S8x16384x16384_1_2 (W (Proc.devRef .tc main_v57))) (W (Proc.devRef .tc main_v51)) (broadcastInDim S8x16384x16384 ![] bcast_S_S8x16384x16384 (W (Proc.devRef .tc main_cst_6))) := by after_reads_simp <;> rfl
theorem line5_v39 : after hostOps0_5 W (no_index (Proc.devRef .tc main_v39)) = W (Proc.devRef .tc main_v39) := by after_reads_simp <;> rfl
theorem line5_v7 : after hostOps0_5 W (no_index (Proc.devRef .tc main_v7)) = W (Proc.devRef .tc main_v7) := by after_reads_simp <;> rfl
theorem line5_arg2 : after hostOps0_5 W (no_index (Proc.devRef .tc main_arg2)) = W (Proc.devRef .tc main_arg2) := by after_reads_simp <;> rfl
theorem line6_v66 : after hostOps0_6 W (no_index (Proc.devRef .tc main_v66)) = hostLse (W (Proc.devRef .tc main_v58)) := by after_reads_simp <;> rfl
theorem line6_v71 : after hostOps0_6 W (no_index (Proc.devRef .tc main_v71)) = hostDelta (W (Proc.devRef .tc main_arg2)) (W (Proc.devRef .tc main_v39)) := by after_reads_simp <;> rfl
theorem line6_c : after hostOps0_6 W (no_index (Proc.devRef .tc main_c)) = constantI S_ 32 0#32 := by after_reads_simp <;> rfl
theorem line6_v7 : after hostOps0_6 W (no_index (Proc.devRef .tc main_v7)) = W (Proc.devRef .tc main_v7) := by after_reads_simp <;> rfl
theorem line7_v72 : after hostOps0_7 W (no_index (Proc.devRef .tc main_v72)) = pad S16384x128 ![0, 0] ![0, 120] ![0, 0] (W (Proc.devRef .tc main_v7)) (sitofp (F := Ideal) .f32 (W (Proc.devRef .tc main_c))) pads_S16384x8_S16384x128_000_01200 h_S_ := by after_reads_simp <;> rfl
theorem line7_v66 : after hostOps0_7 W (no_index (Proc.devRef .tc main_v66)) = W (Proc.devRef .tc main_v66) := by after_reads_simp <;> rfl
theorem line7_v71 : after hostOps0_7 W (no_index (Proc.devRef .tc main_v71)) = W (Proc.devRef .tc main_v71) := by after_reads_simp <;> rfl
theorem line8_v73 : after hostOps0_8 W (no_index (Proc.devRef .tc main_v73)) = hostRows (W (Proc.devRef .tc main_v66)) := by after_reads_simp <;> rfl
theorem line8_v74 : after hostOps0_8 W (no_index (Proc.devRef .tc main_v74)) = hostRows (W (Proc.devRef .tc main_v71)) := by after_reads_simp <;> rfl
theorem line8_v72 : after hostOps0_8 W (no_index (Proc.devRef .tc main_v72)) = W (Proc.devRef .tc main_v72) := by after_reads_simp <;> rfl

end Lines

/-! ## The arrays the launch reads -/

open Idealize.ShloMosaic.StableHlo (after)

variable (m : (ℓ : Loc nD τ sig) → Buf (Elt Ideal) ℓ) (c : Dev nD)

/-- The launch's contents of the buffers, line by line. -/
theorem V_lines (b : Ref sig .tc) : V m c b = after hostOps0_8 (after hostOps0_7 (after hostOps0_6 (after hostOps0_5 (after hostOps0_4 (after hostOps0_3 (after hostOps0_2 (after hostOps0_1 (after hostOps0 fun b => m (c, b))))))))) (Proc.devRef .tc b) := by
  unfold V
  simp only [List.flatten_cons, List.flatten_nil, List.append_nil, after_append]

theorem entry_gate : V m c main_v72 = hostPad (hostF (m ((c : Thread nD τ).loc main_arg1))) := by
  rw [V_lines]
  simp only [line0_v4, line0_v5, line0_v6, line0_arg1, line0_arg2, line1_v7, line1_v4, line1_v5, line1_v6, line1_arg2, line2_v18, line2_v24, line2_cst_0, line2_v4, line2_v5, line2_v6, line2_v7, line2_arg2, line3_v25, line3_v4, line3_v5, line3_v6, line3_v7, line3_arg2, line4_v39, line4_v51, line4_v57, line4_cst_6, line4_v7, line4_arg2, line5_v58, line5_v39, line5_v7, line5_arg2, line6_v66, line6_v71, line6_c, line6_v7, line7_v72, line7_v66, line7_v71, line8_v73, line8_v74, line8_v72]
  rfl

theorem entry_lse : V m c main_v73
    = hostRows (hostLse (hostLogits (hostQ (m ((c : Thread nD τ).loc main_arg0))) (hostK (m ((c : Thread nD τ).loc main_arg0))) hostZero (hostF (m ((c : Thread nD τ).loc main_arg1))))) := by
  rw [V_lines]
  simp only [line0_v4, line0_v5, line0_v6, line0_arg1, line0_arg2, line1_v7, line1_v4, line1_v5, line1_v6, line1_arg2, line2_v18, line2_v24, line2_cst_0, line2_v4, line2_v5, line2_v6, line2_v7, line2_arg2, line3_v25, line3_v4, line3_v5, line3_v6, line3_v7, line3_arg2, line4_v39, line4_v51, line4_v57, line4_cst_6, line4_v7, line4_arg2, line5_v58, line5_v39, line5_v7, line5_arg2, line6_v66, line6_v71, line6_c, line6_v7, line7_v72, line7_v66, line7_v71, line8_v73, line8_v74, line8_v72]
  rfl

theorem entry_dlt : V m c main_v74
    = hostRows (hostDelta (m ((c : Thread nD τ).loc main_arg2))
        (hostOut (hostV (m ((c : Thread nD τ).loc main_arg0)))
          (hostProbs (hostExp (hostLogits (hostQ (m ((c : Thread nD τ).loc main_arg0))) (hostK (m ((c : Thread nD τ).loc main_arg0))) (hostF (m ((c : Thread nD τ).loc main_arg1))) (hostF (m ((c : Thread nD τ).loc main_arg1))))
            (hostTop (hostLogits (hostQ (m ((c : Thread nD τ).loc main_arg0))) (hostK (m ((c : Thread nD τ).loc main_arg0))) (hostF (m ((c : Thread nD τ).loc main_arg1))) (hostF (m ((c : Thread nD τ).loc main_arg1))))))))) := by
  rw [V_lines]
  simp only [line0_v4, line0_v5, line0_v6, line0_arg1, line0_arg2, line1_v7, line1_v4, line1_v5, line1_v6, line1_arg2, line2_v18, line2_v24, line2_cst_0, line2_v4, line2_v5, line2_v6, line2_v7, line2_arg2, line3_v25, line3_v4, line3_v5, line3_v6, line3_v7, line3_arg2, line4_v39, line4_v51, line4_v57, line4_cst_6, line4_v7, line4_arg2, line5_v58, line5_v39, line5_v7, line5_arg2, line6_v66, line6_v71, line6_c, line6_v7, line7_v72, line7_v66, line7_v71, line8_v73, line8_v74, line8_v72]
  rfl

end Cert.Proof.Fox

end
-- ==== Proof.Point.lean ====
/- What a grid point accumulates, in closed form over the extended reals: sums over all 16384 query rows, of which those
   before the point's block of keys contribute zero. -/
module

public import proofs.«01_k».proof.Proof.Read

@[expose] public section

set_option maxRecDepth 16384

noncomputable section

namespace Cert.Proof.Fox

open Cert.KernelIdeal Cert.KernelIdeal.Gen
open Idealize.ShloMosaic Idealize.ShloMosaic.TcCoe

/-! ## Places -/

/-- The query row at place `x` of block `n`, the block of a row and its place there, the key at place `r` of block `j`. -/
def place (n : Fin 32) (x : Fin 512) : Fin 16384 := ⟨512 * n.val + x.val, by omega⟩
def blockOf (t : Fin 16384) : Fin 32 := ⟨t.val / 512, by omega⟩
def placeOf (t : Fin 16384) : Fin 512 := ⟨t.val % 512, by omega⟩

theorem blockOf_place (n : Fin 32) (x : Fin 512) : blockOf (place n x) = n := Fin.ext (by show (512 * n.val + x.val) / 512 = n.val; omega)
theorem placeOf_place (n : Fin 32) (x : Fin 512) : placeOf (place n x) = x := Fin.ext (by show (512 * n.val + x.val) % 512 = x.val; omega)
theorem place_of (t : Fin 16384) : place (blockOf t) (placeOf t) = t := Fin.ext (by show 512 * (t.val / 512) + t.val % 512 = t.val; omega)

/-- The rows of the first `n + 1` blocks are those of the first `n` and those of block `n`. -/
theorem sum_block (f : Fin 16384 → EReal) (n : Fin 32) :
    (∑ t : Fin 16384, if t.val < 512 * (n.val + 1) then f t else 0) = (∑ t : Fin 16384, if t.val < 512 * n.val then f t else 0) + ∑ x : Fin 512, f (place n x) := by
  have h (g : Fin 16384 → EReal) : ∑ t, g t = ∑ a : Fin 32, ∑ x : Fin 512, g (place a x) := by
    rw [Fin.sum_univ_tiles 32 512 rfl g]
    refine Finset.sum_congr rfl fun a _ => Finset.sum_congr rfl fun x _ => congrArg g (Fin.ext ?_)
    show a.val * 512 + x.val = 512 * a.val + x.val
    omega
  have e (t : Fin 16384) : (if t.val < 512 * (n.val + 1) then f t else 0)
      = (if t.val < 512 * n.val then f t else 0) + (if blockOf t = n then f t else 0) := by
    have : blockOf t = n ↔ t.val / 512 = n.val := Fin.ext_iff
    by_cases h1 : t.val < 512 * n.val
    · rw [if_pos h1, if_pos (by omega), if_neg (by rw [this]; omega), add_zero]
    · by_cases h2 : t.val < 512 * (n.val + 1)
      · rw [if_pos h2, if_neg h1, if_pos (by rw [this]; omega), zero_add]
      · rw [if_neg h2, if_neg h1, if_neg (by rw [this]; omega), zero_add]
  rw [Finset.sum_congr rfl fun t _ => e t, Finset.sum_add_distrib, h (fun t => if blockOf t = n then f t else 0)]
  congr 1
  rw [Finset.sum_eq_single n]
  · exact Finset.sum_congr rfl fun x _ => if_pos (blockOf_place n x)
  · intro b _ hb
    exact Finset.sum_eq_zero fun x _ => if_neg (by rw [blockOf_place]; exact hb)
  · intro h; exact absurd (Finset.mem_univ _) h

/-! ## The point's own quantities -/

section Quantities

variable (o : Ops Ideal) (j : ℕ)

/-- Each head's keys, scaled keys, values and gates. -/
def keyOf (g : Fin 2) (r : Fin 1024) (l : Fin 128) : EReal := if g = 0 then o.k0 (ix2 r l) else o.k1 (ix2 r l)
def sclOf (g : Fin 2) (r : Fin 1024) (l : Fin 128) : EReal := if g = 0 then o.s0 (ix2 r l) else o.s1 (ix2 r l)
def valOf (g : Fin 2) (r : Fin 1024) (l : Fin 128) : EReal := if g = 0 then o.v0 (ix2 r l) else o.v1 (ix2 r l)
def gateOf (g : Fin 2) (r : Fin 1024) : EReal := if g = 0 then o.f0 (ix2 r 0) else o.f1 (ix2 r 0)
/-- The queries, output gradients, log-sums and deltas at a query row. -/
def qryOf (t : Fin 16384) (l : Fin 128) : EReal := o.q (ix2 t l)
def douOf (t : Fin 16384) (l : Fin 128) : EReal := o.d (ix2 t l)
def lseOf (g : Fin 2) (t : Fin 16384) : EReal := o.lse (ix4 g (blockOf t) 0 (placeOf t))
def dltOf (g : Fin 2) (t : Fin 16384) : EReal := o.dl (ix4 g (blockOf t) 0 (placeOf t))

/-- The probability of key `r` of the point's block at query row `t`, zero where the key comes after the query. -/
def prob (g : Fin 2) (r : Fin 1024) (t : Fin 16384) : EReal :=
  if 1024 * j + r.val ≤ t.val then
    Ideal.exp ((∑ l : Fin 128, keyOf o g r l * (qryOf o t l * eighth)) - gateOf o g r - lseOf o g t)
  else 0

/-- The gradient of the score of that pair. -/
def dscr (g : Fin 2) (r : Fin 1024) (t : Fin 16384) : EReal :=
  prob o j g r t * ((∑ l : Fin 128, valOf o g r l * douOf o t l) - dltOf o g t)

theorem prob_before (g : Fin 2) (r : Fin 1024) (t : Fin 16384) (h : t.val < 1024 * j) : prob o j g r t = 0 :=
  if_neg (by omega)

theorem dscr_before (g : Fin 2) (r : Fin 1024) (t : Fin 16384) (h : t.val < 1024 * j) : dscr o j g r t = 0 := by
  unfold dscr; rw [prob_before o j g r t h, zero_mul]

/-- A mask that keeps, in block `n` of query rows, the keys that come no later than the query. -/
def Keeps (n : Fin 32) (msk : FVec Ideal S1024x512 .f32 → FVec Ideal S1024x512 .f32) : Prop :=
  ∀ (p : FVec Ideal S1024x512 .f32) (r : Fin 1024) (x : Fin 512),
    msk p (ix2 r x) = (if 1024 * j + r.val ≤ 512 * n.val + x.val then p (ix2 r x) else 0 : EReal)

variable {o j}
variable {msk : FVec Ideal S1024x512 .f32 → FVec Ideal S1024x512 .f32} {n : Fin 32}

theorem p0_at (h : Keeps j n msk) (r : Fin 1024) (x : Fin 512) : p0 o msk n (ix2 r x) = prob o j 0 r (place n x) := by
  unfold p0 prob
  rw [h, probs_at]
  simp only [scaled_at, rows_at, row_at]
  unfold lseOf
  rw [blockOf_place, placeOf_place]
  rfl

theorem p1_at (h : Keeps j n msk) (r : Fin 1024) (x : Fin 512) : p1 o msk n (ix2 r x) = prob o j 1 r (place n x) := by
  unfold p1 prob
  rw [h, probs_at]
  simp only [scaled_at, rows_at, row_at]
  unfold lseOf
  rw [blockOf_place, placeOf_place]
  rfl

theorem ds0_at (h : Keeps j n msk) (r : Fin 1024) (x : Fin 512) : ds0 o msk n (ix2 r x) = dscr o j 0 r (place n x) := by
  unfold ds0 dscr
  rw [dscores_at, p0_at h]
  simp only [rows_at, row_at]
  unfold dltOf
  rw [blockOf_place, placeOf_place]
  rfl

theorem ds1_at (h : Keeps j n msk) (r : Fin 1024) (x : Fin 512) : ds1 o msk n (ix2 r x) = dscr o j 1 r (place n x) := by
  unfold ds1 dscr
  rw [dscores_at, p1_at h]
  simp only [rows_at, row_at]
  unfold dltOf
  rw [blockOf_place, placeOf_place]
  rfl

end Quantities

/-! ## The state after the blocks before `N` -/

/-- What a state holds at an index. -/
abbrev St.dqAt (s : St Ideal) (t : Fin 16384) (l : Fin 128) : EReal := s.dq (ix2 t l)
abbrev St.dfqAt (s : St Ideal) (g : Fin 2) (n : Fin 32) (x : Fin 512) : EReal := s.dfq (ix4 g n 0 x)
abbrev St.dkAt (s : St Ideal) (g : Fin 2) (r : Fin 1024) (l : Fin 128) : EReal := s.dk (ix3 g r l)
abbrev St.dvAt (s : St Ideal) (g : Fin 2) (r : Fin 1024) (l : Fin 128) : EReal := s.dv (ix3 g r l)
abbrev St.dfAt (s : St Ideal) (g : Fin 2) (r : Fin 1024) (l : Fin 128) : EReal := s.df (ix3 g r l)

/-- From `a`, the state after the query blocks before `N`. -/
structure Upto (o : Ops Ideal) (j : ℕ) (a : St Ideal) (N : ℕ) (s : St Ideal) : Prop where
  dq : ∀ t l, s.dqAt t l = a.dqAt t l
    + if t.val < 512 * N then (∑ r : Fin 1024, dscr o j 0 r t * sclOf o 0 r l) + (∑ r : Fin 1024, dscr o j 1 r t * sclOf o 1 r l) else 0
  dfq : ∀ g n x, s.dfqAt g n x = a.dfqAt g n x + if n.val < N then ∑ r : Fin 1024, dscr o j g r (place n x) else 0
  dk : ∀ g r l, s.dkAt g r l = ∑ t : Fin 16384, if t.val < 512 * N then dscr o j g r t * (qryOf o t l * eighth) else 0
  dv : ∀ g r l, s.dvAt g r l = ∑ t : Fin 16384, if t.val < 512 * N then prob o j g r t * douOf o t l else 0
  df : ∀ g r l, s.dfAt g r l = ∑ t : Fin 16384, if t.val < 512 * N then dscr o j g r t else 0

theorem two_cases (g : Fin 2) : g = 0 ∨ g = 1 := by fin_cases g <;> simp

theorem upto_step {o : Ops Ideal} {j : ℕ} {a s : St Ideal} {n : Fin 32} {msk : FVec Ideal S1024x512 .f32 → FVec Ideal S1024x512 .f32}
    (h : Upto o j a n.val s) (hm : Keeps j n msk) : Upto o j a (n.val + 1) (step o msk n s) where
  dq := fun t l => by
    show VecWindow.put s.dq ![512 * n.val, 0] S512x128.size _ (ix2 t l) = _
    rw [put_rows_at]
    have hd := h.dq t l
    by_cases ht : t.val / 512 = n.val
    · rw [dif_pos ht, if_pos (by omega)]
      rw [if_neg (by omega), add_zero] at hd
      have hp : place n ⟨t.val % 512, Nat.mod_lt _ (by norm_num)⟩ = t := Fin.ext (by show 512 * n.val + t.val % 512 = t.val; omega)
      pointwise []
      rw [dqPart_at, dqPart_at, rows_at]
      simp only [ds0_at hm, ds1_at hm, hp]
      rw [← hd]
      have hq : (⟨512 * n.val + t.val % 512, by omega⟩ : Fin 16384) = t := hp
      rw [hq]
      rfl
    · rw [dif_neg ht]
      refine hd.trans ?_
      congr 1
      by_cases h1 : t.val < 512 * n.val
      · rw [if_pos h1, if_pos (by omega)]
      · rw [if_neg h1, if_neg (by omega)]
  dfq := fun g n' x => by
    have hd := h.dfq g n' x
    show VecWindow.put (VecWindow.put s.dfq ![0, n.val, 0, 0] S1x1x1x512.size (addColSums (ds0 o msk n) (row s.dfq 0 n)))
      ![1, n.val, 0, 0] S1x1x1x512.size (addColSums (ds1 o msk n) (row s.dfq 1 n)) (ix4 g n' 0 x) = _
    refine (put_row_at _ 1 n _ g n' x).trans ?_
    have e := put_row_at s.dfq 0 n (addColSums (ds0 o msk n) (row s.dfq 0 n)) g n' x
    rw [show VecWindow.put s.dfq ![0, n.val, 0, 0] S1x1x1x512.size (addColSums (ds0 o msk n) (row s.dfq 0 n)) (ix4 g n' 0 x) = _ from e]
    by_cases hn : n' = n
    · subst hn
      rw [if_neg (Nat.lt_irrefl _), add_zero] at hd
      have hlt : n'.val < n'.val + 1 := Nat.lt_succ_self _
      rcases two_cases g with rfl | rfl
      · rw [if_neg (fun e => absurd e.1 (by decide)), if_pos ⟨rfl, rfl⟩, addColSums_at, row_at]
        rw [if_pos hlt]
        simp only [ds0_at hm]
        rw [← hd]
      · rw [if_pos ⟨rfl, rfl⟩, if_pos hlt, addColSums_at, row_at]
        simp only [ds1_at hm]
        rw [← hd]
    · rw [if_neg (fun e => hn e.2), if_neg (fun e => hn e.2)]
      refine hd.trans ?_
      congr 1
      have : n'.val ≠ n.val := fun e => hn (Fin.ext e)
      by_cases h1 : n'.val < n.val
      · rw [if_pos h1, if_pos (by omega)]
      · rw [if_neg h1, if_neg (by omega)]
  dk := fun g r l => by
    rw [sum_block, ← h.dk g r l]
    fin_cases g
    · refine (put2_at_zero _ _ (addDot (ds1 o msk n) (scaled (rows o.q n)) (head s.dk 1)) r l).trans ?_
      rw [addDot_at, head_at]
      simp only [ds0_at hm, scaled_at, rows_at]
      rfl
    · refine (put2_at_one _ _ _ r l).trans ?_
      rw [addDot_at, head_at]
      simp only [ds1_at hm, scaled_at, rows_at]
      rfl
  dv := fun g r l => by
    rw [sum_block, ← h.dv g r l]
    fin_cases g
    · refine (put2_at_zero _ _ (addDot (p1 o msk n) (rows o.d n) (head s.dv 1)) r l).trans ?_
      rw [addDot_at, head_at]
      simp only [p0_at hm, rows_at]
      rfl
    · refine (put2_at_one _ _ _ r l).trans ?_
      rw [addDot_at, head_at]
      simp only [p1_at hm, rows_at]
      rfl
  df := fun g r l => by
    rw [sum_block, ← h.df g r l]
    fin_cases g
    · refine (put2_at_zero _ _ (addRowSums (ds1 o msk n) (head s.df 1)) r l).trans ?_
      rw [addRowSums_at, head_at]
      simp only [ds0_at hm]
      rfl
    · refine (put2_at_one _ _ _ r l).trans ?_
      rw [addRowSums_at, head_at]
      simp only [ds1_at hm]
      rfl

/-! ## The whole point -/

/-- The query rows before the point's block of keys contribute nothing: the state it starts from is the one after them. -/
theorem upto_start (o : Ops Ideal) (i : grid0.Coords) (dq : Vec Ideal S16384x128 .f32) (dfq : Vec Ideal S2x32x1x512 .f32) :
    Upto o (i 1).val (start i dq dfq) (2 * (i 1).val) (start i dq dfq) where
  dq := fun t l => by
    by_cases h : t.val < 512 * (2 * (i 1).val)
    · have hb : t.val < 1024 * (i 1).val := by omega
      simp only [dscr_before _ _ _ _ _ hb, zero_mul, Finset.sum_const_zero, add_zero, ite_self]
    · rw [if_neg h, add_zero]
  dfq := fun g n x => by
    by_cases h : n.val < 2 * (i 1).val
    · have hb : (place n x).val < 1024 * (i 1).val := by show 512 * n.val + x.val < _; omega
      simp only [dscr_before _ _ _ _ _ hb, Finset.sum_const_zero, add_zero, ite_self]
    · rw [if_neg h, add_zero]
  dk := fun g r l => by
    refine (zero44_at (ix3 g r l)).trans (Finset.sum_eq_zero fun t _ => ?_).symm
    by_cases h : t.val < 512 * (2 * (i 1).val)
    · rw [if_pos h, dscr_before _ _ _ _ _ (by omega), zero_mul]
    · rw [if_neg h]
  dv := fun g r l => by
    refine (zero45_at (ix3 g r l)).trans (Finset.sum_eq_zero fun t _ => ?_).symm
    by_cases h : t.val < 512 * (2 * (i 1).val)
    · rw [if_pos h, prob_before _ _ _ _ _ (by omega), zero_mul]
    · rw [if_neg h]
  df := fun g r l => by
    refine (zero46_at (ix3 g r l)).trans (Finset.sum_eq_zero fun t _ => ?_).symm
    by_cases h : t.val < 512 * (2 * (i 1).val)
    · rw [if_pos h, dscr_before _ _ _ _ _ (by omega)]
    · rw [if_neg h]

theorem keeps0 (i : grid0.Coords) (n : Fin 32) (h : n.val = 2 * (i 1).val) : Keeps (i 1).val n (visible i 0#32) := by
  intro p r x
  rw [visible0_at]
  exact if_congr (by omega) rfl rfl

theorem keeps1 (i : grid0.Coords) (n : Fin 32) (h : n.val = 2 * (i 1).val + 1) : Keeps (i 1).val n (visible i 1#32) := by
  intro p r x
  rw [visible1_at]
  exact if_congr (by omega) rfl rfl

theorem keepsId (j : ℕ) (n : Fin 32) (h : 2 * j + 2 ≤ n.val) : Keeps j n id := by
  intro p r x
  rw [if_pos (by omega)]
  rfl

theorem upto_above {o : Ops Ideal} {j : ℕ} {a s : St Ideal} (h : Upto o j a (2 * j + 2) s) (t : ℕ) (ht : 2 * j + 2 + t ≤ 32) :
    Upto o j a (2 * j + 2 + t) (above o (2 * j + 2) t s) := by
  induction t with
  | zero => exact h
  | succ t ih =>
    rw [above_succ _ _ _ _ (by omega)]
    exact upto_step (n := ⟨2 * j + 2 + t, by omega⟩) (ih (by omega)) (keepsId j _ (by show 2 * j + 2 ≤ 2 * j + 2 + t; omega))

/-- The state a grid point ends in, after all 32 blocks. -/
theorem upto_point (i : grid0.Coords) (k v : Vec Ideal S1024x128 .bf16) (f : Vec Ideal S1024x128 .f32) (q d : Vec Ideal S16384x128 .bf16)
    (lse dl : Vec Ideal S2x32x1x512 .f32) (dq : Vec Ideal S16384x128 .f32) (dfq : Vec Ideal S2x32x1x512 .f32) :
    Upto (ops i k v f q d lse dl) (i 1).val (start i dq dfq) 32 (point i k v f q d lse dl dq dfq) := by
  have hj : (i 1).val < 16 := (i 1).isLt
  have h0 := upto_step (n := ⟨2 * (i 1).val, by omega⟩) (upto_start (ops i k v f q d lse dl) i dq dfq) (keeps0 i _ rfl)
  have h1 := upto_step (n := ⟨2 * (i 1).val + 1, by omega⟩) h0 (keeps1 i _ rfl)
  have h2 := upto_above h1 (30 - 2 * (i 1).val) (by omega)
  have e : 2 * (i 1).val + 2 + (30 - 2 * (i 1).val) = 32 := by omega
  rw [e] at h2
  exact h2

section Closed

variable (i : grid0.Coords) (k v : Vec Ideal S1024x128 .bf16) (f : Vec Ideal S1024x128 .f32) (q d : Vec Ideal S16384x128 .bf16)
  (lse dl : Vec Ideal S2x32x1x512 .f32) (dq : Vec Ideal S16384x128 .f32) (dfq : Vec Ideal S2x32x1x512 .f32)

/-- The five results of a grid point at an index. -/
theorem point_dq (t : Fin 16384) (l : Fin 128) : (point i k v f q d lse dl dq dfq).dqAt t l
    = (if (i 1).val = 0 then 0 else (show EReal from dq (ix2 t l)))
      + ((∑ r : Fin 1024, dscr (ops i k v f q d lse dl) (i 1).val 0 r t * sclOf (ops i k v f q d lse dl) 0 r l)
        + ∑ r : Fin 1024, dscr (ops i k v f q d lse dl) (i 1).val 1 r t * sclOf (ops i k v f q d lse dl) 1 r l) := by
  rw [(upto_point i k v f q d lse dl dq dfq).dq t l, if_pos (show t.val < 512 * 32 from t.isLt)]
  congr 1
  unfold St.dqAt start
  by_cases h : (i 1).val = 0
  · simp only [if_pos h]; exact zero47_at _
  · simp only [if_neg h]

theorem point_dfq (g : Fin 2) (n : Fin 32) (x : Fin 512) : (point i k v f q d lse dl dq dfq).dfqAt g n x
    = (if (i 1).val = 0 then 0 else (show EReal from dfq (ix4 g n 0 x)))
      + ∑ r : Fin 1024, dscr (ops i k v f q d lse dl) (i 1).val g r (place n x) := by
  rw [(upto_point i k v f q d lse dl dq dfq).dfq g n x, if_pos n.isLt]
  congr 1
  unfold St.dfqAt start
  by_cases h : (i 1).val = 0
  · simp only [if_pos h]; exact zero48_at _
  · simp only [if_neg h]

theorem point_dk (g : Fin 2) (r : Fin 1024) (l : Fin 128) : (point i k v f q d lse dl dq dfq).dkAt g r l
    = ∑ t : Fin 16384, dscr (ops i k v f q d lse dl) (i 1).val g r t * ((show EReal from q (ix2 t l)) * eighth) := by
  rw [(upto_point i k v f q d lse dl dq dfq).dk g r l]
  exact Finset.sum_congr rfl fun t _ => if_pos (show t.val < 512 * 32 from t.isLt)

theorem point_dv (g : Fin 2) (r : Fin 1024) (l : Fin 128) : (point i k v f q d lse dl dq dfq).dvAt g r l
    = ∑ t : Fin 16384, prob (ops i k v f q d lse dl) (i 1).val g r t * (show EReal from d (ix2 t l)) := by
  rw [(upto_point i k v f q d lse dl dq dfq).dv g r l]
  exact Finset.sum_congr rfl fun t _ => if_pos (show t.val < 512 * 32 from t.isLt)

theorem point_df (g : Fin 2) (r : Fin 1024) (l : Fin 128) : (point i k v f q d lse dl dq dfq).dfAt g r l
    = ∑ t : Fin 16384, dscr (ops i k v f q d lse dl) (i 1).val g r t := by
  rw [(upto_point i k v f q d lse dl dq dfq).df g r l]
  exact Finset.sum_congr rfl fun t _ => if_pos (show t.val < 512 * 32 from t.isLt)

end Closed

end Cert.Proof.Fox

end
-- ==== Proof.Blocks.lean ====
/- The blocks that a grid point reads, as entries of the whole arrays, and each point's quantities as quantities of a head, a
   key and a query row. -/
module

public import proofs.«01_k».proof.Proof.Point
public import proofs.«01_k».proof.Proof.Run
public import Idealize.ShloMosaic.Lib.Pipeline.ValueKit

@[expose] public section

set_option maxRecDepth 16384

noncomputable section

namespace Cert.Proof.Fox

open Cert.KernelIdeal Cert.KernelIdeal.Gen
open Idealize.ShloMosaic Idealize.ShloMosaic.TcCoe Idealize.SL.Sem
open Idealize.ShloMosaic.Pipeline (Dat)

/-- Where each window's block lies at every grid point. -/
theorem idx_in : ∀ t : Fin cfg0.N, win0_0.index t = ![t.val % 16, 4 + t.val / 16] ∧ win0_1.index t = ![0, t.val / 16] ∧ win0_2.index t = ![0, t.val / 16]
    ∧ win0_3.index t = ![t.val % 16, 8 + t.val / 16] ∧ win0_4.index t = ![t.val / 16, 0, 0, 0] ∧ win0_5.index t = ![t.val / 16, 0, 0, 0] ∧ win0_6.index t = ![t.val % 16, 0] :=
  (by decide +kernel : ∀ t : Fin grid0.N, _)

theorem idx_out : ∀ t : Fin cfg0.N, win0_7.index t = ![0, t.val / 16] ∧ win0_8.index t = ![t.val % 16, t.val / 16] ∧ win0_9.index t = ![t.val % 16, t.val / 16]
    ∧ win0_10.index t = ![t.val / 16, t.val % 16, 0] ∧ win0_11.index t = ![t.val / 16, 0, 0, 0] :=
  (by decide +kernel : ∀ t : Fin grid0.N, _)

theorem coord_zero : ∀ t : Fin cfg0.N, (grid0.coords t 0).val = t.val / 16 :=
  (by decide +kernel : ∀ t : Fin grid0.N, (grid0.coords t 0).val = t.val / 16)

theorem pair_lt (t : Fin cfg0.N) : t.val / 16 < 4 := by have : t.val < 64 := t.isLt; omega

/-! ## A block at an index is the array there -/

theorem read0_at (t : Fin cfg0.N) (X : Vec Ideal S16384x1536 .bf16) (r : Fin 1024) (l : Fin 128) :
    (((cfg0.win 0).blk t).view.read (Elt Ideal) X : FVec Ideal S1024x128 .bf16) (ix2 r l)
      = X (ix2 ⟨1024 * (t.val % 16) + r.val, by omega⟩ ⟨512 + 128 * (t.val / 16) + l.val, by have := pair_lt t; omega⟩) := by
  refine congrArg X (funext fun a => Fin.ext ?_)
  have e := (idx_in t).1
  have hp := pair_lt t
  fin_cases a
  · show win0_0.index t 0 * 1024 + 1 * r.val = 1024 * (t.val % 16) + r.val
    rw [e]; show (t.val % 16) * 1024 + 1 * r.val = _; omega
  · show win0_0.index t 1 * 128 + 1 * l.val = 512 + 128 * (t.val / 16) + l.val
    rw [e]; show (4 + t.val / 16) * 128 + 1 * l.val = _; omega

theorem read3_at (t : Fin cfg0.N) (X : Vec Ideal S16384x1536 .bf16) (r : Fin 1024) (l : Fin 128) :
    (((cfg0.win 3).blk t).view.read (Elt Ideal) X : FVec Ideal S1024x128 .bf16) (ix2 r l)
      = X (ix2 ⟨1024 * (t.val % 16) + r.val, by omega⟩ ⟨1024 + 128 * (t.val / 16) + l.val, by have := pair_lt t; omega⟩) := by
  refine congrArg X (funext fun a => Fin.ext ?_)
  have e := (idx_in t).2.2.2.1
  have hp := pair_lt t
  fin_cases a
  · show win0_3.index t 0 * 1024 + 1 * r.val = 1024 * (t.val % 16) + r.val
    rw [e]; show (t.val % 16) * 1024 + 1 * r.val = _; omega
  · show win0_3.index t 1 * 128 + 1 * l.val = 1024 + 128 * (t.val / 16) + l.val
    rw [e]; show (8 + t.val / 16) * 128 + 1 * l.val = _; omega

theorem read1_at (t : Fin cfg0.N) (X : Vec Ideal S16384x1536 .bf16) (r : Fin 16384) (l : Fin 128) :
    (((cfg0.win 1).blk t).view.read (Elt Ideal) X : FVec Ideal S16384x128 .bf16) (ix2 r l)
      = X (ix2 r ⟨128 * (t.val / 16) + l.val, by have := pair_lt t; omega⟩) := by
  refine congrArg X (funext fun a => Fin.ext ?_)
  have e := (idx_in t).2.1
  have hp := pair_lt t
  fin_cases a
  · show win0_1.index t 0 * 16384 + 1 * r.val = r.val
    rw [e]; show (0) * 16384 + 1 * r.val = _; omega
  · show win0_1.index t 1 * 128 + 1 * l.val = 128 * (t.val / 16) + l.val
    rw [e]; show (t.val / 16) * 128 + 1 * l.val = _; omega

theorem read2_at (t : Fin cfg0.N) (X : Vec Ideal S16384x512 .bf16) (r : Fin 16384) (l : Fin 128) :
    (((cfg0.win 2).blk t).view.read (Elt Ideal) X : FVec Ideal S16384x128 .bf16) (ix2 r l)
      = X (ix2 r ⟨128 * (t.val / 16) + l.val, by have := pair_lt t; omega⟩) := by
  refine congrArg X (funext fun a => Fin.ext ?_)
  have e := (idx_in t).2.2.1
  have hp := pair_lt t
  fin_cases a
  · show win0_2.index t 0 * 16384 + 1 * r.val = r.val
    rw [e]; show (0) * 16384 + 1 * r.val = _; omega
  · show win0_2.index t 1 * 128 + 1 * l.val = 128 * (t.val / 16) + l.val
    rw [e]; show (t.val / 16) * 128 + 1 * l.val = _; omega

theorem read6_at (t : Fin cfg0.N) (X : Vec Ideal S16384x128 .f32) (r : Fin 1024) (l : Fin 128) :
    (((cfg0.win 6).blk t).view.read (Elt Ideal) X : FVec Ideal S1024x128 .f32) (ix2 r l)
      = X (ix2 ⟨1024 * (t.val % 16) + r.val, by omega⟩ l) := by
  refine congrArg X (funext fun a => Fin.ext ?_)
  have e := (idx_in t).2.2.2.2.2.2
  have hp := pair_lt t
  fin_cases a
  · show win0_6.index t 0 * 1024 + 1 * r.val = 1024 * (t.val % 16) + r.val
    rw [e]; show (t.val % 16) * 1024 + 1 * r.val = _; omega
  · show win0_6.index t 1 * 128 + 1 * l.val = l.val
    rw [e]; show (0) * 128 + 1 * l.val = _; omega

theorem read4_at (t : Fin cfg0.N) (X : Vec Ideal S8x32x1x512 .f32) (g : Fin 2) (n : Fin 32) (x : Fin 512) :
    (((cfg0.win 4).blk t).view.read (Elt Ideal) X : FVec Ideal S2x32x1x512 .f32) (ix4 g n 0 x)
      = X (ix4 ⟨2 * (t.val / 16) + g.val, by have := pair_lt t; omega⟩ n 0 x) := by
  refine congrArg X (funext fun a => Fin.ext ?_)
  have e := (idx_in t).2.2.2.2.1
  have hp := pair_lt t
  fin_cases a
  · show win0_4.index t 0 * 2 + 1 * g.val = 2 * (t.val / 16) + g.val
    rw [e]; show (t.val / 16) * 2 + 1 * g.val = _; omega
  · show win0_4.index t 1 * 32 + 1 * n.val = n.val
    rw [e]; show (0) * 32 + 1 * n.val = _; omega
  · show win0_4.index t 2 * 1 + 1 * 0 = 0
    rw [e]; show (0) * 1 + 1 * 0 = _; omega
  · show win0_4.index t 3 * 512 + 1 * x.val = x.val
    rw [e]; show (0) * 512 + 1 * x.val = _; omega

theorem read5_at (t : Fin cfg0.N) (X : Vec Ideal S8x32x1x512 .f32) (g : Fin 2) (n : Fin 32) (x : Fin 512) :
    (((cfg0.win 5).blk t).view.read (Elt Ideal) X : FVec Ideal S2x32x1x512 .f32) (ix4 g n 0 x)
      = X (ix4 ⟨2 * (t.val / 16) + g.val, by have := pair_lt t; omega⟩ n 0 x) := by
  refine congrArg X (funext fun a => Fin.ext ?_)
  have e := (idx_in t).2.2.2.2.2.1
  have hp := pair_lt t
  fin_cases a
  · show win0_5.index t 0 * 2 + 1 * g.val = 2 * (t.val / 16) + g.val
    rw [e]; show (t.val / 16) * 2 + 1 * g.val = _; omega
  · show win0_5.index t 1 * 32 + 1 * n.val = n.val
    rw [e]; show (0) * 32 + 1 * n.val = _; omega
  · show win0_5.index t 2 * 1 + 1 * 0 = 0
    rw [e]; show (0) * 1 + 1 * 0 = _; omega
  · show win0_5.index t 3 * 512 + 1 * x.val = x.val
    rw [e]; show (0) * 512 + 1 * x.val = _; omega

/-! ## Sums over the lanes of one head -/

/-- Lane `c` of head `g` of a pair. -/
def lane (g : Fin 2) (c : Fin 64) : Fin 128 := ⟨64 * g.val + c.val, by omega⟩

/-- A sum over the lanes of a pair of heads is a sum over each head's. -/
theorem sum_lanes (f : Fin 128 → EReal) : ∑ l, f l = (∑ c : Fin 64, f (lane 0 c)) + ∑ c : Fin 64, f (lane 1 c) := by
  rw [Fin.sum_univ_tiles 2 64 rfl f, Fin.sum_univ_two]
  exact congrArg₂ (· + ·) (Finset.sum_congr rfl fun c _ => congrArg f (Fin.ext (by show 0 * 64 + c.val = 64 * 0 + c.val; omega)))
    (Finset.sum_congr rfl fun c _ => congrArg f (Fin.ext (by show 1 * 64 + c.val = 64 * 1 + c.val; omega)))

/-- A row with the other head's lanes cleared. -/
def cleared (g : Fin 2) (a : Fin 128 → EReal) (l : Fin 128) : EReal :=
  if g = 0 then (if l.val < 64 then a l else 0) else (if l.val < 64 then 0 else a l)

theorem lane_zero (c : Fin 64) : (lane 0 c).val < 64 := by show 64 * 0 + c.val < 64; omega
theorem lane_one (c : Fin 64) : ¬ (lane 1 c).val < 64 := by show ¬ 64 * 1 + c.val < 64; omega

theorem cleared_lane (g g' : Fin 2) (a : Fin 128 → EReal) (c : Fin 64) : cleared g a (lane g' c) = if g = g' then a (lane g' c) else 0 := by
  rcases two_cases g with rfl | rfl <;> rcases two_cases g' with rfl | rfl
  · simp [cleared, lane_zero]
  · simp [cleared, lane_one]
  · simp [cleared, lane_zero]
  · simp [cleared, lane_one]

theorem sum_cleared (g : Fin 2) (a b : Fin 128 → EReal) : ∑ l, cleared g a l * b l = ∑ c : Fin 64, a (lane g c) * b (lane g c) := by
  rw [sum_lanes]
  simp only [cleared_lane]
  rcases two_cases g with rfl | rfl
  · simp
  · simp

/-! ## Quantities of a head, a key and a query row -/

section Heads

variable (A : Vec Ideal S16384x1536 .bf16) (D : Vec Ideal S16384x512 .bf16) (G : Vec Ideal S16384x128 .f32) (L E : Vec Ideal S8x32x1x512 .f32)

/-- Head `h`'s query, key, value and output gradient at a place and a lane; its gate at a key; its log-sum and delta at a query. -/
def hqry (h : Fin 8) (t : Fin 16384) (c : Fin 64) : EReal := A (ix2 t ⟨64 * h.val + c.val, by omega⟩)
def hkey (h : Fin 8) (s : Fin 16384) (c : Fin 64) : EReal := A (ix2 s ⟨512 + 64 * h.val + c.val, by omega⟩)
def hval (h : Fin 8) (s : Fin 16384) (c : Fin 64) : EReal := A (ix2 s ⟨1024 + 64 * h.val + c.val, by omega⟩)
def hdou (h : Fin 8) (t : Fin 16384) (c : Fin 64) : EReal := D (ix2 t ⟨64 * h.val + c.val, by omega⟩)
def hgate (h : Fin 8) (s : Fin 16384) : EReal := G (ix2 s ⟨h.val, by omega⟩)
def hrow (h : Fin 8) (t : Fin 16384) : EReal := L (ix4 h (blockOf t) 0 (placeOf t))

/-- The probability of key `s` at query `t`, as the kernel computes it from the saved log-sum. -/
def hprob (h : Fin 8) (s t : Fin 16384) : EReal :=
  if s.val ≤ t.val then Ideal.exp ((∑ c : Fin 64, hkey A h s c * (hqry A h t c * eighth)) - hgate G h s - hrow L h t) else 0

/-- The gradient of that pair's score. -/
def hdscr (h : Fin 8) (s t : Fin 16384) : EReal :=
  hprob A G L h s t * ((∑ c : Fin 64, hval A h s c * hdou D h t c) - hrow E h t)

end Heads

section AtPoint

variable (t : Fin cfg0.N) (A : Vec Ideal S16384x1536 .bf16) (D : Vec Ideal S16384x512 .bf16) (G : Vec Ideal S16384x128 .f32) (L E : Vec Ideal S8x32x1x512 .f32)

/-- What point `t` works with, of the arrays the launch reads. -/
abbrev opsOf : Ops Ideal :=
  ops (grid0.coords t) (((cfg0.win 0).blk t).view.read (Elt Ideal) A) (((cfg0.win 3).blk t).view.read (Elt Ideal) A)
    (((cfg0.win 6).blk t).view.read (Elt Ideal) G) (((cfg0.win 1).blk t).view.read (Elt Ideal) A) (((cfg0.win 2).blk t).view.read (Elt Ideal) D)
    (((cfg0.win 4).blk t).view.read (Elt Ideal) L) (((cfg0.win 5).blk t).view.read (Elt Ideal) E)

/-- The head that is `g` of the pair at point `t`, and the key at place `r` of its block. -/
def headAt (g : Fin 2) : Fin 8 := ⟨2 * (t.val / 16) + g.val, by have := pair_lt t; omega⟩
def keyAt (r : Fin 1024) : Fin 16384 := ⟨1024 * (t.val % 16) + r.val, by omega⟩

/-- The key and the value of place `r` of the point's block, over the lanes of the pair. -/
def pairKey (r : Fin 1024) (l : Fin 128) : EReal := A (ix2 (keyAt t r) ⟨512 + 128 * (t.val / 16) + l.val, by have := pair_lt t; omega⟩)
def pairVal (r : Fin 1024) (l : Fin 128) : EReal := A (ix2 (keyAt t r) ⟨1024 + 128 * (t.val / 16) + l.val, by have := pair_lt t; omega⟩)

theorem pairKey_lane (g : Fin 2) (r : Fin 1024) (e : Fin 64) : pairKey t A r (lane g e) = hkey A (headAt t g) (keyAt t r) e := by
  refine congrArg A (congrArg (ix2 (keyAt t r)) (Fin.ext ?_))
  show 512 + 128 * (t.val / 16) + (64 * g.val + e.val) = 512 + 64 * (2 * (t.val / 16) + g.val) + e.val
  omega

theorem pairVal_lane (g : Fin 2) (r : Fin 1024) (e : Fin 64) : pairVal t A r (lane g e) = hval A (headAt t g) (keyAt t r) e := by
  refine congrArg A (congrArg (ix2 (keyAt t r)) (Fin.ext ?_))
  show 1024 + 128 * (t.val / 16) + (64 * g.val + e.val) = 1024 + 64 * (2 * (t.val / 16) + g.val) + e.val
  omega

theorem keyOf_at (g : Fin 2) (r : Fin 1024) (l : Fin 128) : keyOf (opsOf t A D G L E) g r l = cleared g (pairKey t A r) l := by
  unfold keyOf cleared
  refine if_congr Iff.rfl ?_ ?_
  · exact (k0_at _ r l).trans (if_congr Iff.rfl (read0_at t A r l) rfl)
  · exact (k1_at _ r l).trans (if_congr Iff.rfl rfl (read0_at t A r l))

theorem sclOf_at (g : Fin 2) (r : Fin 1024) (l : Fin 128) :
    sclOf (opsOf t A D G L E) g r l = cleared g (fun l => pairKey t A r l * eighth) l := by
  unfold sclOf cleared
  refine if_congr Iff.rfl ?_ ?_
  · exact (s0_at _ r l).trans (if_congr Iff.rfl (congrArg (· * eighth) (read0_at t A r l)) rfl)
  · exact (s1_at _ r l).trans (if_congr Iff.rfl rfl (congrArg (· * eighth) (read0_at t A r l)))

theorem valOf_at (g : Fin 2) (r : Fin 1024) (l : Fin 128) : valOf (opsOf t A D G L E) g r l = cleared g (pairVal t A r) l := by
  unfold valOf cleared
  refine if_congr Iff.rfl ?_ ?_
  · exact (v0_at _ r l).trans (if_congr Iff.rfl (read3_at t A r l) rfl)
  · exact (v1_at _ r l).trans (if_congr Iff.rfl rfl (read3_at t A r l))

theorem qryOf_at (q : Fin 16384) (g : Fin 2) (e : Fin 64) : qryOf (opsOf t A D G L E) q (lane g e) = hqry A (headAt t g) q e := by
  refine (read1_at t A q (lane g e)).trans (congrArg A (congrArg (ix2 q) (Fin.ext ?_)))
  show 128 * (t.val / 16) + (64 * g.val + e.val) = 64 * (2 * (t.val / 16) + g.val) + e.val
  omega

theorem douOf_at (q : Fin 16384) (g : Fin 2) (e : Fin 64) : douOf (opsOf t A D G L E) q (lane g e) = hdou D (headAt t g) q e := by
  refine (read2_at t D q (lane g e)).trans (congrArg D (congrArg (ix2 q) (Fin.ext ?_)))
  show 128 * (t.val / 16) + (64 * g.val + e.val) = 64 * (2 * (t.val / 16) + g.val) + e.val
  omega

theorem gateOf_at (g : Fin 2) (r : Fin 1024) : gateOf (opsOf t A D G L E) g r = hgate G (headAt t g) (keyAt t r) := by
  unfold gateOf hgate
  rcases two_cases g with rfl | rfl
  · rw [if_pos rfl]
    refine (f0_at _ _ r).trans ((read6_at t G r _).trans (congrArg G (congrArg (ix2 (keyAt t r)) (Fin.ext ?_))))
    show 2 * (grid0.coords t 0).val = 2 * (t.val / 16) + 0
    rw [coord_zero]; rfl
  · rw [if_neg (by decide)]
    refine (f1_at _ _ r).trans ((read6_at t G r _).trans (congrArg G (congrArg (ix2 (keyAt t r)) (Fin.ext ?_))))
    show 2 * (grid0.coords t 0).val + 1 = 2 * (t.val / 16) + 1
    rw [coord_zero]

theorem lseOf_at (g : Fin 2) (q : Fin 16384) : lseOf (opsOf t A D G L E) g q = hrow L (headAt t g) q := read4_at t L g _ _
theorem dltOf_at (g : Fin 2) (q : Fin 16384) : dltOf (opsOf t A D G L E) g q = hrow E (headAt t g) q := read5_at t E g _ _

/-- The probabilities and the score gradients of a point are those of its heads at its keys. -/
theorem prob_at (g : Fin 2) (r : Fin 1024) (q : Fin 16384) :
    prob (opsOf t A D G L E) (grid0.coords t 1).val g r q = hprob A G L (headAt t g) (keyAt t r) q := by
  unfold prob hprob
  rw [gateOf_at, lseOf_at, coord_one]
  have e : (∑ l : Fin 128, keyOf (opsOf t A D G L E) g r l * (qryOf (opsOf t A D G L E) q l * eighth))
      = ∑ c : Fin 64, hkey A (headAt t g) (keyAt t r) c * (hqry A (headAt t g) q c * eighth) :=
    (Finset.sum_congr rfl fun l _ => congrArg (· * _) (keyOf_at t A D G L E g r l)).trans
      ((sum_cleared g (pairKey t A r) _).trans (Finset.sum_congr rfl fun c _ =>
        congrArg₂ (· * ·) (pairKey_lane t A g r c) (congrArg (· * eighth) (qryOf_at t A D G L E q g c))))
  rw [e]
  rfl

theorem dscr_at (g : Fin 2) (r : Fin 1024) (q : Fin 16384) :
    dscr (opsOf t A D G L E) (grid0.coords t 1).val g r q = hdscr A D G L E (headAt t g) (keyAt t r) q := by
  unfold dscr hdscr
  rw [prob_at, dltOf_at]
  have e : (∑ l : Fin 128, valOf (opsOf t A D G L E) g r l * douOf (opsOf t A D G L E) q l)
      = ∑ c : Fin 64, hval A (headAt t g) (keyAt t r) c * hdou D (headAt t g) q c :=
    (Finset.sum_congr rfl fun l _ => congrArg (· * _) (valOf_at t A D G L E g r l)).trans
      ((sum_cleared g (pairVal t A r) _).trans (Finset.sum_congr rfl fun c _ =>
        congrArg₂ (· * ·) (pairVal_lane t A g r c) (douOf_at t A D G L E q g c)))
  rw [e]

end AtPoint

end Cert.Proof.Fox

end
-- ==== Proof.Arrays.lean ====
/- The arrays that the kernel leaves: the gradients of the queries, keys, values and gates as sums over the whole sequence of
   the score gradients of a head. -/
module

public import proofs.«01_k».proof.Proof.Blocks

@[expose] public section

set_option maxRecDepth 16384

noncomputable section

namespace Cert.Proof.Fox

open Cert.KernelIdeal Cert.KernelIdeal.Gen
open Idealize.ShloMosaic Idealize.ShloMosaic.TcCoe Idealize.SL.Sem
open Idealize.ShloMosaic.Pipeline (Dat)

/-! ## One grid point over the whole arrays -/

/-- A sum over the keys before the end of block `j` is the sum before it and the block's. -/
theorem sum_keys (f : Fin 16384 → EReal) (j : Fin 16) :
    (∑ s : Fin 16384, if s.val < 1024 * (j.val + 1) then f s else 0)
      = (∑ s : Fin 16384, if s.val < 1024 * j.val then f s else 0) + ∑ r : Fin 1024, f ⟨1024 * j.val + r.val, by omega⟩ := by
  have h (g : Fin 16384 → EReal) : ∑ t, g t = ∑ a : Fin 16, ∑ x : Fin 1024, g ⟨1024 * a.val + x.val, by omega⟩ := by
    rw [Fin.sum_univ_tiles 16 1024 rfl g]
    refine Finset.sum_congr rfl fun a _ => Finset.sum_congr rfl fun x _ => congrArg g (Fin.ext ?_)
    show a.val * 1024 + x.val = 1024 * a.val + x.val
    omega
  have e (t : Fin 16384) : (if t.val < 1024 * (j.val + 1) then f t else 0)
      = (if t.val < 1024 * j.val then f t else 0) + (if t.val / 1024 = j.val then f t else 0) := by
    by_cases h1 : t.val < 1024 * j.val
    · rw [if_pos h1, if_pos (by omega), if_neg (by omega), add_zero]
    · by_cases h2 : t.val < 1024 * (j.val + 1)
      · rw [if_neg h1, if_pos h2, if_pos (by omega), zero_add]
      · rw [if_neg h1, if_neg h2, if_neg (by omega), zero_add]
  rw [Finset.sum_congr rfl fun t _ => e t, Finset.sum_add_distrib]
  refine congrArg (_ + ·) ?_
  rw [h fun t => if t.val / 1024 = j.val then f t else 0, Finset.sum_eq_single j]
  · exact Finset.sum_congr rfl fun x _ => if_pos (by show (1024 * j.val + x.val) / 1024 = j.val; omega)
  · intro a _ ha
    refine Finset.sum_eq_zero fun x _ => if_neg ?_
    show ¬ (1024 * a.val + x.val) / 1024 = j.val
    have : a.val ≠ j.val := fun h => ha (Fin.ext h)
    omega
  · exact fun h => absurd (Finset.mem_univ j) h

section AtPoint

variable (t : Fin cfg0.N) (A : Vec Ideal S16384x1536 .bf16) (D : Vec Ideal S16384x512 .bf16) (G : Vec Ideal S16384x128 .f32) (L E : Vec Ideal S8x32x1x512 .f32)
variable (dq : Vec Ideal S16384x128 .f32) (dfq : Vec Ideal S2x32x1x512 .f32)

/-- The state that point `t` leaves, of the arrays the launch reads. -/
abbrev pointOf : St Ideal :=
  point (grid0.coords t) (((cfg0.win 0).blk t).view.read (Elt Ideal) A) (((cfg0.win 3).blk t).view.read (Elt Ideal) A)
    (((cfg0.win 6).blk t).view.read (Elt Ideal) G) (((cfg0.win 1).blk t).view.read (Elt Ideal) A) (((cfg0.win 2).blk t).view.read (Elt Ideal) D)
    (((cfg0.win 4).blk t).view.read (Elt Ideal) L) (((cfg0.win 5).blk t).view.read (Elt Ideal) E) dq dfq

/-- The terms of each gradient's sum. -/
def dqTerm (h : Fin 8) (q : Fin 16384) (e : Fin 64) (s : Fin 16384) : EReal := hdscr A D G L E h s q * (hkey A h s e * eighth)
def dkTerm (h : Fin 8) (s : Fin 16384) (e : Fin 64) (q : Fin 16384) : EReal := hdscr A D G L E h s q * (hqry A h q e * eighth)
def dvTerm (h : Fin 8) (s : Fin 16384) (e : Fin 64) (q : Fin 16384) : EReal := hprob A G L h s q * hdou D h q e

theorem pointOf_dq (q : Fin 16384) (g : Fin 2) (e : Fin 64) : (pointOf t A D G L E dq dfq).dqAt q (lane g e)
    = (if t.val % 16 = 0 then 0 else (show EReal from dq (ix2 q (lane g e)))) + ∑ r : Fin 1024, dqTerm A D G L E (headAt t g) q e (keyAt t r) := by
  refine (point_dq _ _ _ _ _ _ _ _ _ _ q (lane g e)).trans ?_
  refine congrArg₂ (· + ·) (if_congr (by rw [coord_one]) rfl rfl) ?_
  have term (g' : Fin 2) : (∑ r : Fin 1024, dscr (opsOf t A D G L E) (grid0.coords t 1).val g' r q * sclOf (opsOf t A D G L E) g' r (lane g e))
      = ∑ r : Fin 1024, if g' = g then dqTerm A D G L E (headAt t g) q e (keyAt t r) else 0 := by
    refine Finset.sum_congr rfl fun r _ => ?_
    rw [dscr_at, sclOf_at, cleared_lane]
    by_cases h : g' = g
    · subst h; rw [if_pos rfl, if_pos rfl, pairKey_lane]; rfl
    · rw [if_neg h, if_neg h, mul_zero]
  refine (congrArg₂ (· + ·) (term 0) (term 1)).trans ?_
  rcases two_cases g with rfl | rfl
  · simp
  · simp

theorem pointOf_dfq (g : Fin 2) (n : Fin 32) (x : Fin 512) : (pointOf t A D G L E dq dfq).dfqAt g n x
    = (if t.val % 16 = 0 then 0 else (show EReal from dfq (ix4 g n 0 x)))
      + ∑ r : Fin 1024, hdscr A D G L E (headAt t g) (keyAt t r) (place n x) := by
  refine (point_dfq _ _ _ _ _ _ _ _ _ _ g n x).trans ?_
  exact congrArg₂ (· + ·) (if_congr (by rw [coord_one]) rfl rfl) (Finset.sum_congr rfl fun r _ => dscr_at t A D G L E g r _)

theorem pointOf_dk (g : Fin 2) (r : Fin 1024) (e : Fin 64) : (pointOf t A D G L E dq dfq).dkAt g r (lane g e)
    = ∑ q : Fin 16384, dkTerm A D G L E (headAt t g) (keyAt t r) e q := by
  refine (point_dk _ _ _ _ _ _ _ _ _ _ g r (lane g e)).trans ?_
  exact Finset.sum_congr rfl fun q _ => congrArg₂ (· * ·) (dscr_at t A D G L E g r q) (congrArg (· * eighth) (qryOf_at t A D G L E q g e))

theorem pointOf_dv (g : Fin 2) (r : Fin 1024) (e : Fin 64) : (pointOf t A D G L E dq dfq).dvAt g r (lane g e)
    = ∑ q : Fin 16384, dvTerm A D G L (headAt t g) (keyAt t r) e q := by
  refine (point_dv _ _ _ _ _ _ _ _ _ _ g r (lane g e)).trans ?_
  exact Finset.sum_congr rfl fun q _ => congrArg₂ (· * ·) (prob_at t A D G L E g r q) (douOf_at t A D G L E q g e)

theorem pointOf_df (g : Fin 2) (r : Fin 1024) (l : Fin 128) : (pointOf t A D G L E dq dfq).dfAt g r l
    = ∑ q : Fin 16384, hdscr A D G L E (headAt t g) (keyAt t r) q :=
  (point_df _ _ _ _ _ _ _ _ _ _ g r l).trans (Finset.sum_congr rfl fun q _ => dscr_at t A D G L E g r q)

end AtPoint

/-! ## The states of the run -/

section Run

variable (m : (ℓ : Loc nD τ sig) → Buf (Elt Ideal) ℓ) (c : Dev nD)

/-- The arrays that the launch reads. -/
abbrev qkvAt : Vec Ideal S16384x1536 .bf16 := V m c main_arg0
abbrev douAt : Vec Ideal S16384x512 .bf16 := V m c main_arg2
abbrev gateAt : Vec Ideal S16384x128 .f32 := V m c main_v72
abbrev lseAt : Vec Ideal S8x32x1x512 .f32 := V m c main_v73
abbrev dltAt : Vec Ideal S8x32x1x512 .f32 := V m c main_v74

theorem pointOn_eq (t : Fin cfg0.N) (dq : Vec Ideal S16384x128 .f32) (dfq : Vec Ideal S2x32x1x512 .f32) :
    pointOn m c t dq dfq = pointOf t (qkvAt m c) (douAt m c) (gateAt m c) (lseAt m c) (dltAt m c) dq dfq := by
  unfold pointOn iblk
  rfl

/-- The states of a run that reads the arrays `A`, `D`, `G`, `L`, `E`. -/
def Runs (A : Vec Ideal S16384x1536 .bf16) (D : Vec Ideal S16384x512 .bf16) (G : Vec Ideal S16384x128 .f32) (L E : Vec Ideal S8x32x1x512 .f32)
    (s : (n : ℕ) → n < cfg0.N → St Ideal) : Prop :=
  (∀ h, s 0 h = pointOf ⟨0, h⟩ A D G L E (k0_pay47 (F := Ideal)) (k0_pay48 (F := Ideal)))
    ∧ ∀ n h, s (n + 1) h = pointOf ⟨n + 1, h⟩ A D G L E (s n (Nat.lt_of_succ_lt h)).dq (s n (Nat.lt_of_succ_lt h)).dfq

theorem runs_stateAt : Runs (qkvAt m c) (douAt m c) (gateAt m c) (lseAt m c) (dltAt m c) (stateAt m c) :=
  ⟨fun h => pointOn_eq m c _ _ _, fun n h => pointOn_eq m c _ _ _⟩

end Run

section Runs

variable {A : Vec Ideal S16384x1536 .bf16} {D : Vec Ideal S16384x512 .bf16} {G : Vec Ideal S16384x128 .f32} {L E : Vec Ideal S8x32x1x512 .f32}
variable {s : (n : ℕ) → n < cfg0.N → St Ideal} (hs : Runs A D G L E s)
include hs

/-- Every state is what its point makes of some running sums. -/
theorem runs_point (n : ℕ) (h : n < cfg0.N) : ∃ dq dfq, s n h = pointOf ⟨n, h⟩ A D G L E dq dfq := by
  cases n with
  | zero => exact ⟨_, _, hs.1 h⟩
  | succ n => exact ⟨_, _, hs.2 n h⟩

/-- After point `n` the running sum of the queries' gradients has the keys of the blocks so far. -/
theorem runs_dq (n : ℕ) (h : n < cfg0.N) (q : Fin 16384) (g : Fin 2) (e : Fin 64) : (s n h).dqAt q (lane g e)
    = ∑ k : Fin 16384, if k.val < 1024 * (n % 16 + 1) then dqTerm A D G L E (headAt ⟨n, h⟩ g) q e k else 0 := by
  induction n with
  | zero =>
    rw [hs.1 h, pointOf_dq, if_pos (by rfl), zero_add]
    refine Eq.trans ?_ (sum_keys _ ⟨0, by omega⟩).symm
    rw [Finset.sum_eq_zero (fun k _ => if_neg (by show ¬ k.val < 1024 * 0; omega)), zero_add]
    rfl
  | succ n ih =>
    rw [hs.2 n h, pointOf_dq]
    refine Eq.trans ?_ (sum_keys (dqTerm A D G L E (headAt ⟨n + 1, h⟩ g) q e) ⟨(n + 1) % 16, by omega⟩).symm
    refine congrArg₂ (· + ·) ?_ rfl
    by_cases h0 : (n + 1) % 16 = 0
    · rw [if_pos h0]
      exact (Finset.sum_eq_zero (fun k _ => if_neg (by show ¬ k.val < 1024 * ((n + 1) % 16); omega))).symm
    · rw [if_neg h0]
      refine (ih (Nat.lt_of_succ_lt h)).trans ?_
      have eh : headAt ⟨n, Nat.lt_of_succ_lt h⟩ g = headAt ⟨n + 1, h⟩ g := Fin.ext (by show 2 * (n / 16) + g.val = 2 * ((n + 1) / 16) + g.val; omega)
      rw [eh, show n % 16 + 1 = (n + 1) % 16 by omega]

/-- After point `n` the running sum of the query gates' gradients has the keys of the blocks so far. -/
theorem runs_dfq (n : ℕ) (h : n < cfg0.N) (g : Fin 2) (b : Fin 32) (x : Fin 512) : (s n h).dfqAt g b x
    = ∑ k : Fin 16384, if k.val < 1024 * (n % 16 + 1) then hdscr A D G L E (headAt ⟨n, h⟩ g) k (place b x) else 0 := by
  induction n with
  | zero =>
    rw [hs.1 h, pointOf_dfq, if_pos (by rfl), zero_add]
    refine Eq.trans ?_ (sum_keys _ ⟨0, by omega⟩).symm
    rw [Finset.sum_eq_zero (fun k _ => if_neg (by show ¬ k.val < 1024 * 0; omega)), zero_add]
    rfl
  | succ n ih =>
    rw [hs.2 n h, pointOf_dfq]
    refine Eq.trans ?_ (sum_keys (fun k => hdscr A D G L E (headAt ⟨n + 1, h⟩ g) k (place b x)) ⟨(n + 1) % 16, by omega⟩).symm
    refine congrArg₂ (· + ·) ?_ rfl
    by_cases h0 : (n + 1) % 16 = 0
    · rw [if_pos h0]
      exact (Finset.sum_eq_zero (fun k _ => if_neg (by show ¬ k.val < 1024 * ((n + 1) % 16); omega))).symm
    · rw [if_neg h0]
      refine (ih (Nat.lt_of_succ_lt h)).trans ?_
      have eh : headAt ⟨n, Nat.lt_of_succ_lt h⟩ g = headAt ⟨n + 1, h⟩ g := Fin.ext (by show 2 * (n / 16) + g.val = 2 * ((n + 1) / 16) + g.val; omega)
      rw [eh, show n % 16 + 1 = (n + 1) % 16 by omega]

end Runs

/-! ## The arrays at the end -/

/-- The head and the lane of a column. -/
def headOf (x : Fin 512) : Fin 8 := ⟨x.val / 64, by omega⟩
def laneOf (x : Fin 512) : Fin 64 := ⟨x.val % 64, by omega⟩

section Final

variable (A : Vec Ideal S16384x1536 .bf16) (D : Vec Ideal S16384x512 .bf16) (G : Vec Ideal S16384x128 .f32) (L E : Vec Ideal S8x32x1x512 .f32)

def finalDq : FVec Ideal S16384x512 .f32 := fun i => ∑ s, dqTerm A D G L E (headOf (i 1)) (i 0) (laneOf (i 1)) s
def finalDk : FVec Ideal S16384x512 .bf16 := fun i => ∑ q, dkTerm A D G L E (headOf (i 1)) (i 0) (laneOf (i 1)) q
def finalDv : FVec Ideal S16384x512 .bf16 := fun i => ∑ q, dvTerm A D G L (headOf (i 1)) (i 0) (laneOf (i 1)) q
def keyGate (p : Fin 4) (s : Fin 16384) (l : Fin 128) : EReal :=
  if l.val = 0 then 0 - ∑ q, hdscr A D G L E ⟨2 * p.val, by omega⟩ s q else if l.val = 1 then 0 - ∑ q, hdscr A D G L E ⟨2 * p.val + 1, by omega⟩ s q else 0
def finalDf : FVec Ideal S4x16384x128 .f32 := fun i => keyGate A D G L E (i 0) (i 1) (i 2)
def finalDfq : FVec Ideal S8x32x1x512 .f32 := fun i => ∑ s, hdscr A D G L E (i 0) s (place (i 1) (i 3))

end Final

/-! ## Where a window's block lies in its array -/

theorem emb7_at (t : Fin cfg0.N) (q : Fin 16384) (l : Fin 128) :
    ((cfg0.win 7).blk t).view.emb (ix2 q l) = ix2 q ⟨128 * (t.val / 16) + l.val, by have := pair_lt t; omega⟩ := by
  refine funext fun a => Fin.ext ?_
  have e := (idx_out t).1
  fin_cases a
  · show win0_7.index t 0 * 16384 + 1 * q.val = q.val
    rw [e]; show 0 * 16384 + 1 * q.val = _; omega
  · show win0_7.index t 1 * 128 + 1 * l.val = 128 * (t.val / 16) + l.val
    rw [e]; show (t.val / 16) * 128 + 1 * l.val = _; omega

theorem emb8_at (t : Fin cfg0.N) (r : Fin 1024) (l : Fin 128) :
    ((cfg0.win 8).blk t).view.emb (ix2 r l) = ix2 (keyAt t r) ⟨128 * (t.val / 16) + l.val, by have := pair_lt t; omega⟩ := by
  refine funext fun a => Fin.ext ?_
  have e := (idx_out t).2.1
  fin_cases a
  · show win0_8.index t 0 * 1024 + 1 * r.val = 1024 * (t.val % 16) + r.val
    rw [e]; show (t.val % 16) * 1024 + 1 * r.val = _; omega
  · show win0_8.index t 1 * 128 + 1 * l.val = 128 * (t.val / 16) + l.val
    rw [e]; show (t.val / 16) * 128 + 1 * l.val = _; omega

theorem emb9_at (t : Fin cfg0.N) (r : Fin 1024) (l : Fin 128) :
    ((cfg0.win 9).blk t).view.emb (ix2 r l) = ix2 (keyAt t r) ⟨128 * (t.val / 16) + l.val, by have := pair_lt t; omega⟩ := by
  refine funext fun a => Fin.ext ?_
  have e := (idx_out t).2.2.1
  fin_cases a
  · show win0_9.index t 0 * 1024 + 1 * r.val = 1024 * (t.val % 16) + r.val
    rw [e]; show (t.val % 16) * 1024 + 1 * r.val = _; omega
  · show win0_9.index t 1 * 128 + 1 * l.val = 128 * (t.val / 16) + l.val
    rw [e]; show (t.val / 16) * 128 + 1 * l.val = _; omega

theorem emb10_at (t : Fin cfg0.N) (r : Fin 1024) (l : Fin 128) :
    ((cfg0.win 10).blk t).view.emb (ix3 0 r l) = ix3 ⟨t.val / 16, pair_lt t⟩ (keyAt t r) l := by
  refine funext fun a => Fin.ext ?_
  have e := (idx_out t).2.2.2.1
  fin_cases a
  · show win0_10.index t 0 * 1 + 1 * 0 = t.val / 16
    rw [e]; show (t.val / 16) * 1 + 1 * 0 = _; omega
  · show win0_10.index t 1 * 1024 + 1 * r.val = 1024 * (t.val % 16) + r.val
    rw [e]; show (t.val % 16) * 1024 + 1 * r.val = _; omega
  · show win0_10.index t 2 * 128 + 1 * l.val = l.val
    rw [e]; show 0 * 128 + 1 * l.val = _; omega

theorem emb11_at (t : Fin cfg0.N) (g : Fin 2) (n : Fin 32) (x : Fin 512) :
    ((cfg0.win 11).blk t).view.emb (ix4 g n 0 x) = ix4 (headAt t g) n 0 x := by
  refine funext fun a => Fin.ext ?_
  have e := (idx_out t).2.2.2.2
  fin_cases a
  · show win0_11.index t 0 * 2 + 1 * g.val = 2 * (t.val / 16) + g.val
    rw [e]; show (t.val / 16) * 2 + 1 * g.val = _; omega
  · show win0_11.index t 1 * 32 + 1 * n.val = n.val
    rw [e]; show 0 * 32 + 1 * n.val = _; omega
  · show win0_11.index t 2 * 1 + 1 * 0 = 0
    rw [e]; show 0 * 1 + 1 * 0 = _; omega
  · show win0_11.index t 3 * 512 + 1 * x.val = x.val
    rw [e]; show 0 * 512 + 1 * x.val = _; omega

theorem lane_cases (l : Fin 128) : ∃ g e, l = lane g e := by
  by_cases h : l.val < 64
  · exact ⟨0, ⟨l.val, h⟩, Fin.ext (by show l.val = 64 * 0 + l.val; omega)⟩
  · exact ⟨1, ⟨l.val - 64, by omega⟩, Fin.ext (by show l.val = 64 * 1 + (l.val - 64); omega)⟩

/-- The head and the lane of a pair's column. -/
theorem head_col (t : Fin cfg0.N) (g : Fin 2) (e : Fin 64) :
    headOf ⟨128 * (t.val / 16) + (lane g e).val, by have := pair_lt t; omega⟩ = headAt t g :=
  Fin.ext (by show (128 * (t.val / 16) + (64 * g.val + e.val)) / 64 = 2 * (t.val / 16) + g.val; omega)
theorem lane_col (t : Fin cfg0.N) (g : Fin 2) (e : Fin 64) :
    laneOf ⟨128 * (t.val / 16) + (lane g e).val, by have := pair_lt t; omega⟩ = e :=
  Fin.ext (by show (128 * (t.val / 16) + (64 * g.val + e.val)) % 64 = e.val; omega)

theorem outDk_lane (s : St Ideal) (r : Fin 1024) (g : Fin 2) (e : Fin 64) : (outDk s : FVec Ideal S1024x128 .bf16) (ix2 r (lane g e)) = s.dkAt g r (lane g e) := by
  rw [outDk_at]
  rcases two_cases g with rfl | rfl
  · rw [if_pos (lane_zero e)]
  · rw [if_neg (lane_one e)]

theorem outDv_lane (s : St Ideal) (r : Fin 1024) (g : Fin 2) (e : Fin 64) : (outDv s : FVec Ideal S1024x128 .bf16) (ix2 r (lane g e)) = s.dvAt g r (lane g e) := by
  rw [outDv_at]
  rcases two_cases g with rfl | rfl
  · rw [if_pos (lane_zero e)]
  · rw [if_neg (lane_one e)]

section Blocks

variable {A : Vec Ideal S16384x1536 .bf16} {D : Vec Ideal S16384x512 .bf16} {G : Vec Ideal S16384x128 .f32} {L E : Vec Ideal S8x32x1x512 .f32}
variable {s : (n : ℕ) → n < cfg0.N → St Ideal} (hs : Runs A D G L E s)
include hs

theorem block_dq (t : Fin cfg0.N) (h : t.val % 16 = 15) (q : Fin 16384) (l : Fin 128) :
    ((s t.val t.isLt).dq : FVec Ideal S16384x128 .f32) (ix2 q l)
      = finalDq A D G L E (ix2 q ⟨128 * (t.val / 16) + l.val, by have := pair_lt t; omega⟩) := by
  obtain ⟨g, e, rfl⟩ := lane_cases l
  refine (runs_dq hs t.val t.isLt q g e).trans ?_
  unfold finalDq
  show _ = ∑ k, dqTerm A D G L E (headOf ⟨128 * (t.val / 16) + (lane g e).val, _⟩) q (laneOf ⟨128 * (t.val / 16) + (lane g e).val, _⟩) k
  rw [head_col, lane_col, h]
  exact Finset.sum_congr rfl fun k _ => if_pos (by omega)

theorem block_dfq (t : Fin cfg0.N) (h : t.val % 16 = 15) (g : Fin 2) (n : Fin 32) (x : Fin 512) :
    ((s t.val t.isLt).dfq : FVec Ideal S2x32x1x512 .f32) (ix4 g n 0 x) = finalDfq A D G L E (ix4 (headAt t g) n 0 x) := by
  refine (runs_dfq hs t.val t.isLt g n x).trans ?_
  rw [h]
  exact Finset.sum_congr rfl fun k _ => if_pos (by omega)

theorem block_dk (t : Fin cfg0.N) (r : Fin 1024) (l : Fin 128) :
    (outDk (s t.val t.isLt) : FVec Ideal S1024x128 .bf16) (ix2 r l)
      = finalDk A D G L E (ix2 (keyAt t r) ⟨128 * (t.val / 16) + l.val, by have := pair_lt t; omega⟩) := by
  obtain ⟨g, e, rfl⟩ := lane_cases l
  obtain ⟨dq, dfq, hp⟩ := runs_point hs t.val t.isLt
  refine (outDk_lane _ r g e).trans ?_
  rw [hp]
  refine (pointOf_dk t A D G L E dq dfq g r e).trans ?_
  show _ = ∑ k, dkTerm A D G L E (headOf ⟨128 * (t.val / 16) + (lane g e).val, _⟩) (keyAt t r) (laneOf ⟨128 * (t.val / 16) + (lane g e).val, _⟩) k
  rw [head_col, lane_col]

theorem block_dv (t : Fin cfg0.N) (r : Fin 1024) (l : Fin 128) :
    (outDv (s t.val t.isLt) : FVec Ideal S1024x128 .bf16) (ix2 r l)
      = finalDv A D G L (ix2 (keyAt t r) ⟨128 * (t.val / 16) + l.val, by have := pair_lt t; omega⟩) := by
  obtain ⟨g, e, rfl⟩ := lane_cases l
  obtain ⟨dq, dfq, hp⟩ := runs_point hs t.val t.isLt
  refine (outDv_lane _ r g e).trans ?_
  rw [hp]
  refine (pointOf_dv t A D G L E dq dfq g r e).trans ?_
  show _ = ∑ k, dvTerm A D G L (headOf ⟨128 * (t.val / 16) + (lane g e).val, _⟩) (keyAt t r) (laneOf ⟨128 * (t.val / 16) + (lane g e).val, _⟩) k
  rw [head_col, lane_col]

theorem block_df (t : Fin cfg0.N) (r : Fin 1024) (l : Fin 128) :
    (outDf (s t.val t.isLt) : FVec Ideal S1x1024x128 .f32) (ix3 0 r l) = finalDf A D G L E (ix3 ⟨t.val / 16, pair_lt t⟩ (keyAt t r) l) := by
  obtain ⟨dq, dfq, hp⟩ := runs_point hs t.val t.isLt
  refine (outDf_at _ r l).trans ?_
  rw [hp]
  show _ = keyGate A D G L E ⟨t.val / 16, pair_lt t⟩ (keyAt t r) l
  unfold keyGate
  exact if_congr Iff.rfl (congrArg (0 - ·) (pointOf_df t A D G L E dq dfq 0 r 0))
    (if_congr Iff.rfl (congrArg (0 - ·) (pointOf_df t A D G L E dq dfq 1 r 0)) rfl)

end Blocks

section Dats

variable (m : (ℓ : Loc nD τ sig) → Buf (Elt Ideal) ℓ) (c : Dev nD)

/-- The queries' gradients after the run. -/
theorem arr_dq : (dats m 0 c).arrAt 7 cfg0.N = finalDq (qkvAt m c) (douAt m c) (gateAt m c) (lseAt m c) (dltAt m c) := by
  have hs := runs_stateAt m c
  revert hs
  generalize qkvAt m c = A, douAt m c = D, gateAt m c = G, lseAt m c = L, dltAt m c = E
  intro hs
  refine (dats m 0 c).arrAt_eq_of_covers 7 _ (by decide +kernel) fun t hf y => ?_
  blk_simp
  rw [after_7]
  obtain ⟨q, l, rfl⟩ : ∃ (q : Fin 16384) (l : Fin 128), y = ix2 q l := ⟨y 0, y 1, eq_ix2 y⟩
  exact (block_dq hs t ((flush0_7 t).mp hf) q l).trans (congrArg (finalDq A D G L E) (emb7_at t q l)).symm

/-- The keys' gradients after the run. -/
theorem arr_dk : (dats m 0 c).arrAt 8 cfg0.N = finalDk (qkvAt m c) (douAt m c) (gateAt m c) (lseAt m c) (dltAt m c) := by
  have hs := runs_stateAt m c
  revert hs
  generalize qkvAt m c = A, douAt m c = D, gateAt m c = G, lseAt m c = L, dltAt m c = E
  intro hs
  refine (dats m 0 c).arrAt_eq_of_covers 8 _ (by decide +kernel) fun t hf y => ?_
  blk_simp
  rw [after_8]
  obtain ⟨r, l, rfl⟩ : ∃ (r : Fin 1024) (l : Fin 128), y = ix2 r l := ⟨y 0, y 1, eq_ix2 y⟩
  exact (block_dk hs t r l).trans (congrArg (finalDk A D G L E) (emb8_at t r l)).symm

/-- The values' gradients after the run. -/
theorem arr_dv : (dats m 0 c).arrAt 9 cfg0.N = finalDv (qkvAt m c) (douAt m c) (gateAt m c) (lseAt m c) := by
  have hs := runs_stateAt m c
  revert hs
  generalize qkvAt m c = A, douAt m c = D, gateAt m c = G, lseAt m c = L, dltAt m c = E
  intro hs
  refine (dats m 0 c).arrAt_eq_of_covers 9 _ (by decide +kernel) fun t hf y => ?_
  blk_simp
  rw [after_9]
  obtain ⟨r, l, rfl⟩ : ∃ (r : Fin 1024) (l : Fin 128), y = ix2 r l := ⟨y 0, y 1, eq_ix2 y⟩
  exact (block_dv hs t r l).trans (congrArg (finalDv A D G L) (emb9_at t r l)).symm

/-- The gradients of the gates at the keys after the run. -/
theorem arr_df : (dats m 0 c).arrAt 10 cfg0.N = finalDf (qkvAt m c) (douAt m c) (gateAt m c) (lseAt m c) (dltAt m c) := by
  have hs := runs_stateAt m c
  revert hs
  generalize qkvAt m c = A, douAt m c = D, gateAt m c = G, lseAt m c = L, dltAt m c = E
  intro hs
  refine (dats m 0 c).arrAt_eq_of_covers 10 _ (by decide +kernel) fun t hf y => ?_
  blk_simp
  rw [after_10]
  obtain ⟨z, r, l, rfl⟩ : ∃ (z : Fin 1) (r : Fin 1024) (l : Fin 128), y = ix3 z r l := ⟨y 0, y 1, y 2, eq_ix3 y⟩
  obtain rfl : z = 0 := Subsingleton.elim _ _
  exact (block_df hs t r l).trans (congrArg (finalDf A D G L E) (emb10_at t r l)).symm

/-- The gradients of the gates at the queries after the run. -/
theorem arr_dfq : (dats m 0 c).arrAt 11 cfg0.N = finalDfq (qkvAt m c) (douAt m c) (gateAt m c) (lseAt m c) (dltAt m c) := by
  have hs := runs_stateAt m c
  revert hs
  generalize qkvAt m c = A, douAt m c = D, gateAt m c = G, lseAt m c = L, dltAt m c = E
  intro hs
  refine (dats m 0 c).arrAt_eq_of_covers 11 _ (by decide +kernel) fun t hf y => ?_
  blk_simp
  rw [after_11]
  obtain ⟨g, n, z, x, rfl⟩ : ∃ (g : Fin 2) (n : Fin 32) (z : Fin 1) (x : Fin 512), y = ix4 g n z x := ⟨y 0, y 1, y 2, y 3, eq_ix4 y⟩
  obtain rfl : z = 0 := Subsingleton.elim _ _
  exact (block_dfq hs t ((flush0_11 t).mp hf) g n x).trans (congrArg (finalDfq A D G L E) (emb11_at t g n x)).symm

end Dats

end Cert.Proof.Fox

end
-- ==== Proof.HostRead.lean ====
/- The host's stages at an index. -/
module

public import proofs.«01_k».proof.Proof.Host
public import proofs.«01_k».proof.Proof.Arrays
public import Idealize.ShloMosaic.Lib.WordCmp

@[expose] public section

set_option maxRecDepth 16384

noncomputable section

namespace Cert.Proof.Fox

open Cert.KernelIdeal Cert.KernelIdeal.Gen
open Idealize.ShloMosaic Idealize.ShloMosaic.TcCoe Idealize.SL.Sem

/-- One eighth, and minus infinity, as the host's constants have them. -/
abbrev hostEighth : EReal := Ideal.ofBits .f32 0x3E000000#32
abbrev hostLeast : EReal := Ideal.ofBits .f32 0xFF800000#32

theorem hostQ_at (x : FVec Ideal S16384x1536 .bf16) (t : Fin 16384) (h : Fin 8) (e : Fin 64) :
    hostQ x (ix3 t h e) = x (ix2 t ⟨64 * h.val + e.val, by omega⟩) := by
  pointwise [hostQ]
  exact congrArg x (congrArg (ix2 t) (Fin.ext (show h.val * 64 + e.val = 64 * h.val + e.val by omega)))

theorem hostK_at (x : FVec Ideal S16384x1536 .bf16) (t : Fin 16384) (h : Fin 8) (e : Fin 64) :
    hostK x (ix3 t h e) = x (ix2 t ⟨512 + 64 * h.val + e.val, by omega⟩) := by
  pointwise [hostK]
  exact congrArg x (congrArg (ix2 t) (Fin.ext (show 512 + (h.val * 64 + e.val) = 512 + 64 * h.val + e.val by omega)))

theorem hostV_at (x : FVec Ideal S16384x1536 .bf16) (t : Fin 16384) (h : Fin 8) (e : Fin 64) :
    hostV x (ix3 t h e) = x (ix2 t ⟨1024 + 64 * h.val + e.val, by omega⟩) := by
  pointwise [hostV]
  exact congrArg x (congrArg (ix2 t) (Fin.ext (show 1024 + (h.val * 64 + e.val) = 1024 + 64 * h.val + e.val by omega)))

theorem hostCausal_at (h : Fin 8) (t s : Fin 16384) : hostCausal (ix3 h t s) = if s.val ≤ t.val then 1#1 else 0#1 := by
  pointwise [hostCausal, hostOrder]
  have hs : (BitVec.ofNat 32 s.val).toInt = s.val := by rw [BitVec.toInt_eq_toNat_cond, BitVec.toNat_ofNat, Nat.mod_eq_of_lt (by omega), if_pos (by omega)]
  have ht : (BitVec.ofNat 32 t.val).toInt = t.val := by rw [BitVec.toInt_eq_toNat_cond, BitVec.toNat_ofNat, Nat.mod_eq_of_lt (by omega), if_pos (by omega)]
  show BitVec.ofBool (decide ((BitVec.ofNat 32 s.val).toInt ≤ (BitVec.ofNat 32 t.val).toInt)) = _
  rw [hs, ht]
  by_cases hc : s.val ≤ t.val
  · simp [hc]
  · simp [hc]

theorem hostScores_at (q k : FVec Ideal S16384x8x64 .f32) (fq fk : FVec Ideal S16384x8 .f32) (h : Fin 8) (t s : Fin 16384) :
    hostScores q k fq fk (ix3 h t s)
      = (∑ e : Fin 64, (show EReal from q (ix3 t h e)) * k (ix3 s h e)) * hostEighth + fq (ix2 t h) - fk (ix2 s h) := by
  pointwise [hostScores]

theorem hostMasked_at (x : FVec Ideal S8x16384x16384 .f32) (h : Fin 8) (t s : Fin 16384) :
    hostMasked x (ix3 h t s) = if s.val ≤ t.val then x (ix3 h t s) else hostLeast := by
  pointwise [hostMasked]
  rw [hostCausal_at]
  by_cases hc : s.val ≤ t.val
  · rw [if_pos hc, if_pos hc]; rfl
  · rw [if_neg hc, if_neg hc]; rfl

theorem hostMax_at (l : FVec Ideal S8x16384x16384 .f32) (h : Fin 8) (t : Fin 16384) (f : Fin 16384 → EReal) (hf : ∀ s, l (ix3 h t s) = f s)
    (a : EReal) (ha : Finset.univ.fold max hostLeast f = a) : hostMax l (ix2 h t) = a := by
  have hl : (fun s : Fin 16384 => (show EReal from l (ix3 h t s))) = f := funext hf
  rw [← hl] at ha
  pointwise [hostMax]
  exact ha

theorem hostTop_at (l : FVec Ideal S8x16384x16384 .f32) (h : Fin 8) (t : Fin 16384) : hostTop l (ix2 h t) = max hostLeast (hostMax l (ix2 h t)) := by
  have key : ∀ M : FVec Ideal S8x16384 .f32,
      maximumf (broadcastInDim S8x16384 ![] bcast_S_S8x16384 (constant (F := Ideal) S_ .f32 0xFF800000#32)) M (ix2 h t) = max hostLeast (M (ix2 h t)) := by
    intro M
    pointwise []
  exact key (hostMax l)

theorem hostExp_at (l : FVec Ideal S8x16384x16384 .f32) (x : FVec Ideal S8x16384 .f32) (h : Fin 8) (t s : Fin 16384) :
    hostExp l x (ix3 h t s) = Ideal.exp ((show EReal from l (ix3 h t s)) - x (ix2 h t)) := by
  pointwise [hostExp]

theorem hostSum_at (l : FVec Ideal S8x16384x16384 .f32) (h : Fin 8) (t : Fin 16384) :
    hostSum l (ix2 h t) = ∑ s : Fin 16384, (show EReal from l (ix3 h t s)) := by
  pointwise [hostSum]

theorem hostProbs_at (e : FVec Ideal S8x16384x16384 .f32) (h : Fin 8) (t s : Fin 16384) :
    hostProbs e (ix3 h t s) = Ideal.div (e (ix3 h t s)) (∑ s : Fin 16384, (show EReal from e (ix3 h t s))) := by
  pointwise [hostProbs, hostSum]

theorem hostOut_at (v : FVec Ideal S16384x8x64 .f32) (p : FVec Ideal S8x16384x16384 .f32) (t : Fin 16384) (h : Fin 8) (e : Fin 64) :
    hostOut v p (ix2 t ⟨64 * h.val + e.val, by omega⟩) = ∑ s : Fin 16384, (show EReal from v (ix3 s h e)) * p (ix3 h t s) := by
  pointwise [hostOut]

theorem hostLse_at (l : FVec Ideal S8x16384x16384 .f32) (h : Fin 8) (t : Fin 16384) :
    hostLse l (ix2 h t) = hostMax l (ix2 h t) + Ideal.log (∑ s : Fin 16384, Ideal.exp ((show EReal from l (ix3 h t s)) - hostMax l (ix2 h t))) := by
  have key : ∀ M : FVec Ideal S8x16384 .f32, addf M (Host.log (hostSum (hostExp l M))) (ix2 h t)
      = M (ix2 h t) + Ideal.log (∑ s : Fin 16384, Ideal.exp ((show EReal from l (ix3 h t s)) - M (ix2 h t))) := by
    intro M
    have hlog : addf M (Host.log (hostSum (hostExp l M))) (ix2 h t) = M (ix2 h t) + Ideal.log (hostSum (hostExp l M) (ix2 h t)) := by
      generalize hostSum (hostExp l M) = S
      pointwise []
    rw [hlog, hostSum_at]
    exact congrArg (fun z => (show EReal from M (ix2 h t)) + Ideal.log z) (Finset.sum_congr rfl fun s _ => hostExp_at l M h t s)
  exact key (hostMax l)

theorem hostDelta_at (d : FVec Ideal S16384x512 .bf16) (o : FVec Ideal S16384x512 .f32) (h : Fin 8) (t : Fin 16384) :
    hostDelta d o (ix2 h t) = ∑ e : Fin 64, (show EReal from d (ix2 t ⟨64 * h.val + e.val, by omega⟩)) * o (ix2 t ⟨64 * h.val + e.val, by omega⟩) := by
  pointwise [hostDelta]
  refine Finset.sum_congr rfl fun e _ => ?_
  rw [show (⟨h.val * 64 + e.val, by omega⟩ : Fin 512) = ⟨64 * h.val + e.val, by omega⟩ from Fin.ext (by show h.val * 64 + e.val = 64 * h.val + e.val; omega)]

theorem hostRows_at (a : FVec Ideal S8x16384 .f32) (h : Fin 8) (n : Fin 32) (x : Fin 512) : hostRows a (ix4 h n 0 x) = a (ix2 h (place n x)) := by
  pointwise [hostRows]
  exact congrArg a (congrArg (ix2 h) (Fin.ext (show n.val * 512 + x.val = 512 * n.val + x.val by omega)))

theorem hostPad_at (f : FVec Ideal S16384x8 .f32) (s : Fin 16384) (h : Fin 8) : hostPad f (ix2 s ⟨h.val, by omega⟩) = f (ix2 s h) := by
  pointwise [hostPad]

theorem hostZero_at (s : Fin 16384) (h : Fin 8) : hostZero (ix2 s h) = 0 := by
  pointwise [hostZero]

end Cert.Proof.Fox

end
-- ==== Proof.Reference.lean ====
/- What the reference computes, stage by stage, and each stage at an index. -/
module

public import proofs.«01_k».proof.Proof.Gen.ReferenceIdeal.Run
public import Idealize.ShloMosaic.Lib.Pointwise

@[expose] public section

set_option maxRecDepth 16384

noncomputable section

namespace Cert.Proof.Fox.Ref

open Cert.ReferenceIdeal Cert.ReferenceIdeal.Gen Cert.ReferenceIdeal.Value
open Idealize.ShloMosaic Idealize.ShloMosaic.TcCoe Idealize.SL.Sem

/-! ## The stages -/

/-- The queries, keys and values of each head. -/
def refQ (x : FVec Ideal S16384x1536 .bf16) : FVec Ideal S16384x8x64 .f32 :=
  shapeCast _ (extractStridedSlice S16384x512 ![0, 0] (extf .f32 x bitsLt_bf16_f32) slices_S16384x1536_S16384x512_0_0) shapeCasts_S16384x512_S16384x8x64
def refK (x : FVec Ideal S16384x1536 .bf16) : FVec Ideal S16384x8x64 .f32 :=
  shapeCast _ (extractStridedSlice S16384x512 ![0, 512] (extf .f32 x bitsLt_bf16_f32) slices_S16384x1536_S16384x512_0_512) shapeCasts_S16384x512_S16384x8x64
def refV (x : FVec Ideal S16384x1536 .bf16) : FVec Ideal S16384x8x64 .f32 :=
  shapeCast _ (extractStridedSlice S16384x512 ![0, 1024] (extf .f32 x bitsLt_bf16_f32) slices_S16384x1536_S16384x512_0_1024) shapeCasts_S16384x512_S16384x8x64

/-- The cumulative log forget gates. -/
def refF (g : FVec Ideal S16384x8 .f32) : FVec Ideal S16384x8 .f32 :=
  Host.reduceWindowAdd ![16384, 1] ![1, 1] ![16383, 0] ![0, 0] g (broadcastInDim S_ ![] bcast_S_S_ (constant (F := Ideal) S_ .f32 0x00000000#32))
    reduceWindows_S16384x8_S16384x8_w16384s1p16383_0_w1s1p0_0 h_S_

/-- Which keys a query sees. -/
def refCausal : IVec S8x16384x16384 1 :=
  broadcastInDim S8x16384x16384 ![1, 2] bcast_S16384x16384_S8x16384x16384_1_2
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- The attention's logits before the mask. -/
def refScores (q k : FVec Ideal S16384x8x64 .f32) (f : FVec Ideal S16384x8 .f32) : FVec Ideal S8x16384x16384 .f32 :=
  subf
    (addf
      (mulf (Host.dotGeneral dot_S16384x8x64_S16384x8x64_S8x16384x16384_2_2_0_0_1_1 none q k)
        (broadcastInDim S8x16384x16384 ![] bcast_S_S8x16384x16384 (constant (F := Ideal) S_ .f32 0x3E000000#32)))
      (broadcastInDim S8x16384x16384 ![0, 1, 2] bcast_S8x16384x1_S8x16384x16384_0_1_2
        (broadcastInDim S8x16384x1 ![0, 1] bcast_S8x16384_S8x16384x1_0_1 (transpose S8x16384 [1, 0] f transposes_S16384x8_S8x16384_1_0))))
    (broadcastInDim S8x16384x16384 ![0, 1, 2] bcast_S8x1x16384_S8x16384x16384_0_1_2
      (broadcastInDim S8x1x16384 ![0, 2] bcast_S8x16384_S8x1x16384_0_2 (transpose S8x16384 [1, 0] f transposes_S16384x8_S8x16384_1_0)))

/-- The logits of the keys a query sees. -/
def refMasked (s : FVec Ideal S8x16384x16384 .f32) : FVec Ideal S8x16384x16384 .f32 :=
  select refCausal s (broadcastInDim S8x16384x16384 ![] bcast_S_S8x16384x16384 (id (constant (F := Ideal) S_ .f32 0xFF800000#32)))

/-- Each query's largest logit. -/
def refMax (l : FVec Ideal S8x16384x16384 .f32) : FVec Ideal S8x16384 .f32 :=
  Host.reduce FloatOps.maximumf l (constant (F := Ideal) S_ .f32 0xFF800000#32) reducesTo_S8x16384x16384_S8x16384_d2 h_S_

/-- The same as the softmax takes it. -/
def refTop (x : FVec Ideal S8x16384 .f32) : FVec Ideal S8x16384 .f32 :=
  maximumf (broadcastInDim S8x16384 ![] bcast_S_S8x16384 (constant (F := Ideal) S_ .f32 0xFF800000#32)) x

/-- The exponentials of the logits less a row's number. -/
def refExp (l : FVec Ideal S8x16384x16384 .f32) (x : FVec Ideal S8x16384 .f32) : FVec Ideal S8x16384x16384 .f32 :=
  Host.exp (subf l (broadcastInDim S8x16384x16384 ![0, 1, 2] bcast_S8x16384x1_S8x16384x16384_0_1_2 (broadcastInDim S8x16384x1 ![0, 1] bcast_S8x16384_S8x16384x1_0_1 x)))

/-- The sum over the keys. -/
def refSum (e : FVec Ideal S8x16384x16384 .f32) : FVec Ideal S8x16384x1 .f32 :=
  broadcastInDim S8x16384x1 ![0, 1] bcast_S8x16384_S8x16384x1_0_1
    (Host.reduceAdd e (constant (F := Ideal) S_ .f32 0x00000000#32) reducesTo_S8x16384x16384_S8x16384_d2 h_S_)

/-- An array over a row's number. -/
def refOver (e : FVec Ideal S8x16384x16384 .f32) (z : FVec Ideal S8x16384x1 .f32) : FVec Ideal S8x16384x16384 .f32 :=
  Host.divf e (broadcastInDim S8x16384x16384 ![0, 1, 2] bcast_S8x16384x1_S8x16384x16384_0_1_2 z)

/-- The output's gradient, head by head. -/
def refD (d : FVec Ideal S16384x512 .bf16) : FVec Ideal S8x64x16384 .f32 :=
  transpose S8x64x16384 [1, 2, 0] (shapeCast _ (extf .f32 d bitsLt_bf16_f32) shapeCasts_S16384x512_S16384x8x64) transposes_S16384x8x64_S8x64x16384_1_2_0

/-- The probabilities' gradient. -/
def refDP (d : FVec Ideal S8x64x16384 .f32) (v : FVec Ideal S16384x8x64 .f32) : FVec Ideal S8x16384x16384 .f32 :=
  Host.dotGeneral dot_S8x64x16384_S16384x8x64_S8x16384x16384_1_2_2_0_0_1 none d v

/-- The values' gradient. -/
def refDV (d : FVec Ideal S8x64x16384 .f32) (p : FVec Ideal S8x16384x16384 .f32) : FVec Ideal S16384x8x64 .f32 :=
  transpose S16384x8x64 [2, 0, 1] (Host.dotGeneral dot_S8x64x16384_S8x16384x16384_S8x64x16384_2_1_1_2_0_0 none d p) transposes_S8x64x16384_S16384x8x64_2_0_1

/-- The gradient of a row's sum. -/
def refInner (dp e : FVec Ideal S8x16384x16384 .f32) (z : FVec Ideal S8x16384x1 .f32) : FVec Ideal S8x16384 .f32 :=
  Host.reduceAdd
    (Host.negf (shapeCast S8x16384x1
      (Host.reduceAdd
        (mulf (mulf dp (broadcastInDim S8x16384x16384 ![0, 1, 2] bcast_S8x16384x1_S8x16384x16384_0_1_2
          (Host.divf (broadcastInDim S8x16384x1 ![] bcast_S_S8x16384x1 (constant (F := Ideal) S_ .f32 0x3F800000#32)) (mulf z z)))) e)
        (constant (F := Ideal) S_ .f32 0x00000000#32) reducesTo_S8x16384x16384_S8x16384_d2 h_S_)
      shapeCasts_S8x16384_S8x16384x1))
    (constant (F := Ideal) S_ .f32 0x00000000#32) reducesTo_S8x16384x1_S8x16384_d2 h_S_

/-- The logits' gradient. -/
def refDS (dpz e : FVec Ideal S8x16384x16384 .f32) (i : FVec Ideal S8x16384 .f32) : FVec Ideal S8x16384x16384 .f32 :=
  select refCausal (mulf (addf dpz (broadcastInDim S8x16384x16384 ![0, 1] bcast_S8x16384_S8x16384x16384_0_1 i)) e)
    (broadcastInDim S8x16384x16384 ![] bcast_S_S8x16384x16384 (constant (F := Ideal) S_ .f32 0x00000000#32))

/-- The logits' gradient times the scale. -/
def refScaled (s : FVec Ideal S8x16384x16384 .f32) : FVec Ideal S8x16384x16384 .f32 :=
  mulf s (broadcastInDim S8x16384x16384 ![] bcast_S_S8x16384x16384 (constant (F := Ideal) S_ .f32 0x3E000000#32))

/-- The results, from the logits' gradient. -/
def refDK (s : FVec Ideal S8x16384x16384 .f32) (q : FVec Ideal S16384x8x64 .f32) : FVec Ideal S16384x8x64 .f32 :=
  transpose S16384x8x64 [1, 0, 2] (Host.dotGeneral dot_S8x16384x16384_S16384x8x64_S8x16384x64_1_0_2_2_0_1 none s q) transposes_S8x16384x64_S16384x8x64_1_0_2
def refDQ (s : FVec Ideal S8x16384x16384 .f32) (k : FVec Ideal S16384x8x64 .f32) : FVec Ideal S16384x8x64 .f32 :=
  transpose S16384x8x64 [1, 0, 2] (Host.dotGeneral dot_S8x16384x16384_S16384x8x64_S8x16384x64_2_0_1_2_0_1 none s k) transposes_S8x16384x64_S16384x8x64_1_0_2
def refKeys (s : FVec Ideal S8x16384x16384 .f32) : FVec Ideal S8x16384 .f32 :=
  transpose S8x16384 [1, 0] (transpose S16384x8 [1, 0]
    (Host.reduceAdd (shapeCast S8x1x16384 (Host.reduceAdd (Host.negf s) (constant (F := Ideal) S_ .f32 0x00000000#32) reducesTo_S8x16384x16384_S8x16384_d1 h_S_) shapeCasts_S8x16384_S8x1x16384)
      (constant (F := Ideal) S_ .f32 0x00000000#32) reducesTo_S8x1x16384_S8x16384_d1 h_S_) transposes_S8x16384_S16384x8_1_0) transposes_S16384x8_S8x16384_1_0
def refQrys (s : FVec Ideal S8x16384x16384 .f32) : FVec Ideal S8x16384 .f32 :=
  transpose S8x16384 [1, 0] (transpose S16384x8 [1, 0]
    (Host.reduceAdd (shapeCast S8x16384x1 (Host.reduceAdd s (constant (F := Ideal) S_ .f32 0x00000000#32) reducesTo_S8x16384x16384_S8x16384_d2 h_S_) shapeCasts_S8x16384_S8x16384x1)
      (constant (F := Ideal) S_ .f32 0x00000000#32) reducesTo_S8x16384x1_S8x16384_d2 h_S_) transposes_S8x16384_S16384x8_1_0) transposes_S16384x8_S8x16384_1_0

/-- A result laid out as the kernel lays it out. -/
def refFlat (a : FVec Ideal S16384x8x64 .f32) : FVec Ideal S16384x512 .f32 := shapeCast _ a shapeCasts_S16384x8x64_S16384x512
def refFlatB (a : FVec Ideal S16384x8x64 .f32) : FVec Ideal S16384x512 .bf16 := truncf .bf16 (shapeCast S16384x512 a shapeCasts_S16384x8x64_S16384x512) bitsLt_bf16_f32
def refPairs (a : FVec Ideal S8x16384 .f32) : FVec Ideal S4x16384x128 .f32 :=
  pad S4x16384x128 ![0, 0, 0] ![0, 0, 126] ![0, 0, 0] (transpose S4x16384x2 [0, 2, 1] (shapeCast S4x2x16384 a shapeCasts_S8x16384_S4x2x16384) transposes_S4x2x16384_S4x16384x2_0_2_1)
    (sitofp (F := Ideal) .f32 (constantI S_ 32 0#32)) pads_S4x16384x2_S4x16384x128_000_000_01260 h_S_
def refRows (a : FVec Ideal S8x16384 .f32) : FVec Ideal S8x32x1x512 .f32 := shapeCast _ a shapeCasts_S8x16384_S8x32x1x512

/-! ## The whole of it -/

def allLogits (x : FVec Ideal S16384x1536 .bf16) (g : FVec Ideal S16384x8 .f32) : FVec Ideal S8x16384x16384 .f32 := refMasked (refScores (refQ x) (refK x) (refF g))
def allExp (x : FVec Ideal S16384x1536 .bf16) (g : FVec Ideal S16384x8 .f32) : FVec Ideal S8x16384x16384 .f32 := refExp (allLogits x g) (refTop (refMax (allLogits x g)))
def allDP (x : FVec Ideal S16384x1536 .bf16) (d : FVec Ideal S16384x512 .bf16) : FVec Ideal S8x16384x16384 .f32 := refDP (refD d) (refV x)
def allDS (x : FVec Ideal S16384x1536 .bf16) (g : FVec Ideal S16384x8 .f32) (d : FVec Ideal S16384x512 .bf16) : FVec Ideal S8x16384x16384 .f32 :=
  refDS (refOver (allDP x d) (refSum (allExp x g))) (allExp x g) (refInner (allDP x d) (allExp x g) (refSum (allExp x g)))

/-! ## The stages at an index -/

theorem refQ_at (x : FVec Ideal S16384x1536 .bf16) (t : Fin 16384) (h : Fin 8) (e : Fin 64) :
    refQ x (ix3 t h e) = x (ix2 t ⟨64 * h.val + e.val, by omega⟩) := by
  pointwise [refQ]
  exact congrArg x (congrArg (ix2 t) (Fin.ext (show h.val * 64 + e.val = 64 * h.val + e.val by omega)))

theorem refK_at (x : FVec Ideal S16384x1536 .bf16) (t : Fin 16384) (h : Fin 8) (e : Fin 64) :
    refK x (ix3 t h e) = x (ix2 t ⟨512 + 64 * h.val + e.val, by omega⟩) := by
  pointwise [refK]
  exact congrArg x (congrArg (ix2 t) (Fin.ext (show 512 + (h.val * 64 + e.val) = 512 + 64 * h.val + e.val by omega)))

theorem refV_at (x : FVec Ideal S16384x1536 .bf16) (t : Fin 16384) (h : Fin 8) (e : Fin 64) :
    refV x (ix3 t h e) = x (ix2 t ⟨1024 + 64 * h.val + e.val, by omega⟩) := by
  pointwise [refV]
  exact congrArg x (congrArg (ix2 t) (Fin.ext (show 1024 + (h.val * 64 + e.val) = 1024 + 64 * h.val + e.val by omega)))

theorem refCausal_at (h : Fin 8) (t s : Fin 16384) : refCausal (ix3 h t s) = if s.val ≤ t.val then 1#1 else 0#1 := by
  pointwise [refCausal]
  have hs : (BitVec.ofNat 32 s.val).toInt = s.val := by rw [BitVec.toInt_eq_toNat_cond, BitVec.toNat_ofNat, Nat.mod_eq_of_lt (by omega), if_pos (by omega)]
  have ht : (BitVec.ofNat 32 t.val).toInt = t.val := by rw [BitVec.toInt_eq_toNat_cond, BitVec.toNat_ofNat, Nat.mod_eq_of_lt (by omega), if_pos (by omega)]
  show BitVec.ofBool (decide ((BitVec.ofNat 32 s.val).toInt ≤ (BitVec.ofNat 32 t.val).toInt)) = _
  rw [hs, ht]
  by_cases hc : s.val ≤ t.val
  · simp [hc]
  · simp [hc]

theorem refScores_at (q k : FVec Ideal S16384x8x64 .f32) (f : FVec Ideal S16384x8 .f32) (h : Fin 8) (t s : Fin 16384) :
    refScores q k f (ix3 h t s)
      = (∑ e : Fin 64, (show EReal from q (ix3 t h e)) * k (ix3 s h e)) * Ideal.ofBits .f32 0x3E000000#32 + f (ix2 t h) - f (ix2 s h) := by
  pointwise [refScores]

theorem refMasked_at (x : FVec Ideal S8x16384x16384 .f32) (h : Fin 8) (t s : Fin 16384) :
    refMasked x (ix3 h t s) = if s.val ≤ t.val then x (ix3 h t s) else Ideal.ofBits .f32 0xFF800000#32 := by
  pointwise [refMasked]
  rw [refCausal_at]
  by_cases hc : s.val ≤ t.val
  · rw [if_pos hc, if_pos hc]; rfl
  · rw [if_neg hc, if_neg hc]; rfl

theorem refMax_at (l : FVec Ideal S8x16384x16384 .f32) (h : Fin 8) (t : Fin 16384) (f : Fin 16384 → EReal) (hf : ∀ s, l (ix3 h t s) = f s)
    (a : EReal) (ha : Finset.univ.fold max (Ideal.ofBits .f32 0xFF800000#32) f = a) : refMax l (ix2 h t) = a := by
  have hl : (fun s : Fin 16384 => (show EReal from l (ix3 h t s))) = f := funext hf
  rw [← hl] at ha
  pointwise [refMax]
  exact ha

theorem refTop_at (x : FVec Ideal S8x16384 .f32) (h : Fin 8) (t : Fin 16384) : refTop x (ix2 h t) = max (Ideal.ofBits .f32 0xFF800000#32) (x (ix2 h t)) := by
  pointwise [refTop]

theorem refExp_at (l : FVec Ideal S8x16384x16384 .f32) (x : FVec Ideal S8x16384 .f32) (h : Fin 8) (t s : Fin 16384) :
    refExp l x (ix3 h t s) = Ideal.exp ((show EReal from l (ix3 h t s)) - x (ix2 h t)) := by
  pointwise [refExp]

theorem refSum_at (l : FVec Ideal S8x16384x16384 .f32) (h : Fin 8) (t : Fin 16384) :
    refSum l (ix3 h t 0) = ∑ s : Fin 16384, (show EReal from l (ix3 h t s)) := by
  pointwise [refSum]

theorem refOver_at (e : FVec Ideal S8x16384x16384 .f32) (z : FVec Ideal S8x16384x1 .f32) (h : Fin 8) (t s : Fin 16384) :
    refOver e z (ix3 h t s) = Ideal.div (e (ix3 h t s)) (z (ix3 h t 0)) := by
  pointwise [refOver]

theorem refD_at (d : FVec Ideal S16384x512 .bf16) (h : Fin 8) (e : Fin 64) (t : Fin 16384) : refD d (ix3 h e t) = d (ix2 t ⟨64 * h.val + e.val, by omega⟩) := by
  pointwise [refD]
  exact congrArg d (congrArg (ix2 t) (Fin.ext (show h.val * 64 + e.val = 64 * h.val + e.val by omega)))

theorem refDP_at (d : FVec Ideal S8x64x16384 .f32) (v : FVec Ideal S16384x8x64 .f32) (h : Fin 8) (t s : Fin 16384) :
    refDP d v (ix3 h t s) = ∑ e : Fin 64, (show EReal from d (ix3 h e t)) * v (ix3 s h e) := by
  pointwise [refDP]

theorem refDV_at (d : FVec Ideal S8x64x16384 .f32) (p : FVec Ideal S8x16384x16384 .f32) (s : Fin 16384) (h : Fin 8) (e : Fin 64) :
    refDV d p (ix3 s h e) = ∑ t : Fin 16384, (show EReal from d (ix3 h e t)) * p (ix3 h t s) := by
  pointwise [refDV]

theorem refInner_at (dp e : FVec Ideal S8x16384x16384 .f32) (z : FVec Ideal S8x16384x1 .f32) (h : Fin 8) (t : Fin 16384) :
    refInner dp e z (ix2 h t) = -(∑ s : Fin 16384, (show EReal from dp (ix3 h t s)) * Ideal.div 1 ((show EReal from z (ix3 h t 0)) * z (ix3 h t 0)) * e (ix3 h t s)) := by
  pointwise [refInner]
  exact Fin.sum_univ_one _

theorem refDS_at (dpz e : FVec Ideal S8x16384x16384 .f32) (i : FVec Ideal S8x16384 .f32) (h : Fin 8) (t s : Fin 16384) :
    refDS dpz e i (ix3 h t s) = if s.val ≤ t.val then ((show EReal from dpz (ix3 h t s)) + i (ix2 h t)) * e (ix3 h t s) else 0 := by
  pointwise [refDS]
  rw [refCausal_at]
  by_cases hc : s.val ≤ t.val
  · rw [if_pos hc, if_pos hc]; rfl
  · rw [if_neg hc, if_neg hc]; rfl

theorem refScaled_at (x : FVec Ideal S8x16384x16384 .f32) (h : Fin 8) (t s : Fin 16384) : refScaled x (ix3 h t s) = (show EReal from x (ix3 h t s)) * Ideal.ofBits .f32 0x3E000000#32 := by
  pointwise [refScaled]

theorem refDK_at (x : FVec Ideal S8x16384x16384 .f32) (q : FVec Ideal S16384x8x64 .f32) (s : Fin 16384) (h : Fin 8) (e : Fin 64) :
    refDK x q (ix3 s h e) = ∑ t : Fin 16384, (show EReal from x (ix3 h t s)) * q (ix3 t h e) := by
  pointwise [refDK]

theorem refDQ_at (x : FVec Ideal S8x16384x16384 .f32) (k : FVec Ideal S16384x8x64 .f32) (t : Fin 16384) (h : Fin 8) (e : Fin 64) :
    refDQ x k (ix3 t h e) = ∑ s : Fin 16384, (show EReal from x (ix3 h t s)) * k (ix3 s h e) := by
  pointwise [refDQ]

theorem refKeys_at (x : FVec Ideal S8x16384x16384 .f32) (h : Fin 8) (s : Fin 16384) : refKeys x (ix2 h s) = ∑ t : Fin 16384, -(show EReal from x (ix3 h t s)) := by
  pointwise [refKeys]
  exact Fin.sum_univ_one _

theorem refQrys_at (x : FVec Ideal S8x16384x16384 .f32) (h : Fin 8) (t : Fin 16384) : refQrys x (ix2 h t) = ∑ s : Fin 16384, (show EReal from x (ix3 h t s)) := by
  pointwise [refQrys]
  exact Fin.sum_univ_one _

theorem refFlat_at (a : FVec Ideal S16384x8x64 .f32) (t : Fin 16384) (w : Fin 512) : refFlat a (ix2 t w) = a (ix3 t ⟨w.val / 64, by omega⟩ ⟨w.val % 64, by omega⟩) := by
  pointwise [refFlat]

theorem refFlatB_at (a : FVec Ideal S16384x8x64 .f32) (t : Fin 16384) (w : Fin 512) : refFlatB a (ix2 t w) = a (ix3 t ⟨w.val / 64, by omega⟩ ⟨w.val % 64, by omega⟩) := by
  pointwise [refFlatB]

theorem refPairs_at (a : FVec Ideal S8x16384 .f32) (p : Fin 4) (s : Fin 16384) (l : Fin 128) :
    refPairs a (ix3 p s l) = if hl : l.val < 2 then a (ix2 ⟨2 * p.val + l.val, by omega⟩ s) else 0 := by
  pointwise [refPairs]
  by_cases hl : l.val < 2
  · rw [dif_pos hl, dif_pos hl]
    exact congrArg a (congrArg (fun z => ix2 z s) (Fin.ext (show p.val * 2 + l.val = 2 * p.val + l.val by omega)))
  · rw [dif_neg hl, dif_neg hl]
    show (((0#32).toInt : ℝ) : EReal) = 0
    simp

theorem refRows_at (a : FVec Ideal S8x16384 .f32) (h : Fin 8) (n : Fin 32) (x : Fin 512) : refRows a (ix4 h n 0 x) = a (ix2 h ⟨512 * n.val + x.val, by omega⟩) := by
  pointwise [refRows]
  exact congrArg a (congrArg (ix2 h) (Fin.ext (show n.val * 512 + x.val = 512 * n.val + x.val by omega)))

section Results

variable (m : (ℓ : Loc nD τ sig) → Buf (Elt Ideal) ℓ) (c : Dev nD)

theorem res_dv : res_main_v98 m c = refFlatB (refDV (refD (m (c.tc.loc main_arg2))) (refOver (allExp (m (c.tc.loc main_arg0)) (m (c.tc.loc main_arg1))) (refSum (allExp (m (c.tc.loc main_arg0)) (m (c.tc.loc main_arg1)))))) := by
  unfold res_main_v98
  rfl

theorem res_dk : res_main_v96 m c = refFlatB (refDK (refScaled (allDS (m (c.tc.loc main_arg0)) (m (c.tc.loc main_arg1)) (m (c.tc.loc main_arg2)))) (refQ (m (c.tc.loc main_arg0)))) := by
  unfold res_main_v96
  rfl

theorem res_dq : res_main_v94 m c = refFlat (refDQ (refScaled (allDS (m (c.tc.loc main_arg0)) (m (c.tc.loc main_arg1)) (m (c.tc.loc main_arg2)))) (refK (m (c.tc.loc main_arg0)))) := by
  unfold res_main_v94
  rfl

theorem res_df : res_main_v93 m c = refPairs (refKeys (allDS (m (c.tc.loc main_arg0)) (m (c.tc.loc main_arg1)) (m (c.tc.loc main_arg2)))) := by
  unfold res_main_v93
  rfl

theorem res_dfq : res_main_v100 m c = refRows (refQrys (allDS (m (c.tc.loc main_arg0)) (m (c.tc.loc main_arg1)) (m (c.tc.loc main_arg2)))) := by
  unfold res_main_v100
  rfl

end Results

end Cert.Proof.Fox.Ref

end
-- ==== Proof.Softmax.lean ====
/- The attention's gradient over the reals, one head at a time: the kernel's form of it and the reference's are one. -/
module

public import Idealize.ShloMosaic.Lib.Pointwise
public import Mathlib.Analysis.SpecialFunctions.Log.Basic

@[expose] public section

noncomputable section

namespace Cert.Proof.Fox.Head

open Idealize.ShloMosaic

/-! ## Sums and maxima of real numbers -/

theorem sum_coe {ι : Type} [Fintype ι] (f : ι → ℝ) : (∑ i, ((f i : ℝ) : EReal)) = ((∑ i, f i : ℝ) : EReal) := by
  classical
  have h : ∀ S : Finset ι, (∑ i ∈ S, ((f i : ℝ) : EReal)) = ((∑ i ∈ S, f i : ℝ) : EReal) := by
    intro S
    induction S using Finset.induction_on with
    | empty => simp
    | insert a S ha ih => rw [Finset.sum_insert ha, Finset.sum_insert ha, ih, EReal.coe_add]
  exact h _

/-- The largest of a row's logits is a real number: none is plus infinity, and one is a real number. -/
theorem fold_real {n : Nat} (f : Fin n → EReal) (hf : ∀ i, f i ≠ ⊤) (j : Fin n) (hj : f j ≠ ⊥) : ∃ M : ℝ, Finset.univ.fold max ⊥ f = (M : EReal) := by
  classical
  have h : ∀ S : Finset (Fin n), S.fold max ⊥ f ≠ ⊤ ∧ ∀ i ∈ S, f i ≤ S.fold max ⊥ f := by
    intro S
    induction S using Finset.induction_on with
    | empty => exact ⟨by simp, by simp⟩
    | insert a S ha ih =>
      rw [Finset.fold_insert ha]
      refine ⟨?_, ?_⟩
      · rcases max_cases (f a) (S.fold max ⊥ f) with h | h
        · rw [h.1]; exact hf a
        · rw [h.1]; exact ih.1
      · intro i hi
        rcases Finset.mem_insert.mp hi with rfl | hi
        · exact le_max_left _ _
        · exact (ih.2 i hi).trans (le_max_right _ _)
  obtain ⟨htop, hle⟩ := h Finset.univ
  have hbot : Finset.univ.fold max ⊥ f ≠ ⊥ := by
    intro hb
    have := hle j (Finset.mem_univ _)
    rw [hb] at this
    exact hj (le_bot_iff.mp this)
  exact ⟨_, (EReal.coe_toReal htop hbot).symm⟩

/-! ## One head -/

section OneHead

variable (q k v d : Fin 16384 → Fin 64 → ℝ) (g : Fin 16384 → ℝ)

/-- The score of a query with a key, less the key's gate. -/
def score (t s : Fin 16384) : ℝ := (∑ e : Fin 64, q t e * k s e) * (1 / 8) - g s
/-- Its exponential where the query sees the key. -/
def weight (t s : Fin 16384) : ℝ := if s.val ≤ t.val then Real.exp (score q k g t s) else 0
/-- A query's sum of them. -/
def total (t : Fin 16384) : ℝ := ∑ s : Fin 16384, weight q k g t s
/-- The attention's probabilities. -/
def prob (t s : Fin 16384) : ℝ := weight q k g t s / total q k g t
/-- Their gradient. -/
def dprob (t s : Fin 16384) : ℝ := ∑ e : Fin 64, d t e * v s e
/-- A query's mean of it. -/
def mean (t : Fin 16384) : ℝ := ∑ s : Fin 16384, prob q k g t s * dprob v d t s
/-- The scores' gradient. -/
def dscore (t s : Fin 16384) : ℝ := prob q k g t s * (dprob v d t s - mean q k v d g t)

theorem weight_nonneg (t s : Fin 16384) : 0 ≤ weight q k g t s := by
  unfold weight
  split
  · exact (Real.exp_pos _).le
  · exact le_refl _

theorem total_pos (t : Fin 16384) : 0 < total q k g t := by
  unfold total
  refine Finset.sum_pos' (fun s _ => weight_nonneg q k g t s) ⟨t, Finset.mem_univ _, ?_⟩
  unfold weight
  rw [if_pos (le_refl _)]
  exact Real.exp_pos _

/-- A row of logits: the scores plus the row's number, minus infinity where the query does not see the key. -/
def logit (a : ℝ) (t s : Fin 16384) : EReal := if s.val ≤ t.val then ((score q k g t s + a : ℝ) : EReal) else ⊥

theorem logit_max (a : ℝ) (t : Fin 16384) : ∃ M : ℝ, Finset.univ.fold max ⊥ (logit q k g a t) = (M : EReal) := by
  refine fold_real _ (fun s => ?_) t ?_
  · unfold logit
    split
    · exact EReal.coe_ne_top _
    · exact bot_ne_top
  · unfold logit
    rw [if_pos (le_refl _)]
    exact EReal.coe_ne_bot _

/-- The exponential of a logit less a real number is the weight times a positive number. -/
theorem exp_logit (a M : ℝ) (t s : Fin 16384) : Ideal.exp (logit q k g a t s - (M : EReal)) = ((weight q k g t s * Real.exp (a - M) : ℝ) : EReal) := by
  unfold logit weight
  by_cases h : s.val ≤ t.val
  · rw [if_pos h, if_pos h, ← EReal.coe_sub, Ideal.exp_coe, ← Real.exp_add]
    congr 2
    ring
  · rw [if_neg h, if_neg h, zero_mul, EReal.bot_sub, Ideal.exp_bot]
    rfl

theorem sum_exp_logit (a M : ℝ) (t : Fin 16384) :
    (∑ s : Fin 16384, Ideal.exp (logit q k g a t s - (M : EReal))) = ((total q k g t * Real.exp (a - M) : ℝ) : EReal) := by
  rw [Finset.sum_congr rfl fun s _ => exp_logit q k g a M t s, sum_coe, ← Finset.sum_mul]
  rfl

/-- A query's log-sum. -/
theorem lse_eq (M : ℝ) (t : Fin 16384) :
    (M : EReal) + Ideal.log (∑ s : Fin 16384, Ideal.exp (logit q k g 0 t s - (M : EReal))) = ((Real.log (total q k g t) : ℝ) : EReal) := by
  have ht := total_pos q k g t
  rw [sum_exp_logit, Ideal.log_coe, if_neg (not_le.mpr (mul_pos ht (Real.exp_pos _))), Real.log_mul ht.ne' (Real.exp_pos _).ne', Real.log_exp, ← EReal.coe_add]
  congr 1
  ring

/-- The kernel's probability: the exponential of the score less the log-sum. -/
theorem exp_score (t s : Fin 16384) (h : s.val ≤ t.val) : Real.exp (score q k g t s - Real.log (total q k g t)) = prob q k g t s := by
  unfold prob weight
  rw [if_pos h, Real.exp_sub, Real.exp_log (total_pos q k g t)]

theorem prob_hidden (t s : Fin 16384) (h : ¬ s.val ≤ t.val) : prob q k g t s = 0 := by
  unfold prob weight
  rw [if_neg h, zero_div]

/-- The softmax of the logits. -/
theorem softmax_eq (a M : ℝ) (t s : Fin 16384) :
    Ideal.div ((weight q k g t s * Real.exp (a - M) : ℝ) : EReal) ((total q k g t * Real.exp (a - M) : ℝ) : EReal) = ((prob q k g t s : ℝ) : EReal) := by
  have ht := total_pos q k g t
  have he := Real.exp_pos (a - M)
  rw [Ideal.div_coe (mul_pos ht he).ne', ← EReal.coe_mul]
  congr 1
  unfold prob
  field_simp

/-- The mean as the host has it: the sum over the lanes of the output times its gradient. -/
theorem mean_eq (t : Fin 16384) : (∑ e : Fin 64, d t e * ∑ s : Fin 16384, v s e * prob q k g t s) = mean q k v d g t := by
  unfold mean dprob
  simp_rw [Finset.mul_sum]
  rw [Finset.sum_comm]
  refine Finset.sum_congr rfl fun s _ => Finset.sum_congr rfl fun e _ => ?_
  ring

/-- The scores' gradient as the reference has it. -/
theorem dscore_eq (a M : ℝ) (t s : Fin 16384) :
    (dprob v d t s * (1 / (total q k g t * Real.exp (a - M)))
        + -(∑ r : Fin 16384, dprob v d t r * (1 / ((total q k g t * Real.exp (a - M)) * (total q k g t * Real.exp (a - M)))) * (weight q k g t r * Real.exp (a - M))))
      * (weight q k g t s * Real.exp (a - M)) = dscore q k v d g t s := by
  have ht := (total_pos q k g t).ne'
  have he := (Real.exp_pos (a - M)).ne'
  have hs : (∑ r : Fin 16384, dprob v d t r * (1 / ((total q k g t * Real.exp (a - M)) * (total q k g t * Real.exp (a - M)))) * (weight q k g t r * Real.exp (a - M)))
      = mean q k v d g t * (1 / (total q k g t * Real.exp (a - M))) := by
    unfold mean prob
    rw [Finset.sum_mul]
    refine Finset.sum_congr rfl fun r _ => ?_
    field_simp
  rw [hs]
  unfold dscore prob
  field_simp
  ring

theorem dscore_hidden (t s : Fin 16384) (h : ¬ s.val ≤ t.val) : dscore q k v d g t s = 0 := by
  unfold dscore
  rw [prob_hidden q k g t s h, zero_mul]

end OneHead

end Cert.Proof.Fox.Head

end
-- ==== Proof.Values.lean ====
/- The two programs' probabilities and score gradients, for arguments that are real numbers. -/
module

public import proofs.«01_k».proof.Proof.HostRead
public import proofs.«01_k».proof.Proof.Reference
public import proofs.«01_k».proof.Proof.Softmax

@[expose] public section

set_option maxRecDepth 16384

noncomputable section

namespace Cert.Proof.Fox

open Cert.KernelIdeal Cert.KernelIdeal.Gen
open Idealize.ShloMosaic Idealize.ShloMosaic.TcCoe Idealize.SL.Sem

theorem hostEighth_eq : hostEighth = ((1 / 8 : ℝ) : EReal) := by
  simp [hostEighth, Ideal.ofBits, Ideal.ieee, -EReal.coe_mul]
  norm_num

theorem eighth_eq : eighth = ((1 / 8 : ℝ) : EReal) := by
  simp [eighth, Ideal.ofBits, Ideal.ieee, -EReal.coe_mul]
  norm_num

theorem hostLeast_eq : hostLeast = ⊥ := by simp [hostLeast, Ideal.ofBits, Ideal.ieee]

/-- A sum over a list of real numbers is a real number. -/
theorem foldl_real {N : Nat} (w : Fin N → EReal) (hw : ∀ n, ∃ a : ℝ, w n = (a : EReal)) :
    ∀ (l : List (Fin N)) (r : EReal), (∃ a : ℝ, r = (a : EReal)) → ∃ a : ℝ, l.foldl (fun r n => r + w n) r = (a : EReal) := by
  intro l
  induction l with
  | nil => intro r hr; exact hr
  | cons n l ih =>
    intro r hr
    obtain ⟨a, rfl⟩ := hr
    obtain ⟨b, hb⟩ := hw n
    exact ih _ ⟨a + b, by show (a : EReal) + w n = _; rw [hb, EReal.coe_add]⟩

/-- A window sum of real numbers is a real number. -/
theorem window_real {s t : Shape} (window strides lo hi : Fin s.rank → Nat) (x : FVec Ideal s .f32) (init : FVec Ideal S_ .f32)
    (h : s.ReduceWindows window strides lo hi t) (hu : 0 < S_.numel) (hx : ∀ i, ∃ r : ℝ, (show EReal from x i) = (r : EReal))
    (hinit : ∀ i, ∃ r : ℝ, (show EReal from init i) = (r : EReal)) (j : t.Idx) :
    ∃ r : ℝ, (show EReal from Host.reduceWindowAdd window strides lo hi x init h hu j) = (r : EReal) := by
  refine foldl_real _ (fun n => ?_) _ _ (hinit _)
  split
  · exact hx _
  · exact hinit _

/-- The cumulative gates of real gates are real numbers. -/
theorem hostF_real (g : FVec Ideal S16384x8 .f32) (hg : ∀ i, ∃ r : ℝ, (show EReal from g i) = (r : EReal)) (i : S16384x8.Idx) :
    ∃ r : ℝ, (show EReal from hostF g i) = (r : EReal) := by
  refine window_real _ _ _ _ _ _ _ _ hg (fun j => ⟨0, ?_⟩) i
  show Ideal.ofBits .f32 0x00000000#32 = _
  simp [Ideal.ofBits, Ideal.ieee]

theorem refF_eq (g : FVec Ideal S16384x8 .f32) : Ref.refF g = hostF g := rfl

/-- A score out of its parts. -/
theorem score_coe (q k : Fin 16384 → Fin 64 → ℝ) (g : Fin 16384 → ℝ) (a : ℝ) (t s : Fin 16384) :
    (∑ e : Fin 64, ((q t e : ℝ) : EReal) * ((k s e : ℝ) : EReal)) * ((1 / 8 : ℝ) : EReal) + (a : EReal) - ((g s : ℝ) : EReal) = ((Head.score q k g t s + a : ℝ) : EReal) := by
  simp_rw [← EReal.coe_mul]
  rw [Head.sum_coe, ← EReal.coe_mul, ← EReal.coe_add, ← EReal.coe_sub]
  congr 1
  unfold Head.score
  ring

section Args

variable (x : FVec Ideal S16384x1536 .bf16) (g : FVec Ideal S16384x8 .f32) (d : FVec Ideal S16384x512 .bf16)
variable (xr : S16384x1536.Idx → ℝ) (fr : S16384x8.Idx → ℝ) (dr : S16384x512.Idx → ℝ)

/-- A head's queries, keys, values, output gradients and cumulative gates, as real numbers. -/
def realQ (h : Fin 8) (t : Fin 16384) (e : Fin 64) : ℝ := xr (ix2 t ⟨64 * h.val + e.val, by omega⟩)
def realK (h : Fin 8) (t : Fin 16384) (e : Fin 64) : ℝ := xr (ix2 t ⟨512 + 64 * h.val + e.val, by omega⟩)
def realV (h : Fin 8) (t : Fin 16384) (e : Fin 64) : ℝ := xr (ix2 t ⟨1024 + 64 * h.val + e.val, by omega⟩)
def realD (h : Fin 8) (t : Fin 16384) (e : Fin 64) : ℝ := dr (ix2 t ⟨64 * h.val + e.val, by omega⟩)
def realG (h : Fin 8) (t : Fin 16384) : ℝ := fr (ix2 t h)

/-- The probabilities and the scores' gradient of a head. -/
def headProb (h : Fin 8) (t s : Fin 16384) : ℝ := Head.prob (realQ xr h) (realK xr h) (realG fr h) t s
def headDS (h : Fin 8) (t s : Fin 16384) : ℝ := Head.dscore (realQ xr h) (realK xr h) (realV xr h) (realD dr h) (realG fr h) t s

variable (hx : ∀ i, (show EReal from x i) = ((xr i : ℝ) : EReal)) (hf : ∀ i, (show EReal from hostF g i) = ((fr i : ℝ) : EReal))
  (hd : ∀ i, (show EReal from d i) = ((dr i : ℝ) : EReal))

include hx hf in
/-- The host's logits. -/
theorem hostLogits_at (fq : FVec Ideal S16384x8 .f32) (a : ℝ) (h : Fin 8) (t s : Fin 16384) (ha : (show EReal from fq (ix2 t h)) = (a : EReal)) :
    hostLogits (hostQ x) (hostK x) fq (hostF g) (ix3 h t s) = Head.logit (realQ xr h) (realK xr h) (realG fr h) a t s := by
  have hq : ∀ e : Fin 64, (show EReal from hostQ x (ix3 t h e)) * hostK x (ix3 s h e) = ((realQ xr h t e : ℝ) : EReal) * ((realK xr h s e : ℝ) : EReal) := by
    intro e
    rw [hostQ_at, hostK_at]
    exact congrArg₂ (· * ·) (hx _) (hx _)
  have hg : (show EReal from hostF g (ix2 s h)) = ((realG fr h s : ℝ) : EReal) := hf _
  unfold hostLogits
  rw [hostMasked_at, hostScores_at, Finset.sum_congr rfl fun e _ => hq e, hostEighth_eq, hostLeast_eq]
  unfold Head.logit
  by_cases hc : s.val ≤ t.val
  · rw [if_pos hc, if_pos hc, ← score_coe]
    exact congrArg₂ (fun u w : EReal => (∑ e : Fin 64, ((realQ xr h t e : ℝ) : EReal) * ((realK xr h s e : ℝ) : EReal)) * ((1 / 8 : ℝ) : EReal) + u - w) ha hg
  · rw [if_neg hc, if_neg hc]

include hx hf in
/-- The reference's logits. -/
theorem refLogits_at (h : Fin 8) (t s : Fin 16384) :
    Ref.allLogits x g (ix3 h t s) = Head.logit (realQ xr h) (realK xr h) (realG fr h) (realG fr h t) t s := by
  have hq : ∀ e : Fin 64, (show EReal from Ref.refQ x (ix3 t h e)) * Ref.refK x (ix3 s h e) = ((realQ xr h t e : ℝ) : EReal) * ((realK xr h s e : ℝ) : EReal) := by
    intro e
    rw [Ref.refQ_at, Ref.refK_at]
    exact congrArg₂ (· * ·) (hx _) (hx _)
  have hg : ∀ s : Fin 16384, (show EReal from hostF g (ix2 s h)) = ((realG fr h s : ℝ) : EReal) := fun s => hf _
  unfold Ref.allLogits
  rw [Ref.refMasked_at, Ref.refScores_at, Finset.sum_congr rfl fun e _ => hq e, show Ideal.ofBits .f32 0x3E000000#32 = _ from hostEighth_eq, show Ideal.ofBits .f32 0xFF800000#32 = _ from hostLeast_eq, refF_eq]
  unfold Head.logit
  by_cases hc : s.val ≤ t.val
  · rw [if_pos hc, if_pos hc, ← score_coe]
    exact congrArg₂ (fun u w : EReal => (∑ e : Fin 64, ((realQ xr h t e : ℝ) : EReal) * ((realK xr h s e : ℝ) : EReal)) * ((1 / 8 : ℝ) : EReal) + u - w) (hg t) (hg s)
  · rw [if_neg hc, if_neg hc]

end Args

end Cert.Proof.Fox

end
-- ==== Proof.Agree.lean ====
/- The kernel's and the reference's probabilities and score gradients are the same real numbers. -/
module

public import proofs.«01_k».proof.Proof.Values

@[expose] public section

set_option maxRecDepth 16384

noncomputable section

namespace Cert.Proof.Fox

open Cert.KernelIdeal Cert.KernelIdeal.Gen
open Idealize.ShloMosaic Idealize.ShloMosaic.TcCoe Idealize.SL.Sem

section Args

variable (x : FVec Ideal S16384x1536 .bf16) (g : FVec Ideal S16384x8 .f32) (d : FVec Ideal S16384x512 .bf16)
variable (xr : S16384x1536.Idx → ℝ) (fr : S16384x8.Idx → ℝ) (dr : S16384x512.Idx → ℝ)

/-- The arrays the launch reads besides its arguments: the padded gates, the log-sums, the deltas. -/
def gates : FVec Ideal S16384x128 .f32 := hostPad (hostF g)
def logSums : FVec Ideal S8x32x1x512 .f32 := hostRows (hostLse (hostLogits (hostQ x) (hostK x) hostZero (hostF g)))
def deltas : FVec Ideal S8x32x1x512 .f32 :=
  hostRows (hostDelta d (hostOut (hostV x)
    (hostProbs (hostExp (hostLogits (hostQ x) (hostK x) (hostF g) (hostF g)) (hostTop (hostLogits (hostQ x) (hostK x) (hostF g) (hostF g)))))))

variable (hx : ∀ i, (show EReal from x i) = ((xr i : ℝ) : EReal)) (hf : ∀ i, (show EReal from hostF g i) = ((fr i : ℝ) : EReal))
  (hd : ∀ i, (show EReal from d i) = ((dr i : ℝ) : EReal))

include hx hf in
/-- The log-sum that the kernel reads. -/
theorem logSums_at (h : Fin 8) (t : Fin 16384) : hrow (logSums x g) h t = ((Real.log (Head.total (realQ xr h) (realK xr h) (realG fr h) t) : ℝ) : EReal) := by
  have hl : ∀ s : Fin 16384, (show EReal from hostLogits (hostQ x) (hostK x) hostZero (hostF g) (ix3 h t s)) = Head.logit (realQ xr h) (realK xr h) (realG fr h) 0 t s :=
    fun s => hostLogits_at x g xr fr hx hf hostZero 0 h t s (hostZero_at t h)
  unfold hrow logSums
  rw [hostRows_at, place_of, hostLse_at]
  generalize hostLogits (hostQ x) (hostK x) hostZero (hostF g) = l at hl ⊢
  obtain ⟨M, hM⟩ := Head.logit_max (realQ xr h) (realK xr h) (realG fr h) 0 t
  have hmax : (show EReal from hostMax l (ix2 h t)) = (M : EReal) := hostMax_at l h t _ hl _ (by rw [hostLeast_eq]; exact hM)
  exact (congrArg₂ (fun u w : EReal => u + Ideal.log w) hmax
    (Finset.sum_congr rfl fun s _ => congrArg₂ (fun u w : EReal => Ideal.exp (u - w)) (hl s) hmax)).trans (Head.lse_eq _ _ _ M t)

include hx hf in
/-- The host's probabilities. -/
theorem hostProbs_real (h : Fin 8) (t s : Fin 16384) :
    (show EReal from hostProbs (hostExp (hostLogits (hostQ x) (hostK x) (hostF g) (hostF g)) (hostTop (hostLogits (hostQ x) (hostK x) (hostF g) (hostF g)))) (ix3 h t s))
      = ((headProb xr fr h t s : ℝ) : EReal) := by
  have hl : ∀ s : Fin 16384, (show EReal from hostLogits (hostQ x) (hostK x) (hostF g) (hostF g) (ix3 h t s))
      = Head.logit (realQ xr h) (realK xr h) (realG fr h) (realG fr h t) t s :=
    fun s => hostLogits_at x g xr fr hx hf (hostF g) (realG fr h t) h t s (hf _)
  generalize hostLogits (hostQ x) (hostK x) (hostF g) (hostF g) = l at hl ⊢
  obtain ⟨M, hM⟩ := Head.logit_max (realQ xr h) (realK xr h) (realG fr h) (realG fr h t) t
  have hmax : (show EReal from hostMax l (ix2 h t)) = (M : EReal) := hostMax_at l h t _ hl _ (by rw [hostLeast_eq]; exact hM)
  have htop : (show EReal from hostTop l (ix2 h t)) = (M : EReal) := by
    refine (hostTop_at l h t).trans ?_
    rw [hostLeast_eq]
    exact (max_eq_right bot_le).trans hmax
  have he : ∀ s : Fin 16384, (show EReal from hostExp l (hostTop l) (ix3 h t s))
      = ((Head.weight (realQ xr h) (realK xr h) (realG fr h) t s * Real.exp (realG fr h t - M) : ℝ) : EReal) := fun s =>
    (hostExp_at l (hostTop l) h t s).trans ((congrArg₂ (fun u w : EReal => Ideal.exp (u - w)) (hl s) htop).trans (Head.exp_logit _ _ _ _ M t s))
  refine (hostProbs_at _ h t s).trans ?_
  rw [Finset.sum_congr rfl fun s _ => he s, Head.sum_coe, ← Finset.sum_mul]
  refine (congrArg (fun u : EReal => Ideal.div u _) (he s)).trans ?_
  exact Head.softmax_eq _ _ _ _ M t s

include hx hf hd in
/-- The delta that the kernel reads. -/
theorem deltas_at (h : Fin 8) (t : Fin 16384) :
    hrow (deltas x g d) h t = ((Head.mean (realQ xr h) (realK xr h) (realV xr h) (realD dr h) (realG fr h) t : ℝ) : EReal) := by
  unfold hrow deltas
  rw [hostRows_at, place_of, hostDelta_at, ← Head.mean_eq]
  have hp := fun s => hostProbs_real x g xr fr hx hf h t s
  generalize hostProbs (hostExp (hostLogits (hostQ x) (hostK x) (hostF g) (hostF g)) (hostTop (hostLogits (hostQ x) (hostK x) (hostF g) (hostF g)))) = p at hp ⊢
  rw [← Head.sum_coe]
  refine Finset.sum_congr rfl fun e _ => ?_
  rw [hostOut_at]
  have hv : ∀ s : Fin 16384, (show EReal from hostV x (ix3 s h e)) * p (ix3 h t s) = ((realV xr h s e * headProb xr fr h t s : ℝ) : EReal) := by
    intro s
    rw [hostV_at, EReal.coe_mul]
    exact congrArg₂ (· * ·) (hx _) (hp s)
  rw [EReal.coe_mul, ← Head.sum_coe]
  exact congrArg₂ (fun u w : EReal => u * w) (hd _) (Finset.sum_congr rfl fun s _ => hv s)

include hx hf in
/-- The kernel's probability. -/
theorem hprob_real (h : Fin 8) (s t : Fin 16384) : hprob x (gates g) (logSums x g) h s t = ((headProb xr fr h t s : ℝ) : EReal) := by
  have hg : hgate (gates g) h s = ((realG fr h s : ℝ) : EReal) := (hostPad_at (hostF g) s h).trans (hf _)
  have hqk : ∀ e : Fin 64, hkey x h s e * (hqry x h t e * eighth) = ((realK xr h s e * (realQ xr h t e * (1 / 8)) : ℝ) : EReal) := by
    intro e
    rw [eighth_eq, EReal.coe_mul, EReal.coe_mul]
    exact congrArg₂ (fun u w : EReal => u * (w * _)) (hx _) (hx _)
  unfold hprob
  rw [hg, logSums_at x g xr fr hx hf h t, Finset.sum_congr rfl fun e _ => hqk e, Head.sum_coe]
  by_cases hc : s.val ≤ t.val
  · rw [if_pos hc, ← EReal.coe_sub, ← EReal.coe_sub, Ideal.exp_coe]
    unfold headProb
    rw [← Head.exp_score _ _ _ _ _ hc]
    congr 4
    rw [Finset.sum_mul]
    refine Finset.sum_congr rfl fun e _ => ?_
    ring
  · rw [if_neg hc]
    unfold headProb
    rw [Head.prob_hidden _ _ _ _ _ hc]
    rfl

include hx hf hd in
/-- The kernel's score gradient. -/
theorem hdscr_real (h : Fin 8) (s t : Fin 16384) :
    hdscr x d (gates g) (logSums x g) (deltas x g d) h s t = ((headDS xr fr dr h t s : ℝ) : EReal) := by
  have hvd : ∀ e : Fin 64, hval x h s e * hdou d h t e = ((realD dr h t e * realV xr h s e : ℝ) : EReal) := by
    intro e
    rw [EReal.coe_mul, mul_comm]
    exact congrArg₂ (· * ·) (hd _) (hx _)
  unfold hdscr
  rw [hprob_real x g xr fr hx hf, deltas_at x g d xr fr dr hx hf hd, Finset.sum_congr rfl fun e _ => hvd e, Head.sum_coe, ← EReal.coe_sub, ← EReal.coe_mul]
  rfl

/-- The reference's exponentials, with the row's largest logit a real number. -/
theorem refExp_real (h : Fin 8) (t : Fin 16384) (hx : ∀ i, (show EReal from x i) = ((xr i : ℝ) : EReal)) (hf : ∀ i, (show EReal from hostF g i) = ((fr i : ℝ) : EReal)) :
    ∃ M : ℝ, ∀ s : Fin 16384, (show EReal from Ref.allExp x g (ix3 h t s))
      = ((Head.weight (realQ xr h) (realK xr h) (realG fr h) t s * Real.exp (realG fr h t - M) : ℝ) : EReal) := by
  have hl : ∀ s : Fin 16384, (show EReal from Ref.allLogits x g (ix3 h t s)) = Head.logit (realQ xr h) (realK xr h) (realG fr h) (realG fr h t) t s :=
    fun s => refLogits_at x g xr fr hx hf h t s
  unfold Ref.allExp
  generalize Ref.allLogits x g = l at hl ⊢
  obtain ⟨M, hM⟩ := Head.logit_max (realQ xr h) (realK xr h) (realG fr h) (realG fr h t) t
  have hmax : (show EReal from Ref.refMax l (ix2 h t)) = (M : EReal) := Ref.refMax_at l h t _ hl _ (by rw [show Ideal.ofBits .f32 0xFF800000#32 = _ from hostLeast_eq]; exact hM)
  have htop : (show EReal from Ref.refTop (Ref.refMax l) (ix2 h t)) = (M : EReal) := by
    refine (Ref.refTop_at (Ref.refMax l) h t).trans ?_
    rw [show Ideal.ofBits .f32 0xFF800000#32 = _ from hostLeast_eq]
    exact (max_eq_right bot_le).trans hmax
  exact ⟨M, fun s => (Ref.refExp_at l (Ref.refTop (Ref.refMax l)) h t s).trans
    ((congrArg₂ (fun u w : EReal => Ideal.exp (u - w)) (hl s) htop).trans (Head.exp_logit _ _ _ _ M t s))⟩

include hx hf in
/-- The reference's probabilities. -/
theorem refProb_real (h : Fin 8) (t s : Fin 16384) :
    (show EReal from Ref.refOver (Ref.allExp x g) (Ref.refSum (Ref.allExp x g)) (ix3 h t s)) = ((headProb xr fr h t s : ℝ) : EReal) := by
  obtain ⟨M, he⟩ := refExp_real x g xr fr h t hx hf
  generalize Ref.allExp x g = l at he ⊢
  refine (Ref.refOver_at _ _ h t s).trans ?_
  rw [Ref.refSum_at, Finset.sum_congr rfl fun s _ => he s, Head.sum_coe, ← Finset.sum_mul]
  refine (congrArg (fun u : EReal => Ideal.div u _) (he s)).trans ?_
  exact Head.softmax_eq _ _ _ _ M t s

include hx hf hd in
/-- The reference's score gradient. -/
theorem refDS_real (h : Fin 8) (t s : Fin 16384) : (show EReal from Ref.allDS x g d (ix3 h t s)) = ((headDS xr fr dr h t s : ℝ) : EReal) := by
  obtain ⟨M, he⟩ := refExp_real x g xr fr h t hx hf
  have hdp : ∀ s : Fin 16384, (show EReal from Ref.allDP x d (ix3 h t s)) = ((Head.dprob (realV xr h) (realD dr h) t s : ℝ) : EReal) := by
    intro s
    unfold Ref.allDP
    refine (Ref.refDP_at _ _ h t s).trans ?_
    unfold Head.dprob
    rw [← Head.sum_coe]
    refine Finset.sum_congr rfl fun e _ => ?_
    rw [Ref.refD_at, Ref.refV_at, EReal.coe_mul]
    exact congrArg₂ (· * ·) (hd _) (hx _)
  unfold Ref.allDS
  generalize Ref.allExp x g = l at he ⊢
  generalize Ref.allDP x d = w at hdp ⊢
  have hz : (show EReal from Ref.refSum l (ix3 h t 0)) = ((Head.total (realQ xr h) (realK xr h) (realG fr h) t * Real.exp (realG fr h t - M) : ℝ) : EReal) := by
    refine (Ref.refSum_at l h t).trans ?_
    rw [Finset.sum_congr rfl fun s _ => he s, Head.sum_coe, ← Finset.sum_mul]
    rfl
  have hpos : Head.total (realQ xr h) (realK xr h) (realG fr h) t * Real.exp (realG fr h t - M) ≠ 0 :=
    (mul_pos (Head.total_pos _ _ _ _) (Real.exp_pos _)).ne'
  have hover : (show EReal from Ref.refOver w (Ref.refSum l) (ix3 h t s))
      = ((Head.dprob (realV xr h) (realD dr h) t s * (1 / (Head.total (realQ xr h) (realK xr h) (realG fr h) t * Real.exp (realG fr h t - M))) : ℝ) : EReal) := by
    refine (Ref.refOver_at _ _ h t s).trans ?_
    refine (congrArg₂ Ideal.div (hdp s) hz).trans ?_
    rw [Ideal.div_coe hpos, ← EReal.coe_mul]
  have hinner : (show EReal from Ref.refInner w l (Ref.refSum l) (ix2 h t))
      = ((-(∑ r : Fin 16384, Head.dprob (realV xr h) (realD dr h) t r
          * (1 / ((Head.total (realQ xr h) (realK xr h) (realG fr h) t * Real.exp (realG fr h t - M)) * (Head.total (realQ xr h) (realK xr h) (realG fr h) t * Real.exp (realG fr h t - M))))
          * (Head.weight (realQ xr h) (realK xr h) (realG fr h) t r * Real.exp (realG fr h t - M))) : ℝ) : EReal) := by
    refine (Ref.refInner_at w l (Ref.refSum l) h t).trans ?_
    have hdiv : Ideal.div 1 ((show EReal from Ref.refSum l (ix3 h t 0)) * Ref.refSum l (ix3 h t 0))
        = ((1 / ((Head.total (realQ xr h) (realK xr h) (realG fr h) t * Real.exp (realG fr h t - M)) * (Head.total (realQ xr h) (realK xr h) (realG fr h) t * Real.exp (realG fr h t - M))) : ℝ) : EReal) := by
      refine (congrArg (fun u : EReal => Ideal.div 1 (u * u)) hz).trans ?_
      show Ideal.div 1 (((_ : ℝ) : EReal) * ((_ : ℝ) : EReal)) = _
      rw [← EReal.coe_mul, Ideal.div_coe (mul_ne_zero hpos hpos), one_mul]
    rw [EReal.coe_neg, ← Head.sum_coe, hdiv]
    refine congrArg Neg.neg (Finset.sum_congr rfl fun r _ => ?_)
    rw [EReal.coe_mul, EReal.coe_mul]
    exact congrArg₂ (fun u v : EReal => u * _ * v) (hdp r) (he r)
  refine (Ref.refDS_at _ _ _ h t s).trans ?_
  unfold headDS
  by_cases hc : s.val ≤ t.val
  · rw [if_pos hc, ← Head.dscore_eq _ _ _ _ _ (realG fr h t) M, EReal.coe_mul, EReal.coe_add]
    exact congrArg₂ (· * ·) (congrArg₂ (· + ·) hover hinner) (he s)
  · rw [if_neg hc, Head.dscore_hidden _ _ _ _ _ _ _ hc]
    rfl

end Args

end Cert.Proof.Fox

end
-- ==== Proof.Results.lean ====
/- The kernel's results are the reference's. -/
module

public import proofs.«01_k».proof.Proof.Agree

@[expose] public section

set_option maxRecDepth 16384

noncomputable section

namespace Cert.Proof.Fox

open Cert.KernelIdeal Cert.KernelIdeal.Gen
open Idealize.ShloMosaic Idealize.ShloMosaic.TcCoe Idealize.SL.Sem

section Args

variable (x : FVec Ideal S16384x1536 .bf16) (g : FVec Ideal S16384x8 .f32) (d : FVec Ideal S16384x512 .bf16)
variable (xr : S16384x1536.Idx → ℝ) (fr : S16384x8.Idx → ℝ) (dr : S16384x512.Idx → ℝ)
variable (hx : ∀ i, (show EReal from x i) = ((xr i : ℝ) : EReal)) (hf : ∀ i, (show EReal from hostF g i) = ((fr i : ℝ) : EReal))
  (hd : ∀ i, (show EReal from d i) = ((dr i : ℝ) : EReal))

include hx hf hd in
theorem refScaled_real (h : Fin 8) (t s : Fin 16384) :
    (show EReal from Ref.refScaled (Ref.allDS x g d) (ix3 h t s)) = ((headDS xr fr dr h t s * (1 / 8) : ℝ) : EReal) := by
  refine (Ref.refScaled_at _ h t s).trans ?_
  rw [show Ideal.ofBits .f32 0x3E000000#32 = _ from hostEighth_eq, EReal.coe_mul]
  exact congrArg₂ (fun u w : EReal => u * w) (refDS_real x g d xr fr dr hx hf hd h t s) rfl

include hx hf hd in
/-- The queries' gradient. -/
theorem result_dq : finalDq x d (gates g) (logSums x g) (deltas x g d) = Ref.refFlat (Ref.refDQ (Ref.refScaled (Ref.allDS x g d)) (Ref.refK x)) := by
  have hs := refScaled_real x g d xr fr dr hx hf hd
  funext i
  obtain ⟨t, w, rfl⟩ : ∃ t w, i = ix2 t w := ⟨i 0, i 1, eq_ix2 i⟩
  refine Eq.trans ?_ (Ref.refFlat_at _ t w).symm
  refine Eq.trans ?_ (Ref.refDQ_at _ _ t (headOf w) (laneOf w)).symm
  show (∑ s, dqTerm x d (gates g) (logSums x g) (deltas x g d) (headOf w) t (laneOf w) s) = _
  refine Finset.sum_congr rfl fun s _ => ?_
  unfold dqTerm
  rw [hdscr_real x g d xr fr dr hx hf hd, eighth_eq, Ref.refK_at]
  have e1 : hkey x (headOf w) s (laneOf w) = ((realK xr (headOf w) s (laneOf w) : ℝ) : EReal) := hx _
  have e2 : (show EReal from Ref.refScaled (Ref.allDS x g d) (ix3 (headOf w) t s)) * (show EReal from x (ix2 s ⟨512 + 64 * (headOf w).val + (laneOf w).val, by omega⟩))
      = ((headDS xr fr dr (headOf w) t s * (1 / 8) * realK xr (headOf w) s (laneOf w) : ℝ) : EReal) := by
    rw [EReal.coe_mul]
    exact congrArg₂ (· * ·) (hs _ t s) (hx _)
  refine Eq.trans ?_ e2.symm
  rw [e1, ← EReal.coe_mul, ← EReal.coe_mul]
  congr 1
  ring

include hx hf hd in
/-- The keys' gradient. -/
theorem result_dk : finalDk x d (gates g) (logSums x g) (deltas x g d) = Ref.refFlatB (Ref.refDK (Ref.refScaled (Ref.allDS x g d)) (Ref.refQ x)) := by
  have hs := refScaled_real x g d xr fr dr hx hf hd
  funext i
  obtain ⟨s, w, rfl⟩ : ∃ s w, i = ix2 s w := ⟨i 0, i 1, eq_ix2 i⟩
  refine Eq.trans ?_ (Ref.refFlatB_at _ s w).symm
  refine Eq.trans ?_ (Ref.refDK_at _ _ s (headOf w) (laneOf w)).symm
  show (∑ q, dkTerm x d (gates g) (logSums x g) (deltas x g d) (headOf w) s (laneOf w) q) = _
  refine Finset.sum_congr rfl fun t _ => ?_
  unfold dkTerm
  rw [hdscr_real x g d xr fr dr hx hf hd, eighth_eq, Ref.refQ_at]
  have e1 : hqry x (headOf w) t (laneOf w) = ((realQ xr (headOf w) t (laneOf w) : ℝ) : EReal) := hx _
  have e2 : (show EReal from Ref.refScaled (Ref.allDS x g d) (ix3 (headOf w) t s)) * (show EReal from x (ix2 t ⟨64 * (headOf w).val + (laneOf w).val, by omega⟩))
      = ((headDS xr fr dr (headOf w) t s * (1 / 8) * realQ xr (headOf w) t (laneOf w) : ℝ) : EReal) := by
    rw [EReal.coe_mul]
    exact congrArg₂ (· * ·) (hs _ t s) (hx _)
  refine Eq.trans ?_ e2.symm
  rw [e1, ← EReal.coe_mul, ← EReal.coe_mul]
  congr 1
  ring

include hx hf hd in
/-- The values' gradient. -/
theorem result_dv : finalDv x d (gates g) (logSums x g) = Ref.refFlatB (Ref.refDV (Ref.refD d) (Ref.refOver (Ref.allExp x g) (Ref.refSum (Ref.allExp x g)))) := by
  funext i
  obtain ⟨s, w, rfl⟩ : ∃ s w, i = ix2 s w := ⟨i 0, i 1, eq_ix2 i⟩
  refine Eq.trans ?_ (Ref.refFlatB_at _ s w).symm
  refine Eq.trans ?_ (Ref.refDV_at _ _ s (headOf w) (laneOf w)).symm
  show (∑ q, dvTerm x d (gates g) (logSums x g) (headOf w) s (laneOf w) q) = _
  refine Finset.sum_congr rfl fun t _ => ?_
  unfold dvTerm
  rw [hprob_real x g xr fr hx hf, Ref.refD_at, mul_comm]
  exact congrArg₂ (fun u v : EReal => u * v) rfl (refProb_real x g xr fr hx hf (headOf w) t s).symm

include hx hf hd in
/-- The gates' gradient at the keys. -/
theorem result_df : finalDf x d (gates g) (logSums x g) (deltas x g d) = Ref.refPairs (Ref.refKeys (Ref.allDS x g d)) := by
  have hsum : ∀ (h : Fin 8) (s : Fin 16384), 0 - (∑ q, hdscr x d (gates g) (logSums x g) (deltas x g d) h s q) = Ref.refKeys (Ref.allDS x g d) (ix2 h s) := by
    intro h s
    refine Eq.trans ?_ (Ref.refKeys_at _ h s).symm
    have e : ∀ t : Fin 16384, -(show EReal from Ref.allDS x g d (ix3 h t s)) = ((-headDS xr fr dr h t s : ℝ) : EReal) := fun t =>
      congrArg Neg.neg (refDS_real x g d xr fr dr hx hf hd h t s)
    rw [Finset.sum_congr rfl fun t _ => hdscr_real x g d xr fr dr hx hf hd h s t, Head.sum_coe, Finset.sum_congr rfl fun t _ => e t, Head.sum_coe,
      Finset.sum_neg_distrib, EReal.coe_neg, zero_sub]
  funext i
  obtain ⟨p, s, l, rfl⟩ : ∃ p s l, i = ix3 p s l := ⟨i 0, i 1, i 2, eq_ix3 i⟩
  refine Eq.trans ?_ (Ref.refPairs_at _ p s l).symm
  show keyGate x d (gates g) (logSums x g) (deltas x g d) p s l = _
  unfold keyGate
  rw [hsum, hsum]
  by_cases h0 : l.val = 0
  · rw [if_pos h0, dif_pos (by omega)]
    exact congrArg (Ref.refKeys (Ref.allDS x g d)) (congrArg (fun z => ix2 z s) (Fin.ext (show 2 * p.val = 2 * p.val + l.val by omega)))
  · by_cases h1 : l.val = 1
    · rw [if_neg h0, if_pos h1, dif_pos (by omega)]
      exact congrArg (Ref.refKeys (Ref.allDS x g d)) (congrArg (fun z => ix2 z s) (Fin.ext (show 2 * p.val + 1 = 2 * p.val + l.val by omega)))
    · rw [if_neg h0, if_neg h1, dif_neg (by omega)]

include hx hf hd in
/-- The gates' gradient at the queries. -/
theorem result_dfq : finalDfq x d (gates g) (logSums x g) (deltas x g d) = Ref.refRows (Ref.refQrys (Ref.allDS x g d)) := by
  funext i
  obtain ⟨h, n, z, y, rfl⟩ : ∃ h n z y, i = ix4 h n z y := ⟨i 0, i 1, i 2, i 3, eq_ix4 i⟩
  obtain rfl : z = 0 := Subsingleton.elim _ _
  refine Eq.trans ?_ (Ref.refRows_at _ h n y).symm
  refine Eq.trans ?_ (Ref.refQrys_at _ h (place n y)).symm
  show (∑ s, hdscr x d (gates g) (logSums x g) (deltas x g d) h s (place n y)) = _
  exact Finset.sum_congr rfl fun s _ => (hdscr_real x g d xr fr dr hx hf hd h s (place n y)).trans (refDS_real x g d xr fr dr hx hf hd h (place n y) s).symm

end Args

end Cert.Proof.Fox

end
-- ==== Proof.Value.lean ====
/- The value claim: on finite arguments the kernel and the reference return the same arrays. -/
module

public import proofs.«01_k».proof.Proof.Finite
public import proofs.«01_k».proof.Proof.Results

@[expose] public section

set_option maxRecDepth 16384

noncomputable section

namespace Cert.Proof.Fox

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The launch's arrays, of the arguments. -/
abbrev argX : FVec Ideal S16384x1536 .bf16 := m ((c.tc : Thread nD τ).loc main_arg0)
abbrev argG : FVec Ideal S16384x8 .f32 := m ((c.tc : Thread nD τ).loc main_arg1)
abbrev argD : FVec Ideal S16384x512 .bf16 := m ((c.tc : Thread nD τ).loc main_arg2)

theorem qkvAt_eq : qkvAt m c = argX m c := V_main_arg0 m c
theorem douAt_eq : douAt m c = argD m c := V_main_arg2 m c
theorem gateAt_eq : gateAt m c = gates (argG m c) := entry_gate m c
theorem lseAt_eq : lseAt m c = logSums (argX m c) (argG m c) := entry_lse m c
theorem dltAt_eq : dltAt m c = deltas (argX m c) (argG m c) (argD m c) := entry_dlt m c

theorem congr_five {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he
  rfl

/-- The windows' arrays at the end, of the arguments. -/
theorem end_dq : (dats m 0 c).arrAt 7 cfg0.N = finalDq (argX m c) (argD m c) (gates (argG m c)) (logSums (argX m c) (argG m c)) (deltas (argX m c) (argG m c) (argD m c)) :=
  (arr_dq m c).trans (congr_five finalDq (qkvAt_eq m c) (douAt_eq m c) (gateAt_eq m c) (lseAt_eq m c) (dltAt_eq m c))
theorem end_dk : (dats m 0 c).arrAt 8 cfg0.N = finalDk (argX m c) (argD m c) (gates (argG m c)) (logSums (argX m c) (argG m c)) (deltas (argX m c) (argG m c) (argD m c)) :=
  (arr_dk m c).trans (congr_five finalDk (qkvAt_eq m c) (douAt_eq m c) (gateAt_eq m c) (lseAt_eq m c) (dltAt_eq m c))
theorem end_dv : (dats m 0 c).arrAt 9 cfg0.N = finalDv (argX m c) (argD m c) (gates (argG m c)) (logSums (argX m c) (argG m c)) :=
  (arr_dv m c).trans (congr_five (fun A D G L (_ : Unit) => finalDv A D G L) (qkvAt_eq m c) (douAt_eq m c) (gateAt_eq m c) (lseAt_eq m c) (rfl : () = ()))
theorem end_df : (dats m 0 c).arrAt 10 cfg0.N = finalDf (argX m c) (argD m c) (gates (argG m c)) (logSums (argX m c) (argG m c)) (deltas (argX m c) (argG m c) (argD m c)) :=
  (arr_df m c).trans (congr_five finalDf (qkvAt_eq m c) (douAt_eq m c) (gateAt_eq m c) (lseAt_eq m c) (dltAt_eq m c))
theorem end_dfq : (dats m 0 c).arrAt 11 cfg0.N = finalDfq (argX m c) (argD m c) (gates (argG m c)) (logSums (argX m c) (argG m c)) (deltas (argX m c) (argG m c) (argD m c)) :=
  (arr_dfq m c).trans (congr_five finalDfq (qkvAt_eq m c) (douAt_eq m c) (gateAt_eq m c) (lseAt_eq m c) (dltAt_eq m c))

/-- After the run a result's buffer holds its window's array, whatever the proof data. -/
theorem ends_of (dts : (p : Fin 1) → (c : Dev nD) → Idealize.ShloMosaic.Pipeline.Dat τ (Elt Ideal) Unit ℕ (UR sig nD τ) ℕ (cfgs p) c) (r : PUnit × MemSt nD τ sig (Elt Ideal))
    (h : Pipeline.FramePost cfgs dts 0 (V m) r) (c : Dev nD) :
    r.2.mem ((c.tc : Thread nD τ).loc main_v75_0) = (dts 0 c).arrAt 7 cfg0.N
      ∧ r.2.mem ((c.tc : Thread nD τ).loc main_v75_1) = (dts 0 c).arrAt 8 cfg0.N
      ∧ r.2.mem ((c.tc : Thread nD τ).loc main_v75_2) = (dts 0 c).arrAt 9 cfg0.N
      ∧ r.2.mem ((c.tc : Thread nD τ).loc main_v75_3) = (dts 0 c).arrAt 10 cfg0.N
      ∧ r.2.mem ((c.tc : Thread nD τ).loc main_v75_4) = (dts 0 c).arrAt 11 cfg0.N :=
  ⟨(h c).1 7, (h c).1 8, (h c).1 9, (h c).1 10, (h c).1 11⟩

/-- The kernel's results, as arrays of its arguments. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75_0) = finalDq (argX m c) (argD m c) (gates (argG m c)) (logSums (argX m c) (argG m c)) (deltas (argX m c) (argG m c) (argD m c))
      ∧ r.2.mem ((c.tc : Thread nD τ).loc main_v75_1) = finalDk (argX m c) (argD m c) (gates (argG m c)) (logSums (argX m c) (argG m c)) (deltas (argX m c) (argG m c) (argD m c))
      ∧ r.2.mem ((c.tc : Thread nD τ).loc main_v75_2) = finalDv (argX m c) (argD m c) (gates (argG m c)) (logSums (argX m c) (argG m c))
      ∧ r.2.mem ((c.tc : Thread nD τ).loc main_v75_3) = finalDf (argX m c) (argD m c) (gates (argG m c)) (logSums (argX m c) (argG m c)) (deltas (argX m c) (argG m c) (argD m c))
      ∧ r.2.mem ((c.tc : Thread nD τ).loc main_v75_4) = finalDfq (argX m c) (argD m c) (gates (argG m c)) (logSums (argX m c) (argG m c)) (deltas (argX m c) (argG m c) (argD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono ?_ (θ_run_and (run_all (F := Ideal) m ρ) (run_main (F := Ideal) m ρ))
  intro r h c
  have e := ends_of m (dats m) r h.1.1 c
  have h0 := e.1.trans (end_dq m c)
  have h1 := e.2.1.trans (end_dk m c)
  have h2 := e.2.2.1.trans (end_dv m c)
  have h3 := e.2.2.2.1.trans (end_df m c)
  have h4 := e.2.2.2.2.trans (end_dfq m c)
  have ha := h.2.1 c
  clear e h
  exact ⟨h0, h1, h2, h3, h4, ha⟩

end Cert.Proof.Fox

end
-- ==== Proof.Equal.lean ====
/- The two programs, run from equal finite arguments, return equal arrays. -/
module

public import proofs.«01_k».proof.Proof.Value

@[expose] public section

set_option maxRecDepth 16384

noncomputable section

namespace Cert.Proof.Fox

open Cert.KernelIdeal Cert.KernelIdeal.Gen
open Idealize.ShloMosaic Idealize.ShloMosaic.TcCoe Idealize.SL.Sem

/-- The five equalities of the results, from arguments that are arrays of real numbers. -/
theorem results_eq (x : FVec Ideal S16384x1536 .bf16) (g : FVec Ideal S16384x8 .f32) (d : FVec Ideal S16384x512 .bf16)
    (hx : ∀ i, ∃ r : ℝ, (show EReal from x i) = (r : EReal)) (hg : ∀ i, ∃ r : ℝ, (show EReal from g i) = (r : EReal)) (hd : ∀ i, ∃ r : ℝ, (show EReal from d i) = (r : EReal)) :
    finalDq x d (gates g) (logSums x g) (deltas x g d) = Ref.refFlat (Ref.refDQ (Ref.refScaled (Ref.allDS x g d)) (Ref.refK x))
      ∧ finalDk x d (gates g) (logSums x g) (deltas x g d) = Ref.refFlatB (Ref.refDK (Ref.refScaled (Ref.allDS x g d)) (Ref.refQ x))
      ∧ finalDv x d (gates g) (logSums x g) = Ref.refFlatB (Ref.refDV (Ref.refD d) (Ref.refOver (Ref.allExp x g) (Ref.refSum (Ref.allExp x g))))
      ∧ finalDf x d (gates g) (logSums x g) (deltas x g d) = Ref.refPairs (Ref.refKeys (Ref.allDS x g d))
      ∧ finalDfq x d (gates g) (logSums x g) (deltas x g d) = Ref.refRows (Ref.refQrys (Ref.allDS x g d)) := by
  choose xr hxr using hx
  choose fr hfr using hostF_real g hg
  choose dr hdr using hd
  exact ⟨result_dq x g d xr fr dr hxr hfr hdr, result_dk x g d xr fr dr hxr hfr hdr, result_dv x g d xr fr dr hxr hfr hdr, result_df x g d xr fr dr hxr hfr hdr,
    result_dfq x g d xr fr dr hxr hfr hdr⟩

/-- The reference's results, as stages of its arguments. -/
theorem reference_run (m : (ℓ : Loc Cert.ReferenceIdeal.nD Cert.ReferenceIdeal.τ Cert.ReferenceIdeal.sig) → Buf (Elt Ideal) ℓ) (ρ : Dev Cert.ReferenceIdeal.nD → PrngReg)
    (x : (c : Dev Cert.ReferenceIdeal.nD) → FVec Ideal S16384x1536 .bf16) (g : (c : Dev Cert.ReferenceIdeal.nD) → FVec Ideal S16384x8 .f32) (d : (c : Dev Cert.ReferenceIdeal.nD) → FVec Ideal S16384x512 .bf16)
    (hx : ∀ c : Dev Cert.ReferenceIdeal.nD, m ((c.tc : Thread Cert.ReferenceIdeal.nD Cert.ReferenceIdeal.τ).loc Cert.ReferenceIdeal.main_arg0) = x c)
    (hg : ∀ c : Dev Cert.ReferenceIdeal.nD, m ((c.tc : Thread Cert.ReferenceIdeal.nD Cert.ReferenceIdeal.τ).loc Cert.ReferenceIdeal.main_arg1) = g c)
    (hd : ∀ c : Dev Cert.ReferenceIdeal.nD, m ((c.tc : Thread Cert.ReferenceIdeal.nD Cert.ReferenceIdeal.τ).loc Cert.ReferenceIdeal.main_arg2) = d c) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v94) = Ref.refFlat (Ref.refDQ (Ref.refScaled (Ref.allDS (x c) (g c) (d c))) (Ref.refK (x c)))
      ∧ r.2.mem ((c.tc : Thread Cert.ReferenceIdeal.nD Cert.ReferenceIdeal.τ).loc Cert.ReferenceIdeal.main_v96) = Ref.refFlatB (Ref.refDK (Ref.refScaled (Ref.allDS (x c) (g c) (d c))) (Ref.refQ (x c)))
      ∧ r.2.mem ((c.tc : Thread Cert.ReferenceIdeal.nD Cert.ReferenceIdeal.τ).loc Cert.ReferenceIdeal.main_v98) = Ref.refFlatB (Ref.refDV (Ref.refD (d c)) (Ref.refOver (Ref.allExp (x c) (g c)) (Ref.refSum (Ref.allExp (x c) (g c)))))
      ∧ r.2.mem ((c.tc : Thread Cert.ReferenceIdeal.nD Cert.ReferenceIdeal.τ).loc Cert.ReferenceIdeal.main_v93) = Ref.refPairs (Ref.refKeys (Ref.allDS (x c) (g c) (d c)))
      ∧ r.2.mem ((c.tc : Thread Cert.ReferenceIdeal.nD Cert.ReferenceIdeal.τ).loc Cert.ReferenceIdeal.main_v100) = Ref.refRows (Ref.refQrys (Ref.allDS (x c) (g c) (d c)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run Cert.ReferenceIdeal.defs _ _).mono (fun r h c => ?_) (Cert.ReferenceIdeal.Value.run (F := Ideal) m ρ)
  obtain ⟨h0, h1, h2, h3, h4, ha⟩ := h c
  have e0 := h0.trans (Ref.res_dq m c)
  have e1 := h1.trans (Ref.res_dk m c)
  have e2 := h2.trans (Ref.res_dv m c)
  have e3 := h3.trans (Ref.res_df m c)
  have e4 := h4.trans (Ref.res_dfq m c)
  rw [hx c, hg c, hd c] at e0 e1 e3 e4
  rw [hx c, hg c, hd c] at e2
  exact ⟨e0, e1, e2, e3, e4, ha⟩

/-- The value claim. -/
theorem value_claim : Cert.algebraic_KernelIdeal_ReferenceIdeal_pre_finite := by
  intro m g m' g' hpre hargs
  have hres : ∀ c : Dev nD, _ := fun c => results_eq (argX m c) (argG m c) (argD m c) (reals_of_finite _ _ _ (hpre c)).1 (reals_of_finite _ _ _ (hpre c)).2.1
    (reals_of_finite _ _ _ (hpre c)).2.2
  have hk := kernel_run m g
  have hr := reference_run m' g' (fun c => argX m c) (fun c => argG m c) (fun c => argD m c) (fun c => (hargs c).1) (fun c => (hargs c).2.1) (fun c => (hargs c).2.2)
  refine ⟨_, _, _, _, _, hk, ?_⟩
  refine (θ_run Cert.ReferenceIdeal.defs _ _).mono (fun r h c => ?_) hr
  obtain ⟨h0, h1, h2, h3, h4, ha⟩ := h c
  obtain ⟨k0, k1, k2, k3, k4⟩ := hres c
  exact ⟨h0.trans k0.symm, h1.trans k1.symm, h2.trans k2.symm, h3.trans k3.symm, h4.trans k4.symm, ha⟩

end Cert.Proof.Fox

end
-- ==== Proof.Product.lean ====
/- Sums taken a block of terms at a time: the products of large matrices, as the kernel accumulates them. -/
module

public import Idealize.ShloMosaic.Lib.Pointwise

@[expose] public section

noncomputable section

namespace Cert.Proof.Prod

open Idealize.ShloMosaic

/-- The terms of a sum over `n` places, by their numbers; zero beyond the last. -/
def termAt (n : ℕ) (f : Fin n → EReal) (k : ℕ) : EReal := if h : k < n then f ⟨k, h⟩ else 0

/-- The sum of the `b`th block of `s` terms. -/
def blockSum (n s b : ℕ) (f : Fin n → EReal) : EReal := ∑ k : Fin s, termAt n f (s * b + k.val)

/-- A block's sum, from its terms. -/
theorem blockSum_eq (n s b : ℕ) (f : Fin n → EReal) (h : s * (b + 1) ≤ n) (u : Fin s → EReal)
    (hu : ∀ k : Fin s, u k = f ⟨s * b + k.val, lt_of_lt_of_le (by rw [Nat.mul_succ]; exact Nat.add_lt_add_left k.isLt _) h⟩) :
    ∑ k, u k = blockSum n s b f :=
  Finset.sum_congr rfl fun k _ => by
    have hk : s * b + k.val < n := lt_of_lt_of_le (by rw [Nat.mul_succ]; exact Nat.add_lt_add_left k.isLt _) h
    rw [hu k, termAt, dif_pos hk]

/-- The terms before a block, and the block. -/
theorem sum_block_succ (s b : ℕ) (t : ℕ → EReal) :
    (∑ k ∈ Finset.range (s * b), t k) + ∑ k : Fin s, t (s * b + k.val) = ∑ k ∈ Finset.range (s * (b + 1)), t k := by
  rw [show s * (b + 1) = s * b + s from by ring, Finset.sum_range_add t (s * b) s, ← Fin.sum_univ_eq_sum_range (fun k => t (s * b + k)) s]

/-- All the terms by their numbers. -/
theorem sum_termAt (n : ℕ) (f : Fin n → EReal) : ∑ k ∈ Finset.range n, termAt n f k = ∑ k, f k := by
  rw [Finset.sum_range]
  exact Finset.sum_congr rfl fun k _ => dif_pos k.isLt

/-- An accumulator that starts with the first block's sum and takes up one block after the other holds the terms met. -/
theorem accumulator (n s b : ℕ) (f : Fin n → EReal) (acc : (j : ℕ) → j ≤ b → EReal) (first : acc 0 (Nat.zero_le b) = blockSum n s 0 f)
    (next : ∀ (j : ℕ) (h : j + 1 ≤ b), acc (j + 1) h = acc j (Nat.le_of_succ_le h) + blockSum n s (j + 1) f) :
    ∀ (j : ℕ) (h : j ≤ b), acc j h = ∑ k ∈ Finset.range (s * (j + 1)), termAt n f k := by
  intro j
  induction j with
  | zero => intro h; rw [first, blockSum, ← sum_block_succ]; simp
  | succ j ih => intro h; rw [next, ih, blockSum, sum_block_succ]

/-- The accumulator of all the blocks but the last, and the last one's sum, are the whole sum. -/
theorem accumulated (n s b : ℕ) (hn : s * (b + 2) = n) (f : Fin n → EReal) (acc : (j : ℕ) → j ≤ b → EReal) (first : acc 0 (Nat.zero_le b) = blockSum n s 0 f)
    (next : ∀ (j : ℕ) (h : j + 1 ≤ b), acc (j + 1) h = acc j (Nat.le_of_succ_le h) + blockSum n s (j + 1) f) :
    acc b (le_refl b) + blockSum n s (b + 1) f = ∑ k, f k := by
  rw [accumulator n s b f acc first next, blockSum, sum_block_succ, hn, sum_termAt]

/-- A grid whose points go through the blocks of one entry after another, `b + 2` to an entry: a point's product `prod` starts the
    scratch `scr` at an entry's first point, is added to it at the points between, and at the last point is added to it into the
    result `out`, which then is the whole sum. -/
theorem swept (N n s b : ℕ) (hn : s * (b + 2) = n) (out scr prod : (t : ℕ) → t < N → EReal)
    (first : ∀ t h, t % (b + 2) = 0 → scr t h = prod t h)
    (middle : ∀ t h, 1 ≤ t % (b + 2) → t % (b + 2) ≠ b + 1 → scr t h = scr (t - 1) (lt_of_le_of_lt (Nat.sub_le _ _) h) + prod t h)
    (last : ∀ t h, t % (b + 2) = b + 1 → out t h = scr (t - 1) (lt_of_le_of_lt (Nat.sub_le _ _) h) + prod t h)
    (q : ℕ) (h : (b + 2) * q + (b + 1) < N) (f : Fin n → EReal)
    (block : ∀ (j : ℕ) (hj : (b + 2) * q + j < N), j < b + 2 → prod ((b + 2) * q + j) hj = blockSum n s j f) :
    out ((b + 2) * q + (b + 1)) h = ∑ k, f k := by
  have hm : ∀ j, j < b + 2 → ((b + 2) * q + j) % (b + 2) = j := fun j hj => by rw [Nat.mul_add_mod, Nat.mod_eq_of_lt hj]
  have hN : ∀ j, j ≤ b → (b + 2) * q + j < N := fun j hj => lt_of_le_of_lt (Nat.add_le_add_left (hj.trans (Nat.le_succ b)) _) h
  rw [last _ h (hm _ (by omega)), block _ h (by omega)]
  refine accumulated n s b hn f (fun j hj => scr ((b + 2) * q + j) (hN j hj)) ?_ fun j hj => ?_
  · rw [first _ _ (hm 0 (by omega)), block _ _ (by omega)]
  · rw [middle _ _ (by rw [hm _ (by omega)]; omega) (by rw [hm _ (by omega)]; omega), block _ _ (by omega)]
    rfl

/-- The terms of an entry of the transpose of `x` times `g`. -/
def termsTN {K M N : ℕ} (x : FVec Ideal ⟨2, ![K, M]⟩ .bf16) (g : FVec Ideal ⟨2, ![K, N]⟩ .bf16) (r : Fin M) (n : Fin N) : Fin K → EReal :=
  fun k => (show EReal from x (ix2 k r)) * (show EReal from g (ix2 k n))

/-- The terms of an entry of `g` times the transpose of `w`. -/
def termsNT {K M N : ℕ} (g : FVec Ideal ⟨2, ![M, K]⟩ .bf16) (w : FVec Ideal ⟨2, ![N, K]⟩ .bf16) (r : Fin M) (n : Fin N) : Fin K → EReal :=
  fun k => (show EReal from g (ix2 r k)) * (show EReal from w (ix2 n k))

/-- The terms of an entry of `x` times `w`. -/
def termsNN {K M N : ℕ} (x : FVec Ideal ⟨2, ![M, K]⟩ .bf16) (w : FVec Ideal ⟨2, ![K, N]⟩ .bf16) (r : Fin M) (n : Fin N) : Fin K → EReal :=
  fun k => (show EReal from x (ix2 r k)) * (show EReal from w (ix2 k n))

/-! ## Products by blocks

The rows of the left factor and the rows (or columns) of the right one are given as functions `L` and `R`, so that the lemmas
hold for each of the three forms of product. -/

theorem zeros2 : (![0, 0] : Fin 2 → Nat) = fun _ => 0 := by funext a; fin_cases a <;> rfl

/-- An element of a block at the block numbers `I`, at its place `(p, q)` in the array. -/
theorem block_read {α : Type} {m n a b : ℕ} (X : (⟨2, ![m, n]⟩ : Shape).Idx → α) (y : (⟨2, ![m, n]⟩ : Shape).Idx) (I : Fin 2 → ℕ) (i j : ℕ)
    (hI : I = ![i, j]) (r : Fin a) (k : Fin b) (hr : (y 0).val = I 0 * a + 1 * r.val) (hk : (y 1).val = I 1 * b + 1 * k.val)
    (p : Fin m) (q : Fin n) (hp : a * i + r.val = p.val) (hq : b * j + k.val = q.val) : X y = X (ix2 p q) := by
  subst hI
  refine congrArg X (funext fun x => Fin.ext ?_)
  fin_cases x
  · exact hr.trans ((show i * a + 1 * r.val = a * i + r.val by ring).trans hp)
  · exact hk.trans ((show j * b + 1 * k.val = b * j + k.val by ring).trans hq)

/-- The point of an entry has the entry's column of blocks. -/
theorem col_of (nj tn i j n : ℕ) (hn : tn * nj = n) (hj : j < n) : (nj * i + j / tn) % nj = j / tn := by
  rw [Nat.mul_add_mod, Nat.mod_eq_of_lt (Nat.div_lt_of_lt_mul (hn ▸ hj))]

/-- And its row of blocks. -/
theorem row_of (nj tn i j n : ℕ) (hn : tn * nj = n) (hj : j < n) : (nj * i + j / tn) / nj = i := by
  have h := Nat.div_lt_of_lt_mul (hn ▸ hj : j < tn * nj)
  rw [Nat.mul_add_div (Nat.zero_lt_of_lt h), Nat.div_eq_of_lt h, Nat.add_zero]

/-- A product whose entries are summed over `b + 2` points each, the blocks of the result taken by rows, `nj` to a row: the
    result's block at an entry's last point holds the entry's whole sum. `x0` and `x1` are the blocks a point reads. -/
theorem swept_entry {M N K : ℕ} (n s b nj tm tn : ℕ) (L : Fin M → Fin K → EReal) (R : Fin N → Fin K → EReal)
    (hK : s * (b + 2) = K) (hN : tn * nj = N) (hm : 0 < tm) (hn : 0 < tn)
    (out scr prod : (t : ℕ) → t < n → Fin tm → Fin tn → EReal)
    (x0 : (t : ℕ) → t < n → Fin tm → Fin s → EReal) (x1 : (t : ℕ) → t < n → Fin tn → Fin s → EReal)
    (first : ∀ t h r l, t % (b + 2) = 0 → scr t h r l = prod t h r l)
    (middle : ∀ t h r l, 1 ≤ t % (b + 2) → t % (b + 2) ≠ b + 1 → scr t h r l = scr (t - 1) (lt_of_le_of_lt (Nat.sub_le _ _) h) r l + prod t h r l)
    (last : ∀ t h r l, t % (b + 2) = b + 1 → out t h r l = scr (t - 1) (lt_of_le_of_lt (Nat.sub_le _ _) h) r l + prod t h r l)
    (point : ∀ t h r l, prod t h r l = ∑ k, x0 t h r k * x1 t h l k)
    (left : ∀ t h r k hr hk, x0 t h r k = L ⟨tm * (t / (b + 2) / nj) + r.val, hr⟩ ⟨s * (t % (b + 2)) + k.val, hk⟩)
    (right : ∀ t h l k hl hk, x1 t h l k = R ⟨tn * (t / (b + 2) % nj) + l.val, hl⟩ ⟨s * (t % (b + 2)) + k.val, hk⟩)
    (i : Fin M) (j : Fin N) (h : (b + 2) * (nj * (i.val / tm) + j.val / tn) + (b + 1) < n) :
    out ((b + 2) * (nj * (i.val / tm) + j.val / tn) + (b + 1)) h ⟨i.val % tm, Nat.mod_lt _ hm⟩ ⟨j.val % tn, Nat.mod_lt _ hn⟩ = ∑ k, L i k * R j k := by
  refine swept n K s b hK (fun t h => out t h _ _) (fun t h => scr t h _ _) (fun t h => prod t h _ _) (fun t h => first t h _ _)
    (fun t h => middle t h _ _) (fun t h => last t h _ _) _ h (fun k => L i k * R j k) fun p hp hlt => ?_
  have hd : ((b + 2) * (nj * (i.val / tm) + j.val / tn) + p) / (b + 2) = nj * (i.val / tm) + j.val / tn := by
    rw [Nat.mul_add_div (by omega), Nat.div_eq_of_lt hlt, Nat.add_zero]
  have hp' : ((b + 2) * (nj * (i.val / tm) + j.val / tn) + p) % (b + 2) = p := by rw [Nat.mul_add_mod, Nat.mod_eq_of_lt hlt]
  have hs : s * (p + 1) ≤ K := hK ▸ Nat.mul_le_mul_left s hlt
  have hr : tm * (((b + 2) * (nj * (i.val / tm) + j.val / tn) + p) / (b + 2) / nj) + i.val % tm = i.val := by
    rw [hd, row_of nj tn _ _ N hN j.isLt, Nat.div_add_mod]
  have hl : tn * (((b + 2) * (nj * (i.val / tm) + j.val / tn) + p) / (b + 2) % nj) + j.val % tn = j.val := by
    rw [hd, col_of nj tn _ _ N hN j.isLt, Nat.div_add_mod]
  refine (point _ hp _ _).trans (blockSum_eq K s p _ hs _ fun k => ?_)
  have hk : s * (((b + 2) * (nj * (i.val / tm) + j.val / tn) + p) % (b + 2)) + k.val < K := by
    rw [hp']; exact lt_of_lt_of_le (by rw [Nat.mul_succ]; exact Nat.add_lt_add_left k.isLt _) hs
  rw [left _ hp _ k (lt_of_eq_of_lt hr i.isLt) hk, right _ hp _ k (lt_of_eq_of_lt hl j.isLt) hk]
  simp only [hr, hl, hp']

/-- A product each block of which one point computes: an entry of the result `G`. -/
theorem whole_entry {M N K : ℕ} (n nj tm tn : ℕ) (L : Fin M → Fin K → EReal) (R : Fin N → Fin K → EReal) (hN : tn * nj = N) (hm : 0 < tm) (hn : 0 < tn)
    (G : Fin M → Fin N → EReal) (x0 : (t : ℕ) → t < n → Fin tm → Fin K → EReal) (x1 : (t : ℕ) → t < n → Fin tn → Fin K → EReal)
    (point : ∀ t h r l hr hl, G ⟨tm * (t / nj) + r.val, hr⟩ ⟨tn * (t % nj) + l.val, hl⟩ = ∑ k, x0 t h r k * x1 t h l k)
    (left : ∀ t h r k hr, x0 t h r k = L ⟨tm * (t / nj) + r.val, hr⟩ k)
    (right : ∀ t h l k hl, x1 t h l k = R ⟨tn * (t % nj) + l.val, hl⟩ k)
    (i : Fin M) (j : Fin N) (h : nj * (i.val / tm) + j.val / tn < n) : G i j = ∑ k, L i k * R j k := by
  have hr : tm * ((nj * (i.val / tm) + j.val / tn) / nj) + i.val % tm = i.val := by rw [row_of nj tn _ _ N hN j.isLt, Nat.div_add_mod]
  have hl : tn * ((nj * (i.val / tm) + j.val / tn) % nj) + j.val % tn = j.val := by rw [col_of nj tn _ _ N hN j.isLt, Nat.div_add_mod]
  have e := point _ h ⟨i.val % tm, Nat.mod_lt _ hm⟩ ⟨j.val % tn, Nat.mod_lt _ hn⟩ (lt_of_eq_of_lt hr i.isLt) (lt_of_eq_of_lt hl j.isLt)
  simp only [left _ h ⟨i.val % tm, Nat.mod_lt _ hm⟩ _ (lt_of_eq_of_lt hr i.isLt), right _ h ⟨j.val % tn, Nat.mod_lt _ hn⟩ _ (lt_of_eq_of_lt hl j.isLt), hr, hl] at e
  exact e

end Cert.Proof.Prod

end
-- ==== Proof.FfInWeights.lean ====
/- The gradient of the feed-forward input product by its weights: the transpose of a [16384, 1024] array times a
   [16384, 5632] array, summed by the kernel over four runs of 4096 rows. -/
module

public import proofs.«01_k».proof.Defs
public import proofs.«01_k».proof.Proof.Product
public import proofs.«01_k».proof.Proof.Gen.Kernel2
public import proofs.«01_k».proof.Proof.Gen.Kernel2Ideal.Value
public import proofs.«01_k».proof.Proof.Gen.Reference2Ideal.Run

@[expose] public section

set_option maxRecDepth 16384

noncomputable section

namespace Cert.Proof.Prod.FfInWeights

open Cert.Kernel2Ideal Cert.Kernel2Ideal.Gen Cert.Kernel2Ideal.Value
open Idealize.ShloMosaic Idealize.ShloMosaic.TcCoe Idealize.ShloMosaic.Tactic Idealize.SL.Sem
open Idealize.ShloMosaic.Pipeline (Dat)

/-! ## What a point leaves -/

section Cases

variable {F : FTy → Type} [FloatOps F]
variable (c : Dev nD) (i : grid0.Coords) (a3 : Memref sig .tc .vmem S4096x1024 .bf16) (h3 : a3.IsWhole) (a4 : Memref sig .tc .vmem S4096x512 .bf16) (h4 : a4.IsWhole)
  (a5 : Memref sig .tc .vmem S1024x512 .f32) (h5 : a5.IsWhole) (a6 : Memref sig .tc .vmem S1024x512 .f32) (h6 : a6.IsWhole)
  (x0 : Vec F S4096x1024 .bf16) (x1 : Vec F S4096x512 .bf16) (acc : Vec F S1024x512 .f32)

/-- The first run leaves its product in the scratch. -/
theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S4096x1024) zeros2, View.ld_unit_zero (S := S4096x512) zeros2, shapeCast_self]

/-- A run in the middle adds its product to the scratch. -/
theorem middle_scratch (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zeros2]
  unfold k0_pay3
  simp only [View.readAt_eq_ld, h3.read_unread, h4.read_unread, h6.read_unread, View.ld_unit_zero (S := S4096x1024) zeros2, View.ld_unit_zero (S := S4096x512) zeros2,
    View.ld_unit_zero (S := S1024x512) zeros2, shapeCast_self]

/-- The last run leaves the scratch and its product, added, in the result's block. -/
theorem last_block (hc0 : ¬cond0_0 i) (hc1 : cond0_1 i) (hc2 : cond0_2 i) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zeros2, View.readCov_unit_zero _ zeros2]
  unfold k0_pay3
  simp only [View.readAt_eq_ld, h3.read_unread, h4.read_unread, h6.read_unread, View.ld_unit_zero (S := S4096x1024) zeros2, View.ld_unit_zero (S := S4096x512) zeros2,
    View.ld_unit_zero (S := S1024x512) zeros2, shapeCast_self]

end Cases

/-! ## The product of two blocks, and the blocks the kernel reads -/

theorem pay_at (x0 : FVec Ideal S4096x1024 .bf16) (x1 : FVec Ideal S4096x512 .bf16) (r : Fin 1024) (l : Fin 512) :
    (k0_pay1 (F := Ideal) x0 x1 (ix2 r l) : EReal) = ∑ k : Fin 4096, (show EReal from x0 (ix2 k r)) * (show EReal from x1 (ix2 k l)) := by
  pointwise [k0_pay1]

theorem idx : ∀ t : Fin cfg0.N, win0_0.index t = ![t.val % 4, t.val / 4 / 11] ∧ win0_1.index t = ![t.val % 4, t.val / 4 % 11] :=
  (by decide +kernel : ∀ t : Fin grid0.N, _)

variable (m : (ℓ : Loc nD τ sig) → Buf (Elt Ideal) ℓ) (c : Dev nD)

/-- The left and the right factor. -/
abbrev argL : FVec Ideal S16384x1024 .bf16 := m ((c : Thread nD τ).loc main_arg0)
abbrev argR : FVec Ideal S16384x5632 .bf16 := m ((c : Thread nD τ).loc main_arg1)

theorem left_at (t : Fin cfg0.N) (r : Fin 1024) (k : Fin 4096) (hr : 1024 * (t.val / 4 / 11) + r.val < 1024) (hk : 4096 * (t.val % 4) + k.val < 16384) :
    (iblk m c 0 t : FVec Ideal S4096x1024 .bf16) (ix2 k r) = argL m c (ix2 ⟨_, hk⟩ ⟨_, hr⟩) :=
  block_read (argL m c) _ (win0_0.index t) _ _ (idx t).1 k r rfl rfl _ _ rfl rfl

theorem right_at (t : Fin cfg0.N) (l : Fin 512) (k : Fin 4096) (hl : 512 * (t.val / 4 % 11) + l.val < 5632) (hk : 4096 * (t.val % 4) + k.val < 16384) :
    (iblk m c 1 t : FVec Ideal S4096x512 .bf16) (ix2 k l) = argR m c (ix2 ⟨_, hk⟩ ⟨_, hl⟩) :=
  block_read (argR m c) _ (win0_1.index t) _ _ (idx t).2 k l rfl rfl _ _ rfl rfl

/-- The kernel's result at an index. -/
theorem result_at (r : Fin 1024) (n : Fin 5632) : ((G2 m c : FVec Ideal S1024x5632 .f32) (ix2 r n) : EReal) = ∑ k, termsTN (argL m c) (argR m c) r n k := by
  have h1 : pt2Of (ix2 r n) = 4 * (11 * (r.val / 1024) + n.val / 512) + 3 := by
    show 4 * (11 * (r.val / 1024) + 1 * (n.val / 512)) + 3 = _; omega
  have h2 : loc2Of (ix2 r n) = ix2 ⟨r.val % 1024, Nat.mod_lt _ (by decide)⟩ ⟨n.val % 512, Nat.mod_lt _ (by decide)⟩ := by
    funext a; fin_cases a <;> rfl
  have hlt : pt2Of (ix2 r n) < cfg0.N := by rw [h1]; show _ < 44; omega
  unfold G2
  rw [dif_pos hlt, ← outsAt0_sweep m c _ hlt, h2]
  simp only [h1]
  refine swept_entry (M := 1024) (N := 5632) (K := 16384) cfg0.N 4096 2 11 1024 512 (fun r k => (show EReal from argL m c (ix2 k r))) (fun n k => (show EReal from argR m c (ix2 k n)))
    (by decide) (by decide) (by decide) (by decide) (fun t h r l => (outsAt0 m c t h).1 (ix2 r l)) (fun t h r l => (outsAt0 m c t h).2 (ix2 r l))
    (fun t h r l => k0_pay1 (F := Ideal) (iblk m c 0 ⟨t, h⟩) (iblk m c 1 ⟨t, h⟩) (ix2 r l)) (fun t h r k => (iblk m c 0 ⟨t, h⟩ : FVec Ideal S4096x1024 .bf16) (ix2 k r))
    (fun t h l k => (iblk m c 1 ⟨t, h⟩ : FVec Ideal S4096x512 .bf16) (ix2 k l)) (fun t h r l hm => ?_) (fun t h r l hm hm' => ?_) (fun t h r l hm => ?_)
    (fun t h r l => pay_at _ _ r l) (fun t h => left_at m c ⟨t, h⟩) (fun t h => right_at m c ⟨t, h⟩) r n _
  · exact congrArg (fun p => (p.2 (ix2 r l) : EReal)) ((outsAt0_A m c ⟨t, h⟩ (by dsimp only; omega) (by dsimp only; omega) (by dsimp only; omega)).trans (congrArg (Prod.mk _) (first_scratch ..)))
  · exact congrArg (fun p => (p.2 (ix2 r l) : EReal)) ((outsAt0_B m c ⟨t, h⟩ (by dsimp only; omega) (by dsimp only; omega) (by dsimp only; omega)).trans (congrArg (Prod.mk _) (middle_scratch ..)))
  · refine (congrArg (fun p => (p.1 (ix2 r l) : EReal)) (outsAt0_C m c ⟨t, h⟩ (by dsimp only; omega) (by dsimp only; omega) (by dsimp only; omega))).trans ?_
    dsimp only
    rw [last_block]
    rfl

/-! ## The reference -/

/-- The reference's result as a function of the two factors. -/
def reference (x : FVec Ideal S16384x1024 .bf16) (g : FVec Ideal S16384x5632 .bf16) : FVec Ideal S1024x5632 .f32 :=
  transpose S1024x5632 [1, 0] (Host.dotGeneral Cert.Reference2Ideal.dot_S16384x5632_S16384x1024_S5632x1024_0_0_1_1_n_n none (extf .f32 g Cert.Reference2Ideal.Facts₀.bitsLt_bf16_f32)
    (extf .f32 x Cert.Reference2Ideal.Facts₀.bitsLt_bf16_f32)) Cert.Reference2Ideal.Facts₀.transposes_S5632x1024_S1024x5632_1_0

theorem reference_at (x : FVec Ideal S16384x1024 .bf16) (g : FVec Ideal S16384x5632 .bf16) (r : Fin 1024) (n : Fin 5632) :
    (reference x g (ix2 r n) : EReal) = ∑ k, termsTN x g r n k := by
  pointwise [reference]
  exact Finset.sum_congr rfl fun k _ => mul_comm _ _

theorem result_eq : (G2 m c : FVec Ideal S1024x5632 .f32) = reference (argL m c) (argR m c) := by
  funext i
  rw [eq_ix2 i]
  exact (result_at m c _ _).trans (reference_at _ _ _ _).symm

/-! ## The claims -/

/-- The kernel read over bits is the same text. -/
theorem same_text : Cert.quiescent_Kernel2 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel2 := same_text ▸ fun m ρ _ => frame (F := Bits) m ρ

theorem frame_ideal : Cert.quiescent_Kernel2Ideal := fun m ρ _ => frame (F := Ideal) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- From equal arguments the kernel and the reference return equal arrays. -/
theorem value_claim : Cert.algebraic_Kernel2Ideal_Reference2Ideal := by
  intro m g m' g' _ hargs
  refine ⟨_, Cert.Kernel2Ideal.Value.run m g, ?_⟩
  refine (θ_run Cert.Reference2Ideal.defs _ _).mono (fun r h c => ?_) (Cert.Reference2Ideal.Value.run (F := Ideal) m' g')
  obtain ⟨h0, ha⟩ := h c
  rw [(hargs c).1, (hargs c).2] at h0
  exact ⟨h0.trans (result_eq m c).symm, ha⟩

end Cert.Proof.Prod.FfInWeights

end
-- ==== Proof.FfInInput.lean ====
/- The gradient of the feed-forward input product by its input: a [16384, 5632] array times the transpose of the
   [1024, 5632] weights, summed by the kernel over two runs of 2816 columns. -/
module

public import proofs.«01_k».proof.Defs
public import proofs.«01_k».proof.Proof.Product
public import proofs.«01_k».proof.Proof.Gen.Kernel3
public import proofs.«01_k».proof.Proof.Gen.Kernel3Ideal.Value
public import proofs.«01_k».proof.Proof.Gen.Reference3Ideal.Run

@[expose] public section

set_option maxRecDepth 16384

noncomputable section

namespace Cert.Proof.Prod.FfInInput

open Cert.Kernel3Ideal Cert.Kernel3Ideal.Gen Cert.Kernel3Ideal.Value
open Idealize.ShloMosaic Idealize.ShloMosaic.TcCoe Idealize.ShloMosaic.Tactic Idealize.SL.Sem
open Idealize.ShloMosaic.Pipeline (Dat)

/-! ## What a point leaves -/

section Cases

variable {F : FTy → Type} [FloatOps F]
variable (c : Dev nD) (i : grid0.Coords) (a3 : Memref sig .tc .vmem S1024x2816 .bf16) (h3 : a3.IsWhole) (a4 : Memref sig .tc .vmem S1024x2816 .bf16) (h4 : a4.IsWhole)
  (a5 : Memref sig .tc .vmem S1024x1024 .f32) (h5 : a5.IsWhole) (a6 : Memref sig .tc .vmem S1024x1024 .f32) (h6 : a6.IsWhole)
  (x0 : Vec F S1024x2816 .bf16) (x1 : Vec F S1024x2816 .bf16) (acc : Vec F S1024x1024 .f32)

/-- The first run leaves its product in the scratch. -/
theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S1024x2816) zeros2, shapeCast_self]

/-- The last run leaves the scratch and its product, added, in the result's block. -/
theorem last_block (hc0 : ¬cond0_0 i) (hc1 : cond0_1 i) (hc2 : cond0_2 i) :
    out0_B_2 c i a3 h3 a4 h4 a5 h5 a6 h6 hc0 hc1 hc2 x0 x1 acc = addf acc (k0_pay1 x0 x1) := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero zeros2, View.readCov_unit_zero _ zeros2]
  unfold k0_pay3
  simp only [View.readAt_eq_ld, h3.read_unread, h4.read_unread, h6.read_unread, View.ld_unit_zero (S := S1024x2816) zeros2,
    View.ld_unit_zero (S := S1024x1024) zeros2, shapeCast_self]

end Cases

/-! ## The product of two blocks, and the blocks the kernel reads -/

theorem pay_at (x0 : FVec Ideal S1024x2816 .bf16) (x1 : FVec Ideal S1024x2816 .bf16) (r : Fin 1024) (l : Fin 1024) :
    (k0_pay1 (F := Ideal) x0 x1 (ix2 r l) : EReal) = ∑ k : Fin 2816, (show EReal from x0 (ix2 r k)) * (show EReal from x1 (ix2 l k)) := by
  pointwise [k0_pay1]

theorem idx : ∀ t : Fin cfg0.N, win0_0.index t = ![t.val / 2 / 1, t.val % 2] ∧ win0_1.index t = ![t.val / 2 % 1, t.val % 2] :=
  (by decide +kernel : ∀ t : Fin grid0.N, _)

variable (m : (ℓ : Loc nD τ sig) → Buf (Elt Ideal) ℓ) (c : Dev nD)

/-- The left and the right factor. -/
abbrev argL : FVec Ideal S16384x5632 .bf16 := m ((c : Thread nD τ).loc main_arg1)
abbrev argR : FVec Ideal S1024x5632 .bf16 := m ((c : Thread nD τ).loc main_arg0)

theorem left_at (t : Fin cfg0.N) (r : Fin 1024) (k : Fin 2816) (hr : 1024 * (t.val / 2 / 1) + r.val < 16384) (hk : 2816 * (t.val % 2) + k.val < 5632) :
    (iblk m c 0 t : FVec Ideal S1024x2816 .bf16) (ix2 r k) = argL m c (ix2 ⟨_, hr⟩ ⟨_, hk⟩) :=
  block_read (argL m c) _ (win0_0.index t) _ _ (idx t).1 r k rfl rfl _ _ rfl rfl

theorem right_at (t : Fin cfg0.N) (l : Fin 1024) (k : Fin 2816) (hl : 1024 * (t.val / 2 % 1) + l.val < 1024) (hk : 2816 * (t.val % 2) + k.val < 5632) :
    (iblk m c 1 t : FVec Ideal S1024x2816 .bf16) (ix2 l k) = argR m c (ix2 ⟨_, hl⟩ ⟨_, hk⟩) :=
  block_read (argR m c) _ (win0_1.index t) _ _ (idx t).2 l k rfl rfl _ _ rfl rfl

/-- The kernel's result at an index. -/
theorem result_at (r : Fin 16384) (n : Fin 1024) : ((G2 m c : FVec Ideal S16384x1024 .f32) (ix2 r n) : EReal) = ∑ k, termsNT (argL m c) (argR m c) r n k := by
  have h1 : pt2Of (ix2 r n) = 2 * (1 * (r.val / 1024) + n.val / 1024) + 1 := by
    show 2 * (1 * (r.val / 1024) + 1 * (n.val / 1024)) + 1 = _; omega
  have h2 : loc2Of (ix2 r n) = ix2 ⟨r.val % 1024, Nat.mod_lt _ (by decide)⟩ ⟨n.val % 1024, Nat.mod_lt _ (by decide)⟩ := by
    funext a; fin_cases a <;> rfl
  have hlt : pt2Of (ix2 r n) < cfg0.N := by rw [h1]; show _ < 32; omega
  unfold G2
  rw [dif_pos hlt, ← outsAt0_sweep m c _ hlt, h2]
  simp only [h1]
  refine swept_entry (M := 16384) (N := 1024) (K := 5632) cfg0.N 2816 0 1 1024 1024 (fun r k => (show EReal from argL m c (ix2 r k))) (fun n k => (show EReal from argR m c (ix2 n k)))
    (by decide) (by decide) (by decide) (by decide) (fun t h r l => (outsAt0 m c t h).1 (ix2 r l)) (fun t h r l => (outsAt0 m c t h).2 (ix2 r l))
    (fun t h r l => k0_pay1 (F := Ideal) (iblk m c 0 ⟨t, h⟩) (iblk m c 1 ⟨t, h⟩) (ix2 r l)) (fun t h r k => (iblk m c 0 ⟨t, h⟩ : FVec Ideal S1024x2816 .bf16) (ix2 r k))
    (fun t h l k => (iblk m c 1 ⟨t, h⟩ : FVec Ideal S1024x2816 .bf16) (ix2 l k)) (fun t h r l hm => ?_) (fun t h r l hm hm' => ?_) (fun t h r l hm => ?_)
    (fun t h r l => pay_at _ _ r l) (fun t h => left_at m c ⟨t, h⟩) (fun t h => right_at m c ⟨t, h⟩) r n _
  · exact congrArg (fun p => (p.2 (ix2 r l) : EReal)) ((outsAt0_A m c ⟨t, h⟩ (by dsimp only; omega) (by dsimp only; omega) (by dsimp only; omega)).trans (congrArg (Prod.mk _) (first_scratch ..)))
  · exact absurd hm (by omega)
  · refine (congrArg (fun p => (p.1 (ix2 r l) : EReal)) (outsAt0_B m c ⟨t, h⟩ (by dsimp only; omega) (by dsimp only; omega) (by dsimp only; omega))).trans ?_
    dsimp only
    rw [last_block]
    rfl

/-! ## The reference -/

/-- The reference's result as a function of the two factors. -/
def reference (x : FVec Ideal S16384x5632 .bf16) (g : FVec Ideal S1024x5632 .bf16) : FVec Ideal S16384x1024 .f32 :=
  Host.dotGeneral Cert.Reference3Ideal.dot_S16384x5632_S1024x5632_S16384x1024_1_1_0_0_n_n none (extf .f32 x Cert.Reference3Ideal.Facts₀.bitsLt_bf16_f32) (extf .f32 g Cert.Reference3Ideal.Facts₀.bitsLt_bf16_f32)

theorem reference_at (x : FVec Ideal S16384x5632 .bf16) (g : FVec Ideal S1024x5632 .bf16) (r : Fin 16384) (n : Fin 1024) :
    (reference x g (ix2 r n) : EReal) = ∑ k, termsNT x g r n k := by
  pointwise [reference]
  rfl

theorem result_eq : (G2 m c : FVec Ideal S16384x1024 .f32) = reference (argL m c) (argR m c) := by
  funext i
  rw [eq_ix2 i]
  exact (result_at m c _ _).trans (reference_at _ _ _ _).symm

/-! ## The claims -/

/-- The kernel read over bits is the same text. -/
theorem same_text : Cert.quiescent_Kernel3 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel3 := same_text ▸ fun m ρ _ => frame (F := Bits) m ρ

theorem frame_ideal : Cert.quiescent_Kernel3Ideal := fun m ρ _ => frame (F := Ideal) m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From equal arguments the kernel and the reference return equal arrays. -/
theorem value_claim : Cert.algebraic_Kernel3Ideal_Reference3Ideal := by
  intro m g m' g' _ hargs
  refine ⟨_, Cert.Kernel3Ideal.Value.run m g, ?_⟩
  refine (θ_run Cert.Reference3Ideal.defs _ _).mono (fun r h c => ?_) (Cert.Reference3Ideal.Value.run (F := Ideal) m' g')
  obtain ⟨h0, ha⟩ := h c
  rw [(hargs c).1, (hargs c).2] at h0
  exact ⟨h0.trans (result_eq m c).symm, ha⟩

end Cert.Proof.Prod.FfInInput

end
-- ==== Proof.FfOutInput.lean ====
/- The gradient of the feed-forward output product by its input: a [16384, 1024] array times the transpose of the
   [2816, 1024] weights. -/
module

public import proofs.«01_k».proof.Defs
public import proofs.«01_k».proof.Proof.Product
public import proofs.«01_k».proof.Proof.Gen.Kernel4
public import proofs.«01_k».proof.Proof.Gen.Kernel4Ideal.Value
public import proofs.«01_k».proof.Proof.Gen.Reference4Ideal.Run

@[expose] public section

set_option maxRecDepth 16384

noncomputable section

namespace Cert.Proof.Prod.FfOutInput

open Cert.Kernel4Ideal Cert.Kernel4Ideal.Gen Cert.Kernel4Ideal.Value
open Idealize.ShloMosaic Idealize.ShloMosaic.TcCoe Idealize.ShloMosaic.Tactic Idealize.SL.Sem
open Idealize.ShloMosaic.Pipeline (Dat)

/-! ## What a point leaves, and the blocks it reads and writes -/

/-- A point's block of the result is the product of its two blocks. -/
theorem block_eq {F : FTy → Type} [FloatOps F] (x0 : Vec F S1024x1024 .bf16) (x1 : Vec F S1408x1024 .bf16) : out0_2 x0 x1 = k0_pay1 x0 x1 := by
  unfold out0_2 r0_2 r0_0 r0_1
  rw [View.canon_unit_zero zeros2]
  simp only [View.ld_unit_zero (S := S1024x1024) zeros2, View.ld_unit_zero (S := S1408x1024) zeros2]

theorem pay_at (x0 : FVec Ideal S1024x1024 .bf16) (x1 : FVec Ideal S1408x1024 .bf16) (r : Fin 1024) (l : Fin 1408) :
    (k0_pay1 (F := Ideal) x0 x1 (ix2 r l) : EReal) = ∑ k : Fin 1024, (show EReal from x0 (ix2 r k)) * (show EReal from x1 (ix2 l k)) := by
  pointwise [k0_pay1]

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The left and the right factor. -/
abbrev argL : FVec Ideal S16384x1024 .bf16 := m ((c : Thread nD τ).loc main_arg1)
abbrev argR : FVec Ideal S2816x1024 .bf16 := m ((c : Thread nD τ).loc main_arg0)

theorem left_at (t : Fin cfg0.N) (r : Fin 1024) (k : Fin 1024) (hr : 1024 * (t.val / 2) + r.val < 16384) :
    (iblk m c 0 t : FVec Ideal S1024x1024 .bf16) (ix2 r k) = argL m c (ix2 ⟨_, hr⟩ k) :=
  block_read (argL m c) _ (win0_0.index t) _ _ (idx t).1 r k rfl rfl _ _ rfl (by omega)

theorem right_at (t : Fin cfg0.N) (l : Fin 1408) (k : Fin 1024) (hl : 1408 * (t.val % 2) + l.val < 2816) :
    (iblk m c 1 t : FVec Ideal S1408x1024 .bf16) (ix2 l k) = argR m c (ix2 ⟨_, hl⟩ k) :=
  block_read (argR m c) _ (win0_1.index t) _ _ (idx t).2.1 l k rfl rfl _ _ rfl (by omega)

theorem out_at (t : Fin cfg0.N) (X : FVec Ideal S16384x2816 .f32) (r : Fin 1024) (l : Fin 1408) (hr : 1024 * (t.val / 2) + r.val < 16384) (hl : 1408 * (t.val % 2) + l.val < 2816) :
    (((cfg0.win 2).blk t).view.read (Elt Ideal) X : FVec Ideal S1024x1408 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x2816 .f32 := (dats m 0 c).arrAt 2 cfg0.N

/-- The kernel's result at an index. -/
theorem result_at (r : Fin 16384) (n : Fin 2816) : (result m c (ix2 r n) : EReal) = ∑ k, termsNT (argL m c) (argR m c) r n k := by
  refine whole_entry (M := 16384) (N := 2816) (K := 1024) cfg0.N 2 1024 1408 (fun r k => (show EReal from argL m c (ix2 r k))) (fun n k => (show EReal from argR m c (ix2 n k)))
    (by decide) (by decide) (by decide) (fun r n => result m c (ix2 r n)) (fun t h r k => (iblk m c 0 ⟨t, h⟩ : FVec Ideal S1024x1024 .bf16) (ix2 r k))
    (fun t h l k => (iblk m c 1 ⟨t, h⟩ : FVec Ideal S1408x1024 .bf16) (ix2 l k)) (fun t h r l hr hl => ?_) (fun t h => left_at m c ⟨t, h⟩) (fun t h => right_at m c ⟨t, h⟩) r n (by show _ < 32; omega)
  refine (out_at ⟨t, h⟩ (result m c) r l hr hl).symm.trans ((congrFun ((blocks2 m c _ (flushes _)).trans (flushed2 m c _)) (ix2 r l)).trans ?_)
  rw [block_eq]
  exact pay_at _ _ r l

/-! ## The reference -/

/-- The reference's result as a function of the two factors. -/
def reference (x : FVec Ideal S16384x1024 .bf16) (g : FVec Ideal S2816x1024 .bf16) : FVec Ideal S16384x2816 .f32 :=
  Host.dotGeneral Cert.Reference4Ideal.dot_S16384x1024_S2816x1024_S16384x2816_1_1_0_0_n_n none (extf .f32 x Cert.Reference4Ideal.Facts₀.bitsLt_bf16_f32) (extf .f32 g Cert.Reference4Ideal.Facts₀.bitsLt_bf16_f32)

theorem reference_at (x : FVec Ideal S16384x1024 .bf16) (g : FVec Ideal S2816x1024 .bf16) (r : Fin 16384) (n : Fin 2816) :
    (reference x g (ix2 r n) : EReal) = ∑ k, termsNT x g r n k := by
  pointwise [reference]
  rfl

theorem result_eq : result m c = reference (argL m c) (argR m c) := by
  funext i
  rw [eq_ix2 i]
  exact (result_at m c _ _).trans (reference_at _ _ _ _).symm

/-! ## The claims -/

/-- The kernel read over bits is the same text. -/
theorem same_text : Cert.quiescent_Kernel4 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel4 := same_text ▸ fun m ρ _ => frame (F := Bits) m ρ

theorem frame_ideal : Cert.quiescent_Kernel4Ideal := fun m ρ _ => frame (F := Ideal) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From equal arguments the kernel and the reference return equal arrays. -/
theorem value_claim : Cert.algebraic_Kernel4Ideal_Reference4Ideal := by
  intro m g m' g' _ hargs
  refine ⟨_, Cert.Kernel4Ideal.Value.run_blocks m g, ?_⟩
  refine (θ_run Cert.Reference4Ideal.defs _ _).mono (fun r h c => ?_) (Cert.Reference4Ideal.Value.run (F := Ideal) m' g')
  obtain ⟨h0, ha⟩ := h c
  rw [(hargs c).1, (hargs c).2] at h0
  exact ⟨h0.trans (result_eq m c).symm, ha⟩

end Cert.Proof.Prod.FfOutInput

end
-- ==== Proof.FfOutWeights.lean ====
/- The gradient of the feed-forward output product by its weights: the transpose of a [16384, 2816] array times a
   [16384, 1024] array, summed by the kernel over eight runs of 2048 rows. -/
module

public import proofs.«01_k».proof.Defs
public import proofs.«01_k».proof.Proof.Product
public import proofs.«01_k».proof.Proof.Gen.Kernel5
public import proofs.«01_k».proof.Proof.Gen.Kernel5Ideal.Value
public import proofs.«01_k».proof.Proof.Gen.Reference5Ideal.Run

@[expose] public section

set_option maxRecDepth 16384

noncomputable section

namespace Cert.Proof.Prod.FfOutWeights

open Cert.Kernel5Ideal Cert.Kernel5Ideal.Gen Cert.Kernel5Ideal.Value
open Idealize.ShloMosaic Idealize.ShloMosaic.TcCoe Idealize.ShloMosaic.Tactic Idealize.SL.Sem
open Idealize.ShloMosaic.Pipeline (Dat)

/-! ## What a point leaves -/

section Cases

variable {F : FTy → Type} [FloatOps F]
variable (c : Dev nD) (i : grid0.Coords) (a3 : Memref sig .tc .vmem S2048x1408 .bf16) (h3 : a3.IsWhole) (a4 : Memref sig .tc .vmem S2048x512 .bf16) (h4 : a4.IsWhole)
  (a5 : Memref sig .tc .vmem S1408x512 .f32) (h5 : a5.IsWhole) (a6 : Memref sig .tc .vmem S1408x512 .f32) (h6 : a6.IsWhole)
  (x0 : Vec F S2048x1408 .bf16) (x1 : Vec F S2048x512 .bf16) (acc : Vec F S1408x512 .f32)

/-- The first run leaves its product in the scratch. -/
theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S2048x1408) zeros2, View.ld_unit_zero (S := S2048x512) zeros2, shapeCast_self]

/-- A run in the middle adds its product to the scratch. -/
theorem middle_scratch (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zeros2]
  unfold k0_pay3
  simp only [View.readAt_eq_ld, h3.read_unread, h4.read_unread, h6.read_unread, View.ld_unit_zero (S := S2048x1408) zeros2, View.ld_unit_zero (S := S2048x512) zeros2,
    View.ld_unit_zero (S := S1408x512) zeros2, shapeCast_self]

/-- The last run leaves the scratch and its product, added, in the result's block. -/
theorem last_block (hc0 : ¬cond0_0 i) (hc1 : cond0_1 i) (hc2 : cond0_2 i) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zeros2, View.readCov_unit_zero _ zeros2]
  unfold k0_pay3
  simp only [View.readAt_eq_ld, h3.read_unread, h4.read_unread, h6.read_unread, View.ld_unit_zero (S := S2048x1408) zeros2, View.ld_unit_zero (S := S2048x512) zeros2,
    View.ld_unit_zero (S := S1408x512) zeros2, shapeCast_self]

end Cases

/-! ## The product of two blocks, and the blocks the kernel reads -/

theorem pay_at (x0 : FVec Ideal S2048x1408 .bf16) (x1 : FVec Ideal S2048x512 .bf16) (r : Fin 1408) (l : Fin 512) :
    (k0_pay1 (F := Ideal) x0 x1 (ix2 r l) : EReal) = ∑ k : Fin 2048, (show EReal from x0 (ix2 k r)) * (show EReal from x1 (ix2 k l)) := by
  pointwise [k0_pay1]

theorem idx : ∀ t : Fin cfg0.N, win0_0.index t = ![t.val % 8, t.val / 8 / 2] ∧ win0_1.index t = ![t.val % 8, t.val / 8 % 2] :=
  (by decide +kernel : ∀ t : Fin grid0.N, _)

variable (m : (ℓ : Loc nD τ sig) → Buf (Elt Ideal) ℓ) (c : Dev nD)

/-- The left and the right factor. -/
abbrev argL : FVec Ideal S16384x2816 .bf16 := m ((c : Thread nD τ).loc main_arg0)
abbrev argR : FVec Ideal S16384x1024 .bf16 := m ((c : Thread nD τ).loc main_arg1)

theorem left_at (t : Fin cfg0.N) (r : Fin 1408) (k : Fin 2048) (hr : 1408 * (t.val / 8 / 2) + r.val < 2816) (hk : 2048 * (t.val % 8) + k.val < 16384) :
    (iblk m c 0 t : FVec Ideal S2048x1408 .bf16) (ix2 k r) = argL m c (ix2 ⟨_, hk⟩ ⟨_, hr⟩) :=
  block_read (argL m c) _ (win0_0.index t) _ _ (idx t).1 k r rfl rfl _ _ rfl rfl

theorem right_at (t : Fin cfg0.N) (l : Fin 512) (k : Fin 2048) (hl : 512 * (t.val / 8 % 2) + l.val < 1024) (hk : 2048 * (t.val % 8) + k.val < 16384) :
    (iblk m c 1 t : FVec Ideal S2048x512 .bf16) (ix2 k l) = argR m c (ix2 ⟨_, hk⟩ ⟨_, hl⟩) :=
  block_read (argR m c) _ (win0_1.index t) _ _ (idx t).2 k l rfl rfl _ _ rfl rfl

/-- The kernel's result at an index. -/
theorem result_at (r : Fin 2816) (n : Fin 1024) : ((G2 m c : FVec Ideal S2816x1024 .f32) (ix2 r n) : EReal) = ∑ k, termsTN (argL m c) (argR m c) r n k := by
  have h1 : pt2Of (ix2 r n) = 8 * (2 * (r.val / 1408) + n.val / 512) + 7 := by
    show 8 * (2 * (r.val / 1408) + 1 * (n.val / 512)) + 7 = _; omega
  have h2 : loc2Of (ix2 r n) = ix2 ⟨r.val % 1408, Nat.mod_lt _ (by decide)⟩ ⟨n.val % 512, Nat.mod_lt _ (by decide)⟩ := by
    funext a; fin_cases a <;> rfl
  have hlt : pt2Of (ix2 r n) < cfg0.N := by rw [h1]; show _ < 32; omega
  unfold G2
  rw [dif_pos hlt, ← outsAt0_sweep m c _ hlt, h2]
  simp only [h1]
  refine swept_entry (M := 2816) (N := 1024) (K := 16384) cfg0.N 2048 6 2 1408 512 (fun r k => (show EReal from argL m c (ix2 k r))) (fun n k => (show EReal from argR m c (ix2 k n)))
    (by decide) (by decide) (by decide) (by decide) (fun t h r l => (outsAt0 m c t h).1 (ix2 r l)) (fun t h r l => (outsAt0 m c t h).2 (ix2 r l))
    (fun t h r l => k0_pay1 (F := Ideal) (iblk m c 0 ⟨t, h⟩) (iblk m c 1 ⟨t, h⟩) (ix2 r l)) (fun t h r k => (iblk m c 0 ⟨t, h⟩ : FVec Ideal S2048x1408 .bf16) (ix2 k r))
    (fun t h l k => (iblk m c 1 ⟨t, h⟩ : FVec Ideal S2048x512 .bf16) (ix2 k l)) (fun t h r l hm => ?_) (fun t h r l hm hm' => ?_) (fun t h r l hm => ?_)
    (fun t h r l => pay_at _ _ r l) (fun t h => left_at m c ⟨t, h⟩) (fun t h => right_at m c ⟨t, h⟩) r n _
  · exact congrArg (fun p => (p.2 (ix2 r l) : EReal)) ((outsAt0_A m c ⟨t, h⟩ (by dsimp only; omega) (by dsimp only; omega) (by dsimp only; omega)).trans (congrArg (Prod.mk _) (first_scratch ..)))
  · exact congrArg (fun p => (p.2 (ix2 r l) : EReal)) ((outsAt0_B m c ⟨t, h⟩ (by dsimp only; omega) (by dsimp only; omega) (by dsimp only; omega)).trans (congrArg (Prod.mk _) (middle_scratch ..)))
  · refine (congrArg (fun p => (p.1 (ix2 r l) : EReal)) (outsAt0_C m c ⟨t, h⟩ (by dsimp only; omega) (by dsimp only; omega) (by dsimp only; omega))).trans ?_
    dsimp only
    rw [last_block]
    rfl

/-! ## The reference -/

/-- The reference's result as a function of the two factors. -/
def reference (x : FVec Ideal S16384x2816 .bf16) (g : FVec Ideal S16384x1024 .bf16) : FVec Ideal S2816x1024 .f32 :=
  transpose S2816x1024 [1, 0] (Host.dotGeneral Cert.Reference5Ideal.dot_S16384x1024_S16384x2816_S1024x2816_0_0_1_1_n_n none (extf .f32 g Cert.Reference5Ideal.Facts₀.bitsLt_bf16_f32)
    (extf .f32 x Cert.Reference5Ideal.Facts₀.bitsLt_bf16_f32)) Cert.Reference5Ideal.Facts₀.transposes_S1024x2816_S2816x1024_1_0

theorem reference_at (x : FVec Ideal S16384x2816 .bf16) (g : FVec Ideal S16384x1024 .bf16) (r : Fin 2816) (n : Fin 1024) :
    (reference x g (ix2 r n) : EReal) = ∑ k, termsTN x g r n k := by
  pointwise [reference]
  exact Finset.sum_congr rfl fun k _ => mul_comm _ _

theorem result_eq : (G2 m c : FVec Ideal S2816x1024 .f32) = reference (argL m c) (argR m c) := by
  funext i
  rw [eq_ix2 i]
  exact (result_at m c _ _).trans (reference_at _ _ _ _).symm

/-! ## The claims -/

/-- The kernel read over bits is the same text. -/
theorem same_text : Cert.quiescent_Kernel5 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel5 := same_text ▸ fun m ρ _ => frame (F := Bits) m ρ

theorem frame_ideal : Cert.quiescent_Kernel5Ideal := fun m ρ _ => frame (F := Ideal) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- From equal arguments the kernel and the reference return equal arrays. -/
theorem value_claim : Cert.algebraic_Kernel5Ideal_Reference5Ideal := by
  intro m g m' g' _ hargs
  refine ⟨_, Cert.Kernel5Ideal.Value.run m g, ?_⟩
  refine (θ_run Cert.Reference5Ideal.defs _ _).mono (fun r h c => ?_) (Cert.Reference5Ideal.Value.run (F := Ideal) m' g')
  obtain ⟨h0, ha⟩ := h c
  rw [(hargs c).1, (hargs c).2] at h0
  exact ⟨h0.trans (result_eq m c).symm, ha⟩

end Cert.Proof.Prod.FfOutWeights

end
-- ==== Proof.ProjWeights.lean ====
/- The gradient of the joint input projection by its weights: the transpose of a [16384, 1024] array times a
   [16384, 5760] array, summed by the kernel over four runs of 4096 rows. -/
module

public import proofs.«01_k».proof.Defs
public import proofs.«01_k».proof.Proof.Product
public import proofs.«01_k».proof.Proof.Gen.Kernel6
public import proofs.«01_k».proof.Proof.Gen.Kernel6Ideal.Value
public import proofs.«01_k».proof.Proof.Gen.Reference6Ideal.Run

@[expose] public section

set_option maxRecDepth 16384

noncomputable section

namespace Cert.Proof.Prod.ProjWeights

open Cert.Kernel6Ideal Cert.Kernel6Ideal.Gen Cert.Kernel6Ideal.Value
open Idealize.ShloMosaic Idealize.ShloMosaic.TcCoe Idealize.ShloMosaic.Tactic Idealize.SL.Sem
open Idealize.ShloMosaic.Pipeline (Dat)

/-! ## What a point leaves -/

section Cases

variable {F : FTy → Type} [FloatOps F]
variable (c : Dev nD) (i : grid0.Coords) (a3 : Memref sig .tc .vmem S4096x1024 .bf16) (h3 : a3.IsWhole) (a4 : Memref sig .tc .vmem S4096x640 .bf16) (h4 : a4.IsWhole)
  (a5 : Memref sig .tc .vmem S1024x640 .f32) (h5 : a5.IsWhole) (a6 : Memref sig .tc .vmem S1024x640 .f32) (h6 : a6.IsWhole)
  (x0 : Vec F S4096x1024 .bf16) (x1 : Vec F S4096x640 .bf16) (acc : Vec F S1024x640 .f32)

/-- The first run leaves its product in the scratch. -/
theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S4096x1024) zeros2, View.ld_unit_zero (S := S4096x640) zeros2, shapeCast_self]

/-- A run in the middle adds its product to the scratch. -/
theorem middle_scratch (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zeros2]
  unfold k0_pay3
  simp only [View.readAt_eq_ld, h3.read_unread, h4.read_unread, h6.read_unread, View.ld_unit_zero (S := S4096x1024) zeros2, View.ld_unit_zero (S := S4096x640) zeros2,
    View.ld_unit_zero (S := S1024x640) zeros2, shapeCast_self]

/-- The last run leaves the scratch and its product, added, in the result's block. -/
theorem last_block (hc0 : ¬cond0_0 i) (hc1 : cond0_1 i) (hc2 : cond0_2 i) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zeros2, View.readCov_unit_zero _ zeros2]
  unfold k0_pay3
  simp only [View.readAt_eq_ld, h3.read_unread, h4.read_unread, h6.read_unread, View.ld_unit_zero (S := S4096x1024) zeros2, View.ld_unit_zero (S := S4096x640) zeros2,
    View.ld_unit_zero (S := S1024x640) zeros2, shapeCast_self]

end Cases

/-! ## The product of two blocks, and the blocks the kernel reads -/

theorem pay_at (x0 : FVec Ideal S4096x1024 .bf16) (x1 : FVec Ideal S4096x640 .bf16) (r : Fin 1024) (l : Fin 640) :
    (k0_pay1 (F := Ideal) x0 x1 (ix2 r l) : EReal) = ∑ k : Fin 4096, (show EReal from x0 (ix2 k r)) * (show EReal from x1 (ix2 k l)) := by
  pointwise [k0_pay1]

theorem idx : ∀ t : Fin cfg0.N, win0_0.index t = ![t.val % 4, t.val / 4 / 9] ∧ win0_1.index t = ![t.val % 4, t.val / 4 % 9] :=
  (by decide +kernel : ∀ t : Fin grid0.N, _)

variable (m : (ℓ : Loc nD τ sig) → Buf (Elt Ideal) ℓ) (c : Dev nD)

/-- The left and the right factor. -/
abbrev argL : FVec Ideal S16384x1024 .bf16 := m ((c : Thread nD τ).loc main_arg0)
abbrev argR : FVec Ideal S16384x5760 .bf16 := m ((c : Thread nD τ).loc main_arg1)

theorem left_at (t : Fin cfg0.N) (r : Fin 1024) (k : Fin 4096) (hr : 1024 * (t.val / 4 / 9) + r.val < 1024) (hk : 4096 * (t.val % 4) + k.val < 16384) :
    (iblk m c 0 t : FVec Ideal S4096x1024 .bf16) (ix2 k r) = argL m c (ix2 ⟨_, hk⟩ ⟨_, hr⟩) :=
  block_read (argL m c) _ (win0_0.index t) _ _ (idx t).1 k r rfl rfl _ _ rfl rfl

theorem right_at (t : Fin cfg0.N) (l : Fin 640) (k : Fin 4096) (hl : 640 * (t.val / 4 % 9) + l.val < 5760) (hk : 4096 * (t.val % 4) + k.val < 16384) :
    (iblk m c 1 t : FVec Ideal S4096x640 .bf16) (ix2 k l) = argR m c (ix2 ⟨_, hk⟩ ⟨_, hl⟩) :=
  block_read (argR m c) _ (win0_1.index t) _ _ (idx t).2 k l rfl rfl _ _ rfl rfl

/-- The kernel's result at an index. -/
theorem result_at (r : Fin 1024) (n : Fin 5760) : ((G2 m c : FVec Ideal S1024x5760 .f32) (ix2 r n) : EReal) = ∑ k, termsTN (argL m c) (argR m c) r n k := by
  have h1 : pt2Of (ix2 r n) = 4 * (9 * (r.val / 1024) + n.val / 640) + 3 := by
    show 4 * (9 * (r.val / 1024) + 1 * (n.val / 640)) + 3 = _; omega
  have h2 : loc2Of (ix2 r n) = ix2 ⟨r.val % 1024, Nat.mod_lt _ (by decide)⟩ ⟨n.val % 640, Nat.mod_lt _ (by decide)⟩ := by
    funext a; fin_cases a <;> rfl
  have hlt : pt2Of (ix2 r n) < cfg0.N := by rw [h1]; show _ < 36; omega
  unfold G2
  rw [dif_pos hlt, ← outsAt0_sweep m c _ hlt, h2]
  simp only [h1]
  refine swept_entry (M := 1024) (N := 5760) (K := 16384) cfg0.N 4096 2 9 1024 640 (fun r k => (show EReal from argL m c (ix2 k r))) (fun n k => (show EReal from argR m c (ix2 k n)))
    (by decide) (by decide) (by decide) (by decide) (fun t h r l => (outsAt0 m c t h).1 (ix2 r l)) (fun t h r l => (outsAt0 m c t h).2 (ix2 r l))
    (fun t h r l => k0_pay1 (F := Ideal) (iblk m c 0 ⟨t, h⟩) (iblk m c 1 ⟨t, h⟩) (ix2 r l)) (fun t h r k => (iblk m c 0 ⟨t, h⟩ : FVec Ideal S4096x1024 .bf16) (ix2 k r))
    (fun t h l k => (iblk m c 1 ⟨t, h⟩ : FVec Ideal S4096x640 .bf16) (ix2 k l)) (fun t h r l hm => ?_) (fun t h r l hm hm' => ?_) (fun t h r l hm => ?_)
    (fun t h r l => pay_at _ _ r l) (fun t h => left_at m c ⟨t, h⟩) (fun t h => right_at m c ⟨t, h⟩) r n _
  · exact congrArg (fun p => (p.2 (ix2 r l) : EReal)) ((outsAt0_A m c ⟨t, h⟩ (by dsimp only; omega) (by dsimp only; omega) (by dsimp only; omega)).trans (congrArg (Prod.mk _) (first_scratch ..)))
  · exact congrArg (fun p => (p.2 (ix2 r l) : EReal)) ((outsAt0_B m c ⟨t, h⟩ (by dsimp only; omega) (by dsimp only; omega) (by dsimp only; omega)).trans (congrArg (Prod.mk _) (middle_scratch ..)))
  · refine (congrArg (fun p => (p.1 (ix2 r l) : EReal)) (outsAt0_C m c ⟨t, h⟩ (by dsimp only; omega) (by dsimp only; omega) (by dsimp only; omega))).trans ?_
    dsimp only
    rw [last_block]
    rfl

/-! ## The reference -/

/-- The reference's result as a function of the two factors. -/
def reference (x : FVec Ideal S16384x1024 .bf16) (g : FVec Ideal S16384x5760 .bf16) : FVec Ideal S1024x5760 .f32 :=
  transpose S1024x5760 [1, 0] (Host.dotGeneral Cert.Reference6Ideal.dot_S16384x5760_S16384x1024_S5760x1024_0_0_1_1_n_n none (extf .f32 g Cert.Reference6Ideal.Facts₀.bitsLt_bf16_f32)
    (extf .f32 x Cert.Reference6Ideal.Facts₀.bitsLt_bf16_f32)) Cert.Reference6Ideal.Facts₀.transposes_S5760x1024_S1024x5760_1_0

theorem reference_at (x : FVec Ideal S16384x1024 .bf16) (g : FVec Ideal S16384x5760 .bf16) (r : Fin 1024) (n : Fin 5760) :
    (reference x g (ix2 r n) : EReal) = ∑ k, termsTN x g r n k := by
  pointwise [reference]
  exact Finset.sum_congr rfl fun k _ => mul_comm _ _

theorem result_eq : (G2 m c : FVec Ideal S1024x5760 .f32) = reference (argL m c) (argR m c) := by
  funext i
  rw [eq_ix2 i]
  exact (result_at m c _ _).trans (reference_at _ _ _ _).symm

/-! ## The claims -/

/-- The kernel read over bits is the same text. -/
theorem same_text : Cert.quiescent_Kernel6 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel6 := same_text ▸ fun m ρ _ => frame (F := Bits) m ρ

theorem frame_ideal : Cert.quiescent_Kernel6Ideal := fun m ρ _ => frame (F := Ideal) m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- From equal arguments the kernel and the reference return equal arrays. -/
theorem value_claim : Cert.algebraic_Kernel6Ideal_Reference6Ideal := by
  intro m g m' g' _ hargs
  refine ⟨_, Cert.Kernel6Ideal.Value.run m g, ?_⟩
  refine (θ_run Cert.Reference6Ideal.defs _ _).mono (fun r h c => ?_) (Cert.Reference6Ideal.Value.run (F := Ideal) m' g')
  obtain ⟨h0, ha⟩ := h c
  rw [(hargs c).1, (hargs c).2] at h0
  exact ⟨h0.trans (result_eq m c).symm, ha⟩

end Cert.Proof.Prod.ProjWeights

end
-- ==== Proof.ProjInput.lean ====
/- The gradient of the joint input projection by its input: a [16384, 5760] array times the transpose of the
   [1024, 5760] weights, summed by the kernel over three runs of 1920 columns. -/
module

public import proofs.«01_k».proof.Defs
public import proofs.«01_k».proof.Proof.Product
public import proofs.«01_k».proof.Proof.Gen.Kernel7
public import proofs.«01_k».proof.Proof.Gen.Kernel7Ideal.Value
public import proofs.«01_k».proof.Proof.Gen.Reference7Ideal.Run

@[expose] public section

set_option maxRecDepth 16384

noncomputable section

namespace Cert.Proof.Prod.ProjInput

open Cert.Kernel7Ideal Cert.Kernel7Ideal.Gen Cert.Kernel7Ideal.Value
open Idealize.ShloMosaic Idealize.ShloMosaic.TcCoe Idealize.ShloMosaic.Tactic Idealize.SL.Sem
open Idealize.ShloMosaic.Pipeline (Dat)

/-! ## What a point leaves -/

section Cases

variable {F : FTy → Type} [FloatOps F]
variable (c : Dev nD) (i : grid0.Coords) (a3 : Memref sig .tc .vmem S1024x1920 .bf16) (h3 : a3.IsWhole) (a4 : Memref sig .tc .vmem S1024x1920 .bf16) (h4 : a4.IsWhole)
  (a5 : Memref sig .tc .vmem S1024x1024 .f32) (h5 : a5.IsWhole) (a6 : Memref sig .tc .vmem S1024x1024 .f32) (h6 : a6.IsWhole)
  (x0 : Vec F S1024x1920 .bf16) (x1 : Vec F S1024x1920 .bf16) (acc : Vec F S1024x1024 .f32)

/-- The first run leaves its product in the scratch. -/
theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S1024x1920) zeros2, shapeCast_self]

/-- A run in the middle adds its product to the scratch. -/
theorem middle_scratch (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zeros2]
  unfold k0_pay3
  simp only [View.readAt_eq_ld, h3.read_unread, h4.read_unread, h6.read_unread, View.ld_unit_zero (S := S1024x1920) zeros2,
    View.ld_unit_zero (S := S1024x1024) zeros2, shapeCast_self]

/-- The last run leaves the scratch and its product, added, in the result's block. -/
theorem last_block (hc0 : ¬cond0_0 i) (hc1 : cond0_1 i) (hc2 : cond0_2 i) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zeros2, View.readCov_unit_zero _ zeros2]
  unfold k0_pay3
  simp only [View.readAt_eq_ld, h3.read_unread, h4.read_unread, h6.read_unread, View.ld_unit_zero (S := S1024x1920) zeros2,
    View.ld_unit_zero (S := S1024x1024) zeros2, shapeCast_self]

end Cases

/-! ## The product of two blocks, and the blocks the kernel reads -/

theorem pay_at (x0 : FVec Ideal S1024x1920 .bf16) (x1 : FVec Ideal S1024x1920 .bf16) (r : Fin 1024) (l : Fin 1024) :
    (k0_pay1 (F := Ideal) x0 x1 (ix2 r l) : EReal) = ∑ k : Fin 1920, (show EReal from x0 (ix2 r k)) * (show EReal from x1 (ix2 l k)) := by
  pointwise [k0_pay1]

theorem idx : ∀ t : Fin cfg0.N, win0_0.index t = ![t.val / 3 / 1, t.val % 3] ∧ win0_1.index t = ![t.val / 3 % 1, t.val % 3] :=
  (by decide +kernel : ∀ t : Fin grid0.N, _)

variable (m : (ℓ : Loc nD τ sig) → Buf (Elt Ideal) ℓ) (c : Dev nD)

/-- The left and the right factor. -/
abbrev argL : FVec Ideal S16384x5760 .bf16 := m ((c : Thread nD τ).loc main_arg1)
abbrev argR : FVec Ideal S1024x5760 .bf16 := m ((c : Thread nD τ).loc main_arg0)

theorem left_at (t : Fin cfg0.N) (r : Fin 1024) (k : Fin 1920) (hr : 1024 * (t.val / 3 / 1) + r.val < 16384) (hk : 1920 * (t.val % 3) + k.val < 5760) :
    (iblk m c 0 t : FVec Ideal S1024x1920 .bf16) (ix2 r k) = argL m c (ix2 ⟨_, hr⟩ ⟨_, hk⟩) :=
  block_read (argL m c) _ (win0_0.index t) _ _ (idx t).1 r k rfl rfl _ _ rfl rfl

theorem right_at (t : Fin cfg0.N) (l : Fin 1024) (k : Fin 1920) (hl : 1024 * (t.val / 3 % 1) + l.val < 1024) (hk : 1920 * (t.val % 3) + k.val < 5760) :
    (iblk m c 1 t : FVec Ideal S1024x1920 .bf16) (ix2 l k) = argR m c (ix2 ⟨_, hl⟩ ⟨_, hk⟩) :=
  block_read (argR m c) _ (win0_1.index t) _ _ (idx t).2 l k rfl rfl _ _ rfl rfl

/-- The kernel's result at an index. -/
theorem result_at (r : Fin 16384) (n : Fin 1024) : ((G2 m c : FVec Ideal S16384x1024 .f32) (ix2 r n) : EReal) = ∑ k, termsNT (argL m c) (argR m c) r n k := by
  have h1 : pt2Of (ix2 r n) = 3 * (1 * (r.val / 1024) + n.val / 1024) + 2 := by
    show 3 * (1 * (r.val / 1024) + 1 * (n.val / 1024)) + 2 = _; omega
  have h2 : loc2Of (ix2 r n) = ix2 ⟨r.val % 1024, Nat.mod_lt _ (by decide)⟩ ⟨n.val % 1024, Nat.mod_lt _ (by decide)⟩ := by
    funext a; fin_cases a <;> rfl
  have hlt : pt2Of (ix2 r n) < cfg0.N := by rw [h1]; show _ < 48; omega
  unfold G2
  rw [dif_pos hlt, ← outsAt0_sweep m c _ hlt, h2]
  simp only [h1]
  refine swept_entry (M := 16384) (N := 1024) (K := 5760) cfg0.N 1920 1 1 1024 1024 (fun r k => (show EReal from argL m c (ix2 r k))) (fun n k => (show EReal from argR m c (ix2 n k)))
    (by decide) (by decide) (by decide) (by decide) (fun t h r l => (outsAt0 m c t h).1 (ix2 r l)) (fun t h r l => (outsAt0 m c t h).2 (ix2 r l))
    (fun t h r l => k0_pay1 (F := Ideal) (iblk m c 0 ⟨t, h⟩) (iblk m c 1 ⟨t, h⟩) (ix2 r l)) (fun t h r k => (iblk m c 0 ⟨t, h⟩ : FVec Ideal S1024x1920 .bf16) (ix2 r k))
    (fun t h l k => (iblk m c 1 ⟨t, h⟩ : FVec Ideal S1024x1920 .bf16) (ix2 l k)) (fun t h r l hm => ?_) (fun t h r l hm hm' => ?_) (fun t h r l hm => ?_)
    (fun t h r l => pay_at _ _ r l) (fun t h => left_at m c ⟨t, h⟩) (fun t h => right_at m c ⟨t, h⟩) r n _
  · exact congrArg (fun p => (p.2 (ix2 r l) : EReal)) ((outsAt0_A m c ⟨t, h⟩ (by dsimp only; omega) (by dsimp only; omega) (by dsimp only; omega)).trans (congrArg (Prod.mk _) (first_scratch ..)))
  · exact congrArg (fun p => (p.2 (ix2 r l) : EReal)) ((outsAt0_B m c ⟨t, h⟩ (by dsimp only; omega) (by dsimp only; omega) (by dsimp only; omega)).trans (congrArg (Prod.mk _) (middle_scratch ..)))
  · refine (congrArg (fun p => (p.1 (ix2 r l) : EReal)) (outsAt0_C m c ⟨t, h⟩ (by dsimp only; omega) (by dsimp only; omega) (by dsimp only; omega))).trans ?_
    dsimp only
    rw [last_block]
    rfl

/-! ## The reference -/

/-- The reference's result as a function of the two factors. -/
def reference (x : FVec Ideal S16384x5760 .bf16) (g : FVec Ideal S1024x5760 .bf16) : FVec Ideal S16384x1024 .f32 :=
  Host.dotGeneral Cert.Reference7Ideal.dot_S16384x5760_S1024x5760_S16384x1024_1_1_0_0_n_n none (extf .f32 x Cert.Reference7Ideal.Facts₀.bitsLt_bf16_f32) (extf .f32 g Cert.Reference7Ideal.Facts₀.bitsLt_bf16_f32)

theorem reference_at (x : FVec Ideal S16384x5760 .bf16) (g : FVec Ideal S1024x5760 .bf16) (r : Fin 16384) (n : Fin 1024) :
    (reference x g (ix2 r n) : EReal) = ∑ k, termsNT x g r n k := by
  pointwise [reference]
  rfl

theorem result_eq : (G2 m c : FVec Ideal S16384x1024 .f32) = reference (argL m c) (argR m c) := by
  funext i
  rw [eq_ix2 i]
  exact (result_at m c _ _).trans (reference_at _ _ _ _).symm

/-! ## The claims -/

/-- The kernel read over bits is the same text. -/
theorem same_text : Cert.quiescent_Kernel7 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel7 := same_text ▸ fun m ρ _ => frame (F := Bits) m ρ

theorem frame_ideal : Cert.quiescent_Kernel7Ideal := fun m ρ _ => frame (F := Ideal) m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- From equal arguments the kernel and the reference return equal arrays. -/
theorem value_claim : Cert.algebraic_Kernel7Ideal_Reference7Ideal := by
  intro m g m' g' _ hargs
  refine ⟨_, Cert.Kernel7Ideal.Value.run m g, ?_⟩
  refine (θ_run Cert.Reference7Ideal.defs _ _).mono (fun r h c => ?_) (Cert.Reference7Ideal.Value.run (F := Ideal) m' g')
  obtain ⟨h0, ha⟩ := h c
  rw [(hargs c).1, (hargs c).2] at h0
  exact ⟨h0.trans (result_eq m c).symm, ha⟩

end Cert.Proof.Prod.ProjInput

end
-- ==== Proof.FfIn.lean ====
/- The feed-forward input product: a [16384, 1024] array times the [1024, 5632] weights. -/
module

public import proofs.«01_k».proof.Defs
public import proofs.«01_k».proof.Proof.Product
public import proofs.«01_k».proof.Proof.Gen.Kernel8
public import proofs.«01_k».proof.Proof.Gen.Kernel8Ideal.Value
public import proofs.«01_k».proof.Proof.Gen.Reference8Ideal.Run

@[expose] public section

set_option maxRecDepth 16384

noncomputable section

namespace Cert.Proof.Prod.FfIn

open Cert.Kernel8Ideal Cert.Kernel8Ideal.Gen Cert.Kernel8Ideal.Value
open Idealize.ShloMosaic Idealize.ShloMosaic.TcCoe Idealize.ShloMosaic.Tactic Idealize.SL.Sem
open Idealize.ShloMosaic.Pipeline (Dat)

/-! ## What a point leaves, and the blocks it reads and writes -/

/-- A point's block of the result is the product of its two blocks. -/
theorem block_eq {F : FTy → Type} [FloatOps F] (x0 : Vec F S2048x1024 .bf16) (x1 : Vec F S1024x512 .bf16) : out0_2 x0 x1 = k0_pay1 x0 x1 := by
  unfold out0_2 r0_2 r0_0 r0_1
  rw [View.canon_unit_zero zeros2]
  simp only [View.ld_unit_zero (S := S2048x1024) zeros2, View.ld_unit_zero (S := S1024x512) zeros2]

theorem pay_at (x0 : FVec Ideal S2048x1024 .bf16) (x1 : FVec Ideal S1024x512 .bf16) (r : Fin 2048) (l : Fin 512) :
    (k0_pay1 (F := Ideal) x0 x1 (ix2 r l) : EReal) = ∑ k : Fin 1024, (show EReal from x0 (ix2 r k)) * (show EReal from x1 (ix2 k l)) := by
  pointwise [k0_pay1]

theorem idx : ∀ t : Fin cfg0.N, win0_0.index t = ![t.val / 11, 0] ∧ win0_1.index t = ![0, t.val % 11] ∧ win0_2.index t = ![t.val / 11, t.val % 11] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The left and the right factor. -/
abbrev argL : FVec Ideal S16384x1024 .bf16 := m ((c : Thread nD τ).loc main_arg0)
abbrev argR : FVec Ideal S1024x5632 .bf16 := m ((c : Thread nD τ).loc main_arg1)

theorem left_at (t : Fin cfg0.N) (r : Fin 2048) (k : Fin 1024) (hr : 2048 * (t.val / 11) + r.val < 16384) :
    (iblk m c 0 t : FVec Ideal S2048x1024 .bf16) (ix2 r k) = argL m c (ix2 ⟨_, hr⟩ k) :=
  block_read (argL m c) _ (win0_0.index t) _ _ (idx t).1 r k rfl rfl _ _ rfl (by omega)

theorem right_at (t : Fin cfg0.N) (l : Fin 512) (k : Fin 1024) (hl : 512 * (t.val % 11) + l.val < 5632) :
    (iblk m c 1 t : FVec Ideal S1024x512 .bf16) (ix2 k l) = argR m c (ix2 k ⟨_, hl⟩) :=
  block_read (argR m c) _ (win0_1.index t) _ _ (idx t).2.1 k l rfl rfl _ _ (by omega) rfl

theorem out_at (t : Fin cfg0.N) (X : FVec Ideal S16384x5632 .f32) (r : Fin 2048) (l : Fin 512) (hr : 2048 * (t.val / 11) + r.val < 16384) (hl : 512 * (t.val % 11) + l.val < 5632) :
    (((cfg0.win 2).blk t).view.read (Elt Ideal) X : FVec Ideal S2048x512 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x5632 .f32 := (dats m 0 c).arrAt 2 cfg0.N

/-- The kernel's result at an index. -/
theorem result_at (r : Fin 16384) (n : Fin 5632) : (result m c (ix2 r n) : EReal) = ∑ k, termsNN (argL m c) (argR m c) r n k := by
  refine whole_entry (M := 16384) (N := 5632) (K := 1024) cfg0.N 11 2048 512 (fun r k => (show EReal from argL m c (ix2 r k))) (fun n k => (show EReal from argR m c (ix2 k n)))
    (by decide) (by decide) (by decide) (fun r n => result m c (ix2 r n)) (fun t h r k => (iblk m c 0 ⟨t, h⟩ : FVec Ideal S2048x1024 .bf16) (ix2 r k))
    (fun t h l k => (iblk m c 1 ⟨t, h⟩ : FVec Ideal S1024x512 .bf16) (ix2 k l)) (fun t h r l hr hl => ?_) (fun t h => left_at m c ⟨t, h⟩) (fun t h => right_at m c ⟨t, h⟩) r n (by show _ < 88; omega)
  refine (out_at ⟨t, h⟩ (result m c) r l hr hl).symm.trans ((congrFun ((blocks2 m c _ (flushes _)).trans (flushed2 m c _)) (ix2 r l)).trans ?_)
  rw [block_eq]
  exact pay_at _ _ r l

/-! ## The reference -/

/-- The reference's result as a function of the two factors. -/
def reference (x : FVec Ideal S16384x1024 .bf16) (g : FVec Ideal S1024x5632 .bf16) : FVec Ideal S16384x5632 .f32 :=
  Host.dotGeneral Cert.Reference8Ideal.dot_S16384x1024_S1024x5632_S16384x5632_1_0_0_1_n_n none (extf .f32 x Cert.Reference8Ideal.Facts₀.bitsLt_bf16_f32) (extf .f32 g Cert.Reference8Ideal.Facts₀.bitsLt_bf16_f32)

theorem reference_at (x : FVec Ideal S16384x1024 .bf16) (g : FVec Ideal S1024x5632 .bf16) (r : Fin 16384) (n : Fin 5632) :
    (reference x g (ix2 r n) : EReal) = ∑ k, termsNN x g r n k := by
  pointwise [reference]
  rfl

theorem result_eq : result m c = reference (argL m c) (argR m c) := by
  funext i
  rw [eq_ix2 i]
  exact (result_at m c _ _).trans (reference_at _ _ _ _).symm

/-! ## The claims -/

/-- The kernel read over bits is the same text. -/
theorem same_text : Cert.quiescent_Kernel8 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel8 := same_text ▸ fun m ρ _ => frame (F := Bits) m ρ

theorem frame_ideal : Cert.quiescent_Kernel8Ideal := fun m ρ _ => frame (F := Ideal) m ρ

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- From equal arguments the kernel and the reference return equal arrays. -/
theorem value_claim : Cert.algebraic_Kernel8Ideal_Reference8Ideal := by
  intro m g m' g' _ hargs
  refine ⟨_, Cert.Kernel8Ideal.Value.run_blocks m g, ?_⟩
  refine (θ_run Cert.Reference8Ideal.defs _ _).mono (fun r h c => ?_) (Cert.Reference8Ideal.Value.run (F := Ideal) m' g')
  obtain ⟨h0, ha⟩ := h c
  rw [(hargs c).1, (hargs c).2] at h0
  exact ⟨h0.trans (result_eq m c).symm, ha⟩

end Cert.Proof.Prod.FfIn

end
-- ==== Proof.FfOut.lean ====
/- The feed-forward output product: a [16384, 2816] array times the [2816, 1024] weights. -/
module

public import proofs.«01_k».proof.Defs
public import proofs.«01_k».proof.Proof.Product
public import proofs.«01_k».proof.Proof.Gen.Kernel9
public import proofs.«01_k».proof.Proof.Gen.Kernel9Ideal.Value
public import proofs.«01_k».proof.Proof.Gen.Reference9Ideal.Run

@[expose] public section

set_option maxRecDepth 16384

noncomputable section

namespace Cert.Proof.Prod.FfOut

open Cert.Kernel9Ideal Cert.Kernel9Ideal.Gen Cert.Kernel9Ideal.Value
open Idealize.ShloMosaic Idealize.ShloMosaic.TcCoe Idealize.ShloMosaic.Tactic Idealize.SL.Sem
open Idealize.ShloMosaic.Pipeline (Dat)

/-! ## What a point leaves, and the blocks it reads and writes -/

/-- A point's block of the result is the product of its two blocks. -/
theorem block_eq {F : FTy → Type} [FloatOps F] (x0 : Vec F S1024x2816 .bf16) (x1 : Vec F S2816x1024 .bf16) : out0_2 x0 x1 = k0_pay1 x0 x1 := by
  unfold out0_2 r0_2 r0_0 r0_1
  rw [View.canon_unit_zero zeros2]
  simp only [View.ld_unit_zero (S := S1024x2816) zeros2, View.ld_unit_zero (S := S2816x1024) zeros2]

theorem pay_at (x0 : FVec Ideal S1024x2816 .bf16) (x1 : FVec Ideal S2816x1024 .bf16) (r : Fin 1024) (l : Fin 1024) :
    (k0_pay1 (F := Ideal) x0 x1 (ix2 r l) : EReal) = ∑ k : Fin 2816, (show EReal from x0 (ix2 r k)) * (show EReal from x1 (ix2 k l)) := by
  pointwise [k0_pay1]

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The left and the right factor. -/
abbrev argL : FVec Ideal S16384x2816 .bf16 := m ((c : Thread nD τ).loc main_arg0)
abbrev argR : FVec Ideal S2816x1024 .bf16 := m ((c : Thread nD τ).loc main_arg1)

theorem left_at (t : Fin cfg0.N) (r : Fin 1024) (k : Fin 2816) (hr : 1024 * (t.val / 1) + r.val < 16384) :
    (iblk m c 0 t : FVec Ideal S1024x2816 .bf16) (ix2 r k) = argL m c (ix2 ⟨_, hr⟩ k) :=
  block_read (argL m c) _ (win0_0.index t) _ _ (idx t).1 r k rfl rfl _ _ rfl (by omega)

theorem right_at (t : Fin cfg0.N) (l : Fin 1024) (k : Fin 2816) (hl : 1024 * (t.val % 1) + l.val < 1024) :
    (iblk m c 1 t : FVec Ideal S2816x1024 .bf16) (ix2 k l) = argR m c (ix2 k ⟨_, hl⟩) :=
  block_read (argR m c) _ (win0_1.index t) _ _ (idx t).2.1 k l rfl rfl _ _ (by omega) rfl

theorem out_at (t : Fin cfg0.N) (X : FVec Ideal S16384x1024 .f32) (r : Fin 1024) (l : Fin 1024) (hr : 1024 * (t.val / 1) + r.val < 16384) (hl : 1024 * (t.val % 1) + l.val < 1024) :
    (((cfg0.win 2).blk t).view.read (Elt Ideal) X : FVec Ideal S1024x1024 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x1024 .f32 := (dats m 0 c).arrAt 2 cfg0.N

/-- The kernel's result at an index. -/
theorem result_at (r : Fin 16384) (n : Fin 1024) : (result m c (ix2 r n) : EReal) = ∑ k, termsNN (argL m c) (argR m c) r n k := by
  refine whole_entry (M := 16384) (N := 1024) (K := 2816) cfg0.N 1 1024 1024 (fun r k => (show EReal from argL m c (ix2 r k))) (fun n k => (show EReal from argR m c (ix2 k n)))
    (by decide) (by decide) (by decide) (fun r n => result m c (ix2 r n)) (fun t h r k => (iblk m c 0 ⟨t, h⟩ : FVec Ideal S1024x2816 .bf16) (ix2 r k))
    (fun t h l k => (iblk m c 1 ⟨t, h⟩ : FVec Ideal S2816x1024 .bf16) (ix2 k l)) (fun t h r l hr hl => ?_) (fun t h => left_at m c ⟨t, h⟩) (fun t h => right_at m c ⟨t, h⟩) r n (by show _ < 16; omega)
  refine (out_at ⟨t, h⟩ (result m c) r l hr hl).symm.trans ((congrFun ((blocks2 m c _ (flushes _)).trans (flushed2 m c _)) (ix2 r l)).trans ?_)
  rw [block_eq]
  exact pay_at _ _ r l

/-! ## The reference -/

/-- The reference's result as a function of the two factors. -/
def reference (x : FVec Ideal S16384x2816 .bf16) (g : FVec Ideal S2816x1024 .bf16) : FVec Ideal S16384x1024 .f32 :=
  Host.dotGeneral Cert.Reference9Ideal.dot_S16384x2816_S2816x1024_S16384x1024_1_0_0_1_n_n none (extf .f32 x Cert.Reference9Ideal.Facts₀.bitsLt_bf16_f32) (extf .f32 g Cert.Reference9Ideal.Facts₀.bitsLt_bf16_f32)

theorem reference_at (x : FVec Ideal S16384x2816 .bf16) (g : FVec Ideal S2816x1024 .bf16) (r : Fin 16384) (n : Fin 1024) :
    (reference x g (ix2 r n) : EReal) = ∑ k, termsNN x g r n k := by
  pointwise [reference]
  rfl

theorem result_eq : result m c = reference (argL m c) (argR m c) := by
  funext i
  rw [eq_ix2 i]
  exact (result_at m c _ _).trans (reference_at _ _ _ _).symm

/-! ## The claims -/

/-- The kernel read over bits is the same text. -/
theorem same_text : Cert.quiescent_Kernel9 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel9 := same_text ▸ fun m ρ _ => frame (F := Bits) m ρ

theorem frame_ideal : Cert.quiescent_Kernel9Ideal := fun m ρ _ => frame (F := Ideal) m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- From equal arguments the kernel and the reference return equal arrays. -/
theorem value_claim : Cert.algebraic_Kernel9Ideal_Reference9Ideal := by
  intro m g m' g' _ hargs
  refine ⟨_, Cert.Kernel9Ideal.Value.run_blocks m g, ?_⟩
  refine (θ_run Cert.Reference9Ideal.defs _ _).mono (fun r h c => ?_) (Cert.Reference9Ideal.Value.run (F := Ideal) m' g')
  obtain ⟨h0, ha⟩ := h c
  rw [(hargs c).1, (hargs c).2] at h0
  exact ⟨h0.trans (result_eq m c).symm, ha⟩

end Cert.Proof.Prod.FfOut

end
-- ==== Proof.Qkv.lean ====
/- The attention's q, k and v: a [16384, 1024] array times the first 1536 columns of the [1024, 5760] weights. -/
module

public import proofs.«01_k».proof.Defs
public import proofs.«01_k».proof.Proof.Product
public import proofs.«01_k».proof.Proof.Gen.Kernel10
public import proofs.«01_k».proof.Proof.Gen.Kernel10Ideal.Value
public import proofs.«01_k».proof.Proof.Gen.Reference10Ideal.Run

@[expose] public section

set_option maxRecDepth 16384

noncomputable section

namespace Cert.Proof.Prod.Qkv

open Cert.Kernel10Ideal Cert.Kernel10Ideal.Gen Cert.Kernel10Ideal.Value
open Idealize.ShloMosaic Idealize.ShloMosaic.TcCoe Idealize.ShloMosaic.Tactic Idealize.SL.Sem
open Idealize.ShloMosaic.Pipeline (Dat)

/-! ## What a point leaves, and the blocks it reads and writes -/

/-- A point's block of the result is the product of its two blocks. -/
theorem block_eq {F : FTy → Type} [FloatOps F] (c : Dev nD) (i : grid0.Coords) (a3 : Memref sig .tc .vmem S2048x1024 .bf16) (h3 : a3.IsWhole)
    (a4 : Memref sig .tc .vmem S1024x768 .bf16) (h4 : a4.IsWhole) (a5 : Memref sig .tc .vmem S2048x768 .bf16) (h5 : a5.IsWhole)
    (x0 : Vec F S2048x1024 .bf16) (x1 : Vec F S1024x768 .bf16) : out0_A_2 c i a3 h3 a4 h4 a5 h5 x0 x1 = k0_pay1 x0 x1 := by
  unfold out0_A_2
  rw [View.read_writes_eq_canon _ _ _ (cover0_A_2 c i a3 h3 a4 h4 a5 h5 x0 x1)]
  unfold kernelRun0_A
  dsimp only
  rw [View.canon_unit_zero zeros2]
  simp only [View.readAt_eq_ld, h3.read_unread, h4.read_unread, View.ld_unit_zero (S := S2048x1024) zeros2, View.ld_unit_zero (S := S1024x768) zeros2]

theorem pay_at (x0 : FVec Ideal S2048x1024 .bf16) (x1 : FVec Ideal S1024x768 .bf16) (r : Fin 2048) (l : Fin 768) :
    (k0_pay1 (F := Ideal) x0 x1 (ix2 r l) : EReal) = ∑ k : Fin 1024, (show EReal from x0 (ix2 r k)) * (show EReal from x1 (ix2 k l)) := by
  pointwise [k0_pay1]

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The left and the right factor. -/
abbrev argL : FVec Ideal S16384x1024 .bf16 := m ((c : Thread nD τ).loc main_arg0)
abbrev argR : FVec Ideal S1024x5760 .bf16 := m ((c : Thread nD τ).loc main_arg1)

theorem left_at (t : Fin cfg0.N) (r : Fin 2048) (k : Fin 1024) (hr : 2048 * (t.val / 2) + r.val < 16384) :
    (iblk m c 0 t : FVec Ideal S2048x1024 .bf16) (ix2 r k) = argL m c (ix2 ⟨_, hr⟩ k) :=
  block_read (argL m c) _ (win0_0.index t) _ _ (idx t).1 r k rfl rfl _ _ rfl (by omega)

theorem right_at (t : Fin cfg0.N) (l : Fin 768) (k : Fin 1024) (hl : 768 * (t.val % 2) + l.val < 1536) :
    (X0_1 m c t : FVec Ideal S1024x768 .bf16) (ix2 k l) = argR m c (ix2 k ⟨768 * (t.val % 2) + l.val, by omega⟩) := by
  unfold X0_1 Pipeline.Window.fill
  rw [dif_pos (moved0_1 t _)]
  exact block_read (argR m c) _ (win0_1.index t) _ _ (idx t).2.1 k l rfl rfl _ _ (by omega) rfl

theorem out_at (t : Fin cfg0.N) (X : FVec Ideal S16384x1536 .bf16) (r : Fin 2048) (l : Fin 768) (hr : 2048 * (t.val / 2) + r.val < 16384) (hl : 768 * (t.val % 2) + l.val < 1536) :
    (((cfg0.win 2).blk t).view.read (Elt Ideal) X : FVec Ideal S2048x768 .bf16) (ix2 r l) = X (ix2 ⟨_, hr⟩ ⟨_, hl⟩) :=
  block_read X _ (win0_2.index t) _ _ (idx t).2.2 r l rfl rfl _ _ rfl rfl

/-- The kernel's result. -/
abbrev result : FVec Ideal S16384x1536 .bf16 := (dats m 0 c).arrAt 2 cfg0.N

/-- The kernel's result at an index. -/
theorem result_at (r : Fin 16384) (n : Fin 1536) : (result m c (ix2 r n) : EReal) = ∑ k, termsNN (argL m c) (argR m c) r ⟨n.val, by omega⟩ k := by
  refine whole_entry (M := 16384) (N := 1536) (K := 1024) cfg0.N 2 2048 768 (fun r k => (show EReal from argL m c (ix2 r k))) (fun n k => (show EReal from argR m c (ix2 k ⟨n.val, by omega⟩)))
    (by decide) (by decide) (by decide) (fun r n => result m c (ix2 r n)) (fun t h r k => (iblk m c 0 ⟨t, h⟩ : FVec Ideal S2048x1024 .bf16) (ix2 r k))
    (fun t h l k => (X0_1 m c ⟨t, h⟩ : FVec Ideal S1024x768 .bf16) (ix2 k l)) (fun t h r l hr hl => ?_) (fun t h => left_at m c ⟨t, h⟩) (fun t h => right_at m c ⟨t, h⟩) r n (by show _ < 16; omega)
  refine (out_at ⟨t, h⟩ (result m c) r l hr hl).symm.trans ((congrFun ((blocks2 m c _ (flushes _)).trans (flushed2_A m c _)) (ix2 r l)).trans ?_)
  rw [block_eq]
  exact pay_at _ _ r l

/-! ## The reference -/

/-- The reference's result as a function of the two factors. -/
def reference (x : FVec Ideal S16384x1024 .bf16) (g : FVec Ideal S1024x5760 .bf16) : FVec Ideal S16384x1536 .bf16 :=
  truncf .bf16 (extractStridedSlice S16384x1536 ![0, 0] (Host.dotGeneral Cert.Reference10Ideal.dot_S16384x1024_S1024x5760_S16384x5760_1_0_0_1_n_n none (extf .f32 x Cert.Reference10Ideal.Facts₀.bitsLt_bf16_f32) (extf .f32 g Cert.Reference10Ideal.Facts₀.bitsLt_bf16_f32))
    Cert.Reference10Ideal.Facts₀.slices_S16384x5760_S16384x1536_0_0) Cert.Reference10Ideal.Facts₀.bitsLt_bf16_f32

theorem reference_at (x : FVec Ideal S16384x1024 .bf16) (g : FVec Ideal S1024x5760 .bf16) (r : Fin 16384) (n : Fin 1536) :
    (reference x g (ix2 r n) : EReal) = ∑ k, termsNN x g r ⟨n.val, by omega⟩ k := by
  pointwise [reference]
  rfl

theorem result_eq : result m c = reference (argL m c) (argR m c) := by
  funext i
  rw [eq_ix2 i]
  exact (result_at m c _ _).trans (reference_at _ _ _ _).symm

/-! ## The claims -/

/-- The kernel read over bits is the same text. -/
theorem same_text : Cert.quiescent_Kernel10 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel10 := same_text ▸ fun m ρ _ => frame (F := Bits) m ρ

theorem frame_ideal : Cert.quiescent_Kernel10Ideal := fun m ρ _ => frame (F := Ideal) m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- From equal arguments the kernel and the reference return equal arrays. -/
theorem value_claim : Cert.algebraic_Kernel10Ideal_Reference10Ideal := by
  intro m g m' g' _ hargs
  refine ⟨_, Cert.Kernel10Ideal.Value.run_blocks m g, ?_⟩
  refine (θ_run Cert.Reference10Ideal.defs _ _).mono (fun r h c => ?_) (Cert.Reference10Ideal.Value.run (F := Ideal) m' g')
  obtain ⟨h0, ha⟩ := h c
  rw [(hargs c).1, (hargs c).2] at h0
  exact ⟨h0.trans (result_eq m c).symm, ha⟩

end Cert.Proof.Prod.Qkv

end
-- ==== Proof.Rest.lean ====
/- The joint input projection without its q, k and v: a [16384, 1024] array times the columns of the [1024, 5760] weights
   from the 1536th on. -/
module

public import proofs.«01_k».proof.Defs
public import proofs.«01_k».proof.Proof.Product
public import proofs.«01_k».proof.Proof.Gen.Kernel11
public import proofs.«01_k».proof.Proof.Gen.Kernel11Ideal.Value
public import proofs.«01_k».proof.Proof.Gen.Reference11Ideal.Run

@[expose] public section

set_option maxRecDepth 16384

noncomputable section

namespace Cert.Proof.Prod.Rest

open Cert.Kernel11Ideal Cert.Kernel11Ideal.Gen Cert.Kernel11Ideal.Value
open Idealize.ShloMosaic Idealize.ShloMosaic.TcCoe Idealize.ShloMosaic.Tactic Idealize.SL.Sem
open Idealize.ShloMosaic.Pipeline (Dat)

/-! ## What a point leaves, and the blocks it reads and writes -/

/-- A point's block of the result is the product of its two blocks. -/
theorem block_eq {F : FTy → Type} [FloatOps F] (x0 : Vec F S2048x1024 .bf16) (x1 : Vec F S1024x384 .bf16) : out0_2 x0 x1 = k0_pay1 x0 x1 := by
  unfold out0_2 r0_2 r0_0 r0_1
  rw [View.canon_unit_zero zeros2]
  simp only [View.ld_unit_zero (S := S2048x1024) zeros2, View.ld_unit_zero (S := S1024x384) zeros2]

theorem pay_at (x0 : FVec Ideal S2048x1024 .bf16) (x1 : FVec Ideal S1024x384 .bf16) (r : Fin 2048) (l : Fin 384) :
    (k0_pay1 (F := Ideal) x0 x1 (ix2 r l) : EReal) = ∑ k : Fin 1024, (show EReal from x0 (ix2 r k)) * (show EReal from x1 (ix2 k l)) := by
  pointwise [k0_pay1]

theorem idx : ∀ t : Fin cfg0.N, win0_0.index t = ![t.val / 11, 0] ∧ win0_1.index t = ![0, 4 + t.val % 11] ∧ win0_2.index t = ![t.val / 11, t.val % 11] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The left and the right factor. -/
abbrev argL : FVec Ideal S16384x1024 .bf16 := m ((c : Thread nD τ).loc main_arg0)
abbrev argR : FVec Ideal S1024x5760 .bf16 := m ((c : Thread nD τ).loc main_arg1)

theorem left_at (t : Fin cfg0.N) (r : Fin 2048) (k : Fin 1024) (hr : 2048 * (t.val / 11) + r.val < 16384) :
    (iblk m c 0 t : FVec Ideal S2048x1024 .bf16) (ix2 r k) = argL m c (ix2 ⟨_, hr⟩ k) :=
  block_read (argL m c) _ (win0_0.index t) _ _ (idx t).1 r k rfl rfl _ _ rfl (by omega)

theorem right_at (t : Fin cfg0.N) (l : Fin 384) (k : Fin 1024) (hl : 384 * (t.val % 11) + l.val < 4224) :
    (iblk m c 1 t : FVec Ideal S1024x384 .bf16) (ix2 k l) = argR m c (ix2 k ⟨1536 + (384 * (t.val % 11) + l.val), by omega⟩) :=
  block_read (argR m c) _ (win0_1.index t) _ _ (idx t).2.1 k l rfl rfl _ _ (by omega) (by dsimp only; omega)

theorem out_at (t : Fin cfg0.N) (X : FVec Ideal S16384x4224 .f32) (r : Fin 2048) (l : Fin 384) (hr : 2048 * (t.val / 11) + r.val < 16384) (hl : 384 * (t.val % 11) + l.val < 4224) :
    (((cfg0.win 2).blk t).view.read (Elt Ideal) X : FVec Ideal S2048x384 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x4224 .f32 := (dats m 0 c).arrAt 2 cfg0.N

/-- The kernel's result at an index. -/
theorem result_at (r : Fin 16384) (n : Fin 4224) : (result m c (ix2 r n) : EReal) = ∑ k, termsNN (argL m c) (argR m c) r ⟨1536 + n.val, by omega⟩ k := by
  refine whole_entry (M := 16384) (N := 4224) (K := 1024) cfg0.N 11 2048 384 (fun r k => (show EReal from argL m c (ix2 r k))) (fun n k => (show EReal from argR m c (ix2 k ⟨1536 + n.val, by omega⟩)))
    (by decide) (by decide) (by decide) (fun r n => result m c (ix2 r n)) (fun t h r k => (iblk m c 0 ⟨t, h⟩ : FVec Ideal S2048x1024 .bf16) (ix2 r k))
    (fun t h l k => (iblk m c 1 ⟨t, h⟩ : FVec Ideal S1024x384 .bf16) (ix2 k l)) (fun t h r l hr hl => ?_) (fun t h => left_at m c ⟨t, h⟩) (fun t h => right_at m c ⟨t, h⟩) r n (by show _ < 88; omega)
  refine (out_at ⟨t, h⟩ (result m c) r l hr hl).symm.trans ((congrFun ((blocks2 m c _ (flushes _)).trans (flushed2 m c _)) (ix2 r l)).trans ?_)
  rw [block_eq]
  exact pay_at _ _ r l

/-! ## The reference -/

/-- The reference's result as a function of the two factors. -/
def reference (x : FVec Ideal S16384x1024 .bf16) (g : FVec Ideal S1024x5760 .bf16) : FVec Ideal S16384x4224 .f32 :=
  extractStridedSlice S16384x4224 ![0, 1536] (Host.dotGeneral Cert.Reference11Ideal.dot_S16384x1024_S1024x5760_S16384x5760_1_0_0_1_n_n none (extf .f32 x Cert.Reference11Ideal.Facts₀.bitsLt_bf16_f32) (extf .f32 g Cert.Reference11Ideal.Facts₀.bitsLt_bf16_f32))
    Cert.Reference11Ideal.Facts₀.slices_S16384x5760_S16384x4224_0_1536

theorem reference_at (x : FVec Ideal S16384x1024 .bf16) (g : FVec Ideal S1024x5760 .bf16) (r : Fin 16384) (n : Fin 4224) :
    (reference x g (ix2 r n) : EReal) = ∑ k, termsNN x g r ⟨1536 + n.val, by omega⟩ k := by
  pointwise [reference]
  rfl

theorem result_eq : result m c = reference (argL m c) (argR m c) := by
  funext i
  rw [eq_ix2 i]
  exact (result_at m c _ _).trans (reference_at _ _ _ _).symm

/-! ## The claims -/

/-- The kernel read over bits is the same text. -/
theorem same_text : Cert.quiescent_Kernel11 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel11 := same_text ▸ fun m ρ _ => frame (F := Bits) m ρ

theorem frame_ideal : Cert.quiescent_Kernel11Ideal := fun m ρ _ => frame (F := Ideal) m ρ

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- From equal arguments the kernel and the reference return equal arrays. -/
theorem value_claim : Cert.algebraic_Kernel11Ideal_Reference11Ideal := by
  intro m g m' g' _ hargs
  refine ⟨_, Cert.Kernel11Ideal.Value.run_blocks m g, ?_⟩
  refine (θ_run Cert.Reference11Ideal.defs _ _).mono (fun r h c => ?_) (Cert.Reference11Ideal.Value.run (F := Ideal) m' g')
  obtain ⟨h0, ha⟩ := h c
  rw [(hargs c).1, (hargs c).2] at h0
  exact ⟨h0.trans (result_eq m c).symm, ha⟩

end Cert.Proof.Prod.Rest

end
-- ==== Proof.OutProj.lean ====
/- The output projection, 1024 by 1024, of 16384 rows: its product (`Forward`), which one grid point computes for 2048 rows at
   once, the gradient by its input (`Input`), which is the same with the weights transposed, and the gradient by its weights
   (`Weights`), which adds four products of 4096 rows each. -/
module

public import proofs.«01_k».proof.Defs
public import proofs.«01_k».proof.Proof.Product
public import proofs.«01_k».proof.Proof.Gen.Kernel12
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal.Value
public import proofs.«01_k».proof.Proof.Gen.Reference14Ideal.Run

@[expose] public section

set_option maxRecDepth 16384

noncomputable section

namespace Cert.Proof.Prod.OutProj

open Idealize.ShloMosaic Idealize.ShloMosaic.TcCoe Idealize.ShloMosaic.Tactic Idealize.SL.Sem

namespace Forward

open Cert.Kernel12Ideal Cert.Kernel12Ideal.Gen Cert.Kernel12Ideal.Value

theorem block_eq {F : FTy → Type} [FloatOps F] (x0 : Vec F S2048x1024 .bf16) (x1 : Vec F S1024x1024 .bf16) : out0_2 x0 x1 = k0_pay1 x0 x1 := by
  unfold out0_2 r0_0 r0_1
  rw [View.canon_unit_zero zeros2]
  simp only [View.ld_unit_zero (S := S2048x1024) zeros2, View.ld_unit_zero (S := S1024x1024) zeros2]

theorem pay_at (x0 : FVec Ideal S2048x1024 .bf16) (x1 : FVec Ideal S1024x1024 .bf16) (r : Fin 2048) (l : Fin 1024) :
    (k0_pay1 (F := Ideal) x0 x1 (ix2 r l) : EReal) = ∑ k : Fin 1024, (show EReal from x0 (ix2 r k)) * (show EReal from x1 (ix2 k l)) := by
  pointwise [k0_pay1]

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The rows and the weights. -/
abbrev argL : FVec Ideal S16384x1024 .bf16 := m ((c : Thread nD τ).loc main_arg0)
abbrev argR : FVec Ideal S1024x1024 .bf16 := m ((c : Thread nD τ).loc main_arg1)

theorem left_at (t : Fin cfg0.N) (r : Fin 2048) (k : Fin 1024) (hr : 2048 * (t.val / 1) + r.val < 16384) :
    (iblk m c 0 t : FVec Ideal S2048x1024 .bf16) (ix2 r k) = argL m c (ix2 ⟨_, hr⟩ k) :=
  block_read (argL m c) _ (win0_0.index t) _ _ (idx t).1 r k rfl rfl _ _ rfl (by omega)

theorem right_at (t : Fin cfg0.N) (l : Fin 1024) (k : Fin 1024) (hl : 1024 * (t.val % 1) + l.val < 1024) :
    (iblk m c 1 t : FVec Ideal S1024x1024 .bf16) (ix2 k l) = argR m c (ix2 k ⟨_, hl⟩) :=
  block_read (argR m c) _ (win0_1.index t) _ _ (idx t).2.1 k l rfl rfl _ _ (by omega) rfl

theorem out_at (t : Fin cfg0.N) (X : FVec Ideal S16384x1024 .f32) (r : Fin 2048) (l : Fin 1024) (hr : 2048 * (t.val / 1) + r.val < 16384)
    (hl : 1024 * (t.val % 1) + l.val < 1024) : (((cfg0.win 2).blk t).view.read (Elt Ideal) X : FVec Ideal S2048x1024 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x1024 .f32 := (dats m 0 c).arrAt 2 cfg0.N

/-- The kernel's result at an index. -/
theorem result_at (r : Fin 16384) (n : Fin 1024) : (result m c (ix2 r n) : EReal) = ∑ k, termsNN (argL m c) (argR m c) r n k := by
  refine whole_entry (M := 16384) (N := 1024) (K := 1024) cfg0.N 1 2048 1024 (fun r k => (show EReal from argL m c (ix2 r k))) (fun n k => (show EReal from argR m c (ix2 k n)))
    (by decide) (by decide) (by decide) (fun r n => result m c (ix2 r n)) (fun t h r k => (iblk m c 0 ⟨t, h⟩ : FVec Ideal S2048x1024 .bf16) (ix2 r k))
    (fun t h l k => (iblk m c 1 ⟨t, h⟩ : FVec Ideal S1024x1024 .bf16) (ix2 k l)) (fun t h r l hr hl => ?_) (fun t h => left_at m c ⟨t, h⟩)
    (fun t h => right_at m c ⟨t, h⟩) r n (by show _ < 8; omega)
  refine (out_at ⟨t, h⟩ (result m c) r l hr hl).symm.trans ((congrFun ((blocks2 m c _ (flushes _)).trans (flushed2 m c _)) (ix2 r l)).trans ?_)
  rw [block_eq]
  exact pay_at _ _ r l

/-- The reference's result as a function of the two factors. -/
def reference (x : FVec Ideal S16384x1024 .bf16) (w : FVec Ideal S1024x1024 .bf16) : FVec Ideal S16384x1024 .f32 :=
  Host.dotGeneral Cert.Reference12Ideal.dot_S16384x1024_S1024x1024_S16384x1024_1_0_0_1_n_n none (extf .f32 x Cert.Reference12Ideal.Facts₀.bitsLt_bf16_f32) (extf .f32 w Cert.Reference12Ideal.Facts₀.bitsLt_bf16_f32)

theorem reference_at (x : FVec Ideal S16384x1024 .bf16) (w : FVec Ideal S1024x1024 .bf16) (r : Fin 16384) (n : Fin 1024) :
    (reference x w (ix2 r n) : EReal) = ∑ k, termsNN x w r n k := by
  pointwise [reference]
  rfl

theorem result_eq : result m c = reference (argL m c) (argR m c) := by
  funext i
  rw [eq_ix2 i]
  exact (result_at m c _ _).trans (reference_at _ _ _ _).symm

/-- The kernel read over bits is the same text. -/
theorem same_text : Cert.quiescent_Kernel12 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel12 := same_text ▸ fun m ρ _ => frame (F := Bits) m ρ

theorem frame_ideal : Cert.quiescent_Kernel12Ideal := fun m ρ _ => frame (F := Ideal) m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- From equal arguments the kernel and the reference return equal arrays. -/
theorem value_claim : Cert.algebraic_Kernel12Ideal_Reference12Ideal := by
  intro m g m' g' _ hargs
  refine ⟨_, Cert.Kernel12Ideal.Value.run_blocks m g, ?_⟩
  refine (θ_run Cert.Reference12Ideal.defs _ _).mono (fun r h c => ?_) (Cert.Reference12Ideal.Value.run (F := Ideal) m' g')
  obtain ⟨h0, ha⟩ := h c
  rw [(hargs c).1, (hargs c).2] at h0
  exact ⟨h0.trans (result_eq m c).symm, ha⟩

end Forward

namespace Input

open Cert.Kernel13Ideal Cert.Kernel13Ideal.Gen Cert.Kernel13Ideal.Value

theorem block_eq {F : FTy → Type} [FloatOps F] (x0 : Vec F S2048x1024 .bf16) (x1 : Vec F S1024x1024 .bf16) : out0_2 x0 x1 = k0_pay1 x0 x1 := by
  unfold out0_2 r0_0 r0_1
  rw [View.canon_unit_zero zeros2]
  simp only [View.ld_unit_zero (S := S2048x1024) zeros2, View.ld_unit_zero (S := S1024x1024) zeros2]

theorem pay_at (x0 : FVec Ideal S2048x1024 .bf16) (x1 : FVec Ideal S1024x1024 .bf16) (r : Fin 2048) (l : Fin 1024) :
    (k0_pay1 (F := Ideal) x0 x1 (ix2 r l) : EReal) = ∑ k : Fin 1024, (show EReal from x0 (ix2 r k)) * (show EReal from x1 (ix2 l k)) := by
  pointwise [k0_pay1]

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The result's gradient and the weights. -/
abbrev argL : FVec Ideal S16384x1024 .bf16 := m ((c : Thread nD τ).loc main_arg1)
abbrev argR : FVec Ideal S1024x1024 .bf16 := m ((c : Thread nD τ).loc main_arg0)

theorem left_at (t : Fin cfg0.N) (r : Fin 2048) (k : Fin 1024) (hr : 2048 * (t.val / 1) + r.val < 16384) :
    (iblk m c 0 t : FVec Ideal S2048x1024 .bf16) (ix2 r k) = argL m c (ix2 ⟨_, hr⟩ k) :=
  block_read (argL m c) _ (win0_0.index t) _ _ (idx t).1 r k rfl rfl _ _ rfl (by omega)

theorem right_at (t : Fin cfg0.N) (l : Fin 1024) (k : Fin 1024) (hl : 1024 * (t.val % 1) + l.val < 1024) :
    (iblk m c 1 t : FVec Ideal S1024x1024 .bf16) (ix2 l k) = argR m c (ix2 ⟨_, hl⟩ k) :=
  block_read (argR m c) _ (win0_1.index t) _ _ (idx t).2.1 l k rfl rfl _ _ rfl (by omega)

theorem out_at (t : Fin cfg0.N) (X : FVec Ideal S16384x1024 .f32) (r : Fin 2048) (l : Fin 1024) (hr : 2048 * (t.val / 1) + r.val < 16384)
    (hl : 1024 * (t.val % 1) + l.val < 1024) : (((cfg0.win 2).blk t).view.read (Elt Ideal) X : FVec Ideal S2048x1024 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x1024 .f32 := (dats m 0 c).arrAt 2 cfg0.N

/-- The kernel's result at an index. -/
theorem result_at (r : Fin 16384) (n : Fin 1024) : (result m c (ix2 r n) : EReal) = ∑ k, termsNT (argL m c) (argR m c) r n k := by
  refine whole_entry (M := 16384) (N := 1024) (K := 1024) cfg0.N 1 2048 1024 (fun r k => (show EReal from argL m c (ix2 r k))) (fun n k => (show EReal from argR m c (ix2 n k)))
    (by decide) (by decide) (by decide) (fun r n => result m c (ix2 r n)) (fun t h r k => (iblk m c 0 ⟨t, h⟩ : FVec Ideal S2048x1024 .bf16) (ix2 r k))
    (fun t h l k => (iblk m c 1 ⟨t, h⟩ : FVec Ideal S1024x1024 .bf16) (ix2 l k)) (fun t h r l hr hl => ?_) (fun t h => left_at m c ⟨t, h⟩)
    (fun t h => right_at m c ⟨t, h⟩) r n (by show _ < 8; omega)
  refine (out_at ⟨t, h⟩ (result m c) r l hr hl).symm.trans ((congrFun ((blocks2 m c _ (flushes _)).trans (flushed2 m c _)) (ix2 r l)).trans ?_)
  rw [block_eq]
  exact pay_at _ _ r l

/-- The reference's result as a function of the two factors. -/
def reference (g : FVec Ideal S16384x1024 .bf16) (w : FVec Ideal S1024x1024 .bf16) : FVec Ideal S16384x1024 .f32 :=
  Host.dotGeneral Cert.Reference13Ideal.dot_S16384x1024_S1024x1024_S16384x1024_1_1_0_0_n_n none (extf .f32 g Cert.Reference13Ideal.Facts₀.bitsLt_bf16_f32) (extf .f32 w Cert.Reference13Ideal.Facts₀.bitsLt_bf16_f32)

theorem reference_at (g : FVec Ideal S16384x1024 .bf16) (w : FVec Ideal S1024x1024 .bf16) (r : Fin 16384) (n : Fin 1024) :
    (reference g w (ix2 r n) : EReal) = ∑ k, termsNT g w r n k := by
  pointwise [reference]
  rfl

theorem result_eq : result m c = reference (argL m c) (argR m c) := by
  funext i
  rw [eq_ix2 i]
  exact (result_at m c _ _).trans (reference_at _ _ _ _).symm

/-- The kernel read over bits is the same text. -/
theorem same_text : Cert.quiescent_Kernel13 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel13 := same_text ▸ fun m ρ _ => frame (F := Bits) m ρ

theorem frame_ideal : Cert.quiescent_Kernel13Ideal := fun m ρ _ => frame (F := Ideal) m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- From equal arguments the kernel and the reference return equal arrays. -/
theorem value_claim : Cert.algebraic_Kernel13Ideal_Reference13Ideal := by
  intro m g m' g' _ hargs
  refine ⟨_, Cert.Kernel13Ideal.Value.run_blocks m g, ?_⟩
  refine (θ_run Cert.Reference13Ideal.defs _ _).mono (fun r h c => ?_) (Cert.Reference13Ideal.Value.run (F := Ideal) m' g')
  obtain ⟨h0, ha⟩ := h c
  rw [(hargs c).1, (hargs c).2] at h0
  exact ⟨h0.trans (result_eq m c).symm, ha⟩

end Input

namespace Weights

open Cert.Kernel14Ideal Cert.Kernel14Ideal.Gen Cert.Kernel14Ideal.Value

section Cases

variable {F : FTy → Type} [FloatOps F]
variable (c : Dev nD) (i : grid0.Coords) (a3 : Memref sig .tc .vmem S4096x1024 .bf16) (h3 : a3.IsWhole) (a4 : Memref sig .tc .vmem S4096x512 .bf16) (h4 : a4.IsWhole)
  (a5 : Memref sig .tc .vmem S1024x512 .f32) (h5 : a5.IsWhole) (a6 : Memref sig .tc .vmem S1024x512 .f32) (h6 : a6.IsWhole)
  (x0 : Vec F S4096x1024 .bf16) (x1 : Vec F S4096x512 .bf16) (acc : Vec F S1024x512 .f32)

/-- The first run leaves its product in the scratch. -/
theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S4096x1024) zeros2, View.ld_unit_zero (S := S4096x512) zeros2, shapeCast_self]

/-- A run in the middle adds its product to the scratch. -/
theorem middle_scratch (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zeros2]
  unfold k0_pay3
  simp only [View.readAt_eq_ld, h3.read_unread, h4.read_unread, h6.read_unread, View.ld_unit_zero (S := S4096x1024) zeros2, View.ld_unit_zero (S := S4096x512) zeros2,
    View.ld_unit_zero (S := S1024x512) zeros2, shapeCast_self]

/-- The last run leaves the scratch and its product, added, in the result's block. -/
theorem last_block (hc0 : ¬cond0_0 i) (hc1 : cond0_1 i) (hc2 : cond0_2 i) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zeros2, View.readCov_unit_zero _ zeros2]
  unfold k0_pay3
  simp only [View.readAt_eq_ld, h3.read_unread, h4.read_unread, h6.read_unread, View.ld_unit_zero (S := S4096x1024) zeros2, View.ld_unit_zero (S := S4096x512) zeros2,
    View.ld_unit_zero (S := S1024x512) zeros2, shapeCast_self]

end Cases

theorem pay_at (x0 : FVec Ideal S4096x1024 .bf16) (x1 : FVec Ideal S4096x512 .bf16) (r : Fin 1024) (l : Fin 512) :
    (k0_pay1 (F := Ideal) x0 x1 (ix2 r l) : EReal) = ∑ k : Fin 4096, (show EReal from x0 (ix2 k r)) * (show EReal from x1 (ix2 k l)) := by
  pointwise [k0_pay1]

theorem idx : ∀ t : Fin cfg0.N, win0_0.index t = ![t.val % 4, t.val / 4 / 2] ∧ win0_1.index t = ![t.val % 4, t.val / 4 % 2] :=
  (by decide +kernel : ∀ t : Fin grid0.N, _)

variable (m : (ℓ : Loc nD τ sig) → Buf (Elt Ideal) ℓ) (c : Dev nD)

/-- The rows and the result's gradient. -/
abbrev argL : FVec Ideal S16384x1024 .bf16 := m ((c : Thread nD τ).loc main_arg0)
abbrev argR : FVec Ideal S16384x1024 .bf16 := m ((c : Thread nD τ).loc main_arg1)

theorem left_at (t : Fin cfg0.N) (r : Fin 1024) (k : Fin 4096) (hr : 1024 * (t.val / 4 / 2) + r.val < 1024) (hk : 4096 * (t.val % 4) + k.val < 16384) :
    (iblk m c 0 t : FVec Ideal S4096x1024 .bf16) (ix2 k r) = argL m c (ix2 ⟨_, hk⟩ ⟨_, hr⟩) :=
  block_read (argL m c) _ (win0_0.index t) _ _ (idx t).1 k r rfl rfl _ _ rfl rfl

theorem right_at (t : Fin cfg0.N) (l : Fin 512) (k : Fin 4096) (hl : 512 * (t.val / 4 % 2) + l.val < 1024) (hk : 4096 * (t.val % 4) + k.val < 16384) :
    (iblk m c 1 t : FVec Ideal S4096x512 .bf16) (ix2 k l) = argR m c (ix2 ⟨_, hk⟩ ⟨_, hl⟩) :=
  block_read (argR m c) _ (win0_1.index t) _ _ (idx t).2 k l rfl rfl _ _ rfl rfl

/-- The kernel's result at an index. -/
theorem result_at (r n : Fin 1024) : ((G2 m c : FVec Ideal S1024x1024 .f32) (ix2 r n) : EReal) = ∑ k, termsTN (argL m c) (argR m c) r n k := by
  have h1 : pt2Of (ix2 r n) = 4 * (2 * (r.val / 1024) + n.val / 512) + 3 := by
    show 4 * (_ * (r.val / 1024) + 1 * (n.val / 512)) + 3 = _; omega
  have h2 : loc2Of (ix2 r n) = ix2 ⟨r.val % 1024, Nat.mod_lt _ (by decide)⟩ ⟨n.val % 512, Nat.mod_lt _ (by decide)⟩ := by
    funext a; fin_cases a <;> rfl
  have hlt : pt2Of (ix2 r n) < cfg0.N := by rw [h1]; show _ < 8; omega
  unfold G2
  rw [dif_pos hlt, ← outsAt0_sweep m c _ hlt, h2]
  simp only [h1]
  refine swept_entry (M := 1024) (N := 1024) (K := 16384) cfg0.N 4096 2 2 1024 512 (fun r k => (show EReal from argL m c (ix2 k r))) (fun n k => (show EReal from argR m c (ix2 k n)))
    (by decide) (by decide) (by decide) (by decide) (fun t h r l => (outsAt0 m c t h).1 (ix2 r l)) (fun t h r l => (outsAt0 m c t h).2 (ix2 r l))
    (fun t h r l => k0_pay1 (F := Ideal) (iblk m c 0 ⟨t, h⟩) (iblk m c 1 ⟨t, h⟩) (ix2 r l)) (fun t h r k => (iblk m c 0 ⟨t, h⟩ : FVec Ideal S4096x1024 .bf16) (ix2 k r))
    (fun t h l k => (iblk m c 1 ⟨t, h⟩ : FVec Ideal S4096x512 .bf16) (ix2 k l)) (fun t h r l hm => ?_) (fun t h r l hm hm' => ?_) (fun t h r l hm => ?_)
    (fun t h r l => pay_at _ _ r l) (fun t h => left_at m c ⟨t, h⟩) (fun t h => right_at m c ⟨t, h⟩) r n _
  · exact congrArg (fun p => (p.2 (ix2 r l) : EReal)) ((outsAt0_A m c ⟨t, h⟩ (by dsimp only; omega) (by dsimp only; omega) (by dsimp only; omega)).trans (congrArg (Prod.mk _) (first_scratch ..)))
  · exact congrArg (fun p => (p.2 (ix2 r l) : EReal)) ((outsAt0_B m c ⟨t, h⟩ (by dsimp only; omega) (by dsimp only; omega) (by dsimp only; omega)).trans (congrArg (Prod.mk _) (middle_scratch ..)))
  · refine (congrArg (fun p => (p.1 (ix2 r l) : EReal)) (outsAt0_C m c ⟨t, h⟩ (by dsimp only; omega) (by dsimp only; omega) (by dsimp only; omega))).trans ?_
    dsimp only
    rw [last_block]
    rfl

/-- The reference's result as a function of the two factors. -/
def reference (x g : FVec Ideal S16384x1024 .bf16) : FVec Ideal S1024x1024 .f32 :=
  transpose S1024x1024 [1, 0] (Host.dotGeneral Cert.Reference14Ideal.dot_S16384x1024_S16384x1024_S1024x1024_0_0_1_1_n_n none (extf .f32 g Cert.Reference14Ideal.Facts₀.bitsLt_bf16_f32)
    (extf .f32 x Cert.Reference14Ideal.Facts₀.bitsLt_bf16_f32)) Cert.Reference14Ideal.Facts₀.transposes_S1024x1024_S1024x1024_1_0

theorem reference_at (x g : FVec Ideal S16384x1024 .bf16) (r n : Fin 1024) : (reference x g (ix2 r n) : EReal) = ∑ k, termsTN x g r n k := by
  pointwise [reference]
  exact Finset.sum_congr rfl fun k _ => mul_comm _ _

theorem result_eq : (G2 m c : FVec Ideal S1024x1024 .f32) = reference (argL m c) (argR m c) := by
  funext i
  rw [eq_ix2 i]
  exact (result_at m c _ _).trans (reference_at _ _ _ _).symm

/-- The kernel read over bits is the same text. -/
theorem same_text : Cert.quiescent_Kernel14 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel14 := same_text ▸ fun m ρ _ => frame (F := Bits) m ρ

theorem frame_ideal : Cert.quiescent_Kernel14Ideal := fun m ρ _ => frame (F := Ideal) m ρ

theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- From equal arguments the kernel and the reference return equal arrays. -/
theorem value_claim : Cert.algebraic_Kernel14Ideal_Reference14Ideal := by
  intro m g m' g' _ hargs
  refine ⟨_, Cert.Kernel14Ideal.Value.run m g, ?_⟩
  refine (θ_run Cert.Reference14Ideal.defs _ _).mono (fun r h c => ?_) (Cert.Reference14Ideal.Value.run (F := Ideal) m' g')
  obtain ⟨h0, ha⟩ := h c
  rw [(hargs c).1, (hargs c).2] at h0
  exact ⟨h0.trans (result_eq m c).symm, ha⟩

end Weights

end Cert.Proof.Prod.OutProj

end
-- ==== Proof.Branches.lean ====
/- The two branches' projections, 512 by 1024, of 16384 rows. Their products (`Forward`) and the gradients by their weights
   (`Weights`) are the same call for both branches; the gradient by the input is returned as bf16 for the attention's branch
   (`InputA`) and as float32 for the other (`InputB`). -/
module

public import proofs.«01_k».proof.Defs
public import proofs.«01_k».proof.Proof.Product
public import proofs.«01_k».proof.Proof.Gen.Kernel15
public import proofs.«01_k».proof.Proof.Gen.Kernel15Ideal.Value
public import proofs.«01_k».proof.Proof.Gen.Reference15Ideal.Run
public import proofs.«01_k».proof.Proof.Gen.Kernel16
public import proofs.«01_k».proof.Proof.Gen.Kernel16Ideal.Value
public import proofs.«01_k».proof.Proof.Gen.Reference16Ideal.Run
public import proofs.«01_k».proof.Proof.Gen.Kernel17
public import proofs.«01_k».proof.Proof.Gen.Kernel17Ideal.Value
public import proofs.«01_k».proof.Proof.Gen.Reference17Ideal.Run
public import proofs.«01_k».proof.Proof.Gen.Kernel18
public import proofs.«01_k».proof.Proof.Gen.Kernel18Ideal.Value
public import proofs.«01_k».proof.Proof.Gen.Reference18Ideal.Run

@[expose] public section

set_option maxRecDepth 16384

noncomputable section

namespace Cert.Proof.Prod.Branches

open Idealize.ShloMosaic Idealize.ShloMosaic.TcCoe Idealize.ShloMosaic.Tactic Idealize.SL.Sem

namespace Forward

open Cert.Kernel15Ideal Cert.Kernel15Ideal.Gen Cert.Kernel15Ideal.Value

theorem block_eq {F : FTy → Type} [FloatOps F] (x0 : Vec F S2048x512 .bf16) (x1 : Vec F S512x1024 .bf16) : out0_2 x0 x1 = k0_pay1 x0 x1 := by
  unfold out0_2 r0_2 r0_0 r0_1
  rw [View.canon_unit_zero zeros2]
  simp only [View.ld_unit_zero (S := S2048x512) zeros2, View.ld_unit_zero (S := S512x1024) zeros2]

theorem pay_at (x0 : FVec Ideal S2048x512 .bf16) (x1 : FVec Ideal S512x1024 .bf16) (r : Fin 2048) (l : Fin 1024) :
    (k0_pay1 (F := Ideal) x0 x1 (ix2 r l) : EReal) = ∑ k : Fin 512, (show EReal from x0 (ix2 r k)) * (show EReal from x1 (ix2 k l)) := by
  pointwise [k0_pay1]

theorem idx : ∀ t : Fin cfg0.N, win0_0.index t = ![t.val / 1, 0] ∧ win0_1.index t = ![0, t.val % 1] ∧ win0_2.index t = ![t.val / 1, t.val % 1] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The rows and the weights. -/
abbrev argL : FVec Ideal S16384x512 .bf16 := m ((c : Thread nD τ).loc main_arg0)
abbrev argR : FVec Ideal S512x1024 .bf16 := m ((c : Thread nD τ).loc main_arg1)

theorem left_at (t : Fin cfg0.N) (r : Fin 2048) (k : Fin 512) (hr : 2048 * (t.val / 1) + r.val < 16384) :
    (iblk m c 0 t : FVec Ideal S2048x512 .bf16) (ix2 r k) = argL m c (ix2 ⟨_, hr⟩ k) :=
  block_read (argL m c) _ (win0_0.index t) _ _ (idx t).1 r k rfl rfl _ _ rfl (by omega)

theorem right_at (t : Fin cfg0.N) (l : Fin 1024) (k : Fin 512) (hl : 1024 * (t.val % 1) + l.val < 1024) :
    (iblk m c 1 t : FVec Ideal S512x1024 .bf16) (ix2 k l) = argR m c (ix2 k ⟨_, hl⟩) :=
  block_read (argR m c) _ (win0_1.index t) _ _ (idx t).2.1 k l rfl rfl _ _ (by omega) rfl

theorem out_at (t : Fin cfg0.N) (X : FVec Ideal S16384x1024 .f32) (r : Fin 2048) (l : Fin 1024) (hr : 2048 * (t.val / 1) + r.val < 16384)
    (hl : 1024 * (t.val % 1) + l.val < 1024) : (((cfg0.win 2).blk t).view.read (Elt Ideal) X : FVec Ideal S2048x1024 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x1024 .f32 := (dats m 0 c).arrAt 2 cfg0.N

/-- The kernel's result at an index. -/
theorem result_at (r : Fin 16384) (n : Fin 1024) : (result m c (ix2 r n) : EReal) = ∑ k, termsNN (argL m c) (argR m c) r n k := by
  refine whole_entry (M := 16384) (N := 1024) (K := 512) cfg0.N 1 2048 1024 (fun r k => (show EReal from argL m c (ix2 r k))) (fun n k => (show EReal from argR m c (ix2 k n)))
    (by decide) (by decide) (by decide) (fun r n => result m c (ix2 r n)) (fun t h r k => (iblk m c 0 ⟨t, h⟩ : FVec Ideal S2048x512 .bf16) (ix2 r k))
    (fun t h l k => (iblk m c 1 ⟨t, h⟩ : FVec Ideal S512x1024 .bf16) (ix2 k l)) (fun t h r l hr hl => ?_) (fun t h => left_at m c ⟨t, h⟩)
    (fun t h => right_at m c ⟨t, h⟩) r n (by show _ < 8; omega)
  refine (out_at ⟨t, h⟩ (result m c) r l hr hl).symm.trans ((congrFun ((blocks2 m c _ (flushes _)).trans (flushed2 m c _)) (ix2 r l)).trans ?_)
  rw [block_eq]
  exact pay_at _ _ r l

/-- The reference's result as a function of the two factors. -/
def reference (x : FVec Ideal S16384x512 .bf16) (w : FVec Ideal S512x1024 .bf16) : FVec Ideal S16384x1024 .f32 :=
  Host.dotGeneral Cert.Reference15Ideal.dot_S16384x512_S512x1024_S16384x1024_1_0_0_1_n_n none (extf .f32 x Cert.Reference15Ideal.Facts₀.bitsLt_bf16_f32) (extf .f32 w Cert.Reference15Ideal.Facts₀.bitsLt_bf16_f32)

theorem reference_at (x : FVec Ideal S16384x512 .bf16) (w : FVec Ideal S512x1024 .bf16) (r : Fin 16384) (n : Fin 1024) :
    (reference x w (ix2 r n) : EReal) = ∑ k, termsNN x w r n k := by
  pointwise [reference]
  rfl

theorem result_eq : result m c = reference (argL m c) (argR m c) := by
  funext i
  rw [eq_ix2 i]
  exact (result_at m c _ _).trans (reference_at _ _ _ _).symm

/-- The kernel read over bits is the same text. -/
theorem same_text : Cert.quiescent_Kernel15 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel15 := same_text ▸ fun m ρ _ => frame (F := Bits) m ρ

theorem frame_ideal : Cert.quiescent_Kernel15Ideal := fun m ρ _ => frame (F := Ideal) m ρ

theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- From equal arguments the kernel and the reference return equal arrays. -/
theorem value_claim : Cert.algebraic_Kernel15Ideal_Reference15Ideal := by
  intro m g m' g' _ hargs
  refine ⟨_, Cert.Kernel15Ideal.Value.run_blocks m g, ?_⟩
  refine (θ_run Cert.Reference15Ideal.defs _ _).mono (fun r h c => ?_) (Cert.Reference15Ideal.Value.run (F := Ideal) m' g')
  obtain ⟨h0, ha⟩ := h c
  rw [(hargs c).1, (hargs c).2] at h0
  exact ⟨h0.trans (result_eq m c).symm, ha⟩

end Forward

namespace InputA

open Cert.Kernel16Ideal Cert.Kernel16Ideal.Gen Cert.Kernel16Ideal.Value

theorem block_eq {F : FTy → Type} [FloatOps F] (x0 : Vec F S2048x1024 .bf16) (x1 : Vec F S512x1024 .bf16) : out0_2 x0 x1 = k0_pay1 x0 x1 := by
  unfold out0_2 r0_2 r0_0 r0_1
  rw [View.canon_unit_zero zeros2]
  simp only [View.ld_unit_zero (S := S2048x1024) zeros2, View.ld_unit_zero (S := S512x1024) zeros2]

theorem pay_at (x0 : FVec Ideal S2048x1024 .bf16) (x1 : FVec Ideal S512x1024 .bf16) (r : Fin 2048) (l : Fin 512) :
    (k0_pay1 (F := Ideal) x0 x1 (ix2 r l) : EReal) = ∑ k : Fin 1024, (show EReal from x0 (ix2 r k)) * (show EReal from x1 (ix2 l k)) := by
  pointwise [k0_pay1]

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The result's gradient and the weights. -/
abbrev argL : FVec Ideal S16384x1024 .bf16 := m ((c : Thread nD τ).loc main_arg1)
abbrev argR : FVec Ideal S512x1024 .bf16 := m ((c : Thread nD τ).loc main_arg0)

theorem left_at (t : Fin cfg0.N) (r : Fin 2048) (k : Fin 1024) (hr : 2048 * (t.val / 1) + r.val < 16384) :
    (iblk m c 0 t : FVec Ideal S2048x1024 .bf16) (ix2 r k) = argL m c (ix2 ⟨_, hr⟩ k) :=
  block_read (argL m c) _ (win0_0.index t) _ _ (idx t).1 r k rfl rfl _ _ rfl (by omega)

theorem right_at (t : Fin cfg0.N) (l : Fin 512) (k : Fin 1024) (hl : 512 * (t.val % 1) + l.val < 512) :
    (iblk m c 1 t : FVec Ideal S512x1024 .bf16) (ix2 l k) = argR m c (ix2 ⟨_, hl⟩ k) :=
  block_read (argR m c) _ (win0_1.index t) _ _ (idx t).2.1 l k rfl rfl _ _ rfl (by omega)

theorem out_at (t : Fin cfg0.N) (X : FVec Ideal S16384x512 .bf16) (r : Fin 2048) (l : Fin 512) (hr : 2048 * (t.val / 1) + r.val < 16384)
    (hl : 512 * (t.val % 1) + l.val < 512) : (((cfg0.win 2).blk t).view.read (Elt Ideal) X : FVec Ideal S2048x512 .bf16) (ix2 r l) = X (ix2 ⟨_, hr⟩ ⟨_, hl⟩) :=
  block_read X _ (win0_2.index t) _ _ (idx t).2.2 r l rfl rfl _ _ rfl rfl

/-- The kernel's result. -/
abbrev result : FVec Ideal S16384x512 .bf16 := (dats m 0 c).arrAt 2 cfg0.N

/-- The kernel's result at an index. -/
theorem result_at (r : Fin 16384) (n : Fin 512) : (result m c (ix2 r n) : EReal) = ∑ k, termsNT (argL m c) (argR m c) r n k := by
  refine whole_entry (M := 16384) (N := 512) (K := 1024) cfg0.N 1 2048 512 (fun r k => (show EReal from argL m c (ix2 r k))) (fun n k => (show EReal from argR m c (ix2 n k)))
    (by decide) (by decide) (by decide) (fun r n => result m c (ix2 r n)) (fun t h r k => (iblk m c 0 ⟨t, h⟩ : FVec Ideal S2048x1024 .bf16) (ix2 r k))
    (fun t h l k => (iblk m c 1 ⟨t, h⟩ : FVec Ideal S512x1024 .bf16) (ix2 l k)) (fun t h r l hr hl => ?_) (fun t h => left_at m c ⟨t, h⟩)
    (fun t h => right_at m c ⟨t, h⟩) r n (by show _ < 8; omega)
  refine (out_at ⟨t, h⟩ (result m c) r l hr hl).symm.trans ((congrFun ((blocks2 m c _ (flushes _)).trans (flushed2 m c _)) (ix2 r l)).trans ?_)
  rw [block_eq]
  exact pay_at _ _ r l

/-- The reference's result as a function of the two factors. -/
def reference (g : FVec Ideal S16384x1024 .bf16) (w : FVec Ideal S512x1024 .bf16) : FVec Ideal S16384x512 .bf16 :=
  truncf .bf16 (Host.dotGeneral Cert.Reference16Ideal.dot_S16384x1024_S512x1024_S16384x512_1_1_0_0_n_n none (extf .f32 g Cert.Reference16Ideal.Facts₀.bitsLt_bf16_f32) (extf .f32 w Cert.Reference16Ideal.Facts₀.bitsLt_bf16_f32))
    Cert.Reference16Ideal.Facts₀.bitsLt_bf16_f32

theorem reference_at (g : FVec Ideal S16384x1024 .bf16) (w : FVec Ideal S512x1024 .bf16) (r : Fin 16384) (n : Fin 512) :
    (reference g w (ix2 r n) : EReal) = ∑ k, termsNT g w r n k := by
  pointwise [reference]
  rfl

theorem result_eq : result m c = reference (argL m c) (argR m c) := by
  funext i
  rw [eq_ix2 i]
  exact (result_at m c _ _).trans (reference_at _ _ _ _).symm

/-- The kernel read over bits is the same text. -/
theorem same_text : Cert.quiescent_Kernel16 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel16 := same_text ▸ fun m ρ _ => frame (F := Bits) m ρ

theorem frame_ideal : Cert.quiescent_Kernel16Ideal := fun m ρ _ => frame (F := Ideal) m ρ

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- From equal arguments the kernel and the reference return equal arrays. -/
theorem value_claim : Cert.algebraic_Kernel16Ideal_Reference16Ideal := by
  intro m g m' g' _ hargs
  refine ⟨_, Cert.Kernel16Ideal.Value.run_blocks m g, ?_⟩
  refine (θ_run Cert.Reference16Ideal.defs _ _).mono (fun r h c => ?_) (Cert.Reference16Ideal.Value.run (F := Ideal) m' g')
  obtain ⟨h0, ha⟩ := h c
  rw [(hargs c).1, (hargs c).2] at h0
  exact ⟨h0.trans (result_eq m c).symm, ha⟩

end InputA

namespace InputB

open Cert.Kernel17Ideal Cert.Kernel17Ideal.Gen Cert.Kernel17Ideal.Value

theorem block_eq {F : FTy → Type} [FloatOps F] (x0 : Vec F S2048x1024 .bf16) (x1 : Vec F S512x1024 .bf16) : out0_2 x0 x1 = k0_pay1 x0 x1 := by
  unfold out0_2 r0_2 r0_0 r0_1
  rw [View.canon_unit_zero zeros2]
  simp only [View.ld_unit_zero (S := S2048x1024) zeros2, View.ld_unit_zero (S := S512x1024) zeros2]

theorem pay_at (x0 : FVec Ideal S2048x1024 .bf16) (x1 : FVec Ideal S512x1024 .bf16) (r : Fin 2048) (l : Fin 512) :
    (k0_pay1 (F := Ideal) x0 x1 (ix2 r l) : EReal) = ∑ k : Fin 1024, (show EReal from x0 (ix2 r k)) * (show EReal from x1 (ix2 l k)) := by
  pointwise [k0_pay1]

theorem idx : ∀ t : Fin cfg0.N, win0_0.index t = ![t.val / 1, 0] ∧ win0_1.index t = ![t.val % 1, 0] ∧ win0_2.index t = ![t.val / 1, t.val % 1] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

/-- The result's gradient and the weights. -/
abbrev argL : FVec Ideal S16384x1024 .bf16 := m ((c : Thread nD τ).loc main_arg1)
abbrev argR : FVec Ideal S512x1024 .bf16 := m ((c : Thread nD τ).loc main_arg0)

theorem left_at (t : Fin cfg0.N) (r : Fin 2048) (k : Fin 1024) (hr : 2048 * (t.val / 1) + r.val < 16384) :
    (iblk m c 0 t : FVec Ideal S2048x1024 .bf16) (ix2 r k) = argL m c (ix2 ⟨_, hr⟩ k) :=
  block_read (argL m c) _ (win0_0.index t) _ _ (idx t).1 r k rfl rfl _ _ rfl (by omega)

theorem right_at (t : Fin cfg0.N) (l : Fin 512) (k : Fin 1024) (hl : 512 * (t.val % 1) + l.val < 512) :
    (iblk m c 1 t : FVec Ideal S512x1024 .bf16) (ix2 l k) = argR m c (ix2 ⟨_, hl⟩ k) :=
  block_read (argR m c) _ (win0_1.index t) _ _ (idx t).2.1 l k rfl rfl _ _ rfl (by omega)

theorem out_at (t : Fin cfg0.N) (X : FVec Ideal S16384x512 .f32) (r : Fin 2048) (l : Fin 512) (hr : 2048 * (t.val / 1) + r.val < 16384)
    (hl : 512 * (t.val % 1) + l.val < 512) : (((cfg0.win 2).blk t).view.read (Elt Ideal) X : FVec Ideal S2048x512 .f32) (ix2 r l) = X (ix2 ⟨_, hr⟩ ⟨_, hl⟩) :=
  block_read X _ (win0_2.index t) _ _ (idx t).2.2 r l rfl rfl _ _ rfl rfl

/-- The kernel's result. -/
abbrev result : FVec Ideal S16384x512 .f32 := (dats m 0 c).arrAt 2 cfg0.N

/-- The kernel's result at an index. -/
theorem result_at (r : Fin 16384) (n : Fin 512) : (result m c (ix2 r n) : EReal) = ∑ k, termsNT (argL m c) (argR m c) r n k := by
  refine whole_entry (M := 16384) (N := 512) (K := 1024) cfg0.N 1 2048 512 (fun r k => (show EReal from argL m c (ix2 r k))) (fun n k => (show EReal from argR m c (ix2 n k)))
    (by decide) (by decide) (by decide) (fun r n => result m c (ix2 r n)) (fun t h r k => (iblk m c 0 ⟨t, h⟩ : FVec Ideal S2048x1024 .bf16) (ix2 r k))
    (fun t h l k => (iblk m c 1 ⟨t, h⟩ : FVec Ideal S512x1024 .bf16) (ix2 l k)) (fun t h r l hr hl => ?_) (fun t h => left_at m c ⟨t, h⟩)
    (fun t h => right_at m c ⟨t, h⟩) r n (by show _ < 8; omega)
  refine (out_at ⟨t, h⟩ (result m c) r l hr hl).symm.trans ((congrFun ((blocks2 m c _ (flushes _)).trans (flushed2 m c _)) (ix2 r l)).trans ?_)
  rw [block_eq]
  exact pay_at _ _ r l

/-- The reference's result as a function of the two factors. -/
def reference (g : FVec Ideal S16384x1024 .bf16) (w : FVec Ideal S512x1024 .bf16) : FVec Ideal S16384x512 .f32 :=
  Host.dotGeneral Cert.Reference17Ideal.dot_S16384x1024_S512x1024_S16384x512_1_1_0_0_n_n none (extf .f32 g Cert.Reference17Ideal.Facts₀.bitsLt_bf16_f32) (extf .f32 w Cert.Reference17Ideal.Facts₀.bitsLt_bf16_f32)

theorem reference_at (g : FVec Ideal S16384x1024 .bf16) (w : FVec Ideal S512x1024 .bf16) (r : Fin 16384) (n : Fin 512) :
    (reference g w (ix2 r n) : EReal) = ∑ k, termsNT g w r n k := by
  pointwise [reference]
  rfl

theorem result_eq : result m c = reference (argL m c) (argR m c) := by
  funext i
  rw [eq_ix2 i]
  exact (result_at m c _ _).trans (reference_at _ _ _ _).symm

/-- The kernel read over bits is the same text. -/
theorem same_text : Cert.quiescent_Kernel17 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel17 := same_text ▸ fun m ρ _ => frame (F := Bits) m ρ

theorem frame_ideal : Cert.quiescent_Kernel17Ideal := fun m ρ _ => frame (F := Ideal) m ρ

theorem frame_reference : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- From equal arguments the kernel and the reference return equal arrays. -/
theorem value_claim : Cert.algebraic_Kernel17Ideal_Reference17Ideal := by
  intro m g m' g' _ hargs
  refine ⟨_, Cert.Kernel17Ideal.Value.run_blocks m g, ?_⟩
  refine (θ_run Cert.Reference17Ideal.defs _ _).mono (fun r h c => ?_) (Cert.Reference17Ideal.Value.run (F := Ideal) m' g')
  obtain ⟨h0, ha⟩ := h c
  rw [(hargs c).1, (hargs c).2] at h0
  exact ⟨h0.trans (result_eq m c).symm, ha⟩

end InputB

namespace Weights

open Cert.Kernel18Ideal Cert.Kernel18Ideal.Gen Cert.Kernel18Ideal.Value

section Cases

variable {F : FTy → Type} [FloatOps F]
variable (c : Dev nD) (i : grid0.Coords) (a3 : Memref sig .tc .vmem S4096x512 .bf16) (h3 : a3.IsWhole) (a4 : Memref sig .tc .vmem S4096x512 .bf16) (h4 : a4.IsWhole)
  (a5 : Memref sig .tc .vmem S512x512 .f32) (h5 : a5.IsWhole) (a6 : Memref sig .tc .vmem S512x512 .f32) (h6 : a6.IsWhole)
  (x0 x1 : Vec F S4096x512 .bf16) (acc : Vec F S512x512 .f32)

/-- The first run leaves its product in the scratch. -/
theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S4096x512) zeros2, shapeCast_self]

/-- A run in the middle adds its product to the scratch. -/
theorem middle_scratch (hc0 : ¬cond0_0 i) (hc1 : cond0_1 i) (hc2 : ¬cond0_2 i) :
    sout0_B_0 c i a3 h3 a4 h4 a5 h5 a6 h6 hc0 hc1 hc2 x0 x1 acc = addf acc (k0_pay1 x0 x1) := by
  unfold sout0_B_0
  rw [View.read_writes_eq_canon _ _ _ (scover0_B_0 c i a3 h3 a4 h4 a5 h5 a6 h6 hc0 hc1 hc2 x0 x1 acc)]
  unfold kernelRun0_B
  dsimp only
  rw [View.canon_unit_zero zeros2]
  unfold k0_pay3
  simp only [View.readAt_eq_ld, h3.read_unread, h4.read_unread, h6.read_unread, View.ld_unit_zero (S := S4096x512) zeros2, View.ld_unit_zero (S := S512x512) zeros2, shapeCast_self]

/-- The last run leaves the scratch and its product, added, in the result's block. -/
theorem last_block (hc0 : ¬cond0_0 i) (hc1 : cond0_1 i) (hc2 : cond0_2 i) :
    out0_C_2 c i a3 h3 a4 h4 a5 h5 a6 h6 hc0 hc1 hc2 x0 x1 acc = addf acc (k0_pay1 x0 x1) := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero zeros2, View.readCov_unit_zero _ zeros2]
  unfold k0_pay3
  simp only [View.readAt_eq_ld, h3.read_unread, h4.read_unread, h6.read_unread, View.ld_unit_zero (S := S4096x512) zeros2, View.ld_unit_zero (S := S512x512) zeros2, shapeCast_self]

end Cases

theorem pay_at (x0 x1 : FVec Ideal S4096x512 .bf16) (r l : Fin 512) :
    (k0_pay1 (F := Ideal) x0 x1 (ix2 r l) : EReal) = ∑ k : Fin 4096, (show EReal from x0 (ix2 k r)) * (show EReal from x1 (ix2 k l)) := by
  pointwise [k0_pay1]

theorem idx : ∀ t : Fin cfg0.N, win0_0.index t = ![t.val % 4, t.val / 4 / 2] ∧ win0_1.index t = ![t.val % 4, t.val / 4 % 2] :=
  (by decide +kernel : ∀ t : Fin grid0.N, _)

variable (m : (ℓ : Loc nD τ sig) → Buf (Elt Ideal) ℓ) (c : Dev nD)

/-- The rows and the result's gradient. -/
abbrev argL : FVec Ideal S16384x512 .bf16 := m ((c : Thread nD τ).loc main_arg0)
abbrev argR : FVec Ideal S16384x1024 .bf16 := m ((c : Thread nD τ).loc main_arg1)

theorem left_at (t : Fin cfg0.N) (r : Fin 512) (k : Fin 4096) (hr : 512 * (t.val / 4 / 2) + r.val < 512) (hk : 4096 * (t.val % 4) + k.val < 16384) :
    (iblk m c 0 t : FVec Ideal S4096x512 .bf16) (ix2 k r) = argL m c (ix2 ⟨_, hk⟩ ⟨_, hr⟩) :=
  block_read (argL m c) _ (win0_0.index t) _ _ (idx t).1 k r rfl rfl _ _ rfl rfl

theorem right_at (t : Fin cfg0.N) (l : Fin 512) (k : Fin 4096) (hl : 512 * (t.val / 4 % 2) + l.val < 1024) (hk : 4096 * (t.val % 4) + k.val < 16384) :
    (iblk m c 1 t : FVec Ideal S4096x512 .bf16) (ix2 k l) = argR m c (ix2 ⟨_, hk⟩ ⟨_, hl⟩) :=
  block_read (argR m c) _ (win0_1.index t) _ _ (idx t).2 k l rfl rfl _ _ rfl rfl

/-- The kernel's result at an index. -/
theorem result_at (r : Fin 512) (n : Fin 1024) : ((G2 m c : FVec Ideal S512x1024 .f32) (ix2 r n) : EReal) = ∑ k, termsTN (argL m c) (argR m c) r n k := by
  have h1 : pt2Of (ix2 r n) = 4 * (2 * (r.val / 512) + n.val / 512) + 3 := by
    show 4 * (_ * (r.val / 512) + 1 * (n.val / 512)) + 3 = _; omega
  have h2 : loc2Of (ix2 r n) = ix2 ⟨r.val % 512, Nat.mod_lt _ (by decide)⟩ ⟨n.val % 512, Nat.mod_lt _ (by decide)⟩ := by
    funext a; fin_cases a <;> rfl
  have hlt : pt2Of (ix2 r n) < cfg0.N := by rw [h1]; show _ < 8; omega
  unfold G2
  rw [dif_pos hlt, ← outsAt0_sweep m c _ hlt, h2]
  simp only [h1]
  refine swept_entry (M := 512) (N := 1024) (K := 16384) cfg0.N 4096 2 2 512 512 (fun r k => (show EReal from argL m c (ix2 k r))) (fun n k => (show EReal from argR m c (ix2 k n)))
    (by decide) (by decide) (by decide) (by decide) (fun t h r l => (outsAt0 m c t h).1 (ix2 r l)) (fun t h r l => (outsAt0 m c t h).2 (ix2 r l))
    (fun t h r l => k0_pay1 (F := Ideal) (iblk m c 0 ⟨t, h⟩) (iblk m c 1 ⟨t, h⟩) (ix2 r l)) (fun t h r k => (iblk m c 0 ⟨t, h⟩ : FVec Ideal S4096x512 .bf16) (ix2 k r))
    (fun t h l k => (iblk m c 1 ⟨t, h⟩ : FVec Ideal S4096x512 .bf16) (ix2 k l)) (fun t h r l hm => ?_) (fun t h r l hm hm' => ?_) (fun t h r l hm => ?_)
    (fun t h r l => pay_at _ _ r l) (fun t h => left_at m c ⟨t, h⟩) (fun t h => right_at m c ⟨t, h⟩) r n _
  · exact congrArg (fun p => (p.2 (ix2 r l) : EReal)) ((outsAt0_A m c ⟨t, h⟩ (by dsimp only; omega) (by dsimp only; omega) (by dsimp only; omega)).trans (congrArg (Prod.mk _) (first_scratch ..)))
  · exact congrArg (fun p => (p.2 (ix2 r l) : EReal)) ((outsAt0_B m c ⟨t, h⟩ (by dsimp only; omega) (by dsimp only; omega) (by dsimp only; omega)).trans (congrArg (Prod.mk _) (middle_scratch ..)))
  · refine (congrArg (fun p => (p.1 (ix2 r l) : EReal)) (outsAt0_C m c ⟨t, h⟩ (by dsimp only; omega) (by dsimp only; omega) (by dsimp only; omega))).trans ?_
    dsimp only
    rw [last_block]
    rfl

/-- The reference's result as a function of the two factors. -/
def reference (x : FVec Ideal S16384x512 .bf16) (g : FVec Ideal S16384x1024 .bf16) : FVec Ideal S512x1024 .f32 :=
  transpose S512x1024 [1, 0] (Host.dotGeneral Cert.Reference18Ideal.dot_S16384x1024_S16384x512_S1024x512_0_0_1_1_n_n none (extf .f32 g Cert.Reference18Ideal.Facts₀.bitsLt_bf16_f32)
    (extf .f32 x Cert.Reference18Ideal.Facts₀.bitsLt_bf16_f32)) Cert.Reference18Ideal.Facts₀.transposes_S1024x512_S512x1024_1_0

theorem reference_at (x : FVec Ideal S16384x512 .bf16) (g : FVec Ideal S16384x1024 .bf16) (r : Fin 512) (n : Fin 1024) :
    (reference x g (ix2 r n) : EReal) = ∑ k, termsTN x g r n k := by
  pointwise [reference]
  exact Finset.sum_congr rfl fun k _ => mul_comm _ _

theorem result_eq : (G2 m c : FVec Ideal S512x1024 .f32) = reference (argL m c) (argR m c) := by
  funext i
  rw [eq_ix2 i]
  exact (result_at m c _ _).trans (reference_at _ _ _ _).symm

/-- The kernel read over bits is the same text. -/
theorem same_text : Cert.quiescent_Kernel18 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  sl_kernel_rfl

theorem frame_kernel : Cert.quiescent_Kernel18 := same_text ▸ fun m ρ _ => frame (F := Bits) m ρ

theorem frame_ideal : Cert.quiescent_Kernel18Ideal := fun m ρ _ => frame (F := Ideal) m ρ

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- From equal arguments the kernel and the reference return equal arrays. -/
theorem value_claim : Cert.algebraic_Kernel18Ideal_Reference18Ideal := by
  intro m g m' g' _ hargs
  refine ⟨_, Cert.Kernel18Ideal.Value.run m g, ?_⟩
  refine (θ_run Cert.Reference18Ideal.defs _ _).mono (fun r h c => ?_) (Cert.Reference18Ideal.Value.run (F := Ideal) m' g')
  obtain ⟨h0, ha⟩ := h c
  rw [(hargs c).1, (hargs c).2] at h0
  exact ⟨h0.trans (result_eq m c).symm, ha⟩

end Weights

end Cert.Proof.Prod.Branches

end
-- ==== Proof.Rowwise.lean ====
/- The calls that take their rows one by one: the SwiGLU and the merge of the two branches, each forward and backward, and the
   layer norm of the weighted sum. -/
module

public import proofs.«01_k».proof.Defs
public import proofs.«01_k».proof.Proof.Product
public import proofs.«01_k».proof.Proof.Gen.Kernel19
public import proofs.«01_k».proof.Proof.Gen.Kernel19Ideal.Value
public import proofs.«01_k».proof.Proof.Gen.Reference19Ideal.Run
public import proofs.«01_k».proof.Proof.Gen.Kernel20
public import proofs.«01_k».proof.Proof.Gen.Kernel20Ideal.Value
public import proofs.«01_k».proof.Proof.Gen.Reference20Ideal.Run
public import proofs.«01_k».proof.Proof.Gen.Kernel21
public import proofs.«01_k».proof.Proof.Gen.Kernel21Ideal.Value
public import proofs.«01_k».proof.Proof.Gen.Reference21Ideal.Run
public import proofs.«01_k».proof.Proof.Finite
public import proofs.«01_k».proof.Proof.Gen.Kernel22
public import proofs.«01_k».proof.Proof.Gen.Kernel22Ideal.Value
public import proofs.«01_k».proof.Proof.Gen.Reference22Ideal.Run
public import proofs.«01_k».proof.Proof.Gen.Kernel23
public import proofs.«01_k».proof.Proof.Gen.Kernel23Ideal.Value
public import proofs.«01_k».proof.Proof.Gen.Reference23Ideal.Run

@[expose] public section

set_option maxRecDepth 16384

noncomputable section

namespace Cert.Proof.Rows

open Idealize.ShloMosaic Idealize.ShloMosaic.TcCoe Idealize.ShloMosaic.Tactic Idealize.SL.Sem
open Cert.Proof.Prod (zeros2 block_read)

/-- Two arrays are equal if they are in every block of `b` rows. -/
theorem rows_eq {α : Type} {m n : ℕ} (b p : ℕ) (hb : 0 < b) (hm : m = b * p) (f g : (⟨2, ![m, n]⟩ : Shape).Idx → α)
    (h : ∀ (t : Fin p) (r : Fin b) (l : Fin n) (hr : b * t.val + r.val < m), f (ix2 ⟨_, hr⟩ l) = g (ix2 ⟨_, hr⟩ l)) : f = g := by
  funext i
  rw [eq_ix2 i]
  have ht : (i 0).val / b < p := Nat.div_lt_of_lt_mul (hm ▸ (i 0).isLt)
  have e : b * ((i 0).val / b) + (i 0).val % b = (i 0).val := Nat.div_add_mod _ _
  have key := h ⟨_, ht⟩ ⟨(i 0).val % b, Nat.mod_lt _ hb⟩ (i 1) (lt_of_eq_of_lt e (i 0).isLt)
  simp only [e] at key
  exact key

namespace Act

open Cert.Kernel19Ideal Cert.Kernel19Ideal.Gen Cert.Kernel19Ideal.Value

theorem block_eq {F : FTy → Type} [FloatOps F] (x0 x1 : Vec F S256x2816 .f32) : out0_2 x0 x1 = k0_pay1 x0 x1 := by
  unfold out0_2 r0_0
  rw [View.canon_unit_zero zeros2]
  simp only [View.ld_unit_zero (S := S256x2816) zeros2]

/-- The value and the gate. -/
def act (u g : EReal) : EReal := g * Ideal.logistic g * u

theorem pay_at (x0 x1 : FVec Ideal S256x2816 .f32) (r : Fin 256) (l : Fin 2816) :
    (k0_pay1 (F := Ideal) x0 x1 (ix2 r l) : EReal) = act (x0 (ix2 r l)) (x1 (ix2 r l)) := by
  pointwise [k0_pay1]
  rfl

theorem idx : ∀ t : Fin cfg0.N, win0_0.index t = ![t.val, 0] ∧ win0_1.index t = ![t.val, 1] ∧ win0_2.index t = ![t.val, 0] :=
  (by decide +kernel : ∀ t : Fin grid0.N, _)

theorem flushes : ∀ t : Fin cfg0.N, (cfg0.win 2).flush t = true := (by decide +kernel : ∀ t : Fin grid0.N, _)

variable (m : (ℓ : Loc nD τ sig) → Buf (Elt Ideal) ℓ) (c : Dev nD)

abbrev arg : FVec Ideal S16384x5632 .f32 := m ((c : Thread nD τ).loc main_arg0)

/-- The reference's result as a function of its argument. -/
def reference (x : FVec Ideal S16384x5632 .f32) : FVec Ideal S16384x2816 .bf16 :=
  truncf .bf16 (mulf (mulf (extractStridedSlice S16384x2816 ![0, 2816] x Cert.Reference19Ideal.Facts₀.slices_S16384x5632_S16384x2816_0_2816)
    (Host.divf (broadcastInDim S16384x2816 ![] Cert.Reference19Ideal.Facts₀.bcast_S_S16384x2816 (constant Cert.Reference19Ideal.S_ .f32 0x3F800000#32))
      (addf (broadcastInDim S16384x2816 ![] Cert.Reference19Ideal.Facts₀.bcast_S_S16384x2816 (constant Cert.Reference19Ideal.S_ .f32 0x3F800000#32))
        (Host.exp (Host.negf (extractStridedSlice S16384x2816 ![0, 2816] x Cert.Reference19Ideal.Facts₀.slices_S16384x5632_S16384x2816_0_2816))))))
    (extractStridedSlice S16384x2816 ![0, 0] x Cert.Reference19Ideal.Facts₀.slices_S16384x5632_S16384x2816_0_0)) Cert.Reference19Ideal.Facts₀.bitsLt_bf16_f32

theorem reference_at (x : FVec Ideal S16384x5632 .f32) (r : Fin 16384) (l : Fin 2816) (h0 : l.val < 5632) (h1 : 2816 + l.val < 5632) :
    (reference x (ix2 r l) : EReal) = act (x (ix2 r ⟨_, h0⟩)) (x (ix2 r ⟨_, h1⟩)) := by
  pointwise [reference]
  rfl

abbrev result : FVec Ideal S16384x2816 .bf16 := (dats m 0 c).arrAt 2 cfg0.N

theorem result_eq : result m c = reference (arg m c) :=
  rows_eq 256 64 (by decide) (by decide) _ _ fun t r l hr => by
    have h0 : l.val < 5632 := by omega
    have h1 : 2816 + l.val < 5632 := by omega
    refine (block_read (result m c) _ (win0_2.index t) _ _ (idx t).2.2 r l rfl rfl _ _ rfl (by omega)).symm.trans
      ((congrFun ((blocks2 m c t (flushes t)).trans (flushed2 m c t)) (ix2 r l)).trans ?_)
    rw [block_eq]
    exact (pay_at _ _ r l).trans ((congrArg₂ act
      (block_read (arg m c) _ (win0_0.index t) _ _ (idx t).1 r l rfl rfl _ ⟨_, h0⟩ rfl (by simp))
      (block_read (arg m c) _ (win0_1.index t) _ _ (idx t).2.1 r l rfl rfl _ ⟨_, h1⟩ rfl (by simp))).trans (reference_at _ _ l h0 h1).symm)

/-- The kernel read over bits is the same text. -/
theorem same_text : Cert.quiescent_Kernel19 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)) ∧ r.2.sem = fun _ => 0) := by
  sl_kernel_rfl

theorem frame_kernel : Cert.quiescent_Kernel19 := same_text ▸ fun m ρ _ => frame (F := Bits) m ρ

theorem frame_ideal : Cert.quiescent_Kernel19Ideal := fun m ρ _ => frame (F := Ideal) m ρ

theorem frame_reference : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

/-- From equal arguments the kernel and the reference return equal arrays. -/
theorem value_claim : Cert.algebraic_Kernel19Ideal_Reference19Ideal := by
  intro m g m' g' _ hargs
  refine ⟨_, Cert.Kernel19Ideal.Value.run_blocks m g, ?_⟩
  refine (θ_run Cert.Reference19Ideal.defs _ _).mono (fun r h c => ?_) (Cert.Reference19Ideal.Value.run (F := Ideal) m' g')
  obtain ⟨h0, ha⟩ := h c
  rw [hargs c] at h0
  exact ⟨h0.trans (result_eq m c).symm, ha⟩

end Act

namespace Merge

open Cert.Kernel20Ideal Cert.Kernel20Ideal.Gen Cert.Kernel20Ideal.Value

section Run

variable {F : FTy → Type} [FloatOps F]
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S512x1024 .bf16) (h5 : a5.IsWhole) (x0 x1 x2 x3 : Vec F S512x1024 .f32)

theorem block_eq : out0_A_4 c i a1 h1 a2 h2 a3 h3 a4 h4 a5 h5 x0 x1 x2 x3 = k0_pay1 x0 x1 x2 x3 := by
  unfold out0_A_4
  rw [View.read_writes_eq_canon _ _ _ (cover0_A_4 c i a1 h1 a2 h2 a3 h3 a4 h4 a5 h5 x0 x1 x2 x3)]
  unfold kernelRun0_A
  dsimp only
  rw [View.canon_unit_zero zeros2]
  simp only [View.readAt_eq_ld, h1.read_unread, h2.read_unread, h3.read_unread, h4.read_unread, View.ld_unit_zero (S := S512x1024) zeros2]

end Run

/-- The gates and the two branches. -/
def merge (ga gb pa pb : EReal) : EReal := Ideal.logistic ga * pa + Ideal.logistic gb * pb

theorem pay_at (x0 x1 x2 x3 : FVec Ideal S512x1024 .f32) (r : Fin 512) (l : Fin 1024) :
    (k0_pay1 (F := Ideal) x0 x1 x2 x3 (ix2 r l) : EReal) = merge (x0 (ix2 r l)) (x1 (ix2 r l)) (x2 (ix2 r l)) (x3 (ix2 r l)) := by
  pointwise [k0_pay1]
  rfl

theorem idx : ∀ t : Fin cfg0.N, win0_0.index t = ![t.val, 0] ∧ win0_1.index t = ![t.val, 1] ∧ win0_2.index t = ![t.val, 0] ∧ win0_3.index t = ![t.val, 0]
    ∧ win0_4.index t = ![t.val, 0] :=
  (by decide +kernel : ∀ t : Fin grid0.N, _)

theorem flushes : ∀ t : Fin cfg0.N, (cfg0.win 4).flush t = true := (by decide +kernel : ∀ t : Fin grid0.N, _)

variable (m : (ℓ : Loc nD τ sig) → Buf (Elt Ideal) ℓ) (c : Dev nD)

abbrev gates : FVec Ideal S16384x4224 .f32 := m ((c : Thread nD τ).loc main_arg0)
abbrev argA : FVec Ideal S16384x1024 .f32 := m ((c : Thread nD τ).loc main_arg1)
abbrev argB : FVec Ideal S16384x1024 .f32 := m ((c : Thread nD τ).loc main_arg2)

theorem gate_a (t : Fin cfg0.N) (r : Fin 512) (l : Fin 1024) (hr : 512 * t.val + r.val < 16384) (hl : l.val < 4224) :
    (X0_0 m c t : FVec Ideal S512x1024 .f32) (ix2 r l) = gates m c (ix2 ⟨_, hr⟩ ⟨_, hl⟩) := by
  unfold X0_0 Pipeline.Window.fill
  rw [dif_pos (moved0_0 t _)]
  exact block_read (gates m c) _ (win0_0.index t) _ _ (idx t).1 r l rfl rfl _ _ rfl (by simp)

theorem gate_b (t : Fin cfg0.N) (r : Fin 512) (l : Fin 1024) (hr : 512 * t.val + r.val < 16384) (hl : 1024 + l.val < 4224) :
    (X0_1 m c t : FVec Ideal S512x1024 .f32) (ix2 r l) = gates m c (ix2 ⟨_, hr⟩ ⟨_, hl⟩) := by
  unfold X0_1 Pipeline.Window.fill
  rw [dif_pos (moved0_1 t _)]
  exact block_read (gates m c) _ (win0_1.index t) _ _ (idx t).2.1 r l rfl rfl _ _ rfl (by simp)

/-- A gate over all rows, as the host code spells it. -/
def gate (x : FVec Ideal S16384x1024 .f32) : FVec Ideal S16384x1024 .f32 :=
  Host.divf (broadcastInDim S16384x1024 ![] Cert.Reference20Ideal.Facts₀.bcast_S_S16384x1024 (constant Cert.Reference20Ideal.S_ .f32 0x3F800000#32))
    (addf (broadcastInDim S16384x1024 ![] Cert.Reference20Ideal.Facts₀.bcast_S_S16384x1024 (constant Cert.Reference20Ideal.S_ .f32 0x3F800000#32)) (Host.exp (Host.negf x)))

/-- The reference's result as a function of its arguments. -/
def reference (g : FVec Ideal S16384x4224 .f32) (a b : FVec Ideal S16384x1024 .f32) : FVec Ideal S16384x1024 .bf16 :=
  truncf .bf16 (addf (mulf (gate (extractStridedSlice S16384x1024 ![0, 0] g Cert.Reference20Ideal.Facts₀.slices_S16384x4224_S16384x1024_0_0)) a)
    (mulf (gate (extractStridedSlice S16384x1024 ![0, 1024] g Cert.Reference20Ideal.Facts₀.slices_S16384x4224_S16384x1024_0_1024)) b)) Cert.Reference20Ideal.Facts₀.bitsLt_bf16_f32

theorem reference_at (g : FVec Ideal S16384x4224 .f32) (a b : FVec Ideal S16384x1024 .f32) (r : Fin 16384) (l : Fin 1024) (h0 : l.val < 4224)
    (h1 : 1024 + l.val < 4224) : (reference g a b (ix2 r l) : EReal) = merge (g (ix2 r ⟨_, h0⟩)) (g (ix2 r ⟨_, h1⟩)) (a (ix2 r l)) (b (ix2 r l)) := by
  pointwise [reference, gate]
  rfl

abbrev result : FVec Ideal S16384x1024 .bf16 := (dats m 0 c).arrAt 4 cfg0.N

theorem result_eq : result m c = reference (gates m c) (argA m c) (argB m c) :=
  rows_eq 512 32 (by decide) (by decide) _ _ fun t r l hr => by
    have h0 : l.val < 4224 := by omega
    have h1 : 1024 + l.val < 4224 := by omega
    refine (block_read (result m c) _ (win0_4.index t) _ _ (idx t).2.2.2.2 r l rfl rfl _ _ rfl (by omega)).symm.trans
      ((congrFun ((blocks4 m c t (flushes t)).trans (flushed4_A m c t)) (ix2 r l)).trans ?_)
    rw [block_eq]
    refine (pay_at _ _ _ _ r l).trans (Eq.trans ?_ (reference_at _ _ _ _ l h0 h1).symm)
    rw [gate_a m c t r l hr h0, gate_b m c t r l hr h1]
    exact congrArg₂ (merge _ _)
      (block_read (argA m c) _ (win0_2.index t) _ _ (idx t).2.2.1 r l rfl rfl _ l rfl (by simp))
      (block_read (argB m c) _ (win0_3.index t) _ _ (idx t).2.2.2.1 r l rfl rfl _ l rfl (by simp))

/-- The kernel read over bits is the same text. -/
theorem same_text : Cert.quiescent_Kernel20 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  sl_kernel_rfl

theorem frame_kernel : Cert.quiescent_Kernel20 := same_text ▸ fun m ρ _ => frame (F := Bits) m ρ

theorem frame_ideal : Cert.quiescent_Kernel20Ideal := fun m ρ _ => frame (F := Ideal) m ρ

theorem frame_reference : Cert.quiescent_Reference20Ideal := fun m ρ _ =>
  (θ_run Cert.Reference20Ideal.defs _ _).mono (fun r h => ⟨fun c => (h c).2, sem_eq_zero_of_no_sems (by decide) r.2⟩)
    (Cert.Reference20Ideal.Value.run (F := Ideal) m ρ)

/-- From equal arguments the kernel and the reference return equal arrays. -/
theorem value_claim : Cert.algebraic_Kernel20Ideal_Reference20Ideal := by
  intro m g m' g' _ hargs
  refine ⟨_, Cert.Kernel20Ideal.Value.run_blocks m g, ?_⟩
  refine (θ_run Cert.Reference20Ideal.defs _ _).mono (fun r h c => ?_) (Cert.Reference20Ideal.Value.run (F := Ideal) m' g')
  obtain ⟨h0, ha⟩ := h c
  rw [(hargs c).1, (hargs c).2.1, (hargs c).2.2] at h0
  exact ⟨h0.trans (result_eq m c).symm, ha⟩

end Merge

namespace MergeGrad

open Cert.Kernel21Ideal Cert.Kernel21Ideal.Gen Cert.Kernel21Ideal.Value

section Run

variable {F : FTy → Type} [FloatOps F]
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S512x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S512x1024 .bf16) (h7 : a7.IsWhole) (a8 : Memref sig .tc .vmem S512x1024 .bf16) (h8 : a8.IsWhole)
  (a9 : Memref sig .tc .vmem S512x1024 .bf16) (h9 : a9.IsWhole) (x0 x1 x2 x3 x4 : Vec F S512x1024 .f32)

theorem block5_eq : out0_A_5 c i a1 h1 a2 h2 a3 h3 a4 h4 a5 h5 a6 h6 a7 h7 a8 h8 a9 h9 x0 x1 x2 x3 x4 = k0_pay3 x0 x1 := by
  unfold out0_A_5
  rw [View.read_writes_eq_canon _ _ _ (cover0_A_5 c i a1 h1 a2 h2 a3 h3 a4 h4 a5 h5 a6 h6 a7 h7 a8 h8 a9 h9 x0 x1 x2 x3 x4)]
  unfold kernelRun0_A
  dsimp only
  rw [View.canon_unit_zero zeros2]
  simp only [View.readAt_eq_ld, h1.read_unread, h2.read_unread, View.ld_unit_zero (S := S512x1024) zeros2]

theorem block6_eq : out0_A_6 c i a1 h1 a2 h2 a3 h3 a4 h4 a5 h5 a6 h6 a7 h7 a8 h8 a9 h9 x0 x1 x2 x3 x4 = k0_pay4 x0 x2 := by
  unfold out0_A_6
  rw [View.read_writes_eq_canon _ _ _ (cover0_A_6 c i a1 h1 a2 h2 a3 h3 a4 h4 a5 h5 a6 h6 a7 h7 a8 h8 a9 h9 x0 x1 x2 x3 x4)]
  unfold kernelRun0_A
  dsimp only
  rw [View.canon_unit_zero zeros2]
  simp only [View.readAt_eq_ld, h1.read_unread, h3.read_unread, View.ld_unit_zero (S := S512x1024) zeros2]

theorem block7_eq : out0_A_7 c i a1 h1 a2 h2 a3 h3 a4 h4 a5 h5 a6 h6 a7 h7 a8 h8 a9 h9 x0 x1 x2 x3 x4 = k0_pay5 x0 x1 x3 := by
  unfold out0_A_7
  rw [View.read_writes_eq_canon _ _ _ (cover0_A_7 c i a1 h1 a2 h2 a3 h3 a4 h4 a5 h5 a6 h6 a7 h7 a8 h8 a9 h9 x0 x1 x2 x3 x4)]
  unfold kernelRun0_A
  dsimp only
  rw [View.canon_unit_zero zeros2]
  simp only [View.readAt_eq_ld, h1.read_unread, h2.read_unread, h4.read_unread, View.ld_unit_zero (S := S512x1024) zeros2]

theorem block8_eq : out0_A_8 c i a1 h1 a2 h2 a3 h3 a4 h4 a5 h5 a6 h6 a7 h7 a8 h8 a9 h9 x0 x1 x2 x3 x4 = k0_pay6 x0 x2 x4 := by
  unfold out0_A_8
  rw [View.read_writes_eq_canon _ _ _ (cover0_A_8 c i a1 h1 a2 h2 a3 h3 a4 h4 a5 h5 a6 h6 a7 h7 a8 h8 a9 h9 x0 x1 x2 x3 x4)]
  unfold kernelRun0_A
  dsimp only
  rw [View.canon_unit_zero zeros2]
  simp only [View.readAt_eq_ld, h1.read_unread, h3.read_unread, h5.read_unread, View.ld_unit_zero (S := S512x1024) zeros2]

end Run

/-- The gradient by a branch, from the merged row's and the branch's gate. -/
def byBranch (d g : EReal) : EReal := d * Ideal.logistic g

/-- The gradient by a gate, from the merged row's, the gate and its branch. -/
def byGate (d g p : EReal) : EReal := d * p * Ideal.logistic g * (1 - Ideal.logistic g)

/-- The second branch's payloads are the first one's, at its own gate. -/
theorem pay4_eq (x0 x2 : FVec Ideal S512x1024 .f32) : k0_pay4 (F := Ideal) x0 x2 = k0_pay3 x0 x2 := rfl

theorem pay6_eq (x0 x2 x4 : FVec Ideal S512x1024 .f32) : k0_pay6 (F := Ideal) x0 x2 x4 = k0_pay5 x0 x2 x4 := rfl

theorem branch_at (x0 x1 : FVec Ideal S512x1024 .f32) (r : Fin 512) (l : Fin 1024) :
    (k0_pay3 (F := Ideal) x0 x1 (ix2 r l) : EReal) = byBranch (x0 (ix2 r l)) (x1 (ix2 r l)) := by
  pointwise [k0_pay3, k0_pay1]
  rfl

theorem gate_at (x0 x1 x3 : FVec Ideal S512x1024 .f32) (r : Fin 512) (l : Fin 1024) :
    (k0_pay5 (F := Ideal) x0 x1 x3 (ix2 r l) : EReal) = byGate (x0 (ix2 r l)) (x1 (ix2 r l)) (x3 (ix2 r l)) := by
  pointwise [k0_pay5, k0_pay1]
  rfl

theorem idx : ∀ t : Fin cfg0.N, win0_0.index t = ![t.val, 0] ∧ win0_1.index t = ![t.val, 0] ∧ win0_2.index t = ![t.val, 1] ∧ win0_3.index t = ![t.val, 0]
    ∧ win0_4.index t = ![t.val, 0] :=
  (by decide +kernel : ∀ t : Fin grid0.N, _)

theorem idx_out : ∀ t : Fin cfg0.N, win0_5.index t = ![t.val, 0] ∧ win0_6.index t = ![t.val, 0] ∧ win0_7.index t = ![t.val, 0] ∧ win0_8.index t = ![t.val, 0] :=
  (by decide +kernel : ∀ t : Fin grid0.N, _)

theorem flushes : ∀ t : Fin cfg0.N, (cfg0.win 5).flush t = true ∧ (cfg0.win 6).flush t = true ∧ (cfg0.win 7).flush t = true ∧ (cfg0.win 8).flush t = true :=
  (by decide +kernel : ∀ t : Fin grid0.N, _)

variable (m : (ℓ : Loc nD τ sig) → Buf (Elt Ideal) ℓ) (c : Dev nD)

abbrev gates : FVec Ideal S16384x4224 .f32 := m ((c : Thread nD τ).loc main_arg0)
abbrev argA : FVec Ideal S16384x1024 .f32 := m ((c : Thread nD τ).loc main_arg1)
abbrev argB : FVec Ideal S16384x1024 .f32 := m ((c : Thread nD τ).loc main_arg2)
abbrev argD : FVec Ideal S16384x1024 .f32 := m ((c : Thread nD τ).loc main_arg3)

section Read

variable (t : Fin cfg0.N) (r : Fin 512) (l : Fin 1024) (hr : 512 * t.val + r.val < 16384)

theorem read_d : (iblk m c 0 t : FVec Ideal S512x1024 .f32) (ix2 r l) = argD m c (ix2 ⟨_, hr⟩ l) :=
  block_read (argD m c) _ (win0_0.index t) _ _ (idx t).1 r l rfl rfl _ _ rfl (by simp)

theorem read_ga (hl : l.val < 4224) : (X0_1 m c t : FVec Ideal S512x1024 .f32) (ix2 r l) = gates m c (ix2 ⟨_, hr⟩ ⟨_, hl⟩) := by
  unfold X0_1 Pipeline.Window.fill
  rw [dif_pos (moved0_1 t _)]
  exact block_read (gates m c) _ (win0_1.index t) _ _ (idx t).2.1 r l rfl rfl _ _ rfl (by simp)

theorem read_gb (hl : 1024 + l.val < 4224) : (X0_2 m c t : FVec Ideal S512x1024 .f32) (ix2 r l) = gates m c (ix2 ⟨_, hr⟩ ⟨_, hl⟩) := by
  unfold X0_2 Pipeline.Window.fill
  rw [dif_pos (moved0_2 t _)]
  exact block_read (gates m c) _ (win0_2.index t) _ _ (idx t).2.2.1 r l rfl rfl _ _ rfl (by simp)

theorem read_a : (iblk m c 3 t : FVec Ideal S512x1024 .f32) (ix2 r l) = argA m c (ix2 ⟨_, hr⟩ l) :=
  block_read (argA m c) _ (win0_3.index t) _ _ (idx t).2.2.2.1 r l rfl rfl _ _ rfl (by simp)

theorem read_b : (iblk m c 4 t : FVec Ideal S512x1024 .f32) (ix2 r l) = argB m c (ix2 ⟨_, hr⟩ l) :=
  block_read (argB m c) _ (win0_4.index t) _ _ (idx t).2.2.2.2 r l rfl rfl _ _ rfl (by simp)

end Read

/-- The merged row's gradient, as the host code takes it. -/
def grad (d : FVec Ideal S16384x1024 .f32) : FVec Ideal S16384x1024 .f32 := shapeCast _ d Cert.Reference21Ideal.Facts₀.shapeCasts_S16384x1024_S16384x1024

/-- The reference's gradient by a branch as a function of the gate's columns and the merged row's gradient. -/
def refBranch (x d : FVec Ideal S16384x1024 .f32) : FVec Ideal S16384x1024 .bf16 :=
  truncf .bf16 (mulf (Merge.gate x) (grad d)) Cert.Reference21Ideal.Facts₀.bitsLt_bf16_f32

/-- The reference's gradient by a gate. -/
def refGate (x d p : FVec Ideal S16384x1024 .f32) : FVec Ideal S16384x1024 .bf16 :=
  truncf .bf16 (mulf (mulf (grad d) p) (mulf (Merge.gate x)
    (subf (broadcastInDim S16384x1024 ![] Cert.Reference21Ideal.Facts₀.bcast_S_S16384x1024 (constant Cert.Reference21Ideal.S_ .f32 0x3F800000#32)) (Merge.gate x))))
    Cert.Reference21Ideal.Facts₀.bitsLt_bf16_f32

/-- The first and the second gate's columns. -/
def colsA (g : FVec Ideal S16384x4224 .f32) : FVec Ideal S16384x1024 .f32 :=
  extractStridedSlice S16384x1024 ![0, 0] g Cert.Reference21Ideal.Facts₀.slices_S16384x4224_S16384x1024_0_0

def colsB (g : FVec Ideal S16384x4224 .f32) : FVec Ideal S16384x1024 .f32 :=
  extractStridedSlice S16384x1024 ![0, 1024] g Cert.Reference21Ideal.Facts₀.slices_S16384x4224_S16384x1024_0_1024

theorem colsA_at (g : FVec Ideal S16384x4224 .f32) (r : Fin 16384) (l : Fin 1024) (h : l.val < 4224) : colsA g (ix2 r l) = g (ix2 r ⟨_, h⟩) := by
  pointwise [colsA]

theorem colsB_at (g : FVec Ideal S16384x4224 .f32) (r : Fin 16384) (l : Fin 1024) (h : 1024 + l.val < 4224) : colsB g (ix2 r l) = g (ix2 r ⟨_, h⟩) := by
  pointwise [colsB]

theorem gate_eq (x : FVec Ideal S16384x1024 .f32) (r : Fin 16384) (l : Fin 1024) : (Merge.gate x (ix2 r l) : EReal) = Ideal.logistic (x (ix2 r l)) := by
  pointwise [Merge.gate]
  rfl

theorem grad_eq (d : FVec Ideal S16384x1024 .f32) : grad d = d := shapeCast_self _ _

theorem refBranch_at (x d : FVec Ideal S16384x1024 .f32) (r : Fin 16384) (l : Fin 1024) :
    (refBranch x d (ix2 r l) : EReal) = byBranch (d (ix2 r l)) (x (ix2 r l)) := by
  have e : (refBranch x d (ix2 r l) : EReal) = Merge.gate x (ix2 r l) * grad d (ix2 r l) := rfl
  rw [e, gate_eq, grad_eq, byBranch, mul_comm]

theorem refGate_at (x d p : FVec Ideal S16384x1024 .f32) (r : Fin 16384) (l : Fin 1024) :
    (refGate x d p (ix2 r l) : EReal) = byGate (d (ix2 r l)) (x (ix2 r l)) (p (ix2 r l)) := by
  have e : (refGate x d p (ix2 r l) : EReal)
      = (grad d (ix2 r l) * p (ix2 r l)) * (Merge.gate x (ix2 r l) * (1 - Merge.gate x (ix2 r l))) := by
    pointwise [refGate]
  rw [e, gate_eq, grad_eq, byGate, mul_assoc (_ * _)]

abbrev resultA : FVec Ideal S16384x1024 .bf16 := (dats m 0 c).arrAt 5 cfg0.N
abbrev resultB : FVec Ideal S16384x1024 .bf16 := (dats m 0 c).arrAt 6 cfg0.N
abbrev resultGA : FVec Ideal S16384x1024 .bf16 := (dats m 0 c).arrAt 7 cfg0.N
abbrev resultGB : FVec Ideal S16384x1024 .bf16 := (dats m 0 c).arrAt 8 cfg0.N

theorem resultA_eq : resultA m c = refBranch (colsA (gates m c)) (argD m c) :=
  rows_eq 512 32 (by decide) (by decide) _ _ fun t r l hr => by
    have hl : l.val < 4224 := by omega
    refine (block_read (resultA m c) _ (win0_5.index t) _ _ (idx_out t).1 r l rfl rfl _ _ rfl (by omega)).symm.trans
      ((congrFun ((blocks5 m c t (flushes t).1).trans (flushed5_A m c t)) (ix2 r l)).trans ?_)
    rw [block5_eq]
    refine (branch_at _ _ r l).trans (Eq.trans ?_ (refBranch_at _ _ _ l).symm)
    rw [read_d m c t r l hr, read_ga m c t r l hr hl, colsA_at _ _ _ hl]

theorem resultB_eq : resultB m c = refBranch (colsB (gates m c)) (argD m c) :=
  rows_eq 512 32 (by decide) (by decide) _ _ fun t r l hr => by
    have hl : 1024 + l.val < 4224 := by omega
    refine (block_read (resultB m c) _ (win0_6.index t) _ _ (idx_out t).2.1 r l rfl rfl _ _ rfl (by omega)).symm.trans
      ((congrFun ((blocks6 m c t (flushes t).2.1).trans (flushed6_A m c t)) (ix2 r l)).trans ?_)
    rw [block6_eq, pay4_eq]
    refine (branch_at _ _ r l).trans (Eq.trans ?_ (refBranch_at _ _ _ l).symm)
    rw [read_d m c t r l hr, read_gb m c t r l hr hl, colsB_at _ _ _ hl]

theorem resultGA_eq : resultGA m c = refGate (colsA (gates m c)) (argD m c) (argA m c) :=
  rows_eq 512 32 (by decide) (by decide) _ _ fun t r l hr => by
    have hl : l.val < 4224 := by omega
    refine (block_read (resultGA m c) _ (win0_7.index t) _ _ (idx_out t).2.2.1 r l rfl rfl _ _ rfl (by omega)).symm.trans
      ((congrFun ((blocks7 m c t (flushes t).2.2.1).trans (flushed7_A m c t)) (ix2 r l)).trans ?_)
    rw [block7_eq]
    refine (gate_at _ _ _ r l).trans (Eq.trans ?_ (refGate_at _ _ _ _ l).symm)
    rw [read_d m c t r l hr, read_ga m c t r l hr hl, read_a m c t r l hr, colsA_at _ _ _ hl]

theorem resultGB_eq : resultGB m c = refGate (colsB (gates m c)) (argD m c) (argB m c) :=
  rows_eq 512 32 (by decide) (by decide) _ _ fun t r l hr => by
    have hl : 1024 + l.val < 4224 := by omega
    refine (block_read (resultGB m c) _ (win0_8.index t) _ _ (idx_out t).2.2.2 r l rfl rfl _ _ rfl (by omega)).symm.trans
      ((congrFun ((blocks8 m c t (flushes t).2.2.2).trans (flushed8_A m c t)) (ix2 r l)).trans ?_)
    rw [block8_eq, pay6_eq]
    refine (gate_at _ _ _ r l).trans (Eq.trans ?_ (refGate_at _ _ _ _ l).symm)
    rw [read_d m c t r l hr, read_gb m c t r l hr hl, read_b m c t r l hr, colsB_at _ _ _ hl]

/-- The kernel read over bits is the same text. -/
theorem same_text : Cert.quiescent_Kernel21 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  sl_kernel_rfl

theorem frame_kernel : Cert.quiescent_Kernel21 := same_text ▸ fun m ρ _ => frame (F := Bits) m ρ

theorem frame_ideal : Cert.quiescent_Kernel21Ideal := fun m ρ _ => frame (F := Ideal) m ρ

theorem frame_reference : Cert.quiescent_Reference21Ideal := fun m ρ _ =>
  (θ_run Cert.Reference21Ideal.defs _ _).mono (fun r h => ⟨fun c => (h c).2.2.2.2, sem_eq_zero_of_no_sems (by decide) r.2⟩)
    (Cert.Reference21Ideal.Value.run (F := Ideal) m ρ)

/-- From equal arguments the kernel and the reference return equal arrays. -/
theorem value_claim : Cert.algebraic_Kernel21Ideal_Reference21Ideal := by
  intro m g m' g' _ hargs
  refine ⟨_, _, _, _, Cert.Kernel21Ideal.Value.run_blocks m g, ?_⟩
  refine (θ_run Cert.Reference21Ideal.defs _ _).mono (fun r h c => ?_) (Cert.Reference21Ideal.Value.run (F := Ideal) m' g')
  obtain ⟨h0, h1, h2, h3, ha⟩ := h c
  obtain ⟨e0, e1, e2, e3⟩ := hargs c
  rw [e0, e3] at h0 h1
  rw [e0, e1, e3] at h2
  rw [e0, e2, e3] at h3
  exact ⟨h0.trans (resultA_eq m c).symm, h1.trans (resultB_eq m c).symm, h2.trans (resultGA_eq m c).symm, h3.trans (resultGB_eq m c).symm, ha⟩

end MergeGrad

/-- The shape facts of the precondition's function. -/
instance facts_finite_values : Cert.Pre_finite_values.Facts where
  slices_S16384x5632_S16384x2816_0_0 := by decide
  bcast_S_S16384x2816 := by decide
  reducesTo_S16384x2816_S_d0_1 := by decide
  h_S_ := by decide

namespace ActGrad

open Cert.Kernel22Ideal Cert.Kernel22Ideal.Gen Cert.Kernel22Ideal.Value
open Cert.Proof.Fox (real_of_below)

theorem block_eq {F : FTy → Type} [FloatOps F] (x0 x1 x2 : Vec F S256x2816 .f32) : out0_3 x0 x1 x2 = k0_pay1 x0 x1 x2 := by
  unfold out0_3 r0_0 r0_1
  rw [View.canon_unit_zero zeros2]
  simp only [View.ld_unit_zero (S := S256x2816) zeros2]

/-- The gradient by the value, from the product's gradient and the gate. -/
def byValue (d g : EReal) : EReal := d * (g * Ideal.logistic g)

/-- The gradient by the gate, from the product's gradient, the value and the gate, as the kernel takes it. -/
def byGate (d u g : EReal) : EReal := d * u * (Ideal.logistic g * (1 + g * (1 - Ideal.logistic g)))

theorem pay_left (x0 x1 x2 : FVec Ideal S256x2816 .f32) (r : Fin 256) (l : Fin 5632) (a : Fin 2816) (h : a.val = l.val) :
    (k0_pay1 (F := Ideal) x0 x1 x2 (ix2 r l) : EReal) = byValue (x0 (ix2 r a)) (x2 (ix2 r a)) :=
  concatenate_pair_apply_left (t := S256x5632) 1 _ _ concatenates_S256x2816_S256x2816_S256x5632_d1 (ix2 r l) rfl (ix2 r a)
    (fun b => by fin_cases b; exacts [rfl, h])

theorem pay_right (x0 x1 x2 : FVec Ideal S256x2816 .f32) (r : Fin 256) (l : Fin 5632) (a : Fin 2816) (h : a.val + 2816 = l.val) :
    (k0_pay1 (F := Ideal) x0 x1 x2 (ix2 r l) : EReal) = byGate (x0 (ix2 r a)) (x1 (ix2 r a)) (x2 (ix2 r a)) :=
  (concatenate_pair_apply_right (t := S256x5632) 1 _ _ concatenates_S256x2816_S256x2816_S256x5632_d1 (ix2 r l) rfl rfl (ix2 r a)
    (fun b hb => by fin_cases b; exacts [rfl, absurd rfl hb]) h).trans (by
      pointwise []
      rfl)

theorem idx : ∀ t : Fin cfg0.N, win0_0.index t = ![t.val, 0] ∧ win0_1.index t = ![t.val, 0] ∧ win0_2.index t = ![t.val, 1] ∧ win0_3.index t = ![t.val, 0] :=
  (by decide +kernel : ∀ t : Fin grid0.N, _)

theorem flushes : ∀ t : Fin cfg0.N, (cfg0.win 3).flush t = true := (by decide +kernel : ∀ t : Fin grid0.N, _)

variable (m : (ℓ : Loc nD τ sig) → Buf (Elt Ideal) ℓ) (c : Dev nD)

abbrev arg : FVec Ideal S16384x5632 .f32 := m ((c : Thread nD τ).loc main_arg0)
abbrev argD : FVec Ideal S16384x2816 .f32 := m ((c : Thread nD τ).loc main_arg1)

section Read

variable (t : Fin cfg0.N) (r : Fin 256) (l : Fin 2816) (hr : 256 * t.val + r.val < 16384)

theorem read_d : (iblk m c 0 t : FVec Ideal S256x2816 .f32) (ix2 r l) = argD m c (ix2 ⟨_, hr⟩ l) :=
  block_read (argD m c) _ (win0_0.index t) _ _ (idx t).1 r l rfl rfl _ _ rfl (by simp)

theorem read_u (hl : l.val < 5632) : (iblk m c 1 t : FVec Ideal S256x2816 .f32) (ix2 r l) = arg m c (ix2 ⟨_, hr⟩ ⟨_, hl⟩) :=
  block_read (arg m c) _ (win0_1.index t) _ _ (idx t).2.1 r l rfl rfl _ _ rfl (by simp)

theorem read_g (hl : 2816 + l.val < 5632) : (iblk m c 2 t : FVec Ideal S256x2816 .f32) (ix2 r l) = arg m c (ix2 ⟨_, hr⟩ ⟨_, hl⟩) :=
  block_read (arg m c) _ (win0_2.index t) _ _ (idx t).2.2.1 r l rfl rfl _ _ rfl (by simp)

end Read

/-- The gate's columns and the values', and the gate's factor as the host code spells it. -/
def colsG (x : FVec Ideal S16384x5632 .f32) : FVec Ideal S16384x2816 .f32 :=
  extractStridedSlice S16384x2816 ![0, 2816] x Cert.Reference22Ideal.Facts₀.slices_S16384x5632_S16384x2816_0_2816

def colsU (x : FVec Ideal S16384x5632 .f32) : FVec Ideal S16384x2816 .f32 :=
  extractStridedSlice S16384x2816 ![0, 0] x Cert.Reference22Ideal.Facts₀.slices_S16384x5632_S16384x2816_0_0

def ones : FVec Ideal S16384x2816 .f32 :=
  broadcastInDim S16384x2816 ![] Cert.Reference22Ideal.Facts₀.bcast_S_S16384x2816 (constant Cert.Reference22Ideal.S_ .f32 0x3F800000#32)

def gate (g : FVec Ideal S16384x2816 .f32) : FVec Ideal S16384x2816 .f32 := Host.divf ones (addf ones (Host.exp (Host.negf g)))

theorem colsG_at (x : FVec Ideal S16384x5632 .f32) (r : Fin 16384) (l : Fin 2816) (h : 2816 + l.val < 5632) : colsG x (ix2 r l) = x (ix2 r ⟨_, h⟩) := by
  pointwise [colsG]

theorem colsU_at (x : FVec Ideal S16384x5632 .f32) (r : Fin 16384) (l : Fin 2816) (h : l.val < 5632) : colsU x (ix2 r l) = x (ix2 r ⟨_, h⟩) := by
  pointwise [colsU]

theorem ones_at (i : S16384x2816.Idx) : (ones i : EReal) = 1 := by
  pointwise [ones]

theorem gate_at (g : FVec Ideal S16384x2816 .f32) (i : S16384x2816.Idx) : (gate g i : EReal) = Ideal.logistic (g i) := by
  have e : (gate g i : EReal) = Ideal.div (ones i) (ones i + Ideal.exp (-(g i : EReal))) := rfl
  rw [e, ones_at]
  rfl

/-- The reference's gradient by the values. -/
def refValue (g d : FVec Ideal S16384x2816 .f32) : FVec Ideal S16384x2816 .f32 := mulf (mulf g (gate g)) d

/-- The reference's gradient by the gate. -/
def refGate (g u d : FVec Ideal S16384x2816 .f32) : FVec Ideal S16384x2816 .f32 :=
  addf (mulf (mulf d u) (gate g)) (mulf (mulf g (mulf d u)) (mulf (gate g) (subf ones (gate g))))

/-- The reference's result as a function of its arguments. -/
def reference (x : FVec Ideal S16384x5632 .f32) (d : FVec Ideal S16384x2816 .f32) : FVec Ideal S16384x5632 .bf16 :=
  truncf .bf16 (concatenate S16384x5632 1 [⟨S16384x2816, refValue (colsG x) d⟩, ⟨S16384x2816, refGate (colsG x) (colsU x) d⟩]
    Cert.Reference22Ideal.Facts₀.concatenates_S16384x2816_S16384x2816_S16384x5632_d1) Cert.Reference22Ideal.Facts₀.bitsLt_bf16_f32

theorem reference_left (x : FVec Ideal S16384x5632 .f32) (d : FVec Ideal S16384x2816 .f32) (r : Fin 16384) (l : Fin 5632) (a : Fin 2816) (h : a.val = l.val)
    (h1 : 2816 + a.val < 5632) : (reference x d (ix2 r l) : EReal) = byValue (d (ix2 r a)) (x (ix2 r ⟨_, h1⟩)) := by
  have e : (reference x d (ix2 r l) : EReal) = colsG x (ix2 r a) * gate (colsG x) (ix2 r a) * d (ix2 r a) :=
    concatenate_pair_apply_left (t := S16384x5632) 1 _ _ Cert.Reference22Ideal.Facts₀.concatenates_S16384x2816_S16384x2816_S16384x5632_d1 (ix2 r l) rfl (ix2 r a)
      (fun b => by fin_cases b; exacts [rfl, h])
  rw [e, gate_at, colsG_at _ _ _ h1, byValue, mul_comm]

/-- For real values and a real gradient the two forms of the gate's gradient are equal, whatever the gate is. -/
theorem byGate_eq (d u : ℝ) (g : EReal) : byGate d u g
    = (d : EReal) * u * Ideal.logistic g + g * ((d : EReal) * u) * (Ideal.logistic g * (1 - Ideal.logistic g)) := by
  unfold byGate
  induction g with
  | bot => simp
  | top =>
    have e : (1 : EReal) - 1 = 0 := by rw [← EReal.coe_one, ← EReal.coe_sub]; simp
    simp [e]
  | coe x =>
    rw [Ideal.logistic_coe]
    norm_cast
    ring

theorem reference_right (x : FVec Ideal S16384x5632 .f32) (d : FVec Ideal S16384x2816 .f32) (r : Fin 16384) (l : Fin 5632) (a : Fin 2816) (h : a.val + 2816 = l.val)
    (h0 : a.val < 5632) (h1 : 2816 + a.val < 5632) (hx : ∃ y : ℝ, (x (ix2 r ⟨_, h0⟩) : EReal) = y) (hd : ∃ y : ℝ, (d (ix2 r a) : EReal) = y) :
    (reference x d (ix2 r l) : EReal) = byGate (d (ix2 r a)) (x (ix2 r ⟨_, h0⟩)) (x (ix2 r ⟨_, h1⟩)) := by
  have e : (reference x d (ix2 r l) : EReal)
      = d (ix2 r a) * colsU x (ix2 r a) * gate (colsG x) (ix2 r a)
        + colsG x (ix2 r a) * (d (ix2 r a) * colsU x (ix2 r a)) * (gate (colsG x) (ix2 r a) * (ones (ix2 r a) - gate (colsG x) (ix2 r a))) :=
    concatenate_pair_apply_right (t := S16384x5632) 1 _ _ Cert.Reference22Ideal.Facts₀.concatenates_S16384x2816_S16384x2816_S16384x5632_d1 (ix2 r l) rfl rfl (ix2 r a)
      (fun b hb => by fin_cases b; exacts [rfl, absurd rfl hb]) h
  obtain ⟨y, hy⟩ := hx
  obtain ⟨z, hz⟩ := hd
  rw [e, gate_at, ones_at, colsG_at _ _ _ h1, colsU_at _ _ _ h0, hy, hz]
  exact (byGate_eq _ _ _).symm

abbrev result : FVec Ideal S16384x5632 .bf16 := (dats m 0 c).arrAt 3 cfg0.N

instance : Subsingleton Cert.Pre_finite_values.S_.Idx := ⟨fun a b => funext fun i => i.elim0⟩

/-- The precondition says that the values and the gradient are arrays of real numbers. -/
theorem reals (x : FVec Ideal S16384x5632 .f32) (d : FVec Ideal S16384x2816 .f32) (h : Cert.Pre_finite_values.fn (F := Ideal) x d = fun _ => 1#1) :
    (∀ i, ∃ y : ℝ, (colsU x i : EReal) = y) ∧ (∀ i, ∃ y : ℝ, (d i : EReal) = y) := by
  obtain ⟨h0, h1⟩ := IntOp.andi_eq_one.1 (congrFun h (fun i => i.elim0))
  exact ⟨fun i => real_of_below _ (Host.reduce_andi_all _ _ _ _ _ h0 i), fun i => real_of_below _ (Host.reduce_andi_all _ _ _ _ _ h1 i)⟩

theorem result_eq (hx : ∀ i, ∃ y : ℝ, (colsU (arg m c) i : EReal) = y) (hd : ∀ i, ∃ y : ℝ, (argD m c i : EReal) = y) :
    result m c = reference (arg m c) (argD m c) :=
  rows_eq 256 64 (by decide) (by decide) _ _ fun t r l hr => by
    refine (block_read (result m c) _ (win0_3.index t) _ _ (idx t).2.2.2 r l rfl rfl _ _ rfl (by omega)).symm.trans
      ((congrFun ((blocks3 m c t (flushes t)).trans (flushed3 m c t)) (ix2 r l)).trans ?_)
    rw [block_eq]
    rcases lt_or_ge l.val 2816 with h | h
    · have h1 : 2816 + l.val < 5632 := by omega
      refine (pay_left _ _ _ r l ⟨l.val, h⟩ rfl).trans (Eq.trans ?_ (reference_left _ _ _ l ⟨l.val, h⟩ rfl h1).symm)
      rw [read_d m c t r _ hr, read_g m c t r _ hr h1]
    · have ha : l.val - 2816 < 2816 := by omega
      have h0 : l.val - 2816 < 5632 := by omega
      have h1 : 2816 + (l.val - 2816) < 5632 := by omega
      have e : l.val - 2816 + 2816 = l.val := by omega
      refine (pay_right _ _ _ r l ⟨_, ha⟩ e).trans (Eq.trans ?_ (reference_right _ _ _ l ⟨_, ha⟩ e h0 h1
        ((colsU_at (arg m c) ⟨_, hr⟩ ⟨_, ha⟩ h0) ▸ hx _) (hd _)).symm)
      rw [read_d m c t r ⟨_, ha⟩ hr, read_u m c t r ⟨_, ha⟩ hr h0, read_g m c t r ⟨_, ha⟩ hr h1]

/-- The kernel read over bits is the same text. -/
theorem same_text : Cert.quiescent_Kernel22 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  sl_kernel_rfl

theorem frame_kernel : Cert.quiescent_Kernel22 := same_text ▸ fun m ρ _ => frame (F := Bits) m ρ

theorem frame_ideal : Cert.quiescent_Kernel22Ideal := fun m ρ _ => frame (F := Ideal) m ρ

theorem frame_reference : Cert.quiescent_Reference22Ideal := fun m ρ _ =>
  (θ_run Cert.Reference22Ideal.defs _ _).mono (fun r h => ⟨fun c => (h c).2, sem_eq_zero_of_no_sems (by decide) r.2⟩)
    (Cert.Reference22Ideal.Value.run (F := Ideal) m ρ)

/-- From equal arguments with real values and a real gradient the kernel and the reference return equal arrays. -/
theorem value_claim : Cert.algebraic_Kernel22Ideal_Reference22Ideal_pre_finite_values := by
  intro m g m' g' hpre hargs
  refine ⟨_, Cert.Kernel22Ideal.Value.run_blocks m g, ?_⟩
  refine (θ_run Cert.Reference22Ideal.defs _ _).mono (fun r h c => ?_) (Cert.Reference22Ideal.Value.run (F := Ideal) m' g')
  obtain ⟨h0, ha⟩ := h c
  obtain ⟨hx, hd⟩ := reals _ _ (hpre c)
  rw [(hargs c).1, (hargs c).2] at h0
  exact ⟨h0.trans (result_eq m c hx hd).symm, ha⟩

end ActGrad

namespace Norm

open Cert.Kernel23Ideal Cert.Kernel23Ideal.Gen Cert.Kernel23Ideal.Value
open Cert.Reference23Ideal (S16384x1 S_)
open Cert.Reference23Ideal.Facts₀ (bcast_S16384_S16384x1_0 bcast_S_S16384x1 bcast_S_S16384x1024 bcast_S16384x1_S16384x1024_0_1 bcast_S1x1024_S16384x1024_0_1
  bcast_S1024_S1x1024_1 reducesTo_S16384x1024_S16384_d1 h_S_ shapeCasts_S1x1024_S1024)

section Run

variable {F : FTy → Type} [FloatOps F] (x0 x1 : Vec F S512x1024 .f32) (x2 x3 : Vec F S1x1024 .f32)

theorem block4_eq : out0_4 x0 x1 x2 x3 = k0_pay1 x0 x1 x2 x3 := by
  unfold out0_4 r0_0 r0_1
  rw [View.canon_unit_zero zeros2]
  simp only [View.ld_unit_zero (S := S512x1024) zeros2, View.ld_unit_zero (S := S1x1024) zeros2]

theorem block5_eq : out0_5 x0 x1 x2 x3 = k0_pay2 x0 x1 x2 x3 := by
  unfold out0_5 r0_0 r0_1
  rw [View.canon_unit_zero zeros2]
  simp only [View.ld_unit_zero (S := S512x1024) zeros2, View.ld_unit_zero (S := S1x1024) zeros2]

end Run

/-- The mean of a row. -/
def mean (z : Fin 1024 → EReal) : EReal := Ideal.div (∑ k, z k) (Ideal.ofBits .f32 0x44800000#32)

/-- An element's distance from its row's mean. -/
def centred (z : Fin 1024 → EReal) (l : Fin 1024) : EReal := z l - mean z

/-- The layer norm of a row. -/
def norm (z g b : Fin 1024 → EReal) (l : Fin 1024) : EReal :=
  centred z l * Ideal.rsqrt (mean (fun k => centred z k * centred z k) + Ideal.ofBits .f32 0x3727C5AC#32) * g l + b l

/-- The weighted sum that is normed. -/
def sum (x y : Fin 1024 → EReal) (k : Fin 1024) : EReal := Ideal.ofBits .f32 0x3FB504F3#32 * x k + y k

def kMean (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

def kCentred (v : FVec Ideal S512x1024 .f32) : FVec Ideal S512x1024 .f32 := subf v (broadcastTo S512x1024 (kMean v) broadcasts_S512x1_S512x1024)

def kNorm (v : FVec Ideal S512x1024 .f32) (g b : FVec Ideal S1x1024 .f32) : FVec Ideal S512x1024 .f32 :=
  addf (mulf (mulf (kCentred v) (broadcastTo S512x1024 (rsqrt (addf (kMean (mulf (kCentred v) (kCentred v))) (broadcast S512x1 (Scalar.ofBits .f32 0x3727C5AC#32))))
    broadcasts_S512x1_S512x1024)) (broadcastTo S512x1024 g broadcasts_S1x1024_S512x1024)) (broadcastTo S512x1024 b broadcasts_S1x1024_S512x1024)

def kSum (x y : FVec Ideal S512x1024 .f32) : FVec Ideal S512x1024 .f32 := addf (mulf (broadcast S512x1024 (Scalar.ofBits .f32 0x3FB504F3#32)) x) y

theorem kMean_at (v : FVec Ideal S512x1024 .f32) (r : Fin 512) (l : Fin 1) : (kMean v (ix2 r l) : EReal) = mean (fun k => v (ix2 r k)) := by
  pointwise [kMean]
  rfl

theorem kCentred_at (v : FVec Ideal S512x1024 .f32) (r : Fin 512) (l : Fin 1024) : (kCentred v (ix2 r l) : EReal) = centred (fun k => v (ix2 r k)) l := by
  pointwise [kCentred]
  rw [kMean_at]
  rfl

theorem kNorm_at (v : FVec Ideal S512x1024 .f32) (g b : FVec Ideal S1x1024 .f32) (r : Fin 512) (l : Fin 1024) :
    (kNorm v g b (ix2 r l) : EReal) = norm (fun k => v (ix2 r k)) (fun k => g (ix2 0 k)) (fun k => b (ix2 0 k)) l := by
  pointwise [kNorm]
  rw [kMean_at, kCentred_at]
  have e : (fun k => (mulf (kCentred v) (kCentred v) (ix2 r k) : EReal)) = fun k => centred (fun k => v (ix2 r k)) k * centred (fun k => v (ix2 r k)) k :=
    funext fun k => congrArg₂ (fun a b : EReal => a * b) (kCentred_at v r k) (kCentred_at v r k)
  rw [e]
  rfl

theorem pay_at (x0 x1 : FVec Ideal S512x1024 .f32) (x2 x3 : FVec Ideal S1x1024 .f32) (r : Fin 512) (l : Fin 1024) :
    (k0_pay1 (F := Ideal) x0 x1 x2 x3 (ix2 r l) : EReal)
      = norm (sum (fun k => x0 (ix2 r k)) fun k => x1 (ix2 r k)) (fun k => x2 (ix2 0 k)) (fun k => x3 (ix2 0 k)) l :=
  (show (k0_pay1 (F := Ideal) x0 x1 x2 x3 (ix2 r l) : EReal) = kNorm (kSum x0 x1) x2 x3 (ix2 r l) from rfl).trans (kNorm_at _ _ _ r l)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

theorem flushes : ∀ t : Fin cfg0.N, (cfg0.win 4).flush t = true ∧ (cfg0.win 5).flush t = true := (by decide +kernel : ∀ t : Fin grid0.N, _)

variable (m : (ℓ : Loc nD τ sig) → Buf (Elt Ideal) ℓ) (c : Dev nD)

abbrev argX : FVec Ideal S16384x1024 .f32 := m ((c : Thread nD τ).loc main_arg0)
abbrev argY : FVec Ideal S16384x1024 .f32 := m ((c : Thread nD τ).loc main_arg1)
abbrev argG : FVec Ideal S1x1024 .f32 := m ((c : Thread nD τ).loc main_arg2)
abbrev argB : FVec Ideal S1x1024 .f32 := m ((c : Thread nD τ).loc main_arg3)

section Read

variable (t : Fin cfg0.N) (r : Fin 512) (l : Fin 1024) (hr : 512 * t.val + r.val < 16384)

theorem read_x : (iblk m c 0 t : FVec Ideal S512x1024 .f32) (ix2 r l) = argX m c (ix2 ⟨_, hr⟩ l) :=
  block_read (argX m c) _ (win0_0.index t) _ _ (idx t).1 r l rfl rfl _ _ rfl (by simp)

theorem read_y : (iblk m c 1 t : FVec Ideal S512x1024 .f32) (ix2 r l) = argY m c (ix2 ⟨_, hr⟩ l) :=
  block_read (argY m c) _ (win0_1.index t) _ _ (idx t).2.1 r l rfl rfl _ _ rfl (by simp)

theorem read_g : (iblk m c 2 t : FVec Ideal S1x1024 .f32) (ix2 0 l) = argG m c (ix2 0 l) :=
  block_read (argG m c) _ (win0_2.index t) _ _ (idx t).2.2.1 (0 : Fin 1) l rfl rfl _ _ rfl (by simp)

theorem read_b : (iblk m c 3 t : FVec Ideal S1x1024 .f32) (ix2 0 l) = argB m c (ix2 0 l) :=
  block_read (argB m c) _ (win0_3.index t) _ _ (idx t).2.2.2.1 (0 : Fin 1) l rfl rfl _ _ rfl (by simp)

end Read

def rMean (v : FVec Ideal S16384x1024 .f32) : FVec Ideal S16384x1 .f32 :=
  Host.divf (broadcastInDim S16384x1 ![0] bcast_S16384_S16384x1_0 (Host.reduceAdd v (constant S_ .f32 0x00000000#32) reducesTo_S16384x1024_S16384_d1 h_S_))
    (broadcastInDim S16384x1 ![] bcast_S_S16384x1 (constant S_ .f32 0x44800000#32))

def rCentred (v : FVec Ideal S16384x1024 .f32) : FVec Ideal S16384x1024 .f32 := subf v (broadcastInDim S16384x1024 ![0, 1] bcast_S16384x1_S16384x1024_0_1 (rMean v))

/-- A row of factors or of summands, beside every row. -/
def rRow (g : FVec Ideal S1x1024 .f32) : FVec Ideal S16384x1024 .f32 :=
  broadcastInDim S16384x1024 ![0, 1] bcast_S1x1024_S16384x1024_0_1 (broadcastInDim S1x1024 ![1] bcast_S1024_S1x1024_1 (shapeCast _ g shapeCasts_S1x1024_S1024))

def rNorm (v : FVec Ideal S16384x1024 .f32) (g b : FVec Ideal S1x1024 .f32) : FVec Ideal S16384x1024 .f32 :=
  addf (mulf (mulf (rCentred v) (broadcastInDim S16384x1024 ![0, 1] bcast_S16384x1_S16384x1024_0_1
    (Host.rsqrt (addf (rMean (mulf (rCentred v) (rCentred v))) (broadcastInDim S16384x1 ![] bcast_S_S16384x1 (constant S_ .f32 0x3727C5AC#32)))))) (rRow g)) (rRow b)

def rSum (x y : FVec Ideal S16384x1024 .f32) : FVec Ideal S16384x1024 .f32 :=
  addf (mulf (broadcastInDim S16384x1024 ![] bcast_S_S16384x1024 (constant S_ .f32 0x3FB504F3#32)) x) y

/-- The reference's first result as a function of its arguments; the second is the same, cast. -/
def reference (x y : FVec Ideal S16384x1024 .f32) (g b : FVec Ideal S1x1024 .f32) : FVec Ideal S16384x1024 .f32 := rNorm (rSum x y) g b

theorem rMean_at (v : FVec Ideal S16384x1024 .f32) (r : Fin 16384) (l : Fin 1) : (rMean v (ix2 r l) : EReal) = mean (fun k => v (ix2 r k)) := by
  pointwise [rMean]
  rfl

theorem rCentred_at (v : FVec Ideal S16384x1024 .f32) (r : Fin 16384) (l : Fin 1024) : (rCentred v (ix2 r l) : EReal) = centred (fun k => v (ix2 r k)) l := by
  pointwise [rCentred]
  rw [rMean_at]
  rfl

theorem rRow_at (g : FVec Ideal S1x1024 .f32) (r : Fin 16384) (l : Fin 1024) : (rRow g (ix2 r l) : EReal) = g (ix2 0 l) := by
  pointwise [rRow]

theorem rNorm_at (v : FVec Ideal S16384x1024 .f32) (g b : FVec Ideal S1x1024 .f32) (r : Fin 16384) (l : Fin 1024) :
    (rNorm v g b (ix2 r l) : EReal) = norm (fun k => v (ix2 r k)) (fun k => g (ix2 0 k)) (fun k => b (ix2 0 k)) l := by
  pointwise [rNorm]
  rw [rMean_at, rCentred_at, rRow_at, rRow_at]
  have e : (fun k => (mulf (rCentred v) (rCentred v) (ix2 r k) : EReal)) = fun k => centred (fun k => v (ix2 r k)) k * centred (fun k => v (ix2 r k)) k :=
    funext fun k => congrArg₂ (fun a b : EReal => a * b) (rCentred_at v r k) (rCentred_at v r k)
  rw [e]
  rfl

theorem reference_at (x y : FVec Ideal S16384x1024 .f32) (g b : FVec Ideal S1x1024 .f32) (r : Fin 16384) (l : Fin 1024) :
    (reference x y g b (ix2 r l) : EReal) = norm (sum (fun k => x (ix2 r k)) fun k => y (ix2 r k)) (fun k => g (ix2 0 k)) (fun k => b (ix2 0 k)) l := by
  have e : (fun k => (rSum x y (ix2 r k) : EReal)) = sum (fun k => x (ix2 r k)) fun k => y (ix2 r k) := by
    funext k
    pointwise [rSum]
    rfl
  exact (rNorm_at _ _ _ r l).trans (by rw [e])

abbrev result : FVec Ideal S16384x1024 .f32 := (dats m 0 c).arrAt 4 cfg0.N
abbrev resultB : FVec Ideal S16384x1024 .bf16 := (dats m 0 c).arrAt 5 cfg0.N

/-- What a grid step computes is the reference's result on its rows. -/
theorem point_eq (t : Fin cfg0.N) (r : Fin 512) (l : Fin 1024) (hr : 512 * t.val + r.val < 16384) :
    (k0_pay1 (F := Ideal) (iblk m c 0 t) (iblk m c 1 t) (iblk m c 2 t) (iblk m c 3 t) (ix2 r l) : EReal)
      = reference (argX m c) (argY m c) (argG m c) (argB m c) (ix2 ⟨_, hr⟩ l) := by
  refine (pay_at _ _ _ _ r l).trans (Eq.trans ?_ (reference_at _ _ _ _ _ l).symm)
  rw [funext fun k => read_x m c t r k hr, funext fun k => read_y m c t r k hr, funext fun k => read_g m c t k, funext fun k => read_b m c t k]

theorem result_eq : result m c = reference (argX m c) (argY m c) (argG m c) (argB m c) :=
  rows_eq 512 32 (by decide) (by decide) _ _ fun t r l hr => by
    refine (block_read (result m c) _ (win0_4.index t) _ _ (idx t).2.2.2.2.1 r l rfl rfl _ _ rfl (by omega)).symm.trans
      ((congrFun ((blocks4 m c t (flushes t).1).trans (flushed4 m c t)) (ix2 r l)).trans ?_)
    rw [block4_eq]
    exact point_eq m c t r l hr

theorem resultB_eq : resultB m c = truncf .bf16 (reference (argX m c) (argY m c) (argG m c) (argB m c)) Cert.Reference23Ideal.Facts₀.bitsLt_bf16_f32 :=
  rows_eq 512 32 (by decide) (by decide) _ _ fun t r l hr => by
    refine (block_read (resultB m c) _ (win0_5.index t) _ _ (idx t).2.2.2.2.2 r l rfl rfl _ _ rfl (by omega)).symm.trans
      ((congrFun ((blocks5 m c t (flushes t).2).trans (flushed5 m c t)) (ix2 r l)).trans ?_)
    rw [block5_eq]
    exact point_eq m c t r l hr

/-- The kernel read over bits is the same text. -/
theorem same_text : Cert.quiescent_Kernel23 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  sl_kernel_rfl

theorem frame_kernel : Cert.quiescent_Kernel23 := same_text ▸ fun m ρ _ => frame (F := Bits) m ρ

theorem frame_ideal : Cert.quiescent_Kernel23Ideal := fun m ρ _ => frame (F := Ideal) m ρ

theorem frame_reference : Cert.quiescent_Reference23Ideal := fun m ρ _ =>
  (θ_run Cert.Reference23Ideal.defs _ _).mono (fun r h => ⟨fun c => (h c).2.2, sem_eq_zero_of_no_sems (by decide) r.2⟩)
    (Cert.Reference23Ideal.Value.run (F := Ideal) m ρ)

/-- From equal arguments the kernel and the reference return equal arrays. -/
theorem value_claim : Cert.algebraic_Kernel23Ideal_Reference23Ideal := by
  intro m g m' g' _ hargs
  refine ⟨_, _, Cert.Kernel23Ideal.Value.run_blocks m g, ?_⟩
  refine (θ_run Cert.Reference23Ideal.defs _ _).mono (fun r h c => ?_) (Cert.Reference23Ideal.Value.run (F := Ideal) m' g')
  obtain ⟨h0, h1, ha⟩ := h c
  obtain ⟨e0, e1, e2, e3⟩ := hargs c
  rw [e0, e1, e2, e3] at h0 h1
  exact ⟨h0.trans (result_eq m c).symm, h1.trans (resultB_eq m c).symm, ha⟩

end Norm

end Cert.Proof.Rows

end
-- ==== Proof.HeadNorm.lean ====
/- The recurrence's output: each head's root mean square norm, and the output gate. -/
module

public import proofs.«01_k».proof.Defs
public import proofs.«01_k».proof.Proof.Rowwise
public import proofs.«01_k».proof.Proof.Gen.Kernel24
public import proofs.«01_k».proof.Proof.Gen.Kernel24Ideal.Value
public import proofs.«01_k».proof.Proof.Gen.Reference24Ideal.Run

@[expose] public section

set_option maxRecDepth 16384

noncomputable section

namespace Cert.Proof.Rows

open Idealize.ShloMosaic Idealize.ShloMosaic.TcCoe Idealize.ShloMosaic.Tactic Idealize.SL.Sem
open Cert.Proof.Prod (zeros2 block_read)

namespace HeadNorm

open Cert.Kernel24Ideal Cert.Kernel24Ideal.Gen Cert.Kernel24Ideal.Value
open Cert.Reference24Ideal (S16384x4x128 S16384x4x1 S16384x4 S1x1x128 S128 S_)
open Cert.Reference24Ideal.Facts₀ (bcast_S16384x4x1_S16384x4x128_0_1_2 bcast_S16384x4_S16384x4x1_0_1 bcast_S_S16384x4x1 bcast_S1x1x128_S16384x4x128_0_1_2
  bcast_S128_S1x1x128_2 bcast_S_S16384x512 reducesTo_S16384x4x128_S16384x4_d2 h_S_ shapeCasts_S16384x512_S16384x4x128 shapeCasts_S16384x4x128_S16384x512
  shapeCasts_S1x128_S128 slices_S16384x4224_S16384x512_0_3584)

/-- The mean of the squares of a head's elements. -/
def meanSquare (z : Fin 128 → EReal) : EReal := Ideal.div (∑ k, z k * z k) (Ideal.ofBits .f32 0x43000000#32)

/-- A head's element, normed. -/
def normed (z g : Fin 128 → EReal) (e : Fin 128) : EReal := z e * Ideal.rsqrt (meanSquare z + Ideal.ofBits .f32 0x358637BD#32) * g e

/-- Head `h`'s column `e` among all heads' columns. -/
abbrev col (h : Fin 4) (e : Fin 128) : Fin 512 := ⟨128 * h.val + e.val, by omega⟩

theorem exists_col (l : Fin 512) : ∃ h e, l = col h e :=
  ⟨⟨l.val / 128, by omega⟩, ⟨l.val % 128, by omega⟩, Fin.ext (by simp only [col]; omega)⟩

section Run

variable {F : FTy → Type} [FloatOps F]

def kNormed (v : FVec F S512x128 .f32) (g : Vec F S1x128 .f32) : FVec F S512x128 .f32 :=
  mulf (mulf v (broadcastTo S512x128 (rsqrt (addf
    (divf (shapeCast S512x1 (multiReduction .add [1] S512 (mulf v v) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 g broadcasts_S1x128_S512x128)

theorem slices (h : Fin 4) : S512x512.Slices ![0, 128 * h.val] S512x128 := by
  revert h
  decide

/-- Head `h`'s columns of a block. -/
def head (x : Vec F S512x512 .f32) (h : Fin 4) : FVec F S512x128 .f32 := extractStridedSlice S512x128 ![0, 128 * h.val] x (slices h)

/-- The normed heads beside each other. -/
def kHeads (x : Vec F S512x512 .f32) (g : Vec F S1x128 .f32) : FVec F S512x512 .f32 :=
  concatenate S512x512 1 (List.ofFn fun h : Fin 4 => ⟨S512x128, kNormed (head x h) g⟩) concatenates_S512x128_S512x128_S512x128_S512x128_S512x512_d1

def kOut (x0 x1 : Vec F S512x512 .f32) (x2 : Vec F S1x128 .f32) : FVec F S512x512 .bf16 :=
  truncf .bf16 (mulf (kHeads x0 x2) (logistic x1)) bitsLt_bf16_f32

theorem pay_eq (x0 x1 : Vec F S512x512 .f32) (x2 : Vec F S1x128 .f32) :
    k0_pay1 x1 x2 (k0_pay2 x0 x2) (k0_pay3 x0 x2) (k0_pay4 x0 x2) (k0_pay5 x0) (k0_pay6 x0) = kOut x0 x1 x2 := rfl

variable (c : Dev nD) (i : grid0.Coords) (a1 : Memref sig .tc .vmem S512x512 .f32) (h1 : a1.IsWhole) (a2 : Memref sig .tc .vmem S512x512 .f32) (h2 : a2.IsWhole)
  (a3 : Memref sig .tc .vmem S1x128 .f32) (h3 : a3.IsWhole) (a4 : Memref sig .tc .vmem S512x512 .bf16) (h4 : a4.IsWhole)
  (x0 x1 : Vec F S512x512 .f32) (x2 : Vec F S1x128 .f32)

theorem block_eq : out0_A_3 c i a1 h1 a2 h2 a3 h3 a4 h4 x0 x1 x2 = kOut x0 x1 x2 := by
  unfold out0_A_3
  rw [View.read_writes_eq_canon _ _ _ (cover0_A_3 c i a1 h1 a2 h2 a3 h3 a4 h4 x0 x1 x2)]
  unfold kernelRun0_A
  dsimp only
  rw [View.canon_unit_zero zeros2]
  unfold kernelRun0_A.sl.r kernelRun0_A.sl.r_1 kernelRun0_A.sl.r_2 kernelRun0_A.sl.r_3 kernelRun0_A.sl.r_4 kernelRun0_A.sl.r_5 kernelRun0_A.sl.r_6
  simp only [View.readAt_eq_ld, h1.read_unread, h2.read_unread, h3.read_unread, View.ld_unit_zero (S := S512x512) zeros2, View.ld_unit_zero (S := S1x128) zeros2]
  exact pay_eq x0 x1 x2

end Run

theorem kNormed_at (v : FVec Ideal S512x128 .f32) (g : FVec Ideal S1x128 .f32) (r : Fin 512) (e : Fin 128) :
    (kNormed (F := Ideal) v g (ix2 r e) : EReal) = normed (fun k => v (ix2 r k)) (fun k => g (ix2 0 k)) e := by
  pointwise [kNormed]
  rfl

theorem head_at (x : FVec Ideal S512x512 .f32) (h : Fin 4) (r : Fin 512) (e : Fin 128) : (head (F := Ideal) x h (ix2 r e) : EReal) = x (ix2 r (col h e)) := by
  pointwise [head]

theorem kHeads_at (x : FVec Ideal S512x512 .f32) (g : FVec Ideal S1x128 .f32) (r : Fin 512) (h : Fin 4) (e : Fin 128) :
    (kHeads (F := Ideal) x g (ix2 r (col h e)) : EReal) = normed (fun k => x (ix2 r (col h k))) (fun k => g (ix2 0 k)) e := by
  refine (concatenate_ofFn_apply (t := S512x512) (s₁ := S512x128) 1 (fun h : Fin 4 => kNormed (F := Ideal) (head (F := Ideal) x h) g) _ rfl 128 rfl (ix2 r (col h e)) h
    (show (128 * h.val + e.val) / 128 = h.val by omega) (ix2 r e) (show e.val = (128 * h.val + e.val) % 128 by omega) ?_).trans
    ((kNormed_at _ _ r e).trans (congrArg (fun z => normed z _ e) (funext fun k => head_at x h r k)))
  intro b hb
  fin_cases b
  · rfl
  · exact absurd rfl hb

theorem kOut_at (x0 x1 : FVec Ideal S512x512 .f32) (x2 : FVec Ideal S1x128 .f32) (r : Fin 512) (h : Fin 4) (e : Fin 128) :
    (kOut (F := Ideal) x0 x1 x2 (ix2 r (col h e)) : EReal)
      = normed (fun k => x0 (ix2 r (col h k))) (fun k => x2 (ix2 0 k)) e * Ideal.logistic (x1 (ix2 r (col h e))) :=
  congrArg (fun a : EReal => a * Ideal.logistic (x1 (ix2 r (col h e)))) (kHeads_at x0 x2 r h e)

theorem idx : ∀ t : Fin cfg0.N, win0_0.index t = ![t.val, 0] ∧ win0_1.index t = ![t.val, 7] ∧ win0_2.index t = ![0, 0] ∧ win0_3.index t = ![t.val, 0] :=
  (by decide +kernel : ∀ t : Fin grid0.N, _)

theorem flushes : ∀ t : Fin cfg0.N, (cfg0.win 3).flush t = true := (by decide +kernel : ∀ t : Fin grid0.N, _)

variable (m : (ℓ : Loc nD τ sig) → Buf (Elt Ideal) ℓ) (c : Dev nD)

abbrev argO : FVec Ideal S16384x512 .f32 := m ((c : Thread nD τ).loc main_arg0)
abbrev gates : FVec Ideal S16384x4224 .f32 := m ((c : Thread nD τ).loc main_arg1)
abbrev argG : FVec Ideal S1x128 .f32 := m ((c : Thread nD τ).loc main_arg2)

section Read

variable (t : Fin cfg0.N) (r : Fin 512) (l : Fin 512) (hr : 512 * t.val + r.val < 16384)

theorem read_o : (iblk m c 0 t : FVec Ideal S512x512 .f32) (ix2 r l) = argO m c (ix2 ⟨_, hr⟩ l) :=
  block_read (argO m c) _ (win0_0.index t) _ _ (idx t).1 r l rfl rfl _ _ rfl (by simp)

theorem read_gate (hl : 3584 + l.val < 4224) : (X0_1 m c t : FVec Ideal S512x512 .f32) (ix2 r l) = gates m c (ix2 ⟨_, hr⟩ ⟨_, hl⟩) := by
  unfold X0_1 Pipeline.Window.fill
  rw [dif_pos (moved0_1 t _)]
  exact block_read (gates m c) _ (win0_1.index t) _ _ (idx t).2.1 r l rfl rfl _ _ rfl (by simp)

theorem read_g (e : Fin 128) : (iblk m c 2 t : FVec Ideal S1x128 .f32) (ix2 0 e) = argG m c (ix2 0 e) :=
  block_read (argG m c) _ (win0_2.index t) _ _ (idx t).2.2.1 (0 : Fin 1) e rfl rfl _ _ rfl (by simp)

end Read

def rHeads (o : FVec Ideal S16384x512 .f32) : FVec Ideal S16384x4x128 .f32 := shapeCast _ o shapeCasts_S16384x512_S16384x4x128

def rMeanSquare (v : FVec Ideal S16384x4x128 .f32) : FVec Ideal S16384x4x1 .f32 :=
  Host.divf (broadcastInDim S16384x4x1 ![0, 1] bcast_S16384x4_S16384x4x1_0_1
    (Host.reduceAdd (mulf v v) (constant S_ .f32 0x00000000#32) reducesTo_S16384x4x128_S16384x4_d2 h_S_))
    (broadcastInDim S16384x4x1 ![] bcast_S_S16384x4x1 (constant S_ .f32 0x43000000#32))

/-- The factors beside every row and head. -/
def rFactors (g : FVec Ideal S1x128 .f32) : FVec Ideal S16384x4x128 .f32 :=
  broadcastInDim S16384x4x128 ![0, 1, 2] bcast_S1x1x128_S16384x4x128_0_1_2 (broadcastInDim S1x1x128 ![2] bcast_S128_S1x1x128_2 (shapeCast _ g shapeCasts_S1x128_S128))

def rNormed (v : FVec Ideal S16384x4x128 .f32) (g : FVec Ideal S1x128 .f32) : FVec Ideal S16384x4x128 .f32 :=
  mulf (mulf v (broadcastInDim S16384x4x128 ![0, 1, 2] bcast_S16384x4x1_S16384x4x128_0_1_2
    (Host.rsqrt (addf (rMeanSquare v) (broadcastInDim S16384x4x1 ![] bcast_S_S16384x4x1 (constant S_ .f32 0x358637BD#32)))))) (rFactors g)

def rGate (g : FVec Ideal S16384x4224 .f32) : FVec Ideal S16384x512 .f32 :=
  Host.divf (broadcastInDim S16384x512 ![] bcast_S_S16384x512 (constant S_ .f32 0x3F800000#32))
    (addf (broadcastInDim S16384x512 ![] bcast_S_S16384x512 (constant S_ .f32 0x3F800000#32))
      (Host.exp (Host.negf (extractStridedSlice S16384x512 ![0, 3584] g slices_S16384x4224_S16384x512_0_3584))))

/-- The reference's result as a function of its arguments. -/
def reference (o : FVec Ideal S16384x512 .f32) (gate : FVec Ideal S16384x4224 .f32) (g : FVec Ideal S1x128 .f32) : FVec Ideal S16384x512 .bf16 :=
  truncf .bf16 (mulf (shapeCast _ (rNormed (rHeads o) g) shapeCasts_S16384x4x128_S16384x512) (rGate gate)) Cert.Reference24Ideal.Facts₀.bitsLt_bf16_f32

theorem rHeads_at (o : FVec Ideal S16384x512 .f32) (r : Fin 16384) (h : Fin 4) (e : Fin 128) : (rHeads o (ix3 r h e) : EReal) = o (ix2 r (col h e)) := by
  pointwise [rHeads]
  exact congrArg o (congrArg (ix2 r) (Fin.ext (show h.val * 128 + e.val = 128 * h.val + e.val by omega)))

theorem rMeanSquare_at (v : FVec Ideal S16384x4x128 .f32) (r : Fin 16384) (h : Fin 4) (l : Fin 1) :
    (rMeanSquare v (ix3 r h l) : EReal) = meanSquare (fun k => v (ix3 r h k)) := by
  pointwise [rMeanSquare]
  rfl

theorem rFactors_at (g : FVec Ideal S1x128 .f32) (r : Fin 16384) (h : Fin 4) (e : Fin 128) : (rFactors g (ix3 r h e) : EReal) = g (ix2 0 e) := by
  pointwise [rFactors]

theorem rNormed_at (v : FVec Ideal S16384x4x128 .f32) (g : FVec Ideal S1x128 .f32) (r : Fin 16384) (h : Fin 4) (e : Fin 128) :
    (rNormed v g (ix3 r h e) : EReal) = normed (fun k => v (ix3 r h k)) (fun k => g (ix2 0 k)) e := by
  pointwise [rNormed]
  rw [rMeanSquare_at, rFactors_at]
  rfl

theorem rGate_at (g : FVec Ideal S16384x4224 .f32) (r : Fin 16384) (l : Fin 512) (hl : 3584 + l.val < 4224) :
    (rGate g (ix2 r l) : EReal) = Ideal.logistic (g (ix2 r ⟨_, hl⟩)) := by
  pointwise [rGate]
  rfl

theorem flat_at (x : FVec Ideal S16384x4x128 .f32) (r : Fin 16384) (h : Fin 4) (e : Fin 128) :
    (shapeCast S16384x512 x shapeCasts_S16384x4x128_S16384x512 (ix2 r (col h e)) : EReal) = x (ix3 r h e) := by
  pointwise []
  exact congrArg x (congrArg₂ (ix3 r) (Fin.ext (show (128 * h.val + e.val) / 128 = h.val by omega)) (Fin.ext (show (128 * h.val + e.val) % 128 = e.val by omega)))

theorem reference_at (o : FVec Ideal S16384x512 .f32) (gate : FVec Ideal S16384x4224 .f32) (g : FVec Ideal S1x128 .f32) (r : Fin 16384) (h : Fin 4) (e : Fin 128)
    (hl : 3584 + (col h e).val < 4224) : (reference o gate g (ix2 r (col h e)) : EReal)
      = normed (fun k => o (ix2 r (col h k))) (fun k => g (ix2 0 k)) e * Ideal.logistic (gate (ix2 r ⟨_, hl⟩)) :=
  congrArg₂ (fun a b : EReal => a * b)
    ((flat_at _ r h e).trans ((rNormed_at _ g r h e).trans (congrArg (fun z => normed z _ e) (funext fun k => rHeads_at o r h k))))
    (rGate_at gate r (col h e) hl)

abbrev result : FVec Ideal S16384x512 .bf16 := (dats m 0 c).arrAt 3 cfg0.N

theorem result_eq : result m c = reference (argO m c) (gates m c) (argG m c) :=
  rows_eq 512 32 (by decide) (by decide) _ _ fun t r l hr => by
    obtain ⟨h, e, rfl⟩ := exists_col l
    have hl : 3584 + (col h e).val < 4224 := by omega
    refine (block_read (result m c) _ (win0_3.index t) _ _ (idx t).2.2.2 r (col h e) rfl rfl _ _ rfl (by omega)).symm.trans
      ((congrFun ((blocks3 m c t (flushes t)).trans (flushed3_A m c t)) (ix2 r (col h e))).trans ?_)
    rw [block_eq]
    refine (kOut_at _ _ _ r h e).trans (Eq.trans ?_ (reference_at _ _ _ _ h e hl).symm)
    rw [funext fun k => read_o m c t r (col h k) hr, funext fun k => read_g m c t k, read_gate m c t r (col h e) hr hl]

/-- The kernel read over bits is the same text. -/
theorem same_text : Cert.quiescent_Kernel24 = ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  sl_kernel_rfl

theorem frame_kernel : Cert.quiescent_Kernel24 := same_text ▸ fun m ρ _ => frame (F := Bits) m ρ

theorem frame_ideal : Cert.quiescent_Kernel24Ideal := fun m ρ _ => frame (F := Ideal) m ρ

theorem frame_reference : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- From equal arguments the kernel and the reference return equal arrays. -/
theorem value_claim : Cert.algebraic_Kernel24Ideal_Reference24Ideal := by
  intro m g m' g' _ hargs
  refine ⟨_, Cert.Kernel24Ideal.Value.run_blocks m g, ?_⟩
  refine (θ_run Cert.Reference24Ideal.defs _ _).mono (fun r h c => ?_) (Cert.Reference24Ideal.Value.run (F := Ideal) m' g')
  obtain ⟨h0, ha⟩ := h c
  rw [(hargs c).1, (hargs c).2.1, (hargs c).2.2] at h0
  exact ⟨h0.trans (result_eq m c).symm, ha⟩

end HeadNorm

end Cert.Proof.Rows

end
-- ==== Proof.lean ====
/- The certificate's claim: the frames of the programs, each idealized kernel being the kernel's own text read over the
   extended reals, the value claim of the attention's gradient on finite arguments, the value claims of the products,
   and those of the row-wise calls. -/
module

public import proofs.«01_k».proof.Defs
public import proofs.«01_k».proof.Proof.Equal
public import proofs.«01_k».proof.Proof.FfInWeights
public import proofs.«01_k».proof.Proof.FfInInput
public import proofs.«01_k».proof.Proof.FfOutInput
public import proofs.«01_k».proof.Proof.FfOutWeights
public import proofs.«01_k».proof.Proof.ProjWeights
public import proofs.«01_k».proof.Proof.ProjInput
public import proofs.«01_k».proof.Proof.FfIn
public import proofs.«01_k».proof.Proof.FfOut
public import proofs.«01_k».proof.Proof.Qkv
public import proofs.«01_k».proof.Proof.Rest
public import proofs.«01_k».proof.Proof.OutProj
public import proofs.«01_k».proof.Proof.Branches
public import proofs.«01_k».proof.Proof.Rowwise
public import proofs.«01_k».proof.Proof.HeadNorm

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Fox.facts_finite, Rows.facts_finite_values,
    Fox.frame_kernel, Fox.frame_ideal, fun m ρ _ => Fox.frame_ideal m ρ trivial, Fox.frame_reference, fun m ρ _ => Fox.frame_reference m ρ trivial,
    Prod.FfInWeights.frame_kernel, Prod.FfInWeights.frame_ideal, Prod.FfInWeights.frame_reference,
    Prod.FfInInput.frame_kernel, Prod.FfInInput.frame_ideal, Prod.FfInInput.frame_reference,
    Prod.FfOutInput.frame_kernel, Prod.FfOutInput.frame_ideal, Prod.FfOutInput.frame_reference,
    Prod.FfOutWeights.frame_kernel, Prod.FfOutWeights.frame_ideal, Prod.FfOutWeights.frame_reference,
    Prod.ProjWeights.frame_kernel, Prod.ProjWeights.frame_ideal, Prod.ProjWeights.frame_reference,
    Prod.ProjInput.frame_kernel, Prod.ProjInput.frame_ideal, Prod.ProjInput.frame_reference,
    Prod.FfIn.frame_kernel, Prod.FfIn.frame_ideal, Prod.FfIn.frame_reference,
    Prod.FfOut.frame_kernel, Prod.FfOut.frame_ideal, Prod.FfOut.frame_reference,
    Prod.Qkv.frame_kernel, Prod.Qkv.frame_ideal, Prod.Qkv.frame_reference,
    Prod.Rest.frame_kernel, Prod.Rest.frame_ideal, Prod.Rest.frame_reference,
    Prod.OutProj.Forward.frame_kernel, Prod.OutProj.Forward.frame_ideal, Prod.OutProj.Forward.frame_reference,
    Prod.OutProj.Input.frame_kernel, Prod.OutProj.Input.frame_ideal, Prod.OutProj.Input.frame_reference,
    Prod.OutProj.Weights.frame_kernel, Prod.OutProj.Weights.frame_ideal, Prod.OutProj.Weights.frame_reference,
    Prod.Branches.Forward.frame_kernel, Prod.Branches.Forward.frame_ideal, Prod.Branches.Forward.frame_reference,
    Prod.Branches.InputA.frame_kernel, Prod.Branches.InputA.frame_ideal, Prod.Branches.InputA.frame_reference,
    Prod.Branches.InputB.frame_kernel, Prod.Branches.InputB.frame_ideal, Prod.Branches.InputB.frame_reference,
    Prod.Branches.Weights.frame_kernel, Prod.Branches.Weights.frame_ideal, Prod.Branches.Weights.frame_reference,
    Rows.Act.frame_kernel, Rows.Act.frame_ideal, Rows.Act.frame_reference,
    Rows.Merge.frame_kernel, Rows.Merge.frame_ideal, Rows.Merge.frame_reference,
    Rows.MergeGrad.frame_kernel, Rows.MergeGrad.frame_ideal, Rows.MergeGrad.frame_reference,
    Rows.ActGrad.frame_kernel, Rows.ActGrad.frame_ideal, fun m ρ _ => Rows.ActGrad.frame_ideal m ρ trivial, Rows.ActGrad.frame_reference,
    fun m ρ _ => Rows.ActGrad.frame_reference m ρ trivial,
    Rows.Norm.frame_kernel, Rows.Norm.frame_ideal, Rows.Norm.frame_reference,
    Rows.HeadNorm.frame_kernel, Rows.HeadNorm.frame_ideal, Rows.HeadNorm.frame_reference,
    trivial, Fox.value_claim,
    trivial, Prod.FfInWeights.value_claim,
    trivial, Prod.FfInInput.value_claim,
    trivial, Prod.FfOutInput.value_claim,
    trivial, Prod.FfOutWeights.value_claim,
    trivial, Prod.ProjWeights.value_claim,
    trivial, Prod.ProjInput.value_claim,
    trivial, Prod.FfIn.value_claim,
    trivial, Prod.FfOut.value_claim,
    trivial, Prod.Qkv.value_claim,
    trivial, Prod.Rest.value_claim,
    trivial, Prod.OutProj.Forward.value_claim,
    trivial, Prod.OutProj.Input.value_claim,
    trivial, Prod.OutProj.Weights.value_claim,
    trivial, Prod.Branches.Forward.value_claim,
    trivial, Prod.Branches.InputA.value_claim,
    trivial, Prod.Branches.InputB.value_claim,
    trivial, Prod.Branches.Weights.value_claim,
    trivial, Rows.Act.value_claim,
    trivial, Rows.Merge.value_claim,
    trivial, Rows.MergeGrad.value_claim,
    trivial, Rows.ActGrad.value_claim,
    trivial, Rows.Norm.value_claim,
    trivial, Rows.HeadNorm.value_claim⟩

end Cert.Proof

end
